-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v49) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v34_0)) (v1 : (c : Dev Cert.GateUpIdeal.nD) → Buf (Elt Ideal) ((c.tc : Thread Cert.GateUpIdeal.nD Cert.GateUpIdeal.τ).loc Cert.GateUpIdeal.main_v34_1)) (v2 : (c : Dev Cert.GateUpIdeal.nD) → Buf (Elt Ideal) ((c.tc : Thread Cert.GateUpIdeal.nD Cert.GateUpIdeal.τ).loc Cert.GateUpIdeal.main_v34_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v34_0) = v0 c
          ∧ r.2.mem ((c.tc : Thread Cert.GateUpIdeal.nD Cert.GateUpIdeal.τ).loc Cert.GateUpIdeal.main_v34_1) = v1 c
          ∧ r.2.mem ((c.tc : Thread Cert.GateUpIdeal.nD Cert.GateUpIdeal.τ).loc Cert.GateUpIdeal.main_v34_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v129) = v0 c
          ∧ r.2.mem ((c.tc : Thread Cert.GateUpRefIdeal.nD Cert.GateUpRefIdeal.τ).loc Cert.GateUpRefIdeal.main_v130) = v1 c
          ∧ r.2.mem ((c.tc : Thread Cert.GateUpRefIdeal.nD Cert.GateUpRefIdeal.τ).loc Cert.GateUpRefIdeal.main_v131) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v29_0)) (v1 : (c : Dev Cert.QkvIdeal.nD) → Buf (Elt Ideal) ((c.tc : Thread Cert.QkvIdeal.nD Cert.QkvIdeal.τ).loc Cert.QkvIdeal.main_v29_1)) (v2 : (c : Dev Cert.QkvIdeal.nD) → Buf (Elt Ideal) ((c.tc : Thread Cert.QkvIdeal.nD Cert.QkvIdeal.τ).loc Cert.QkvIdeal.main_v29_2)) (v3 : (c : Dev Cert.QkvIdeal.nD) → Buf (Elt Ideal) ((c.tc : Thread Cert.QkvIdeal.nD Cert.QkvIdeal.τ).loc Cert.QkvIdeal.main_v29_3)) (v4 : (c : Dev Cert.QkvIdeal.nD) → Buf (Elt Ideal) ((c.tc : Thread Cert.QkvIdeal.nD Cert.QkvIdeal.τ).loc Cert.QkvIdeal.main_v29_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v29_0) = v0 c
          ∧ r.2.mem ((c.tc : Thread Cert.QkvIdeal.nD Cert.QkvIdeal.τ).loc Cert.QkvIdeal.main_v29_1) = v1 c
          ∧ r.2.mem ((c.tc : Thread Cert.QkvIdeal.nD Cert.QkvIdeal.τ).loc Cert.QkvIdeal.main_v29_2) = v2 c
          ∧ r.2.mem ((c.tc : Thread Cert.QkvIdeal.nD Cert.QkvIdeal.τ).loc Cert.QkvIdeal.main_v29_3) = v3 c
          ∧ r.2.mem ((c.tc : Thread Cert.QkvIdeal.nD Cert.QkvIdeal.τ).loc Cert.QkvIdeal.main_v29_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v223) = v0 c
          ∧ r.2.mem ((c.tc : Thread Cert.QkvRefIdeal.nD Cert.QkvRefIdeal.τ).loc Cert.QkvRefIdeal.main_v224) = v1 c
          ∧ r.2.mem ((c.tc : Thread Cert.QkvRefIdeal.nD Cert.QkvRefIdeal.τ).loc Cert.QkvRefIdeal.main_v225) = v2 c
          ∧ r.2.mem ((c.tc : Thread Cert.QkvRefIdeal.nD Cert.QkvRefIdeal.τ).loc Cert.QkvRefIdeal.main_v28) = v3 c
          ∧ r.2.mem ((c.tc : Thread Cert.QkvRefIdeal.nD Cert.QkvRefIdeal.τ).loc Cert.QkvRefIdeal.main_v226) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v0_0)) (v1 : (c : Dev Cert.OprojIdeal.nD) → Buf (Elt Ideal) ((c.tc : Thread Cert.OprojIdeal.nD Cert.OprojIdeal.τ).loc Cert.OprojIdeal.main_v0_1)) (v2 : (c : Dev Cert.OprojIdeal.nD) → Buf (Elt Ideal) ((c.tc : Thread Cert.OprojIdeal.nD Cert.OprojIdeal.τ).loc Cert.OprojIdeal.main_v0_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0_0) = v0 c
          ∧ r.2.mem ((c.tc : Thread Cert.OprojIdeal.nD Cert.OprojIdeal.τ).loc Cert.OprojIdeal.main_v0_1) = v1 c
          ∧ r.2.mem ((c.tc : Thread Cert.OprojIdeal.nD Cert.OprojIdeal.τ).loc Cert.OprojIdeal.main_v0_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v49) = v0 c
          ∧ r.2.mem ((c.tc : Thread Cert.OprojRefIdeal.nD Cert.OprojRefIdeal.τ).loc Cert.OprojRefIdeal.main_v77) = v1 c
          ∧ r.2.mem ((c.tc : Thread Cert.OprojRefIdeal.nD Cert.OprojRefIdeal.τ).loc Cert.OprojRefIdeal.main_v78) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v54) = v0 c
          ∧ r.2.mem ((c.tc : Thread Cert.AttnRefIdeal.nD Cert.AttnRefIdeal.τ).loc Cert.AttnRefIdeal.main_v55) = v1 c
          ∧ r.2.mem ((c.tc : Thread Cert.AttnRefIdeal.nD Cert.AttnRefIdeal.τ).loc Cert.AttnRefIdeal.main_v56) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def Claim : Prop :=
  ∃ (hDown : Cert.Down.Facts) (hDownIdeal : Cert.DownIdeal.Facts) (hDownRefIdeal : Cert.DownRefIdeal.Facts) (hGateUp : Cert.GateUp.Facts) (hGateUpIdeal : Cert.GateUpIdeal.Facts) (hGateUpRefIdeal : Cert.GateUpRefIdeal.Facts) (hQkv : Cert.Qkv.Facts) (hQkvIdeal : Cert.QkvIdeal.Facts) (hQkvRefIdeal : Cert.QkvRefIdeal.Facts) (hOproj : Cert.Oproj.Facts) (hOprojIdeal : Cert.OprojIdeal.Facts) (hOprojRefIdeal : Cert.OprojRefIdeal.Facts) (hAttn : Cert.Attn.Facts) (hAttnIdeal : Cert.AttnIdeal.Facts) (hAttnRefIdeal : Cert.AttnRefIdeal.Facts) (hPre_attn_finite : Cert.Pre_attn_finite.Facts),
    quiescent_Down (hDown := hDown)
    ∧ quiescent_DownIdeal (hDownIdeal := hDownIdeal)
    ∧ quiescent_DownRefIdeal (hDownRefIdeal := hDownRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ preserves_Down_DownIdeal
    ∧ algebraic_DownIdeal_DownRefIdeal (hDownIdeal := hDownIdeal) (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_Qkv_QkvIdeal
    ∧ algebraic_QkvIdeal_QkvRefIdeal (hQkvIdeal := hQkvIdeal) (hQkvRefIdeal := hQkvRefIdeal)
    ∧ preserves_Oproj_OprojIdeal
    ∧ algebraic_OprojIdeal_OprojRefIdeal (hOprojIdeal := hOprojIdeal) (hOprojRefIdeal := hOprojRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
-- ==== Pre_attn_finite.lean ====
abbrev S8192x2560 : Shape := ⟨2, ![8192, 2560]⟩
abbrev S8192x512 : Shape := ⟨2, ![8192, 512]⟩
abbrev S1x2560 : Shape := ⟨2, ![1, 2560]⟩
abbrev S_ : Shape := ⟨0, ![]⟩

class Facts : Prop where
  bitsLt_bf16_f32 : FTy.bits .bf16 < FTy.bits .f32
  bcast_S_S8192x2560 : S_.BroadcastsInDim S8192x2560 (![] : Fin 0 → Fin S8192x2560.rank)
  reducesTo_S8192x2560_S_d0_1 : S8192x2560.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x2560 .bf16) (main_arg1 : FVec F S8192x512 .bf16) (main_arg2 : FVec F S8192x512 .bf16) (main_arg3 : FVec F S1x2560 .f32) : IVec S_ 1 :=
  let main_v0 : FVec F S8192x2560 .f32 := (extf .f32 · bitsLt_bf16_f32) main_arg0
  let main_v1 : FVec F S8192x2560 .f32 := Host.absf main_v0
  let main_cst : FVec F S_ .f32 := constant S_ .f32 0x7F800000#32
  let main_v2 : FVec F S8192x2560 .f32 := broadcastInDim S8192x2560 ![] bcast_S_S8192x2560 main_cst
  let main_v3 : IVec S8192x2560 1 := cmpf .olt main_v1 main_v2
  let main_c : IVec S_ 1 := constantI S_ 1 1#1
  let main_v4 : IVec S_ 1 := (fun x v => Host.reduce IntOp.andi x v reducesTo_S8192x2560_S_d0_1 h_S_) main_v3 main_c
  let main_v5 : FVec F S8192x512 .f32 := (extf .f32 · bitsLt_bf16_f32) main_arg1
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : IVec S_ 1 := andi main_v4 main_v9
  main_v10
-- ==== Down.lean ====
abbrev S8192x6912 : Shape := ⟨2, ![8192, 6912]⟩
abbrev S8192x1 : Shape := ⟨2, ![8192, 1]⟩
abbrev S8192x2560 : Shape := ⟨2, ![8192, 2560]⟩
abbrev S1 : Shape := ⟨1, ![1]⟩
abbrev S6912x640 : Shape := ⟨2, ![6912, 640]⟩
abbrev S512x6912 : Shape := ⟨2, ![512, 6912]⟩
abbrev S512x1 : Shape := ⟨2, ![512, 1]⟩
abbrev S512x2560 : Shape := ⟨2, ![512, 2560]⟩
abbrev S6912x256 : Shape := ⟨2, ![6912, 256]⟩
abbrev S6912x128 : Shape := ⟨2, ![6912, 128]⟩
abbrev S1728x128 : Shape := ⟨2, ![1728, 128]⟩
abbrev S512x256 : Shape := ⟨2, ![512, 256]⟩

abbrev nBuf : Space → Nat
  | .hbm => 6
  | .vmem => 11
  | .smem => 1
  | _ => 0

abbrev bufTy : (tb : Table) → Fin (tcTables nBuf tb) → BufTy
  | .hbm, ⟨0, _⟩ => ⟨S8192x6912, .i8⟩
  | .hbm, ⟨1, _⟩ => ⟨S8192x1, .f32⟩
  | .hbm, ⟨2, _⟩ => ⟨S8192x2560, .f32⟩
  | .hbm, ⟨3, _⟩ => ⟨S1, .f32⟩
  | .hbm, ⟨4, _⟩ => ⟨S6912x640, .i8⟩
  | .hbm, ⟨5, _⟩ => ⟨S8192x2560, .bf16⟩
  | .local _ .vmem, ⟨0, _⟩ => ⟨S512x6912, .i8⟩
  | .local _ .vmem, ⟨1, _⟩ => ⟨S512x6912, .i8⟩
  | .local _ .vmem, ⟨2, _⟩ => ⟨S512x1, .f32⟩
  | .local _ .vmem, ⟨3, _⟩ => ⟨S512x1, .f32⟩
  | .local _ .vmem, ⟨4, _⟩ => ⟨S512x2560, .f32⟩
  | .local _ .vmem, ⟨5, _⟩ => ⟨S512x2560, .f32⟩
  | .local _ .vmem, ⟨6, _⟩ => ⟨S6912x640, .i8⟩
  | .local _ .vmem, ⟨7, _⟩ => ⟨S512x2560, .bf16⟩
  | .local _ .vmem, ⟨8, _⟩ => ⟨S512x2560, .bf16⟩
  | .local _ .vmem, ⟨9, _⟩ => ⟨S512x6912, .bf16⟩
  | .local _ .vmem, ⟨10, _⟩ => ⟨S6912x256, .bf16⟩
  | .local _ .smem, ⟨0, _⟩ => ⟨S1, .f32⟩
  | _, _ => ⟨S8192x6912, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c10_i32 : BitVec 32 := 10#32
  let v5 : BitVec 32 := Scalar.addi c0_i32 c10_i32
  let c1_i32 : BitVec 32 := 1#32
  ⟨c0_i32, v5, c1_i32⟩
def k0_mult1 (k0_t1 : Fin k0_t1_loop.trips) : BitVec 32 :=
  let c2_i32 : BitVec 32 := 2#32
  let c0_i32 : BitVec 32 := 0#32
  let c1_i32 : BitVec 32 := 1#32
  let arg9 : BitVec 32 := Scf.iv c0_i32 c1_i32 k0_t1
  let v6 : BitVec 32 := Scalar.muli c2_i32 arg9
  let c0_i32_4 : BitVec 32 := 0#32
  let v7 : BitVec 32 := Scalar.addi v6 c0_i32_4
  let c5_i32_11 : BitVec 32 := 5#32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c5_i32 : BitVec 32 := 5#32
  let c0_i32_7 : BitVec 32 := 0#32
  let v14 : BitVec 1 := Scalar.cmpi .sgt c5_i32 c0_i32_7
  let v15 : BitVec 32 := Scalar.extui v14
  let c0_i32_8 : BitVec 32 := 0#32
  let v16 : BitVec 1 := Scalar.cmpi .slt c5_i32 c0_i32_8
  let v17 : BitVec 32 := Scalar.extui v16
  let v18 : BitVec 32 := Scalar.subi v15 v17
  let v19 : BitVec 1 := Scalar.cmpi .ne v13 v18
  let v20 : BitVec 32 := Scalar.remsi v7 c5_i32
  let c0_i32_9 : BitVec 32 := 0#32
  let v21 : BitVec 1 := Scalar.cmpi .ne v20 c0_i32_9
  let v22 : BitVec 1 := Scalar.andi v19 v21
  let v8 : BitVec 32 := Scalar.divsi v7 c5_i32
  let c1_i32_10 : BitVec 32 := 1#32
  let v23 : BitVec 32 := Scalar.subi v8 c1_i32_10
  let v24 : BitVec 32 := Scalar.select v22 v23 v8
  let v25 : BitVec 32 := Scalar.muli c5_i32_11 v24
  let v26 : BitVec 32 := Scalar.subi v7 v25
  let c128_i32 : BitVec 32 := 128#32
  let v27 : BitVec 32 := Scalar.muli v26 c128_i32
  v27
def k0_off1 (k0_t1 : Fin k0_t1_loop.trips) (c0_i32_4 : BitVec 32) : Fin 2 → Nat :=
  let c0_12 : Index := 0#32
  let c2_i32 : BitVec 32 := 2#32
  let c0_i32 : BitVec 32 := 0#32
  let c1_i32 : BitVec 32 := 1#32
  let arg9 : BitVec 32 := Scf.iv c0_i32 c1_i32 k0_t1
  let v6 : BitVec 32 := Scalar.muli c2_i32 arg9
  let v7 : BitVec 32 := Scalar.addi v6 c0_i32_4
  let c5_i32_11 : BitVec 32 := 5#32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c5_i32 : BitVec 32 := 5#32
  let c0_i32_7 : BitVec 32 := 0#32
  let v14 : BitVec 1 := Scalar.cmpi .sgt c5_i32 c0_i32_7
  let v15 : BitVec 32 := Scalar.extui v14
  let c0_i32_8 : BitVec 32 := 0#32
  let v16 : BitVec 1 := Scalar.cmpi .slt c5_i32 c0_i32_8
  let v17 : BitVec 32 := Scalar.extui v16
  let v18 : BitVec 32 := Scalar.subi v15 v17
  let v19 : BitVec 1 := Scalar.cmpi .ne v13 v18
  let v20 : BitVec 32 := Scalar.remsi v7 c5_i32
  let c0_i32_9 : BitVec 32 := 0#32
  let v21 : BitVec 1 := Scalar.cmpi .ne v20 c0_i32_9
  let v22 : BitVec 1 := Scalar.andi v19 v21
  let v8 : BitVec 32 := Scalar.divsi v7 c5_i32
  let c1_i32_10 : BitVec 32 := 1#32
  let v23 : BitVec 32 := Scalar.subi v8 c1_i32_10
  let v24 : BitVec 32 := Scalar.select v22 v23 v8
  let v25 : BitVec 32 := Scalar.muli c5_i32_11 v24
  let v26 : BitVec 32 := Scalar.subi v7 v25
  let c128_i32 : BitVec 32 := 128#32
  let v27 : BitVec 32 := Scalar.muli v26 c128_i32
  let v28 : BitVec 32 := v27
  let v29 : Index := Scalar.indexCast v28
  ![0, v29.toNat]
def k0_mult2 (k0_t1 : Fin k0_t1_loop.trips) : BitVec 32 :=
  let c2_i32_16 : BitVec 32 := 2#32
  let c0_i32 : BitVec 32 := 0#32
  let c1_i32 : BitVec 32 := 1#32
  let arg9 : BitVec 32 := Scf.iv c0_i32 c1_i32 k0_t1
  let v44 : BitVec 32 := Scalar.muli c2_i32_16 arg9
  let c1_i32_17 : BitVec 32 := 1#32
  let v45 : BitVec 32 := Scalar.addi v44 c1_i32_17
  let c5_i32_25 : BitVec 32 := 5#32
  let c0_i32_19 : BitVec 32 := 0#32
  let v47 : BitVec 1 := Scalar.cmpi .sgt v45 c0_i32_19
  let v48 : BitVec 32 := Scalar.extui v47
  let c0_i32_20 : BitVec 32 := 0#32
  let v49 : BitVec 1 := Scalar.cmpi .slt v45 c0_i32_20
  let v50 : BitVec 32 := Scalar.extui v49
  let v51 : BitVec 32 := Scalar.subi v48 v50
  let c5_i32_18 : BitVec 32 := 5#32
  let c0_i32_21 : BitVec 32 := 0#32
  let v52 : BitVec 1 := Scalar.cmpi .sgt c5_i32_18 c0_i32_21
  let v53 : BitVec 32 := Scalar.extui v52
  let c0_i32_22 : BitVec 32 := 0#32
  let v54 : BitVec 1 := Scalar.cmpi .slt c5_i32_18 c0_i32_22
  let v55 : BitVec 32 := Scalar.extui v54
  let v56 : BitVec 32 := Scalar.subi v53 v55
  let v57 : BitVec 1 := Scalar.cmpi .ne v51 v56
  let v58 : BitVec 32 := Scalar.remsi v45 c5_i32_18
  let c0_i32_23 : BitVec 32 := 0#32
  let v59 : BitVec 1 := Scalar.cmpi .ne v58 c0_i32_23
  let v60 : BitVec 1 := Scalar.andi v57 v59
  let v46 : BitVec 32 := Scalar.divsi v45 c5_i32_18
  let c1_i32_24 : BitVec 32 := 1#32
  let v61 : BitVec 32 := Scalar.subi v46 c1_i32_24
  let v62 : BitVec 32 := Scalar.select v60 v61 v46
  let v63 : BitVec 32 := Scalar.muli c5_i32_25 v62
  let v64 : BitVec 32 := Scalar.subi v45 v63
  let c128_i32_26 : BitVec 32 := 128#32
  let v65 : BitVec 32 := Scalar.muli v64 c128_i32_26
  v65
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v82 : BitVec 32 := Scalar.muli arg9 c256_i32
  v82
def k0_off2 (k0_t1 : Fin k0_t1_loop.trips) : Fin 2 → Nat :=
  let c0_37 : Index := 0#32
  let c0_i32 : BitVec 32 := 0#32
  let c1_i32 : BitVec 32 := 1#32
  let arg9 : BitVec 32 := Scf.iv c0_i32 c1_i32 k0_t1
  let c256_i32 : BitVec 32 := 256#32
  let v82 : BitVec 32 := Scalar.muli arg9 c256_i32
  let v83 : BitVec 32 := v82
  let v87 : Index := Scalar.indexCast v83
  ![0, v87.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6912 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6912x640 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S8192x6912 : Shape := ⟨2, ![8192, 6912]⟩
abbrev S8192x1 : Shape := ⟨2, ![8192, 1]⟩
abbrev S8192x2560 : Shape := ⟨2, ![8192, 2560]⟩
abbrev S1 : Shape := ⟨1, ![1]⟩
abbrev S6912x640 : Shape := ⟨2, ![6912, 640]⟩
abbrev S8192 : Shape := ⟨1, ![8192]⟩
abbrev S_ : Shape := ⟨0, ![]⟩
abbrev S8192x640 : Shape := ⟨2, ![8192, 640]⟩

abbrev nBuf : Space → Nat
  | .hbm => 67
  | .vmem => 0
  | .smem => 0
  | _ => 0

abbrev bufTy : (tb : Table) → Fin (tcTables nBuf tb) → BufTy
  | .hbm, ⟨0, _⟩ => ⟨S8192x6912, .i8⟩
  | .hbm, ⟨1, _⟩ => ⟨S8192x1, .f32⟩
  | .hbm, ⟨2, _⟩ => ⟨S8192x2560, .f32⟩
  | .hbm, ⟨3, _⟩ => ⟨S1, .f32⟩
  | .hbm, ⟨4, _⟩ => ⟨S6912x640, .i8⟩
  | .hbm, ⟨5, _⟩ => ⟨S8192, .f32⟩
  | .hbm, ⟨6, _⟩ => ⟨S_, .f32⟩
  | .hbm, ⟨7, _⟩ => ⟨S8192x6912, .i32⟩
  | .hbm, ⟨8, _⟩ => ⟨S8192x6912, .f32⟩
  | .hbm, ⟨9, _⟩ => ⟨S8192x6912, .bf16⟩
  | .hbm, ⟨10, _⟩ => ⟨S6912x640, .i32⟩
  | .hbm, ⟨11, _⟩ => ⟨S_, .i32⟩
  | .hbm, ⟨12, _⟩ => ⟨S6912x640, .i32⟩
  | .hbm, ⟨13, _⟩ => ⟨S6912x640, .i32⟩
  | .hbm, ⟨14, _⟩ => ⟨S_, .i32⟩
  | .hbm, ⟨15, _⟩ => ⟨S6912x640, .i32⟩
  | .hbm, ⟨16, _⟩ => ⟨S6912x640, .i32⟩
  | .hbm, ⟨17, _⟩ => ⟨S_, .i32⟩
  | .hbm, ⟨18, _⟩ => ⟨S6912x640, .i32⟩
  | .hbm, ⟨19, _⟩ => ⟨S6912x640, .i32⟩
  | .hbm, ⟨20, _⟩ => ⟨S6912x640, .f32⟩
  | .hbm, ⟨21, _⟩ => ⟨S6912x640, .bf16⟩
  | .hbm, ⟨22, _⟩ => ⟨S8192x640, .f32⟩
  | .hbm, ⟨23, _⟩ => ⟨S_, .i32⟩
  | .hbm, ⟨24, _⟩ => ⟨S6912x640, .i32⟩
  | .hbm, ⟨25, _⟩ => ⟨S6912x640, .i32⟩
  | .hbm, ⟨26, _⟩ => ⟨S_, .i32⟩
  | .hbm, ⟨27, _⟩ => ⟨S6912x640, .i32⟩
  | .hbm, ⟨28, _⟩ => ⟨S6912x640, .i32⟩
  | .hbm, ⟨29, _⟩ => ⟨S_, .i32⟩
  | .hbm, ⟨30, _⟩ => ⟨S6912x640, .i32⟩
  | .hbm, ⟨31, _⟩ => ⟨S6912x640, .i32⟩
  | .hbm, ⟨32, _⟩ => ⟨S6912x640, .f32⟩
  | .hbm, ⟨33, _⟩ => ⟨S6912x640, .bf16⟩
  | .hbm, ⟨34, _⟩ => ⟨S8192x640, .f32⟩
  | .hbm, ⟨35, _⟩ => ⟨S_, .i32⟩
  | .hbm, ⟨36, _⟩ => ⟨S6912x640, .i32⟩
  | .hbm, ⟨37, _⟩ => ⟨S6912x640, .i32⟩
  | .hbm, ⟨38, _⟩ => ⟨S_, .i32⟩
  | .hbm, ⟨39, _⟩ => ⟨S6912x640, .i32⟩
  | .hbm, ⟨40, _⟩ => ⟨S6912x640, .i32⟩
  | .hbm, ⟨41, _⟩ => ⟨S_, .i32⟩
  | .hbm, ⟨42, _⟩ => ⟨S6912x640, .i32⟩
  | .hbm, ⟨43, _⟩ => ⟨S6912x640, .i32⟩
  | .hbm, ⟨44, _⟩ => ⟨S6912x640, .f32⟩
  | .hbm, ⟨45, _⟩ => ⟨S6912x640, .bf16⟩
  | .hbm, ⟨46, _⟩ => ⟨S8192x640, .f32⟩
  | .hbm, ⟨47, _⟩ => ⟨S_, .i32⟩
  | .hbm, ⟨48, _⟩ => ⟨S6912x640, .i32⟩
  | .hbm, ⟨49, _⟩ => ⟨S6912x640, .i32⟩
  | .hbm, ⟨50, _⟩ => ⟨S_, .i32⟩
  | .hbm, ⟨51, _⟩ => ⟨S6912x640, .i32⟩
  | .hbm, ⟨52, _⟩ => ⟨S6912x640, .i32⟩
  | .hbm, ⟨53, _⟩ => ⟨S_, .i32⟩
  | .hbm, ⟨54, _⟩ => ⟨S6912x640, .i32⟩
  | .hbm, ⟨55, _⟩ => ⟨S6912x640, .i32⟩
  | .hbm, ⟨56, _⟩ => ⟨S6912x640, .f32⟩
  | .hbm, ⟨57, _⟩ => ⟨S6912x640, .bf16⟩
  | .hbm, ⟨58, _⟩ => ⟨S8192x640, .f32⟩
  | .hbm, ⟨59, _⟩ => ⟨S8192x2560, .f32⟩
  | .hbm, ⟨60, _⟩ => ⟨S8192x1, .f32⟩
  | .hbm, ⟨61, _⟩ => ⟨S8192x2560, .f32⟩
  | .hbm, ⟨62, _⟩ => ⟨S8192x2560, .f32⟩
  | .hbm, ⟨63, _⟩ => ⟨S8192x2560, .f32⟩
  | .hbm, ⟨64, _⟩ => ⟨S8192x2560, .f32⟩
  | .hbm, ⟨65, _⟩ => ⟨S8192x2560, .f32⟩
  | .hbm, ⟨66, _⟩ => ⟨S8192x2560, .bf16⟩
  | _, _ => ⟨S8192x6912, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== GateUp.lean ====
abbrev S8192x2560 : Shape := ⟨2, ![8192, 2560]⟩
abbrev S8192x1 : Shape := ⟨2, ![8192, 1]⟩
abbrev S1x6912 : Shape := ⟨2, ![1, 6912]⟩
abbrev S2 : Shape := ⟨1, ![2]⟩
abbrev S2560x1728 : Shape := ⟨2, ![2560, 1728]⟩
abbrev S_ : Shape := ⟨0, ![]⟩
abbrev S2560x1792 : Shape := ⟨2, ![2560, 1792]⟩
abbrev S2560x64 : Shape := ⟨2, ![2560, 64]⟩
abbrev S1 : Shape := ⟨1, ![1]⟩
abbrev S8192x6912 : Shape := ⟨2, ![8192, 6912]⟩
abbrev S16x4x128 : Shape := ⟨3, ![16, 4, 128]⟩
abbrev S512x2560 : Shape := ⟨2, ![512, 2560]⟩
abbrev S512x1 : Shape := ⟨2, ![512, 1]⟩
abbrev S512x6912 : Shape := ⟨2, ![512, 6912]⟩
abbrev S1x4x128 : Shape := ⟨3, ![1, 4, 128]⟩
abbrev S2x2560x256 : Shape := ⟨3, ![2, 2560, 256]⟩
abbrev S512x128 : Shape := ⟨2, ![512, 128]⟩
abbrev S2560x128 : Shape := ⟨2, ![2560, 128]⟩
abbrev S640x128 : Shape := ⟨2, ![640, 128]⟩
abbrev S1x2560x128 : Shape := ⟨3, ![1, 2560, 128]⟩
abbrev S1x2560x256 : Shape := ⟨3, ![1, 2560, 256]⟩
abbrev S2560x256 : Shape := ⟨2, ![2560, 256]⟩
abbrev S512x256 : Shape := ⟨2, ![512, 256]⟩
abbrev S32x6912 : Shape := ⟨2, ![32, 6912]⟩
abbrev S32 : Shape := ⟨1, ![32]⟩
abbrev S32x1 : Shape := ⟨2, ![32, 1]⟩
abbrev S32x128 : Shape := ⟨2, ![32, 128]⟩
abbrev S4x128x128 : Shape := ⟨3, ![4, 128, 128]⟩
abbrev S128x128 : Shape := ⟨2, ![128, 128]⟩
abbrev S1x128x128 : Shape := ⟨3, ![1, 128, 128]⟩
abbrev S4x128 : Shape := ⟨2, ![4, 128]⟩

abbrev nBuf : Space → Nat
  | .hbm => 59
  | .vmem => 18
  | .smem => 1
  | _ => 0

abbrev bufTy : (tb : Table) → Fin (tcTables nBuf tb) → BufTy
  | .hbm, ⟨0, _⟩ => ⟨S8192x2560, .i8⟩
  | .hbm, ⟨1, _⟩ => ⟨S8192x1, .f32⟩
  | .hbm, ⟨2, _⟩ => ⟨S1x6912, .f32⟩
  | .hbm, ⟨3, _⟩ => ⟨S2, .f32⟩
  | .hbm, ⟨4, _⟩ => ⟨S2560x1728, .i8⟩
  | .hbm, ⟨5, _⟩ => ⟨S2560x1728, .i8⟩
  | .hbm, ⟨6, _⟩ => ⟨S_, .i32⟩
  | .hbm, ⟨7, _⟩ => ⟨S_, .i8⟩
  | .hbm, ⟨8, _⟩ => ⟨S2560x1792, .i8⟩
  | .hbm, ⟨9, _⟩ => ⟨S2560x64, .i8⟩
  | .hbm, ⟨10, _⟩ => ⟨S2560x1728, .i8⟩
  | .hbm, ⟨11, _⟩ => ⟨S2560x1792, .i8⟩
  | .hbm, ⟨12, _⟩ => ⟨S2560x64, .i8⟩
  | .hbm, ⟨13, _⟩ => ⟨S2560x64, .i32⟩
  | .hbm, ⟨14, _⟩ => ⟨S_, .i32⟩
  | .hbm, ⟨15, _⟩ => ⟨S2560x64, .i32⟩
  | .hbm, ⟨16, _⟩ => ⟨S2560x64, .i32⟩
  | .hbm, ⟨17, _⟩ => ⟨S2560x64, .i8⟩
  | .hbm, ⟨18, _⟩ => ⟨S_, .i32⟩
  | .hbm, ⟨19, _⟩ => ⟨S1, .i32⟩
  | .hbm, ⟨20, _⟩ => ⟨S2560x1792, .i8⟩
  | .hbm, ⟨21, _⟩ => ⟨S2560x1792, .i32⟩
  | .hbm, ⟨22, _⟩ => ⟨S_, .i32⟩
  | .hbm, ⟨23, _⟩ => ⟨S2560x1792, .i32⟩
  | .hbm, ⟨24, _⟩ => ⟨S2560x1792, .i32⟩
  | .hbm, ⟨25, _⟩ => ⟨S2560x1792, .i32⟩
  | .hbm, ⟨26, _⟩ => ⟨S_, .i32⟩
  | .hbm, ⟨27, _⟩ => ⟨S2560x1792, .i32⟩
  | .hbm, ⟨28, _⟩ => ⟨S2560x1792, .i32⟩
  | .hbm, ⟨29, _⟩ => ⟨S2560x1792, .i32⟩
  | .hbm, ⟨30, _⟩ => ⟨S2560x1792, .i8⟩
  | .hbm, ⟨31, _⟩ => ⟨S_, .i32⟩
  | .hbm, ⟨32, _⟩ => ⟨S_, .i8⟩
  | .hbm, ⟨33, _⟩ => ⟨S2560x1792, .i8⟩
  | .hbm, ⟨34, _⟩ => ⟨S2560x64, .i8⟩
  | .hbm, ⟨35, _⟩ => ⟨S2560x1728, .i8⟩
  | .hbm, ⟨36, _⟩ => ⟨S2560x1792, .i8⟩
  | .hbm, ⟨37, _⟩ => ⟨S2560x64, .i8⟩
  | .hbm, ⟨38, _⟩ => ⟨S2560x64, .i32⟩
  | .hbm, ⟨39, _⟩ => ⟨S_, .i32⟩
  | .hbm, ⟨40, _⟩ => ⟨S2560x64, .i32⟩
  | .hbm, ⟨41, _⟩ => ⟨S2560x64, .i32⟩
  | .hbm, ⟨42, _⟩ => ⟨S2560x64, .i8⟩
  | .hbm, ⟨43, _⟩ => ⟨S_, .i32⟩
  | .hbm, ⟨44, _⟩ => ⟨S1, .i32⟩
  | .hbm, ⟨45, _⟩ => ⟨S2560x1792, .i8⟩
  | .hbm, ⟨46, _⟩ => ⟨S2560x1792, .i32⟩
  | .hbm, ⟨47, _⟩ => ⟨S_, .i32⟩
  | .hbm, ⟨48, _⟩ => ⟨S2560x1792, .i32⟩
  | .hbm, ⟨49, _⟩ => ⟨S2560x1792, .i32⟩
  | .hbm, ⟨50, _⟩ => ⟨S2560x1792, .i32⟩
  | .hbm, ⟨51, _⟩ => ⟨S_, .i32⟩
  | .hbm, ⟨52, _⟩ => ⟨S2560x1792, .i32⟩
  | .hbm, ⟨53, _⟩ => ⟨S2560x1792, .i32⟩
  | .hbm, ⟨54, _⟩ => ⟨S2560x1792, .i32⟩
  | .hbm, ⟨55, _⟩ => ⟨S2560x1792, .i8⟩
  | .hbm, ⟨56, _⟩ => ⟨S8192x6912, .i8⟩
  | .hbm, ⟨57, _⟩ => ⟨S16x4x128, .f32⟩
  | .hbm, ⟨58, _⟩ => ⟨S16x4x128, .f32⟩
  | .local _ .vmem, ⟨0, _⟩ => ⟨S512x2560, .i8⟩
  | .local _ .vmem, ⟨1, _⟩ => ⟨S512x2560, .i8⟩
  | .local _ .vmem, ⟨2, _⟩ => ⟨S512x1, .f32⟩
  | .local _ .vmem, ⟨3, _⟩ => ⟨S512x1, .f32⟩
  | .local _ .vmem, ⟨4, _⟩ => ⟨S1x6912, .f32⟩
  | .local _ .vmem, ⟨5, _⟩ => ⟨S2560x1792, .i8⟩
  | .local _ .vmem, ⟨6, _⟩ => ⟨S2560x1792, .i8⟩
  | .local _ .vmem, ⟨7, _⟩ => ⟨S512x6912, .i8⟩
  | .local _ .vmem, ⟨8, _⟩ => ⟨S512x6912, .i8⟩
  | .local _ .vmem, ⟨9, _⟩ => ⟨S1x4x128, .f32⟩
  | .local _ .vmem, ⟨10, _⟩ => ⟨S1x4x128, .f32⟩
  | .local _ .vmem, ⟨11, _⟩ => ⟨S1x4x128, .f32⟩
  | .local _ .vmem, ⟨12, _⟩ => ⟨S1x4x128, .f32⟩
  | .local _ .vmem, ⟨13, _⟩ => ⟨S512x2560, .bf16⟩
  | .local _ .vmem, ⟨14, _⟩ => ⟨S2x2560x256, .bf16⟩
  | .local _ .vmem, ⟨15, _⟩ => ⟨S512x6912, .f32⟩
  | .local _ .vmem, ⟨16, _⟩ => ⟨S512x128, .f32⟩
  | .local _ .vmem, ⟨17, _⟩ => ⟨S512x128, .f32⟩
  | .local _ .smem, ⟨0, _⟩ => ⟨S2, .f32⟩
  | _, _ => ⟨S8192x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_call1_v0 : Ref sig .tc := ⟨.hbm, 9, rfl⟩
abbrev main_call1_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_call2_v0 : Ref sig .tc := ⟨.hbm, 32, rfl⟩
abbrev main_v17 : Ref sig .tc := ⟨.hbm, 33, rfl⟩
abbrev main_call3_v0 : Ref sig .tc := ⟨.hbm, 34, rfl⟩
abbrev main_call3_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev main_v34_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c27_i32 : BitVec 32 := 27#32
  let v5 : BitVec 32 := Scalar.addi c0_i32 c27_i32
  let c1_i32 : BitVec 32 := 1#32
  ⟨c0_i32, v5, c1_i32⟩
def k0_mult1 (k0_t1 : Fin k0_t1_loop.trips) : BitVec 32 :=
  let c2_i32 : BitVec 32 := 2#32
  let c0_i32 : BitVec 32 := 0#32
  let c1_i32 : BitVec 32 := 1#32
  let arg15 : BitVec 32 := Scf.iv c0_i32 c1_i32 k0_t1
  let v35 : BitVec 32 := Scalar.muli c2_i32 arg15
  let c0_i32_20 : BitVec 32 := 0#32
  let v36 : BitVec 32 := Scalar.addi v35 c0_i32_20
  let c14_i32 : BitVec 32 := 14#32
  let v37 : BitVec 1 := Scalar.cmpi .sge v36 c14_i32
  let v38 : BitVec 32 := Scalar.extui v37
  let c27_i32_21 : BitVec 32 := 27#32
  let v39 : BitVec 1 := Scalar.cmpi .sge v36 c27_i32_21
  let v40 : BitVec 32 := Scalar.extui v39
  let v41 : BitVec 32 := Scalar.addi v38 v40
  let c41_i32 : BitVec 32 := 41#32
  let v42 : BitVec 1 := Scalar.cmpi .sge v36 c41_i32
  let v43 : BitVec 32 := Scalar.extui v42
  let v44 : BitVec 32 := Scalar.addi v41 v43
  let c0_i32_22 : BitVec 32 := 0#32
  let v45 : BitVec 1 := Scalar.cmpi .eq v44 c0_i32_22
  let c0_i32_26 : BitVec 32 := 0#32
  let c1_i32_23 : BitVec 32 := 1#32
  let v46 : BitVec 1 := Scalar.cmpi .eq v44 c1_i32_23
  let c13_i32 : BitVec 32 := 13#32
  let c2_i32_24 : BitVec 32 := 2#32
  let v47 : BitVec 1 := Scalar.cmpi .eq v44 c2_i32_24
  let c27_i32_25 : BitVec 32 := 27#32
  let c40_i32 : BitVec 32 := 40#32
  let v48 : BitVec 32 := Scalar.select v47 c27_i32_25 c40_i32
  let v49 : BitVec 32 := Scalar.select v46 c13_i32 v48
  let v50 : BitVec 32 := Scalar.select v45 c0_i32_26 v49
  let v51 : BitVec 32 := Scalar.subi v36 v50
  let c128_i32 : BitVec 32 := 128#32
  let v52 : BitVec 32 := Scalar.muli v51 c128_i32
  v52
def k0_off1 (k0_t1 : Fin k0_t1_loop.trips) (c0_i32_20 : BitVec 32) : Fin 2 → Nat :=
  let c0_27 : Index := 0#32
  let c2_i32 : BitVec 32 := 2#32
  let c0_i32 : BitVec 32 := 0#32
  let c1_i32 : BitVec 32 := 1#32
  let arg15 : BitVec 32 := Scf.iv c0_i32 c1_i32 k0_t1
  let v35 : BitVec 32 := Scalar.muli c2_i32 arg15
  let v36 : BitVec 32 := Scalar.addi v35 c0_i32_20
  let c14_i32 : BitVec 32 := 14#32
  let v37 : BitVec 1 := Scalar.cmpi .sge v36 c14_i32
  let v38 : BitVec 32 := Scalar.extui v37
  let c27_i32_21 : BitVec 32 := 27#32
  let v39 : BitVec 1 := Scalar.cmpi .sge v36 c27_i32_21
  let v40 : BitVec 32 := Scalar.extui v39
  let v41 : BitVec 32 := Scalar.addi v38 v40
  let c41_i32 : BitVec 32 := 41#32
  let v42 : BitVec 1 := Scalar.cmpi .sge v36 c41_i32
  let v43 : BitVec 32 := Scalar.extui v42
  let v44 : BitVec 32 := Scalar.addi v41 v43
  let c0_i32_22 : BitVec 32 := 0#32
  let v45 : BitVec 1 := Scalar.cmpi .eq v44 c0_i32_22
  let c0_i32_26 : BitVec 32 := 0#32
  let c1_i32_23 : BitVec 32 := 1#32
  let v46 : BitVec 1 := Scalar.cmpi .eq v44 c1_i32_23
  let c13_i32 : BitVec 32 := 13#32
  let c2_i32_24 : BitVec 32 := 2#32
  let v47 : BitVec 1 := Scalar.cmpi .eq v44 c2_i32_24
  let c27_i32_25 : BitVec 32 := 27#32
  let c40_i32 : BitVec 32 := 40#32
  let v48 : BitVec 32 := Scalar.select v47 c27_i32_25 c40_i32
  let v49 : BitVec 32 := Scalar.select v46 c13_i32 v48
  let v50 : BitVec 32 := Scalar.select v45 c0_i32_26 v49
  let v51 : BitVec 32 := Scalar.subi v36 v50
  let c128_i32 : BitVec 32 := 128#32
  let v52 : BitVec 32 := Scalar.muli v51 c128_i32
  let v53 : BitVec 32 := v52
  let v54 : Index := Scalar.indexCast v53
  ![0, v54.toNat]
def k0_mult2 (k0_t1 : Fin k0_t1_loop.trips) : BitVec 32 :=
  let c2_i32_39 : BitVec 32 := 2#32
  let c0_i32 : BitVec 32 := 0#32
  let c1_i32 : BitVec 32 := 1#32
  let arg15 : BitVec 32 := Scf.iv c0_i32 c1_i32 k0_t1
  let v86 : BitVec 32 := Scalar.muli c2_i32_39 arg15
  let c1_i32_40 : BitVec 32 := 1#32
  let v87 : BitVec 32 := Scalar.addi v86 c1_i32_40
  let c14_i32_41 : BitVec 32 := 14#32
  let v88 : BitVec 1 := Scalar.cmpi .sge v87 c14_i32_41
  let v89 : BitVec 32 := Scalar.extui v88
  let c27_i32_42 : BitVec 32 := 27#32
  let v90 : BitVec 1 := Scalar.cmpi .sge v87 c27_i32_42
  let v91 : BitVec 32 := Scalar.extui v90
  let v92 : BitVec 32 := Scalar.addi v89 v91
  let c41_i32_43 : BitVec 32 := 41#32
  let v93 : BitVec 1 := Scalar.cmpi .sge v87 c41_i32_43
  let v94 : BitVec 32 := Scalar.extui v93
  let v95 : BitVec 32 := Scalar.addi v92 v94
  let c0_i32_44 : BitVec 32 := 0#32
  let v96 : BitVec 1 := Scalar.cmpi .eq v95 c0_i32_44
  let c0_i32_50 : BitVec 32 := 0#32
  let c1_i32_45 : BitVec 32 := 1#32
  let v97 : BitVec 1 := Scalar.cmpi .eq v95 c1_i32_45
  let c13_i32_49 : BitVec 32 := 13#32
  let c2_i32_46 : BitVec 32 := 2#32
  let v98 : BitVec 1 := Scalar.cmpi .eq v95 c2_i32_46
  let c27_i32_47 : BitVec 32 := 27#32
  let c40_i32_48 : BitVec 32 := 40#32
  let v99 : BitVec 32 := Scalar.select v98 c27_i32_47 c40_i32_48
  let v100 : BitVec 32 := Scalar.select v97 c13_i32_49 v99
  let v101 : BitVec 32 := Scalar.select v96 c0_i32_50 v100
  let v102 : BitVec 32 := Scalar.subi v87 v101
  let c128_i32_51 : BitVec 32 := 128#32
  let v103 : BitVec 32 := Scalar.muli v102 c128_i32_51
  v103
def k0_mult3 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v161 : BitVec 32 := Scalar.muli arg15 c256_i32
  v161
def k0_off2 (k0_t1 : Fin k0_t1_loop.trips) : Fin 2 → Nat :=
  let c0_84 : Index := 0#32
  let c0_i32 : BitVec 32 := 0#32
  let c1_i32 : BitVec 32 := 1#32
  let arg15 : BitVec 32 := Scf.iv c0_i32 c1_i32 k0_t1
  let c256_i32 : BitVec 32 := 256#32
  let v161 : BitVec 32 := Scalar.muli arg15 c256_i32
  let v162 : BitVec 32 := v161
  let v163 : Index := Scalar.indexCast v162
  ![0, v163.toNat]
@[reducible] def k0_t2_loop : Scf.Loop 32 :=
  let c0_i32_4 : BitVec 32 := 0#32
  let c16_i32 : BitVec 32 := 16#32
  let v6 : BitVec 32 := Scalar.addi c0_i32_4 c16_i32
  let c1_i32_5 : BitVec 32 := 1#32
  ⟨c0_i32_4, v6, c1_i32_5⟩
def k0_mult4 (k0_t2 : Fin k0_t2_loop.trips) : BitVec 32 :=
  let c0_i32_4 : BitVec 32 := 0#32
  let c1_i32_5 : BitVec 32 := 1#32
  let arg15 : BitVec 32 := Scf.iv c0_i32_4 c1_i32_5 k0_t2
  let c32_i32 : BitVec 32 := 32#32
  let v35 : BitVec 32 := Scalar.muli arg15 c32_i32
  v35
def k0_off3 (k0_t2 : Fin k0_t2_loop.trips) : Fin 2 → Nat :=
  let c0_i32_4 : BitVec 32 := 0#32
  let c1_i32_5 : BitVec 32 := 1#32
  let arg15 : BitVec 32 := Scf.iv c0_i32_4 c1_i32_5 k0_t2
  let c32_i32 : BitVec 32 := 32#32
  let v35 : BitVec 32 := Scalar.muli arg15 c32_i32
  let v36 : BitVec 32 := v35
  let v37 : Index := Scalar.indexCast v36
  let c0_20 : Index := 0#32
  ![v37.toNat, 0]
def k0_off4 (k0_t2 : Fin k0_t2_loop.trips) : Fin 2 → Nat :=
  let c0_i32_4 : BitVec 32 := 0#32
  let c1_i32_5 : BitVec 32 := 1#32
  let arg15 : BitVec 32 := Scf.iv c0_i32_4 c1_i32_5 k0_t2
  let c32_i32 : BitVec 32 := 32#32
  let v35 : BitVec 32 := Scalar.muli arg15 c32_i32
  let v36 : BitVec 32 := v35
  let v73 : Index := Scalar.indexCast v36
  let c0_33 : Index := 0#32
  ![v73.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2560 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2560x1792 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2560x1792 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x6912 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateUpRefIdeal.lean ====
abbrev S8192x2560 : Shape := ⟨2, ![8192, 2560]⟩
abbrev S8192x1 : Shape := ⟨2, ![8192, 1]⟩
abbrev S1x6912 : Shape := ⟨2, ![1, 6912]⟩
abbrev S2 : Shape := ⟨1, ![2]⟩
abbrev S2560x1728 : Shape := ⟨2, ![2560, 1728]⟩
abbrev S8192 : Shape := ⟨1, ![8192]⟩
abbrev S1 : Shape := ⟨1, ![1]⟩
abbrev S_ : Shape := ⟨0, ![]⟩
abbrev S8192x1728 : Shape := ⟨2, ![8192, 1728]⟩
abbrev S8192x6912 : Shape := ⟨2, ![8192, 6912]⟩
abbrev S6912 : Shape := ⟨1, ![6912]⟩
abbrev S16x4x128 : Shape := ⟨3, ![16, 4, 128]⟩

abbrev nBuf : Space → Nat
  | .hbm => 179
  | .vmem => 0
  | .smem => 0
  | _ => 0

abbrev hbmTy0_0 (i : Nat) : BufTy := match i % 128 with
  | 0 => ⟨S8192x2560, .i8⟩
  | 1 => ⟨S8192x1, .f32⟩
  | 2 => ⟨S1x6912, .f32⟩
  | 3 => ⟨S2, .f32⟩
  | 4 => ⟨S2560x1728, .i8⟩
  | 5 => ⟨S2560x1728, .i8⟩
  | 6 => ⟨S8192, .f32⟩
  | 7 => ⟨S1, .f32⟩
  | 8 => ⟨S_, .f32⟩
  | 9 => ⟨S8192x2560, .i32⟩
  | 10 => ⟨S8192x2560, .f32⟩
  | 11 => ⟨S8192x2560, .bf16⟩
  | 12 => ⟨S2560x1728, .i32⟩
  | 13 => ⟨S_, .i32⟩
  | 14 => ⟨S2560x1728, .i32⟩
  | 15 => ⟨S2560x1728, .i32⟩
  | 16 => ⟨S_, .i32⟩
  | 17 => ⟨S2560x1728, .i32⟩
  | 18 => ⟨S2560x1728, .i32⟩
  | 19 => ⟨S_, .i32⟩
  | 20 => ⟨S2560x1728, .i32⟩
  | 21 => ⟨S2560x1728, .i32⟩
  | 22 => ⟨S2560x1728, .f32⟩
  | 23 => ⟨S2560x1728, .bf16⟩
  | 24 => ⟨S8192x1728, .f32⟩
  | 25 => ⟨S_, .i32⟩
  | 26 => ⟨S2560x1728, .i32⟩
  | 27 => ⟨S2560x1728, .i32⟩
  | 28 => ⟨S_, .i32⟩
  | 29 => ⟨S2560x1728, .i32⟩
  | 30 => ⟨S2560x1728, .i32⟩
  | 31 => ⟨S_, .i32⟩
  | 32 => ⟨S2560x1728, .i32⟩
  | 33 => ⟨S2560x1728, .i32⟩
  | 34 => ⟨S2560x1728, .f32⟩
  | 35 => ⟨S2560x1728, .bf16⟩
  | 36 => ⟨S8192x1728, .f32⟩
  | 37 => ⟨S_, .i32⟩
  | 38 => ⟨S2560x1728, .i32⟩
  | 39 => ⟨S2560x1728, .i32⟩
  | 40 => ⟨S_, .i32⟩
  | 41 => ⟨S2560x1728, .i32⟩
  | 42 => ⟨S2560x1728, .i32⟩
  | 43 => ⟨S_, .i32⟩
  | 44 => ⟨S2560x1728, .i32⟩
  | 45 => ⟨S2560x1728, .i32⟩
  | 46 => ⟨S2560x1728, .f32⟩
  | 47 => ⟨S2560x1728, .bf16⟩
  | 48 => ⟨S8192x1728, .f32⟩
  | 49 => ⟨S_, .i32⟩
  | 50 => ⟨S2560x1728, .i32⟩
  | 51 => ⟨S2560x1728, .i32⟩
  | 52 => ⟨S_, .i32⟩
  | 53 => ⟨S2560x1728, .i32⟩
  | 54 => ⟨S2560x1728, .i32⟩
  | 55 => ⟨S_, .i32⟩
  | 56 => ⟨S2560x1728, .i32⟩
  | 57 => ⟨S2560x1728, .i32⟩
  | 58 => ⟨S2560x1728, .f32⟩
  | 59 => ⟨S2560x1728, .bf16⟩
  | 60 => ⟨S8192x1728, .f32⟩
  | 61 => ⟨S8192x6912, .f32⟩
  | 62 => ⟨S8192x1, .f32⟩
  | 63 => ⟨S8192x6912, .f32⟩
  | 64 => ⟨S8192x6912, .f32⟩
  | 65 => ⟨S8192x6912, .f32⟩
  | 66 => ⟨S8192x6912, .f32⟩
  | 67 => ⟨S8192, .f32⟩
  | 68 => ⟨S1, .f32⟩
  | 69 => ⟨S_, .f32⟩
  | 70 => ⟨S8192x2560, .i32⟩
  | 71 => ⟨S8192x2560, .f32⟩
  | 72 => ⟨S8192x2560, .bf16⟩
  | 73 => ⟨S2560x1728, .i32⟩
  | 74 => ⟨S_, .i32⟩
  | 75 => ⟨S2560x1728, .i32⟩
  | 76 => ⟨S2560x1728, .i32⟩
  | 77 => ⟨S_, .i32⟩
  | 78 => ⟨S2560x1728, .i32⟩
  | 79 => ⟨S2560x1728, .i32⟩
  | 80 => ⟨S_, .i32⟩
  | 81 => ⟨S2560x1728, .i32⟩
  | 82 => ⟨S2560x1728, .i32⟩
  | 83 => ⟨S2560x1728, .f32⟩
  | 84 => ⟨S2560x1728, .bf16⟩
  | 85 => ⟨S8192x1728, .f32⟩
  | 86 => ⟨S_, .i32⟩
  | 87 => ⟨S2560x1728, .i32⟩
  | 88 => ⟨S2560x1728, .i32⟩
  | 89 => ⟨S_, .i32⟩
  | 90 => ⟨S2560x1728, .i32⟩
  | 91 => ⟨S2560x1728, .i32⟩
  | 92 => ⟨S_, .i32⟩
  | 93 => ⟨S2560x1728, .i32⟩
  | 94 => ⟨S2560x1728, .i32⟩
  | 95 => ⟨S2560x1728, .f32⟩
  | 96 => ⟨S2560x1728, .bf16⟩
  | 97 => ⟨S8192x1728, .f32⟩
  | 98 => ⟨S_, .i32⟩
  | 99 => ⟨S2560x1728, .i32⟩
  | 100 => ⟨S2560x1728, .i32⟩
  | 101 => ⟨S_, .i32⟩
  | 102 => ⟨S2560x1728, .i32⟩
  | 103 => ⟨S2560x1728, .i32⟩
  | 104 => ⟨S_, .i32⟩
  | 105 => ⟨S2560x1728, .i32⟩
  | 106 => ⟨S2560x1728, .i32⟩
  | 107 => ⟨S2560x1728, .f32⟩
  | 108 => ⟨S2560x1728, .bf16⟩
  | 109 => ⟨S8192x1728, .f32⟩
  | 110 => ⟨S_, .i32⟩
  | 111 => ⟨S2560x1728, .i32⟩
  | 112 => ⟨S2560x1728, .i32⟩
  | 113 => ⟨S_, .i32⟩
  | 114 => ⟨S2560x1728, .i32⟩
  | 115 => ⟨S2560x1728, .i32⟩
  | 116 => ⟨S_, .i32⟩
  | 117 => ⟨S2560x1728, .i32⟩
  | 118 => ⟨S2560x1728, .i32⟩
  | 119 => ⟨S2560x1728, .f32⟩
  | 120 => ⟨S2560x1728, .bf16⟩
  | 121 => ⟨S8192x1728, .f32⟩
  | 122 => ⟨S8192x6912, .f32⟩
  | 123 => ⟨S8192x1, .f32⟩
  | 124 => ⟨S8192x6912, .f32⟩
  | 125 => ⟨S8192x6912, .f32⟩
  | 126 => ⟨S8192x6912, .f32⟩
  | 127 => ⟨S8192x6912, .f32⟩
  | _ => ⟨S8192x2560, .i8⟩

abbrev hbmTy0_1 (i : Nat) : BufTy := match i % 128 with
  | 0 => ⟨S_, .f32⟩
  | 1 => ⟨S8192x6912, .f32⟩
  | 2 => ⟨S8192x6912, .f32⟩
  | 3 => ⟨S8192x6912, .f32⟩
  | 4 => ⟨S8192x6912, .f32⟩
  | 5 => ⟨S6912, .f32⟩
  | 6 => ⟨S8192x6912, .f32⟩
  | 7 => ⟨S_, .f32⟩
  | 8 => ⟨S8192, .f32⟩
  | 9 => ⟨S_, .f32⟩
  | 10 => ⟨S8192, .f32⟩
  | 11 => ⟨S8192, .f32⟩
  | 12 => ⟨S_, .f32⟩
  | 13 => ⟨S8192, .f32⟩
  | 14 => ⟨S8192, .f32⟩
  | 15 => ⟨S8192, .f32⟩
  | 16 => ⟨S8192x1, .f32⟩
  | 17 => ⟨S8192x6912, .f32⟩
  | 18 => ⟨S8192x6912, .f32⟩
  | 19 => ⟨S1x6912, .f32⟩
  | 20 => ⟨S8192x6912, .f32⟩
  | 21 => ⟨S8192x6912, .f32⟩
  | 22 => ⟨S8192x6912, .f32⟩
  | 23 => ⟨S_, .f32⟩
  | 24 => ⟨S8192, .f32⟩
  | 25 => ⟨S_, .f32⟩
  | 26 => ⟨S8192, .f32⟩
  | 27 => ⟨S8192, .i1⟩
  | 28 => ⟨S_, .f32⟩
  | 29 => ⟨S8192, .f32⟩
  | 30 => ⟨S8192, .f32⟩
  | 31 => ⟨S_, .f32⟩
  | 32 => ⟨S_, .f32⟩
  | 33 => ⟨S8192, .f32⟩
  | 34 => ⟨S8192, .f32⟩
  | 35 => ⟨S8192x1, .f32⟩
  | 36 => ⟨S8192x6912, .f32⟩
  | 37 => ⟨S8192x6912, .f32⟩
  | 38 => ⟨S8192x6912, .f32⟩
  | 39 => ⟨S_, .f32⟩
  | 40 => ⟨S_, .f32⟩
  | 41 => ⟨S_, .f32⟩
  | 42 => ⟨S8192x6912, .f32⟩
  | 43 => ⟨S8192x6912, .f32⟩
  | 44 => ⟨S_, .f32⟩
  | 45 => ⟨S8192x6912, .f32⟩
  | 46 => ⟨S8192x6912, .f32⟩
  | 47 => ⟨S8192x6912, .i32⟩
  | 48 => ⟨S8192x6912, .i8⟩
  | 49 => ⟨S16x4x128, .f32⟩
  | 50 => ⟨S16x4x128, .f32⟩
  | _ => ⟨S8192x2560, .i8⟩

abbrev hbmTy (i : Nat) : BufTy := match i / 128 with
  | 0 => hbmTy0_0 i
  | 1 => hbmTy0_1 i
  | _ => ⟨S8192x2560, .i8⟩

abbrev bufTy : (tb : Table) → Fin (tcTables nBuf tb) → BufTy
  | .hbm, ⟨i, _⟩ => hbmTy i
  | _, _ => ⟨S8192x2560, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_11 : Ref sig .tc := ⟨.hbm, 74, rfl⟩
abbrev main_v56 : Ref sig .tc := ⟨.hbm, 75, rfl⟩
abbrev main_v57 : Ref sig .tc := ⟨.hbm, 76, rfl⟩
abbrev main_c_12 : Ref sig .tc := ⟨.hbm, 77, rfl⟩
abbrev main_v58 : Ref sig .tc := ⟨.hbm, 78, rfl⟩
abbrev main_v59 : Ref sig .tc := ⟨.hbm, 79, rfl⟩
abbrev main_c_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_14 : Ref sig .tc := ⟨.hbm, 86, rfl⟩
abbrev main_v65 : Ref sig .tc := ⟨.hbm, 87, rfl⟩
abbrev main_v66 : Ref sig .tc := ⟨.hbm, 88, rfl⟩
abbrev main_c_15 : Ref sig .tc := ⟨.hbm, 89, rfl⟩
abbrev main_v67 : Ref sig .tc := ⟨.hbm, 90, rfl⟩
abbrev main_v68 : Ref sig .tc := ⟨.hbm, 91, rfl⟩
abbrev main_c_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_17 : Ref sig .tc := ⟨.hbm, 98, rfl⟩
abbrev main_v74 : Ref sig .tc := ⟨.hbm, 99, rfl⟩
abbrev main_v75 : Ref sig .tc := ⟨.hbm, 100, rfl⟩
abbrev main_c_18 : Ref sig .tc := ⟨.hbm, 101, rfl⟩
abbrev main_v76 : Ref sig .tc := ⟨.hbm, 102, rfl⟩
abbrev main_v77 : Ref sig .tc := ⟨.hbm, 103, rfl⟩
abbrev main_c_19 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_20 : Ref sig .tc := ⟨.hbm, 110, rfl⟩
abbrev main_v83 : Ref sig .tc := ⟨.hbm, 111, rfl⟩
abbrev main_v84 : Ref sig .tc := ⟨.hbm, 112, rfl⟩
abbrev main_c_21 : Ref sig .tc := ⟨.hbm, 113, rfl⟩
abbrev main_v85 : Ref sig .tc := ⟨.hbm, 114, rfl⟩
abbrev main_v86 : Ref sig .tc := ⟨.hbm, 115, rfl⟩
abbrev main_c_22 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_23 : Ref sig .tc := ⟨.hbm, 135, rfl⟩
abbrev main_v104 : Ref sig .tc := ⟨.hbm, 136, rfl⟩
abbrev main_cst_24 : Ref sig .tc := ⟨.hbm, 137, rfl⟩
abbrev main_v105 : Ref sig .tc := ⟨.hbm, 138, rfl⟩
abbrev main_v106 : Ref sig .tc := ⟨.hbm, 139, rfl⟩
abbrev main_cst_25 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_26 : Ref sig .tc := ⟨.hbm, 151, rfl⟩
abbrev main_v117 : Ref sig .tc := ⟨.hbm, 152, rfl⟩
abbrev main_cst_27 : Ref sig .tc := ⟨.hbm, 153, rfl⟩
abbrev main_v118 : Ref sig .tc := ⟨.hbm, 154, rfl⟩
abbrev main_v119 : Ref sig .tc := ⟨.hbm, 155, rfl⟩
abbrev main_cst_28 : Ref sig .tc := ⟨.hbm, 156, rfl⟩
abbrev main_v120 : Ref sig .tc := ⟨.hbm, 157, rfl⟩
abbrev main_v121 : Ref sig .tc := ⟨.hbm, 158, rfl⟩
abbrev main_cst_29 : Ref sig .tc := ⟨.hbm, 159, rfl⟩
abbrev main_call0_v0 : Ref sig .tc := ⟨.hbm, 160, rfl⟩
abbrev main_call0_v1 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_30 : Ref sig .tc := ⟨.hbm, 167, rfl⟩
abbrev main_cst_31 : Ref sig .tc := ⟨.hbm, 168, rfl⟩
abbrev main_call2_v0 : Ref sig .tc := ⟨.hbm, 169, rfl⟩
abbrev main_call2_v1 : Ref sig .tc := ⟨.hbm, 170, rfl⟩
abbrev main_call2_v2 : Ref sig .tc := ⟨.hbm, 171, rfl⟩
abbrev main_call2_v3 : Ref sig .tc := ⟨.hbm, 172, rfl⟩
abbrev main_call2_v4 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩

abbrev nD : Nat := 1
abbrev τ : Topo := Topo.v7x

variable {F : FTy → Type} [FloatOps F]
-- ==== Qkv.lean ====
abbrev S8192x2560 : Shape := ⟨2, ![8192, 2560]⟩
abbrev S8 : Shape := ⟨1, ![8]⟩
abbrev S1x2560 : Shape := ⟨2, ![1, 2560]⟩
abbrev S3 : Shape := ⟨1, ![3]⟩
abbrev S2560x640 : Shape := ⟨2, ![2560, 640]⟩
abbrev S2560x128 : Shape := ⟨2, ![2560, 128]⟩
abbrev S64 : Shape := ⟨1, ![64]⟩
abbrev S_ : Shape := ⟨0, ![]⟩
abbrev S8x1 : Shape := ⟨2, ![8, 1]⟩
abbrev S1024 : Shape := ⟨1, ![1024]⟩
abbrev S1x1024 : Shape := ⟨2, ![1, 1024]⟩
abbrev S8x1024 : Shape := ⟨2, ![8, 1024]⟩
abbrev S8x1024x1 : Shape := ⟨3, ![8, 1024, 1]⟩
abbrev S1x1x64 : Shape := ⟨3, ![1, 1, 64]⟩
abbrev S8x1024x64 : Shape := ⟨3, ![8, 1024, 64]⟩
abbrev S8192x64 : Shape := ⟨2, ![8192, 64]⟩
abbrev S8192x128 : Shape := ⟨2, ![8192, 128]⟩
abbrev S8192x512 : Shape := ⟨2, ![8192, 512]⟩
abbrev S16x4x128 : Shape := ⟨3, ![16, 4, 128]⟩
abbrev S512x2560 : Shape := ⟨2, ![512, 2560]⟩
abbrev S512x128 : Shape := ⟨2, ![512, 128]⟩
abbrev S512x512 : Shape := ⟨2, ![512, 512]⟩
abbrev S1x4x128 : Shape := ⟨3, ![1, 4, 128]⟩
abbrev S2560x3584 : Shape := ⟨2, ![2560, 3584]⟩
abbrev S128x640 : Shape := ⟨2, ![128, 640]⟩
abbrev S32x640 : Shape := ⟨2, ![32, 640]⟩
abbrev S128x128 : Shape := ⟨2, ![128, 128]⟩
abbrev S32x128 : Shape := ⟨2, ![32, 128]⟩
abbrev S32x2560 : Shape := ⟨2, ![32, 2560]⟩
abbrev S32 : Shape := ⟨1, ![32]⟩
abbrev S32x1 : Shape := ⟨2, ![32, 1]⟩
abbrev S4x128x128 : Shape := ⟨3, ![4, 128, 128]⟩
abbrev S1x128x128 : Shape := ⟨3, ![1, 128, 128]⟩
abbrev S4x128 : Shape := ⟨2, ![4, 128]⟩
abbrev S1 : Shape := ⟨1, ![1]⟩
abbrev S2560x256 : Shape := ⟨2, ![2560, 256]⟩
abbrev S512x256 : Shape := ⟨2, ![512, 256]⟩

abbrev nBuf : Space → Nat
  | .hbm => 46
  | .vmem => 23
  | .smem => 1
  | _ => 0

abbrev bufTy : (tb : Table) → Fin (tcTables nBuf tb) → BufTy
  | .hbm, ⟨0, _⟩ => ⟨S8192x2560, .bf16⟩
  | .hbm, ⟨1, _⟩ => ⟨S8, .i32⟩
  | .hbm, ⟨2, _⟩ => ⟨S1x2560, .f32⟩
  | .hbm, ⟨3, _⟩ => ⟨S3, .f32⟩
  | .hbm, ⟨4, _⟩ => ⟨S2560x640, .i8⟩
  | .hbm, ⟨5, _⟩ => ⟨S2560x128, .i8⟩
  | .hbm, ⟨6, _⟩ => ⟨S2560x128, .i8⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S8x1, .i32⟩
  | .hbm, ⟨24, _⟩ => ⟨S1024, .i32⟩
  | .hbm, ⟨25, _⟩ => ⟨S1x1024, .i32⟩
  | .hbm, ⟨26, _⟩ => ⟨S8x1024, .i32⟩
  | .hbm, ⟨27, _⟩ => ⟨S8x1024, .i32⟩
  | .hbm, ⟨28, _⟩ => ⟨S8x1024, .i32⟩
  | .hbm, ⟨29, _⟩ => ⟨S8x1024, .f32⟩
  | .hbm, ⟨30, _⟩ => ⟨S8x1024x1, .f32⟩
  | .hbm, ⟨31, _⟩ => ⟨S1x1x64, .f32⟩
  | .hbm, ⟨32, _⟩ => ⟨S8x1024x64, .f32⟩
  | .hbm, ⟨33, _⟩ => ⟨S8x1024x64, .f32⟩
  | .hbm, ⟨34, _⟩ => ⟨S8x1024x64, .f32⟩
  | .hbm, ⟨35, _⟩ => ⟨S8192x64, .f32⟩
  | .hbm, ⟨36, _⟩ => ⟨S8192x64, .f32⟩
  | .hbm, ⟨37, _⟩ => ⟨S8192x64, .f32⟩
  | .hbm, ⟨38, _⟩ => ⟨S8192x128, .f32⟩
  | .hbm, ⟨39, _⟩ => ⟨S8192x64, .f32⟩
  | .hbm, ⟨40, _⟩ => ⟨S8192x128, .f32⟩
  | .hbm, ⟨41, _⟩ => ⟨S8192x2560, .bf16⟩
  | .hbm, ⟨42, _⟩ => ⟨S8192x512, .bf16⟩
  | .hbm, ⟨43, _⟩ => ⟨S8192x512, .bf16⟩
  | .hbm, ⟨44, _⟩ => ⟨S8192x2560, .i8⟩
  | .hbm, ⟨45, _⟩ => ⟨S16x4x128, .f32⟩
  | .local _ .vmem, ⟨0, _⟩ => ⟨S512x2560, .bf16⟩
  | .local _ .vmem, ⟨1, _⟩ => ⟨S512x2560, .bf16⟩
  | .local _ .vmem, ⟨2, _⟩ => ⟨S1x2560, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S2560x640, .i8⟩
  | .local _ .vmem, ⟨8, _⟩ => ⟨S2560x128, .i8⟩
  | .local _ .vmem, ⟨9, _⟩ => ⟨S2560x128, .i8⟩
  | .local _ .vmem, ⟨10, _⟩ => ⟨S512x2560, .bf16⟩
  | .local _ .vmem, ⟨11, _⟩ => ⟨S512x2560, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x2560, .i8⟩
  | .local _ .vmem, ⟨17, _⟩ => ⟨S512x2560, .i8⟩
  | .local _ .vmem, ⟨18, _⟩ => ⟨S1x4x128, .f32⟩
  | .local _ .vmem, ⟨19, _⟩ => ⟨S1x4x128, .f32⟩
  | .local _ .vmem, ⟨20, _⟩ => ⟨S2560x3584, .bf16⟩
  | .local _ .vmem, ⟨21, _⟩ => ⟨S512x2560, .bf16⟩
  | .local _ .vmem, ⟨22, _⟩ => ⟨S512x128, .f32⟩
  | .local _ .smem, ⟨0, _⟩ => ⟨S3, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_v29_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_63 : BitVec 32 := 0#32
  let c20_i32 : BitVec 32 := 20#32
  let v101 : BitVec 32 := Scalar.addi c0_i32_63 c20_i32
  let c1_i32_64 : BitVec 32 := 1#32
  ⟨c0_i32_63, v101, c1_i32_64⟩
def k0_mult1 (k0_t1 : Fin k0_t1_loop.trips) : BitVec 32 :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  v102
def k0_off1 (k0_t1 : Fin k0_t1_loop.trips) : Fin 2 → Nat :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  let v103 : BitVec 32 := v102
  let v104 : Index := Scalar.indexCast v103
  let c0_66 : Index := 0#32
  ![v104.toNat, 0]
def k0_off2 (k0_t1 : Fin k0_t1_loop.trips) : Fin 2 → Nat :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  let v103 : BitVec 32 := v102
  let v115 : Index := Scalar.indexCast v103
  let c0_69 : Index := 0#32
  ![v115.toNat, 0]
def k0_off3 (k0_t1 : Fin k0_t1_loop.trips) : Fin 2 → Nat :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  let v103 : BitVec 32 := v102
  let v128 : Index := Scalar.indexCast v103
  let c640 : Index := 640#32
  ![v128.toNat, 640]
def k0_off4 (k0_t1 : Fin k0_t1_loop.trips) : Fin 2 → Nat :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  let v103 : BitVec 32 := v102
  let v141 : Index := Scalar.indexCast v103
  let c1280 : Index := 1280#32
  ![v141.toNat, 1280]
def k0_off5 (k0_t1 : Fin k0_t1_loop.trips) : Fin 2 → Nat :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  let v103 : BitVec 32 := v102
  let v154 : Index := Scalar.indexCast v103
  let c1920 : Index := 1920#32
  ![v154.toNat, 1920]
def k0_off6 (k0_t1 : Fin k0_t1_loop.trips) : Fin 2 → Nat :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  let v103 : BitVec 32 := v102
  let v158 : Index := Scalar.indexCast v103
  let c0_76 : Index := 0#32
  ![v158.toNat, 0]
def k0_off7 (k0_t1 : Fin k0_t1_loop.trips) : Fin 2 → Nat :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  let v103 : BitVec 32 := v102
  let v169 : Index := Scalar.indexCast v103
  let c2560_80 : Index := 2560#32
  ![v169.toNat, 2560]
def k0_off8 (k0_t1 : Fin k0_t1_loop.trips) : Fin 2 → Nat :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  let v103 : BitVec 32 := v102
  let v182 : Index := Scalar.indexCast v103
  let c2688 : Index := 2688#32
  ![v182.toNat, 2688]
def k0_off9 (k0_t1 : Fin k0_t1_loop.trips) : Fin 2 → Nat :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  let v103 : BitVec 32 := v102
  let v195 : Index := Scalar.indexCast v103
  let c2816_87 : Index := 2816#32
  ![v195.toNat, 2816]
def k0_off10 (k0_t1 : Fin k0_t1_loop.trips) : Fin 2 → Nat :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  let v103 : BitVec 32 := v102
  let v208 : Index := Scalar.indexCast v103
  let c2944 : Index := 2944#32
  ![v208.toNat, 2944]
def k0_off11 (k0_t1 : Fin k0_t1_loop.trips) : Fin 2 → Nat :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  let v103 : BitVec 32 := v102
  let v223 : Index := Scalar.indexCast v103
  let c3072_95 : Index := 3072#32
  ![v223.toNat, 3072]
def k0_off12 (k0_t1 : Fin k0_t1_loop.trips) : Fin 2 → Nat :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  let v103 : BitVec 32 := v102
  let v236 : Index := Scalar.indexCast v103
  let c3200 : Index := 3200#32
  ![v236.toNat, 3200]
def k0_off13 (k0_t1 : Fin k0_t1_loop.trips) : Fin 2 → Nat :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  let v103 : BitVec 32 := v102
  let v249 : Index := Scalar.indexCast v103
  let c3328_102 : Index := 3328#32
  ![v249.toNat, 3328]
def k0_off14 (k0_t1 : Fin k0_t1_loop.trips) : Fin 2 → Nat :=
  let c0_i32_63 : BitVec 32 := 0#32
  let c1_i32_64 : BitVec 32 := 1#32
  let arg17 : BitVec 32 := Scf.iv c0_i32_63 c1_i32_64 k0_t1
  let c128_i32 : BitVec 32 := 128#32
  let v102 : BitVec 32 := Scalar.muli arg17 c128_i32
  let v103 : BitVec 32 := v102
  let v262 : Index := Scalar.indexCast v103
  let c3456 : Index := 3456#32
  ![v262.toNat, 3456]
@[reducible] def k0_t2_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult2 (k0_t2 : Fin k0_t2_loop.trips) : BitVec 32 :=
  let c0_i32_1 : BitVec 32 := 0#32
  let c1_i32 : BitVec 32 := 1#32
  let arg17 : BitVec 32 := Scf.iv c0_i32_1 c1_i32 k0_t2
  let c32_i32 : BitVec 32 := 32#32
  let v101 : BitVec 32 := Scalar.muli arg17 c32_i32
  v101
def k0_off15 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v101 : BitVec 32 := Scalar.muli arg17 c32_i32
  let v102 : BitVec 32 := v101
  let v103 : Index := Scalar.indexCast v102
  let c0_63 : Index := 0#32
  ![v103.toNat, 0]
def k0_off16 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v101 : BitVec 32 := Scalar.muli arg17 c32_i32
  let v102 : BitVec 32 := v101
  let v145 : Index := Scalar.indexCast v102
  let c0_77 : Index := 0#32
  ![v145.toNat, 0]
@[reducible] def k0_t3_loop : Scf.Loop 32 :=
  let c0_i32_8 : BitVec 32 := 0#32
  let c10_i32 : BitVec 32 := 10#32
  let v18 : BitVec 32 := Scalar.addi c0_i32_8 c10_i32
  let c1_i32_9 : BitVec 32 := 1#32
  ⟨c0_i32_8, v18, c1_i32_9⟩
def k0_mult3 (k0_t3 : Fin k0_t3_loop.trips) : BitVec 32 :=
  let c0_i32_8 : BitVec 32 := 0#32
  let c1_i32_9 : BitVec 32 := 1#32
  let arg17 : BitVec 32 := Scf.iv c0_i32_8 c1_i32_9 k0_t3
  let c256_i32 : BitVec 32 := 256#32
  let v101 : BitVec 32 := Scalar.muli arg17 c256_i32
  v101
def k0_off17 (k0_t3 : Fin k0_t3_loop.trips) : Fin 2 → Nat :=
  let c0_66 : Index := 0#32
  let c0_i32_8 : BitVec 32 := 0#32
  let c1_i32_9 : BitVec 32 := 1#32
  let arg17 : BitVec 32 := Scf.iv c0_i32_8 c1_i32_9 k0_t3
  let c256_i32 : BitVec 32 := 256#32
  let v101 : BitVec 32 := Scalar.muli arg17 c256_i32
  let v102 : BitVec 32 := v101
  let v105 : Index := Scalar.indexCast v102
  ![0, v105.toNat]
def k0_off18 (k0_t3 : Fin k0_t3_loop.trips) : Fin 2 → Nat :=
  let c0_80 : Index := 0#32
  let c0_i32_8 : BitVec 32 := 0#32
  let c1_i32_9 : BitVec 32 := 1#32
  let arg17 : BitVec 32 := Scf.iv c0_i32_8 c1_i32_9 k0_t3
  let c256_i32 : BitVec 32 := 256#32
  let v101 : BitVec 32 := Scalar.muli arg17 c256_i32
  let v102 : BitVec 32 := v101
  let v133 : Index := Scalar.indexCast v102
  ![0, v133.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2560x640 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2560x128 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2560x128 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2560 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvRefIdeal.lean ====
abbrev S8192x2560 : Shape := ⟨2, ![8192, 2560]⟩
abbrev S8 : Shape := ⟨1, ![8]⟩
abbrev S1x2560 : Shape := ⟨2, ![1, 2560]⟩
abbrev S3 : Shape := ⟨1, ![3]⟩
abbrev S2560x640 : Shape := ⟨2, ![2560, 640]⟩
abbrev S2560x128 : Shape := ⟨2, ![2560, 128]⟩
abbrev S2560 : Shape := ⟨1, ![2560]⟩
abbrev S_ : Shape := ⟨0, ![]⟩
abbrev S8192 : Shape := ⟨1, ![8192]⟩
abbrev S8192x1 : Shape := ⟨2, ![8192, 1]⟩
abbrev S1 : Shape := ⟨1, ![1]⟩
abbrev S8192x640 : Shape := ⟨2, ![8192, 640]⟩
abbrev S8x1024x20x128 : Shape := ⟨4, ![8, 1024, 20, 128]⟩
abbrev S8192x128 : Shape := ⟨2, ![8192, 128]⟩
abbrev S8192x512 : Shape := ⟨2, ![8192, 512]⟩
abbrev S8x1024x4x128 : Shape := ⟨4, ![8, 1024, 4, 128]⟩
abbrev S64 : Shape := ⟨1, ![64]⟩
abbrev S8x1 : Shape := ⟨2, ![8, 1]⟩
abbrev S1024 : Shape := ⟨1, ![1024]⟩
abbrev S1x1024 : Shape := ⟨2, ![1, 1024]⟩
abbrev S8x1024 : Shape := ⟨2, ![8, 1024]⟩
abbrev S8x1024x1 : Shape := ⟨3, ![8, 1024, 1]⟩
abbrev S1x1x64 : Shape := ⟨3, ![1, 1, 64]⟩
abbrev S8x1024x64 : Shape := ⟨3, ![8, 1024, 64]⟩
abbrev S8x1024x128 : Shape := ⟨3, ![8, 1024, 128]⟩
abbrev S8x1024x1x128 : Shape := ⟨4, ![8, 1024, 1, 128]⟩
abbrev S8x1024x20x64 : Shape := ⟨4, ![8, 1024, 20, 64]⟩
abbrev S8x1024x4x64 : Shape := ⟨4, ![8, 1024, 4, 64]⟩
abbrev S16x4x128 : Shape := ⟨3, ![16, 4, 128]⟩

abbrev nBuf : Space → Nat
  | .hbm => 291
  | .vmem => 0
  | .smem => 0
  | _ => 0

abbrev hbmTy0_0 (i : Nat) : BufTy := match i % 128 with
  | 0 => ⟨S8192x2560, .bf16⟩
  | 1 => ⟨S8, .i32⟩
  | 2 => ⟨S1x2560, .f32⟩
  | 3 => ⟨S3, .f32⟩
  | 4 => ⟨S2560x640, .i8⟩
  | 5 => ⟨S2560x128, .i8⟩
  | 6 => ⟨S2560x128, .i8⟩
  | 7 => ⟨S8192x2560, .f32⟩
  | 8 => ⟨S2560, .f32⟩
  | 9 => ⟨S8192x2560, .f32⟩
  | 10 => ⟨S_, .f32⟩
  | 11 => ⟨S8192, .f32⟩
  | 12 => ⟨S_, .f32⟩
  | 13 => ⟨S8192, .f32⟩
  | 14 => ⟨S8192, .f32⟩
  | 15 => ⟨S_, .f32⟩
  | 16 => ⟨S8192, .f32⟩
  | 17 => ⟨S8192, .f32⟩
  | 18 => ⟨S8192, .f32⟩
  | 19 => ⟨S8192x1, .f32⟩
  | 20 => ⟨S8192x2560, .f32⟩
  | 21 => ⟨S8192x2560, .f32⟩
  | 22 => ⟨S1x2560, .f32⟩
  | 23 => ⟨S8192x2560, .f32⟩
  | 24 => ⟨S8192x2560, .f32⟩
  | 25 => ⟨S8192x2560, .f32⟩
  | 26 => ⟨S_, .f32⟩
  | 27 => ⟨S8192, .f32⟩
  | 28 => ⟨S_, .f32⟩
  | 29 => ⟨S8192, .f32⟩
  | 30 => ⟨S8192, .i1⟩
  | 31 => ⟨S_, .f32⟩
  | 32 => ⟨S8192, .f32⟩
  | 33 => ⟨S8192, .f32⟩
  | 34 => ⟨S_, .f32⟩
  | 35 => ⟨S_, .f32⟩
  | 36 => ⟨S8192, .f32⟩
  | 37 => ⟨S8192, .f32⟩
  | 38 => ⟨S8192x1, .f32⟩
  | 39 => ⟨S8192x2560, .f32⟩
  | 40 => ⟨S8192x2560, .f32⟩
  | 41 => ⟨S8192x2560, .f32⟩
  | 42 => ⟨S_, .f32⟩
  | 43 => ⟨S_, .f32⟩
  | 44 => ⟨S_, .f32⟩
  | 45 => ⟨S8192x2560, .f32⟩
  | 46 => ⟨S8192x2560, .f32⟩
  | 47 => ⟨S_, .f32⟩
  | 48 => ⟨S8192x2560, .f32⟩
  | 49 => ⟨S8192x2560, .f32⟩
  | 50 => ⟨S8192x2560, .i32⟩
  | 51 => ⟨S8192x2560, .i8⟩
  | 52 => ⟨S1, .f32⟩
  | 53 => ⟨S_, .f32⟩
  | 54 => ⟨S8192x2560, .i32⟩
  | 55 => ⟨S8192x2560, .f32⟩
  | 56 => ⟨S8192x2560, .bf16⟩
  | 57 => ⟨S2560x640, .i32⟩
  | 58 => ⟨S_, .i32⟩
  | 59 => ⟨S2560x640, .i32⟩
  | 60 => ⟨S2560x640, .i32⟩
  | 61 => ⟨S_, .i32⟩
  | 62 => ⟨S2560x640, .i32⟩
  | 63 => ⟨S2560x640, .i32⟩
  | 64 => ⟨S_, .i32⟩
  | 65 => ⟨S2560x640, .i32⟩
  | 66 => ⟨S2560x640, .i32⟩
  | 67 => ⟨S2560x640, .f32⟩
  | 68 => ⟨S2560x640, .bf16⟩
  | 69 => ⟨S8192x640, .f32⟩
  | 70 => ⟨S_, .i32⟩
  | 71 => ⟨S2560x640, .i32⟩
  | 72 => ⟨S2560x640, .i32⟩
  | 73 => ⟨S_, .i32⟩
  | 74 => ⟨S2560x640, .i32⟩
  | 75 => ⟨S2560x640, .i32⟩
  | 76 => ⟨S_, .i32⟩
  | 77 => ⟨S2560x640, .i32⟩
  | 78 => ⟨S2560x640, .i32⟩
  | 79 => ⟨S2560x640, .f32⟩
  | 80 => ⟨S2560x640, .bf16⟩
  | 81 => ⟨S8192x640, .f32⟩
  | 82 => ⟨S_, .i32⟩
  | 83 => ⟨S2560x640, .i32⟩
  | 84 => ⟨S2560x640, .i32⟩
  | 85 => ⟨S_, .i32⟩
  | 86 => ⟨S2560x640, .i32⟩
  | 87 => ⟨S2560x640, .i32⟩
  | 88 => ⟨S_, .i32⟩
  | 89 => ⟨S2560x640, .i32⟩
  | 90 => ⟨S2560x640, .i32⟩
  | 91 => ⟨S2560x640, .f32⟩
  | 92 => ⟨S2560x640, .bf16⟩
  | 93 => ⟨S8192x640, .f32⟩
  | 94 => ⟨S_, .i32⟩
  | 95 => ⟨S2560x640, .i32⟩
  | 96 => ⟨S2560x640, .i32⟩
  | 97 => ⟨S_, .i32⟩
  | 98 => ⟨S2560x640, .i32⟩
  | 99 => ⟨S2560x640, .i32⟩
  | 100 => ⟨S_, .i32⟩
  | 101 => ⟨S2560x640, .i32⟩
  | 102 => ⟨S2560x640, .i32⟩
  | 103 => ⟨S2560x640, .f32⟩
  | 104 => ⟨S2560x640, .bf16⟩
  | 105 => ⟨S8192x640, .f32⟩
  | 106 => ⟨S8192x2560, .f32⟩
  | 107 => ⟨S8192x1, .f32⟩
  | 108 => ⟨S8192x2560, .f32⟩
  | 109 => ⟨S8192x2560, .f32⟩
  | 110 => ⟨S8192x2560, .f32⟩
  | 111 => ⟨S8192x2560, .f32⟩
  | 112 => ⟨S8x1024x20x128, .f32⟩
  | 113 => ⟨S1, .f32⟩
  | 114 => ⟨S_, .f32⟩
  | 115 => ⟨S8192x2560, .i32⟩
  | 116 => ⟨S8192x2560, .f32⟩
  | 117 => ⟨S8192x2560, .bf16⟩
  | 118 => ⟨S2560x128, .i32⟩
  | 119 => ⟨S_, .i32⟩
  | 120 => ⟨S2560x128, .i32⟩
  | 121 => ⟨S2560x128, .i32⟩
  | 122 => ⟨S_, .i32⟩
  | 123 => ⟨S2560x128, .i32⟩
  | 124 => ⟨S2560x128, .i32⟩
  | 125 => ⟨S_, .i32⟩
  | 126 => ⟨S2560x128, .i32⟩
  | 127 => ⟨S2560x128, .i32⟩
  | _ => ⟨S8192x2560, .bf16⟩

abbrev hbmTy0_1 (i : Nat) : BufTy := match i % 128 with
  | 0 => ⟨S2560x128, .f32⟩
  | 1 => ⟨S2560x128, .bf16⟩
  | 2 => ⟨S8192x128, .f32⟩
  | 3 => ⟨S_, .i32⟩
  | 4 => ⟨S2560x128, .i32⟩
  | 5 => ⟨S2560x128, .i32⟩
  | 6 => ⟨S_, .i32⟩
  | 7 => ⟨S2560x128, .i32⟩
  | 8 => ⟨S2560x128, .i32⟩
  | 9 => ⟨S_, .i32⟩
  | 10 => ⟨S2560x128, .i32⟩
  | 11 => ⟨S2560x128, .i32⟩
  | 12 => ⟨S2560x128, .f32⟩
  | 13 => ⟨S2560x128, .bf16⟩
  | 14 => ⟨S8192x128, .f32⟩
  | 15 => ⟨S_, .i32⟩
  | 16 => ⟨S2560x128, .i32⟩
  | 17 => ⟨S2560x128, .i32⟩
  | 18 => ⟨S_, .i32⟩
  | 19 => ⟨S2560x128, .i32⟩
  | 20 => ⟨S2560x128, .i32⟩
  | 21 => ⟨S_, .i32⟩
  | 22 => ⟨S2560x128, .i32⟩
  | 23 => ⟨S2560x128, .i32⟩
  | 24 => ⟨S2560x128, .f32⟩
  | 25 => ⟨S2560x128, .bf16⟩
  | 26 => ⟨S8192x128, .f32⟩
  | 27 => ⟨S_, .i32⟩
  | 28 => ⟨S2560x128, .i32⟩
  | 29 => ⟨S2560x128, .i32⟩
  | 30 => ⟨S_, .i32⟩
  | 31 => ⟨S2560x128, .i32⟩
  | 32 => ⟨S2560x128, .i32⟩
  | 33 => ⟨S_, .i32⟩
  | 34 => ⟨S2560x128, .i32⟩
  | 35 => ⟨S2560x128, .i32⟩
  | 36 => ⟨S2560x128, .f32⟩
  | 37 => ⟨S2560x128, .bf16⟩
  | 38 => ⟨S8192x128, .f32⟩
  | 39 => ⟨S8192x512, .f32⟩
  | 40 => ⟨S8192x1, .f32⟩
  | 41 => ⟨S8192x512, .f32⟩
  | 42 => ⟨S8192x512, .f32⟩
  | 43 => ⟨S8192x512, .f32⟩
  | 44 => ⟨S8192x512, .f32⟩
  | 45 => ⟨S8x1024x4x128, .f32⟩
  | 46 => ⟨S1, .f32⟩
  | 47 => ⟨S_, .f32⟩
  | 48 => ⟨S8192x2560, .i32⟩
  | 49 => ⟨S8192x2560, .f32⟩
  | 50 => ⟨S8192x2560, .bf16⟩
  | 51 => ⟨S2560x128, .i32⟩
  | 52 => ⟨S_, .i32⟩
  | 53 => ⟨S2560x128, .i32⟩
  | 54 => ⟨S2560x128, .i32⟩
  | 55 => ⟨S_, .i32⟩
  | 56 => ⟨S2560x128, .i32⟩
  | 57 => ⟨S2560x128, .i32⟩
  | 58 => ⟨S_, .i32⟩
  | 59 => ⟨S2560x128, .i32⟩
  | 60 => ⟨S2560x128, .i32⟩
  | 61 => ⟨S2560x128, .f32⟩
  | 62 => ⟨S2560x128, .bf16⟩
  | 63 => ⟨S8192x128, .f32⟩
  | 64 => ⟨S_, .i32⟩
  | 65 => ⟨S2560x128, .i32⟩
  | 66 => ⟨S2560x128, .i32⟩
  | 67 => ⟨S_, .i32⟩
  | 68 => ⟨S2560x128, .i32⟩
  | 69 => ⟨S2560x128, .i32⟩
  | 70 => ⟨S_, .i32⟩
  | 71 => ⟨S2560x128, .i32⟩
  | 72 => ⟨S2560x128, .i32⟩
  | 73 => ⟨S2560x128, .f32⟩
  | 74 => ⟨S2560x128, .bf16⟩
  | 75 => ⟨S8192x128, .f32⟩
  | 76 => ⟨S_, .i32⟩
  | 77 => ⟨S2560x128, .i32⟩
  | 78 => ⟨S2560x128, .i32⟩
  | 79 => ⟨S_, .i32⟩
  | 80 => ⟨S2560x128, .i32⟩
  | 81 => ⟨S2560x128, .i32⟩
  | 82 => ⟨S_, .i32⟩
  | 83 => ⟨S2560x128, .i32⟩
  | 84 => ⟨S2560x128, .i32⟩
  | 85 => ⟨S2560x128, .f32⟩
  | 86 => ⟨S2560x128, .bf16⟩
  | 87 => ⟨S8192x128, .f32⟩
  | 88 => ⟨S_, .i32⟩
  | 89 => ⟨S2560x128, .i32⟩
  | 90 => ⟨S2560x128, .i32⟩
  | 91 => ⟨S_, .i32⟩
  | 92 => ⟨S2560x128, .i32⟩
  | 93 => ⟨S2560x128, .i32⟩
  | 94 => ⟨S_, .i32⟩
  | 95 => ⟨S2560x128, .i32⟩
  | 96 => ⟨S2560x128, .i32⟩
  | 97 => ⟨S2560x128, .f32⟩
  | 98 => ⟨S2560x128, .bf16⟩
  | 99 => ⟨S8192x128, .f32⟩
  | 100 => ⟨S8192x512, .f32⟩
  | 101 => ⟨S8192x1, .f32⟩
  | 102 => ⟨S8192x512, .f32⟩
  | 103 => ⟨S8192x512, .f32⟩
  | 104 => ⟨S8192x512, .f32⟩
  | 105 => ⟨S8192x512, .f32⟩
  | 106 => ⟨S64, .f32⟩
  | 107 => ⟨S_, .f32⟩
  | 108 => ⟨S64, .f32⟩
  | 109 => ⟨S64, .f32⟩
  | 110 => ⟨S_, .f32⟩
  | 111 => ⟨S64, .f32⟩
  | 112 => ⟨S64, .f32⟩
  | 113 => ⟨S_, .f32⟩
  | 114 => ⟨S64, .f32⟩
  | 115 => ⟨S64, .f32⟩
  | 116 => ⟨S_, .f32⟩
  | 117 => ⟨S64, .f32⟩
  | 118 => ⟨S64, .f32⟩
  | 119 => ⟨S_, .f32⟩
  | 120 => ⟨S64, .f32⟩
  | 121 => ⟨S64, .f32⟩
  | 122 => ⟨S8x1, .i32⟩
  | 123 => ⟨S1024, .i32⟩
  | 124 => ⟨S1x1024, .i32⟩
  | 125 => ⟨S8x1024, .i32⟩
  | 126 => ⟨S8x1024, .i32⟩
  | 127 => ⟨S8x1024, .i32⟩
  | _ => ⟨S8192x2560, .bf16⟩

abbrev hbmTy0_2 (i : Nat) : BufTy := match i % 128 with
  | 0 => ⟨S8x1024, .f32⟩
  | 1 => ⟨S8x1024x1, .f32⟩
  | 2 => ⟨S1x1x64, .f32⟩
  | 3 => ⟨S8x1024x64, .f32⟩
  | 4 => ⟨S8x1024x64, .f32⟩
  | 5 => ⟨S8x1024x64, .f32⟩
  | 6 => ⟨S8x1024x128, .f32⟩
  | 7 => ⟨S8x1024x128, .f32⟩
  | 8 => ⟨S8x1024x1x128, .f32⟩
  | 9 => ⟨S8x1024x128, .f32⟩
  | 10 => ⟨S8x1024x1x128, .f32⟩
  | 11 => ⟨S8x1024x20x128, .f32⟩
  | 12 => ⟨S8x1024x20x128, .f32⟩
  | 13 => ⟨S8x1024x20x64, .f32⟩
  | 14 => ⟨S8x1024x20x64, .f32⟩
  | 15 => ⟨S8x1024x20x64, .f32⟩
  | 16 => ⟨S8x1024x20x128, .f32⟩
  | 17 => ⟨S8x1024x20x128, .f32⟩
  | 18 => ⟨S8x1024x20x128, .f32⟩
  | 19 => ⟨S8x1024x20x128, .f32⟩
  | 20 => ⟨S8x1024x20x128, .bf16⟩
  | 21 => ⟨S8x1024x4x128, .f32⟩
  | 22 => ⟨S8x1024x4x128, .f32⟩
  | 23 => ⟨S8x1024x4x64, .f32⟩
  | 24 => ⟨S8x1024x4x64, .f32⟩
  | 25 => ⟨S8x1024x4x64, .f32⟩
  | 26 => ⟨S8x1024x4x128, .f32⟩
  | 27 => ⟨S8x1024x4x128, .f32⟩
  | 28 => ⟨S8x1024x4x128, .f32⟩
  | 29 => ⟨S8x1024x4x128, .f32⟩
  | 30 => ⟨S8x1024x4x128, .bf16⟩
  | 31 => ⟨S8192x2560, .bf16⟩
  | 32 => ⟨S8192x512, .bf16⟩
  | 33 => ⟨S8192x512, .bf16⟩
  | 34 => ⟨S16x4x128, .f32⟩
  | _ => ⟨S8192x2560, .bf16⟩

abbrev hbmTy (i : Nat) : BufTy := match i / 128 with
  | 0 => hbmTy0_0 i
  | 1 => hbmTy0_1 i
  | 2 => hbmTy0_2 i
  | _ => ⟨S8192x2560, .bf16⟩

abbrev bufTy : (tb : Table) → Fin (tcTables nBuf tb) → BufTy
  | .hbm, ⟨i, _⟩ => hbmTy i
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_cst_7 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_c_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_13 : Ref sig .tc := ⟨.hbm, 82, rfl⟩
abbrev main_v53 : Ref sig .tc := ⟨.hbm, 83, rfl⟩
abbrev main_v54 : Ref sig .tc := ⟨.hbm, 84, rfl⟩
abbrev main_c_14 : Ref sig .tc := ⟨.hbm, 85, rfl⟩
abbrev main_v55 : Ref sig .tc := ⟨.hbm, 86, rfl⟩
abbrev main_v56 : Ref sig .tc := ⟨.hbm, 87, rfl⟩
abbrev main_c_15 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_16 : Ref sig .tc := ⟨.hbm, 94, rfl⟩
abbrev main_v62 : Ref sig .tc := ⟨.hbm, 95, rfl⟩
abbrev main_v63 : Ref sig .tc := ⟨.hbm, 96, rfl⟩
abbrev main_c_17 : Ref sig .tc := ⟨.hbm, 97, rfl⟩
abbrev main_v64 : Ref sig .tc := ⟨.hbm, 98, rfl⟩
abbrev main_v65 : Ref sig .tc := ⟨.hbm, 99, rfl⟩
abbrev main_c_18 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_19 : Ref sig .tc := ⟨.hbm, 119, rfl⟩
abbrev main_v84 : Ref sig .tc := ⟨.hbm, 120, rfl⟩
abbrev main_v85 : Ref sig .tc := ⟨.hbm, 121, rfl⟩
abbrev main_c_20 : Ref sig .tc := ⟨.hbm, 122, rfl⟩
abbrev main_v86 : Ref sig .tc := ⟨.hbm, 123, rfl⟩
abbrev main_v87 : Ref sig .tc := ⟨.hbm, 124, rfl⟩
abbrev main_c_21 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_22 : Ref sig .tc := ⟨.hbm, 131, rfl⟩
abbrev main_v93 : Ref sig .tc := ⟨.hbm, 132, rfl⟩
abbrev main_v94 : Ref sig .tc := ⟨.hbm, 133, rfl⟩
abbrev main_c_23 : Ref sig .tc := ⟨.hbm, 134, rfl⟩
abbrev main_v95 : Ref sig .tc := ⟨.hbm, 135, rfl⟩
abbrev main_v96 : Ref sig .tc := ⟨.hbm, 136, rfl⟩
abbrev main_c_24 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_c_25 : Ref sig .tc := ⟨.hbm, 143, rfl⟩
abbrev main_v102 : Ref sig .tc := ⟨.hbm, 144, rfl⟩
abbrev main_v103 : Ref sig .tc := ⟨.hbm, 145, rfl⟩
abbrev main_c_26 : Ref sig .tc := ⟨.hbm, 146, rfl⟩
abbrev main_v104 : Ref sig .tc := ⟨.hbm, 147, rfl⟩
abbrev main_v105 : Ref sig .tc := ⟨.hbm, 148, rfl⟩
abbrev main_c_27 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_c_28 : Ref sig .tc := ⟨.hbm, 155, rfl⟩
abbrev main_v111 : Ref sig .tc := ⟨.hbm, 156, rfl⟩
abbrev main_v112 : Ref sig .tc := ⟨.hbm, 157, rfl⟩
abbrev main_c_29 : Ref sig .tc := ⟨.hbm, 158, rfl⟩
abbrev main_v113 : Ref sig .tc := ⟨.hbm, 159, rfl⟩
abbrev main_v114 : Ref sig .tc := ⟨.hbm, 160, rfl⟩
abbrev main_c_30 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_31 : Ref sig .tc := ⟨.hbm, 180, rfl⟩
abbrev main_v133 : Ref sig .tc := ⟨.hbm, 181, rfl⟩
abbrev main_v134 : Ref sig .tc := ⟨.hbm, 182, rfl⟩
abbrev main_c_32 : Ref sig .tc := ⟨.hbm, 183, rfl⟩
abbrev main_v135 : Ref sig .tc := ⟨.hbm, 184, rfl⟩
abbrev main_v136 : Ref sig .tc := ⟨.hbm, 185, rfl⟩
abbrev main_c_33 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_c_34 : Ref sig .tc := ⟨.hbm, 192, rfl⟩
abbrev main_v142 : Ref sig .tc := ⟨.hbm, 193, rfl⟩
abbrev main_v143 : Ref sig .tc := ⟨.hbm, 194, rfl⟩
abbrev main_c_35 : Ref sig .tc := ⟨.hbm, 195, rfl⟩
abbrev main_v144 : Ref sig .tc := ⟨.hbm, 196, rfl⟩
abbrev main_v145 : Ref sig .tc := ⟨.hbm, 197, rfl⟩
abbrev main_c_36 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_c_37 : Ref sig .tc := ⟨.hbm, 204, rfl⟩
abbrev main_v151 : Ref sig .tc := ⟨.hbm, 205, rfl⟩
abbrev main_v152 : Ref sig .tc := ⟨.hbm, 206, rfl⟩
abbrev main_c_38 : Ref sig .tc := ⟨.hbm, 207, rfl⟩
abbrev main_v153 : Ref sig .tc := ⟨.hbm, 208, rfl⟩
abbrev main_v154 : Ref sig .tc := ⟨.hbm, 209, rfl⟩
abbrev main_c_39 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_c_40 : Ref sig .tc := ⟨.hbm, 216, rfl⟩
abbrev main_v160 : Ref sig .tc := ⟨.hbm, 217, rfl⟩
abbrev main_v161 : Ref sig .tc := ⟨.hbm, 218, rfl⟩
abbrev main_c_41 : Ref sig .tc := ⟨.hbm, 219, rfl⟩
abbrev main_v162 : Ref sig .tc := ⟨.hbm, 220, rfl⟩
abbrev main_v163 : Ref sig .tc := ⟨.hbm, 221, rfl⟩
abbrev main_c_42 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_cst_43 : Ref sig .tc := ⟨.hbm, 235, rfl⟩
abbrev main_v176 : Ref sig .tc := ⟨.hbm, 236, rfl⟩
abbrev main_v177 : Ref sig .tc := ⟨.hbm, 237, rfl⟩
abbrev main_cst_44 : Ref sig .tc := ⟨.hbm, 238, rfl⟩
abbrev main_v178 : Ref sig .tc := ⟨.hbm, 239, rfl⟩
abbrev main_v179 : Ref sig .tc := ⟨.hbm, 240, rfl⟩
abbrev main_cst_45 : Ref sig .tc := ⟨.hbm, 241, rfl⟩
abbrev main_v180 : Ref sig .tc := ⟨.hbm, 242, rfl⟩
abbrev main_v181 : Ref sig .tc := ⟨.hbm, 243, rfl⟩
abbrev main_cst_46 : Ref sig .tc := ⟨.hbm, 244, rfl⟩
abbrev main_v182 : Ref sig .tc := ⟨.hbm, 245, rfl⟩
abbrev main_v183 : Ref sig .tc := ⟨.hbm, 246, rfl⟩
abbrev main_cst_47 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩

abbrev nD : Nat := 1
abbrev τ : Topo := Topo.v7x

variable {F : FTy → Type} [FloatOps F]
-- ==== Oproj.lean ====
abbrev S8192x2560 : Shape := ⟨2, ![8192, 2560]⟩
abbrev S8192x1 : Shape := ⟨2, ![8192, 1]⟩
abbrev S1x2560 : Shape := ⟨2, ![1, 2560]⟩
abbrev S1 : Shape := ⟨1, ![1]⟩
abbrev S2560x640 : Shape := ⟨2, ![2560, 640]⟩
abbrev S16x4x128 : Shape := ⟨3, ![16, 4, 128]⟩
abbrev S512x2560 : Shape := ⟨2, ![512, 2560]⟩
abbrev S512x1 : Shape := ⟨2, ![512, 1]⟩
abbrev S1x4x128 : Shape := ⟨3, ![1, 4, 128]⟩
abbrev S2560x2560 : Shape := ⟨2, ![2560, 2560]⟩
abbrev S512x128 : Shape := ⟨2, ![512, 128]⟩
abbrev S128x640 : Shape := ⟨2, ![128, 640]⟩
abbrev S32x640 : Shape := ⟨2, ![32, 640]⟩
abbrev S2560x256 : Shape := ⟨2, ![2560, 256]⟩
abbrev S512x256 : Shape := ⟨2, ![512, 256]⟩
abbrev S32x2560 : Shape := ⟨2, ![32, 2560]⟩
abbrev S32 : Shape := ⟨1, ![32]⟩
abbrev S32x1 : Shape := ⟨2, ![32, 1]⟩
abbrev S32x128 : Shape := ⟨2, ![32, 128]⟩
abbrev S4x128x128 : Shape := ⟨3, ![4, 128, 128]⟩
abbrev S128x128 : Shape := ⟨2, ![128, 128]⟩
abbrev S1x128x128 : Shape := ⟨3, ![1, 128, 128]⟩
abbrev S4x128 : Shape := ⟨2, ![4, 128]⟩

abbrev nBuf : Space → Nat
  | .hbm => 9
  | .vmem => 17
  | .smem => 1
  | _ => 0

abbrev bufTy : (tb : Table) → Fin (tcTables nBuf tb) → BufTy
  | .hbm, ⟨0, _⟩ => ⟨S8192x2560, .i8⟩
  | .hbm, ⟨1, _⟩ => ⟨S8192x1, .f32⟩
  | .hbm, ⟨2, _⟩ => ⟨S8192x2560, .bf16⟩
  | .hbm, ⟨3, _⟩ => ⟨S1x2560, .f32⟩
  | .hbm, ⟨4, _⟩ => ⟨S1, .f32⟩
  | .hbm, ⟨5, _⟩ => ⟨S2560x640, .i8⟩
  | .hbm, ⟨6, _⟩ => ⟨S8192x2560, .f32⟩
  | .hbm, ⟨7, _⟩ => ⟨S8192x2560, .i8⟩
  | .hbm, ⟨8, _⟩ => ⟨S16x4x128, .f32⟩
  | .local _ .vmem, ⟨0, _⟩ => ⟨S512x2560, .i8⟩
  | .local _ .vmem, ⟨1, _⟩ => ⟨S512x2560, .i8⟩
  | .local _ .vmem, ⟨2, _⟩ => ⟨S512x1, .f32⟩
  | .local _ .vmem, ⟨3, _⟩ => ⟨S512x1, .f32⟩
  | .local _ .vmem, ⟨4, _⟩ => ⟨S512x2560, .bf16⟩
  | .local _ .vmem, ⟨5, _⟩ => ⟨S512x2560, .bf16⟩
  | .local _ .vmem, ⟨6, _⟩ => ⟨S1x2560, .f32⟩
  | .local _ .vmem, ⟨7, _⟩ => ⟨S2560x640, .i8⟩
  | .local _ .vmem, ⟨8, _⟩ => ⟨S512x2560, .f32⟩
  | .local _ .vmem, ⟨9, _⟩ => ⟨S512x2560, .f32⟩
  | .local _ .vmem, ⟨10, _⟩ => ⟨S512x2560, .i8⟩
  | .local _ .vmem, ⟨11, _⟩ => ⟨S512x2560, .i8⟩
  | .local _ .vmem, ⟨12, _⟩ => ⟨S1x4x128, .f32⟩
  | .local _ .vmem, ⟨13, _⟩ => ⟨S1x4x128, .f32⟩
  | .local _ .vmem, ⟨14, _⟩ => ⟨S2560x2560, .bf16⟩
  | .local _ .vmem, ⟨15, _⟩ => ⟨S512x2560, .bf16⟩
  | .local _ .vmem, ⟨16, _⟩ => ⟨S512x128, .f32⟩
  | .local _ .smem, ⟨0, _⟩ => ⟨S1, .f32⟩
  | _, _ => ⟨S8192x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c20_i32 : BitVec 32 := 20#32
  let v24 : BitVec 32 := Scalar.addi c0_i32_15 c20_i32
  let c1_i32_16 : BitVec 32 := 1#32
  ⟨c0_i32_15, v24, c1_i32_16⟩
def k0_mult1 (k0_t1 : Fin k0_t1_loop.trips) : BitVec 32 :=
  let c0_i32_15 : BitVec 32 := 0#32
  let c1_i32_16 : BitVec 32 := 1#32
  let arg13 : BitVec 32 := Scf.iv c0_i32_15 c1_i32_16 k0_t1
  let c128_i32 : BitVec 32 := 128#32
  let v25 : BitVec 32 := Scalar.muli arg13 c128_i32
  v25
def k0_off1 (k0_t1 : Fin k0_t1_loop.trips) : Fin 2 → Nat :=
  let c0_i32_15 : BitVec 32 := 0#32
  let c1_i32_16 : BitVec 32 := 1#32
  let arg13 : BitVec 32 := Scf.iv c0_i32_15 c1_i32_16 k0_t1
  let c128_i32 : BitVec 32 := 128#32
  let v25 : BitVec 32 := Scalar.muli arg13 c128_i32
  let v26 : BitVec 32 := v25
  let v27 : Index := Scalar.indexCast v26
  let c0_18 : Index := 0#32
  ![v27.toNat, 0]
def k0_off2 (k0_t1 : Fin k0_t1_loop.trips) : Fin 2 → Nat :=
  let c0_i32_15 : BitVec 32 := 0#32
  let c1_i32_16 : BitVec 32 := 1#32
  let arg13 : BitVec 32 := Scf.iv c0_i32_15 c1_i32_16 k0_t1
  let c128_i32 : BitVec 32 := 128#32
  let v25 : BitVec 32 := Scalar.muli arg13 c128_i32
  let v26 : BitVec 32 := v25
  let v38 : Index := Scalar.indexCast v26
  let c0_21 : Index := 0#32
  ![v38.toNat, 0]
def k0_off3 (k0_t1 : Fin k0_t1_loop.trips) : Fin 2 → Nat :=
  let c0_i32_15 : BitVec 32 := 0#32
  let c1_i32_16 : BitVec 32 := 1#32
  let arg13 : BitVec 32 := Scf.iv c0_i32_15 c1_i32_16 k0_t1
  let c128_i32 : BitVec 32 := 128#32
  let v25 : BitVec 32 := Scalar.muli arg13 c128_i32
  let v26 : BitVec 32 := v25
  let v51 : Index := Scalar.indexCast v26
  let c640 : Index := 640#32
  ![v51.toNat, 640]
def k0_off4 (k0_t1 : Fin k0_t1_loop.trips) : Fin 2 → Nat :=
  let c0_i32_15 : BitVec 32 := 0#32
  let c1_i32_16 : BitVec 32 := 1#32
  let arg13 : BitVec 32 := Scf.iv c0_i32_15 c1_i32_16 k0_t1
  let c128_i32 : BitVec 32 := 128#32
  let v25 : BitVec 32 := Scalar.muli arg13 c128_i32
  let v26 : BitVec 32 := v25
  let v64 : Index := Scalar.indexCast v26
  let c1280 : Index := 1280#32
  ![v64.toNat, 1280]
def k0_off5 (k0_t1 : Fin k0_t1_loop.trips) : Fin 2 → Nat :=
  let c0_i32_15 : BitVec 32 := 0#32
  let c1_i32_16 : BitVec 32 := 1#32
  let arg13 : BitVec 32 := Scf.iv c0_i32_15 c1_i32_16 k0_t1
  let c128_i32 : BitVec 32 := 128#32
  let v25 : BitVec 32 := Scalar.muli arg13 c128_i32
  let v26 : BitVec 32 := v25
  let v77 : Index := Scalar.indexCast v26
  let c1920 : Index := 1920#32
  ![v77.toNat, 1920]
@[reducible] def k0_t2_loop : Scf.Loop 32 :=
  let c0_i32_4 : BitVec 32 := 0#32
  let c10_i32 : BitVec 32 := 10#32
  let v8 : BitVec 32 := Scalar.addi c0_i32_4 c10_i32
  let c1_i32 : BitVec 32 := 1#32
  ⟨c0_i32_4, v8, c1_i32⟩
def k0_mult2 (k0_t2 : Fin k0_t2_loop.trips) : BitVec 32 :=
  let c0_i32_4 : BitVec 32 := 0#32
  let c1_i32 : BitVec 32 := 1#32
  let arg13 : BitVec 32 := Scf.iv c0_i32_4 c1_i32 k0_t2
  let c256_i32 : BitVec 32 := 256#32
  let v24 : BitVec 32 := Scalar.muli arg13 c256_i32
  v24
def k0_off6 (k0_t2 : Fin k0_t2_loop.trips) : Fin 2 → Nat :=
  let c0_17 : Index := 0#32
  let c0_i32_4 : BitVec 32 := 0#32
  let c1_i32 : BitVec 32 := 1#32
  let arg13 : BitVec 32 := Scf.iv c0_i32_4 c1_i32 k0_t2
  let c256_i32 : BitVec 32 := 256#32
  let v24 : BitVec 32 := Scalar.muli arg13 c256_i32
  let v25 : BitVec 32 := v24
  let v27 : Index := Scalar.indexCast v25
  ![0, v27.toNat]
def k0_off7 (k0_t2 : Fin k0_t2_loop.trips) : Fin 2 → Nat :=
  let c0_19 : Index := 0#32
  let c0_i32_4 : BitVec 32 := 0#32
  let c1_i32 : BitVec 32 := 1#32
  let arg13 : BitVec 32 := Scf.iv c0_i32_4 c1_i32 k0_t2
  let c256_i32 : BitVec 32 := 256#32
  let v24 : BitVec 32 := Scalar.muli arg13 c256_i32
  let v25 : BitVec 32 := v24
  let v30 : Index := Scalar.indexCast v25
  ![0, v30.toNat]
@[reducible] def k0_t3_loop : Scf.Loop 32 :=
  let c0_i32_6 : BitVec 32 := 0#32
  let c16_i32 : BitVec 32 := 16#32
  let v9 : BitVec 32 := Scalar.addi c0_i32_6 c16_i32
  let c1_i32_7 : BitVec 32 := 1#32
  ⟨c0_i32_6, v9, c1_i32_7⟩
def k0_mult3 (k0_t3 : Fin k0_t3_loop.trips) : BitVec 32 :=
  let c0_i32_6 : BitVec 32 := 0#32
  let c1_i32_7 : BitVec 32 := 1#32
  let arg13 : BitVec 32 := Scf.iv c0_i32_6 c1_i32_7 k0_t3
  let c32_i32 : BitVec 32 := 32#32
  let v24 : BitVec 32 := Scalar.muli arg13 c32_i32
  v24
def k0_off8 (k0_t3 : Fin k0_t3_loop.trips) : Fin 2 → Nat :=
  let c0_i32_6 : BitVec 32 := 0#32
  let c1_i32_7 : BitVec 32 := 1#32
  let arg13 : BitVec 32 := Scf.iv c0_i32_6 c1_i32_7 k0_t3
  let c32_i32 : BitVec 32 := 32#32
  let v24 : BitVec 32 := Scalar.muli arg13 c32_i32
  let v25 : BitVec 32 := v24
  let v26 : Index := Scalar.indexCast v25
  let c0_15 : Index := 0#32
  ![v26.toNat, 0]
def k0_off9 (k0_t3 : Fin k0_t3_loop.trips) : Fin 2 → Nat :=
  let c0_i32_6 : BitVec 32 := 0#32
  let c1_i32_7 : BitVec 32 := 1#32
  let arg13 : BitVec 32 := Scf.iv c0_i32_6 c1_i32_7 k0_t3
  let c32_i32 : BitVec 32 := 32#32
  let v24 : BitVec 32 := Scalar.muli arg13 c32_i32
  let v25 : BitVec 32 := v24
  let v63 : Index := Scalar.indexCast v25
  let c0_28 : Index := 0#32
  ![v63.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2560 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2560x640 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2560 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OprojRefIdeal.lean ====
abbrev S8192x2560 : Shape := ⟨2, ![8192, 2560]⟩
abbrev S8192x1 : Shape := ⟨2, ![8192, 1]⟩
abbrev S1x2560 : Shape := ⟨2, ![1, 2560]⟩
abbrev S1 : Shape := ⟨1, ![1]⟩
abbrev S2560x640 : Shape := ⟨2, ![2560, 640]⟩
abbrev S8192 : Shape := ⟨1, ![8192]⟩
abbrev S_ : Shape := ⟨0, ![]⟩
abbrev S8192x640 : Shape := ⟨2, ![8192, 640]⟩
abbrev S2560 : Shape := ⟨1, ![2560]⟩
abbrev S16x4x128 : Shape := ⟨3, ![16, 4, 128]⟩

abbrev nBuf : Space → Nat
  | .hbm => 113
  | .vmem => 0
  | .smem => 0
  | _ => 0

abbrev bufTy : (tb : Table) → Fin (tcTables nBuf tb) → BufTy
  | .hbm, ⟨0, _⟩ => ⟨S8192x2560, .i8⟩
  | .hbm, ⟨1, _⟩ => ⟨S8192x1, .f32⟩
  | .hbm, ⟨2, _⟩ => ⟨S8192x2560, .bf16⟩
  | .hbm, ⟨3, _⟩ => ⟨S1x2560, .f32⟩
  | .hbm, ⟨4, _⟩ => ⟨S1, .f32⟩
  | .hbm, ⟨5, _⟩ => ⟨S2560x640, .i8⟩
  | .hbm, ⟨6, _⟩ => ⟨S8192x2560, .f32⟩
  | .hbm, ⟨7, _⟩ => ⟨S8192, .f32⟩
  | .hbm, ⟨8, _⟩ => ⟨S_, .f32⟩
  | .hbm, ⟨9, _⟩ => ⟨S8192x2560, .i32⟩
  | .hbm, ⟨10, _⟩ => ⟨S8192x2560, .f32⟩
  | .hbm, ⟨11, _⟩ => ⟨S8192x2560, .bf16⟩
  | .hbm, ⟨12, _⟩ => ⟨S2560x640, .i32⟩
  | .hbm, ⟨13, _⟩ => ⟨S_, .i32⟩
  | .hbm, ⟨14, _⟩ => ⟨S2560x640, .i32⟩
  | .hbm, ⟨15, _⟩ => ⟨S2560x640, .i32⟩
  | .hbm, ⟨16, _⟩ => ⟨S_, .i32⟩
  | .hbm, ⟨17, _⟩ => ⟨S2560x640, .i32⟩
  | .hbm, ⟨18, _⟩ => ⟨S2560x640, .i32⟩
  | .hbm, ⟨19, _⟩ => ⟨S_, .i32⟩
  | .hbm, ⟨20, _⟩ => ⟨S2560x640, .i32⟩
  | .hbm, ⟨21, _⟩ => ⟨S2560x640, .i32⟩
  | .hbm, ⟨22, _⟩ => ⟨S2560x640, .f32⟩
  | .hbm, ⟨23, _⟩ => ⟨S2560x640, .bf16⟩
  | .hbm, ⟨24, _⟩ => ⟨S8192x640, .f32⟩
  | .hbm, ⟨25, _⟩ => ⟨S_, .i32⟩
  | .hbm, ⟨26, _⟩ => ⟨S2560x640, .i32⟩
  | .hbm, ⟨27, _⟩ => ⟨S2560x640, .i32⟩
  | .hbm, ⟨28, _⟩ => ⟨S_, .i32⟩
  | .hbm, ⟨29, _⟩ => ⟨S2560x640, .i32⟩
  | .hbm, ⟨30, _⟩ => ⟨S2560x640, .i32⟩
  | .hbm, ⟨31, _⟩ => ⟨S_, .i32⟩
  | .hbm, ⟨32, _⟩ => ⟨S2560x640, .i32⟩
  | .hbm, ⟨33, _⟩ => ⟨S2560x640, .i32⟩
  | .hbm, ⟨34, _⟩ => ⟨S2560x640, .f32⟩
  | .hbm, ⟨35, _⟩ => ⟨S2560x640, .bf16⟩
  | .hbm, ⟨36, _⟩ => ⟨S8192x640, .f32⟩
  | .hbm, ⟨37, _⟩ => ⟨S_, .i32⟩
  | .hbm, ⟨38, _⟩ => ⟨S2560x640, .i32⟩
  | .hbm, ⟨39, _⟩ => ⟨S2560x640, .i32⟩
  | .hbm, ⟨40, _⟩ => ⟨S_, .i32⟩
  | .hbm, ⟨41, _⟩ => ⟨S2560x640, .i32⟩
  | .hbm, ⟨42, _⟩ => ⟨S2560x640, .i32⟩
  | .hbm, ⟨43, _⟩ => ⟨S_, .i32⟩
  | .hbm, ⟨44, _⟩ => ⟨S2560x640, .i32⟩
  | .hbm, ⟨45, _⟩ => ⟨S2560x640, .i32⟩
  | .hbm, ⟨46, _⟩ => ⟨S2560x640, .f32⟩
  | .hbm, ⟨47, _⟩ => ⟨S2560x640, .bf16⟩
  | .hbm, ⟨48, _⟩ => ⟨S8192x640, .f32⟩
  | .hbm, ⟨49, _⟩ => ⟨S_, .i32⟩
  | .hbm, ⟨50, _⟩ => ⟨S2560x640, .i32⟩
  | .hbm, ⟨51, _⟩ => ⟨S2560x640, .i32⟩
  | .hbm, ⟨52, _⟩ => ⟨S_, .i32⟩
  | .hbm, ⟨53, _⟩ => ⟨S2560x640, .i32⟩
  | .hbm, ⟨54, _⟩ => ⟨S2560x640, .i32⟩
  | .hbm, ⟨55, _⟩ => ⟨S_, .i32⟩
  | .hbm, ⟨56, _⟩ => ⟨S2560x640, .i32⟩
  | .hbm, ⟨57, _⟩ => ⟨S2560x640, .i32⟩
  | .hbm, ⟨58, _⟩ => ⟨S2560x640, .f32⟩
  | .hbm, ⟨59, _⟩ => ⟨S2560x640, .bf16⟩
  | .hbm, ⟨60, _⟩ => ⟨S8192x640, .f32⟩
  | .hbm, ⟨61, _⟩ => ⟨S8192x2560, .f32⟩
  | .hbm, ⟨62, _⟩ => ⟨S8192x1, .f32⟩
  | .hbm, ⟨63, _⟩ => ⟨S8192x2560, .f32⟩
  | .hbm, ⟨64, _⟩ => ⟨S8192x2560, .f32⟩
  | .hbm, ⟨65, _⟩ => ⟨S8192x2560, .f32⟩
  | .hbm, ⟨66, _⟩ => ⟨S8192x2560, .f32⟩
  | .hbm, ⟨67, _⟩ => ⟨S8192x2560, .f32⟩
  | .hbm, ⟨68, _⟩ => ⟨S2560, .f32⟩
  | .hbm, ⟨69, _⟩ => ⟨S8192x2560, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S8192, .f32⟩
  | .hbm, ⟨79, _⟩ => ⟨S8192x1, .f32⟩
  | .hbm, ⟨80, _⟩ => ⟨S8192x2560, .f32⟩
  | .hbm, ⟨81, _⟩ => ⟨S8192x2560, .f32⟩
  | .hbm, ⟨82, _⟩ => ⟨S1x2560, .f32⟩
  | .hbm, ⟨83, _⟩ => ⟨S8192x2560, .f32⟩
  | .hbm, ⟨84, _⟩ => ⟨S8192x2560, .f32⟩
  | .hbm, ⟨85, _⟩ => ⟨S8192x2560, .f32⟩
  | .hbm, ⟨86, _⟩ => ⟨S_, .f32⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .i1⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S_, .f32⟩
  | .hbm, ⟨95, _⟩ => ⟨S_, .f32⟩
  | .hbm, ⟨96, _⟩ => ⟨S8192, .f32⟩
  | .hbm, ⟨97, _⟩ => ⟨S8192, .f32⟩
  | .hbm, ⟨98, _⟩ => ⟨S8192x1, .f32⟩
  | .hbm, ⟨99, _⟩ => ⟨S8192x2560, .f32⟩
  | .hbm, ⟨100, _⟩ => ⟨S8192x2560, .f32⟩
  | .hbm, ⟨101, _⟩ => ⟨S8192x2560, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S8192x2560, .f32⟩
  | .hbm, ⟨106, _⟩ => ⟨S8192x2560, .f32⟩
  | .hbm, ⟨107, _⟩ => ⟨S_, .f32⟩
  | .hbm, ⟨108, _⟩ => ⟨S8192x2560, .f32⟩
  | .hbm, ⟨109, _⟩ => ⟨S8192x2560, .f32⟩
  | .hbm, ⟨110, _⟩ => ⟨S8192x2560, .i32⟩
  | .hbm, ⟨111, _⟩ => ⟨S8192x2560, .i8⟩
  | .hbm, ⟨112, _⟩ => ⟨S16x4x128, .f32⟩
  | _, _ => ⟨S8192x2560, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_cst_16 : Ref sig .tc := ⟨.hbm, 94, rfl⟩
abbrev main_call0_v0 : Ref sig .tc := ⟨.hbm, 95, rfl⟩
abbrev main_call0_v1 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_17 : Ref sig .tc := ⟨.hbm, 102, rfl⟩
abbrev main_cst_18 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]
-- ==== Attn.lean ====
abbrev S8192x2560 : Shape := ⟨2, ![8192, 2560]⟩
abbrev S8192x512 : Shape := ⟨2, ![8192, 512]⟩
abbrev S1x2560 : Shape := ⟨2, ![1, 2560]⟩
abbrev S32x2x128 : Shape := ⟨3, ![32, 2, 128]⟩
abbrev S256x2560 : Shape := ⟨2, ![256, 2560]⟩
abbrev S1024x512 : Shape := ⟨2, ![1024, 512]⟩
abbrev S1x2x128 : Shape := ⟨3, ![1, 2, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S32x2560 : Shape := ⟨2, ![32, 2560]⟩
abbrev S32 : Shape := ⟨1, ![32]⟩
abbrev S32x1 : Shape := ⟨2, ![32, 1]⟩
abbrev S32x128 : Shape := ⟨2, ![32, 128]⟩
abbrev S2x128x128 : Shape := ⟨3, ![2, 128, 128]⟩
abbrev S128x128 : Shape := ⟨2, ![128, 128]⟩
abbrev S1x128x128 : Shape := ⟨3, ![1, 128, 128]⟩
abbrev S2x128 : Shape := ⟨2, ![2, 128]⟩

abbrev nBuf : Space → Nat
  | .hbm => 7
  | .vmem => 16
  | .smem => 0
  | _ => 0

abbrev bufTy : (tb : Table) → Fin (tcTables nBuf tb) → BufTy
  | .hbm, ⟨0, _⟩ => ⟨S8192x2560, .bf16⟩
  | .hbm, ⟨1, _⟩ => ⟨S8192x512, .bf16⟩
  | .hbm, ⟨2, _⟩ => ⟨S8192x512, .bf16⟩
  | .hbm, ⟨3, _⟩ => ⟨S1x2560, .f32⟩
  | .hbm, ⟨4, _⟩ => ⟨S8192x2560, .i8⟩
  | .hbm, ⟨5, _⟩ => ⟨S32x2x128, .f32⟩
  | .hbm, ⟨6, _⟩ => ⟨S32x2x128, .f32⟩
  | .local _ .vmem, ⟨0, _⟩ => ⟨S256x2560, .bf16⟩
  | .local _ .vmem, ⟨1, _⟩ => ⟨S256x2560, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x2560, .f32⟩
  | .local _ .vmem, ⟨7, _⟩ => ⟨S256x2560, .i8⟩
  | .local _ .vmem, ⟨8, _⟩ => ⟨S256x2560, .i8⟩
  | .local _ .vmem, ⟨9, _⟩ => ⟨S1x2x128, .f32⟩
  | .local _ .vmem, ⟨10, _⟩ => ⟨S1x2x128, .f32⟩
  | .local _ .vmem, ⟨11, _⟩ => ⟨S1x2x128, .f32⟩
  | .local _ .vmem, ⟨12, _⟩ => ⟨S1x2x128, .f32⟩
  | .local _ .vmem, ⟨13, _⟩ => ⟨S256x2560, .f32⟩
  | .local _ .vmem, ⟨14, _⟩ => ⟨S256x128, .f32⟩
  | .local _ .vmem, ⟨15, _⟩ => ⟨S256x128, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c20_i32 : BitVec 32 := 20#32
  let v41 : BitVec 32 := Scalar.addi c0_i32_19 c20_i32
  let c1_i32_20 : BitVec 32 := 1#32
  ⟨c0_i32_19, v41, c1_i32_20⟩
def k0_mult1 (k0_t1 : Fin k0_t1_loop.trips) : BitVec 32 :=
  let c0_i32_19 : BitVec 32 := 0#32
  let c1_i32_20 : BitVec 32 := 1#32
  let arg12 : BitVec 32 := Scf.iv c0_i32_19 c1_i32_20 k0_t1
  let c0_i32_22 : BitVec 32 := 0#32
  let v43 : BitVec 1 := Scalar.cmpi .sgt arg12 c0_i32_22
  let v44 : BitVec 32 := Scalar.extui v43
  let c0_i32_23 : BitVec 32 := 0#32
  let v45 : BitVec 1 := Scalar.cmpi .slt arg12 c0_i32_23
  let v46 : BitVec 32 := Scalar.extui v45
  let v47 : BitVec 32 := Scalar.subi v44 v46
  let c5_i32 : BitVec 32 := 5#32
  let c0_i32_24 : BitVec 32 := 0#32
  let v48 : BitVec 1 := Scalar.cmpi .sgt c5_i32 c0_i32_24
  let v49 : BitVec 32 := Scalar.extui v48
  let c0_i32_25 : BitVec 32 := 0#32
  let v50 : BitVec 1 := Scalar.cmpi .slt c5_i32 c0_i32_25
  let v51 : BitVec 32 := Scalar.extui v50
  let v52 : BitVec 32 := Scalar.subi v49 v51
  let v53 : BitVec 1 := Scalar.cmpi .ne v47 v52
  let v54 : BitVec 32 := Scalar.remsi arg12 c5_i32
  let c0_i32_26 : BitVec 32 := 0#32
  let v55 : BitVec 1 := Scalar.cmpi .ne v54 c0_i32_26
  let v56 : BitVec 1 := Scalar.andi v53 v55
  let v42 : BitVec 32 := Scalar.divsi arg12 c5_i32
  let c1_i32_27 : BitVec 32 := 1#32
  let v57 : BitVec 32 := Scalar.subi v42 c1_i32_27
  let v58 : BitVec 32 := Scalar.select v56 v57 v42
  let c128_i32 : BitVec 32 := 128#32
  let v59 : BitVec 32 := Scalar.muli v58 c128_i32
  v59
def k0_mult2 (k0_t1 : Fin k0_t1_loop.trips) : BitVec 32 :=
  let c0_i32_19 : BitVec 32 := 0#32
  let c1_i32_20 : BitVec 32 := 1#32
  let arg12 : BitVec 32 := Scf.iv c0_i32_19 c1_i32_20 k0_t1
  let c128_i32_28 : BitVec 32 := 128#32
  let v61 : BitVec 32 := Scalar.muli arg12 c128_i32_28
  v61
def k0_off1 (k0_t1 : Fin k0_t1_loop.trips) : Fin 2 → Nat :=
  let c0_29 : Index := 0#32
  let c0_i32_19 : BitVec 32 := 0#32
  let c1_i32_20 : BitVec 32 := 1#32
  let arg12 : BitVec 32 := Scf.iv c0_i32_19 c1_i32_20 k0_t1
  let c128_i32_28 : BitVec 32 := 128#32
  let v61 : BitVec 32 := Scalar.muli arg12 c128_i32_28
  let v62 : BitVec 32 := v61
  let v63 : Index := Scalar.indexCast v62
  ![0, v63.toNat]
def k0_off2 (k0_t1 : Fin k0_t1_loop.trips) : Fin 2 → Nat :=
  let c0_30 : Index := 0#32
  let c0_i32_19 : BitVec 32 := 0#32
  let c1_i32_20 : BitVec 32 := 1#32
  let arg12 : BitVec 32 := Scf.iv c0_i32_19 c1_i32_20 k0_t1
  let c0_i32_22 : BitVec 32 := 0#32
  let v43 : BitVec 1 := Scalar.cmpi .sgt arg12 c0_i32_22
  let v44 : BitVec 32 := Scalar.extui v43
  let c0_i32_23 : BitVec 32 := 0#32
  let v45 : BitVec 1 := Scalar.cmpi .slt arg12 c0_i32_23
  let v46 : BitVec 32 := Scalar.extui v45
  let v47 : BitVec 32 := Scalar.subi v44 v46
  let c5_i32 : BitVec 32 := 5#32
  let c0_i32_24 : BitVec 32 := 0#32
  let v48 : BitVec 1 := Scalar.cmpi .sgt c5_i32 c0_i32_24
  let v49 : BitVec 32 := Scalar.extui v48
  let c0_i32_25 : BitVec 32 := 0#32
  let v50 : BitVec 1 := Scalar.cmpi .slt c5_i32 c0_i32_25
  let v51 : BitVec 32 := Scalar.extui v50
  let v52 : BitVec 32 := Scalar.subi v49 v51
  let v53 : BitVec 1 := Scalar.cmpi .ne v47 v52
  let v54 : BitVec 32 := Scalar.remsi arg12 c5_i32
  let c0_i32_26 : BitVec 32 := 0#32
  let v55 : BitVec 1 := Scalar.cmpi .ne v54 c0_i32_26
  let v56 : BitVec 1 := Scalar.andi v53 v55
  let v42 : BitVec 32 := Scalar.divsi arg12 c5_i32
  let c1_i32_27 : BitVec 32 := 1#32
  let v57 : BitVec 32 := Scalar.subi v42 c1_i32_27
  let v58 : BitVec 32 := Scalar.select v56 v57 v42
  let c128_i32 : BitVec 32 := 128#32
  let v59 : BitVec 32 := Scalar.muli v58 c128_i32
  let v60 : BitVec 32 := v59
  let v65 : Index := Scalar.indexCast v60
  ![0, v65.toNat]
def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_19 : BitVec 32 := 0#32
  let c20_i32 : BitVec 32 := 20#32
  let v41 : BitVec 32 := Scalar.addi c0_i32_19 c20_i32
  let c1_i32_20 : BitVec 32 := 1#32
  ⟨c0_i32_19, v41, c1_i32_20⟩
def k0_mult3 (k0_t2 : Fin k0_t2_loop.trips) : BitVec 32 :=
  let c0_i32_19 : BitVec 32 := 0#32
  let c1_i32_20 : BitVec 32 := 1#32
  let arg12 : BitVec 32 := Scf.iv c0_i32_19 c1_i32_20 k0_t2
  let c0_i32_22 : BitVec 32 := 0#32
  let v43 : BitVec 1 := Scalar.cmpi .sgt arg12 c0_i32_22
  let v44 : BitVec 32 := Scalar.extui v43
  let c0_i32_23 : BitVec 32 := 0#32
  let v45 : BitVec 1 := Scalar.cmpi .slt arg12 c0_i32_23
  let v46 : BitVec 32 := Scalar.extui v45
  let v47 : BitVec 32 := Scalar.subi v44 v46
  let c5_i32 : BitVec 32 := 5#32
  let c0_i32_24 : BitVec 32 := 0#32
  let v48 : BitVec 1 := Scalar.cmpi .sgt c5_i32 c0_i32_24
  let v49 : BitVec 32 := Scalar.extui v48
  let c0_i32_25 : BitVec 32 := 0#32
  let v50 : BitVec 1 := Scalar.cmpi .slt c5_i32 c0_i32_25
  let v51 : BitVec 32 := Scalar.extui v50
  let v52 : BitVec 32 := Scalar.subi v49 v51
  let v53 : BitVec 1 := Scalar.cmpi .ne v47 v52
  let v54 : BitVec 32 := Scalar.remsi arg12 c5_i32
  let c0_i32_26 : BitVec 32 := 0#32
  let v55 : BitVec 1 := Scalar.cmpi .ne v54 c0_i32_26
  let v56 : BitVec 1 := Scalar.andi v53 v55
  let v42 : BitVec 32 := Scalar.divsi arg12 c5_i32
  let c1_i32_27 : BitVec 32 := 1#32
  let v57 : BitVec 32 := Scalar.subi v42 c1_i32_27
  let v58 : BitVec 32 := Scalar.select v56 v57 v42
  let c128_i32 : BitVec 32 := 128#32
  let v59 : BitVec 32 := Scalar.muli v58 c128_i32
  v59
def k0_mult4 (k0_t2 : Fin k0_t2_loop.trips) : BitVec 32 :=
  let c0_i32_19 : BitVec 32 := 0#32
  let c1_i32_20 : BitVec 32 := 1#32
  let arg12 : BitVec 32 := Scf.iv c0_i32_19 c1_i32_20 k0_t2
  let c128_i32_28 : BitVec 32 := 128#32
  let v61 : BitVec 32 := Scalar.muli arg12 c128_i32_28
  v61
def k0_off3 (k0_t2 : Fin k0_t2_loop.trips) : Fin 2 → Nat :=
  let c0_29 : Index := 0#32
  let c0_i32_19 : BitVec 32 := 0#32
  let c1_i32_20 : BitVec 32 := 1#32
  let arg12 : BitVec 32 := Scf.iv c0_i32_19 c1_i32_20 k0_t2
  let c128_i32_28 : BitVec 32 := 128#32
  let v61 : BitVec 32 := Scalar.muli arg12 c128_i32_28
  let v62 : BitVec 32 := v61
  let v63 : Index := Scalar.indexCast v62
  ![0, v63.toNat]
def k0_off4 (k0_t2 : Fin k0_t2_loop.trips) : Fin 2 → Nat :=
  let c0_30 : Index := 0#32
  let c0_i32_19 : BitVec 32 := 0#32
  let c1_i32_20 : BitVec 32 := 1#32
  let arg12 : BitVec 32 := Scf.iv c0_i32_19 c1_i32_20 k0_t2
  let c0_i32_22 : BitVec 32 := 0#32
  let v43 : BitVec 1 := Scalar.cmpi .sgt arg12 c0_i32_22
  let v44 : BitVec 32 := Scalar.extui v43
  let c0_i32_23 : BitVec 32 := 0#32
  let v45 : BitVec 1 := Scalar.cmpi .slt arg12 c0_i32_23
  let v46 : BitVec 32 := Scalar.extui v45
  let v47 : BitVec 32 := Scalar.subi v44 v46
  let c5_i32 : BitVec 32 := 5#32
  let c0_i32_24 : BitVec 32 := 0#32
  let v48 : BitVec 1 := Scalar.cmpi .sgt c5_i32 c0_i32_24
  let v49 : BitVec 32 := Scalar.extui v48
  let c0_i32_25 : BitVec 32 := 0#32
  let v50 : BitVec 1 := Scalar.cmpi .slt c5_i32 c0_i32_25
  let v51 : BitVec 32 := Scalar.extui v50
  let v52 : BitVec 32 := Scalar.subi v49 v51
  let v53 : BitVec 1 := Scalar.cmpi .ne v47 v52
  let v54 : BitVec 32 := Scalar.remsi arg12 c5_i32
  let c0_i32_26 : BitVec 32 := 0#32
  let v55 : BitVec 1 := Scalar.cmpi .ne v54 c0_i32_26
  let v56 : BitVec 1 := Scalar.andi v53 v55
  let v42 : BitVec 32 := Scalar.divsi arg12 c5_i32
  let c1_i32_27 : BitVec 32 := 1#32
  let v57 : BitVec 32 := Scalar.subi v42 c1_i32_27
  let v58 : BitVec 32 := Scalar.select v56 v57 v42
  let c128_i32 : BitVec 32 := 128#32
  let v59 : BitVec 32 := Scalar.muli v58 c128_i32
  let v60 : BitVec 32 := v59
  let v65 : Index := Scalar.indexCast v60
  ![0, v65.toNat]
def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

@[reducible] def k0_t3_loop : Scf.Loop 32 :=
  let c0_i32_19 : BitVec 32 := 0#32
  let c20_i32 : BitVec 32 := 20#32
  let v41 : BitVec 32 := Scalar.addi c0_i32_19 c20_i32
  let c1_i32_20 : BitVec 32 := 1#32
  ⟨c0_i32_19, v41, c1_i32_20⟩
def k0_mult5 (k0_t3 : Fin k0_t3_loop.trips) : BitVec 32 :=
  let c0_i32_19 : BitVec 32 := 0#32
  let c1_i32_20 : BitVec 32 := 1#32
  let arg12 : BitVec 32 := Scf.iv c0_i32_19 c1_i32_20 k0_t3
  let c0_i32_22 : BitVec 32 := 0#32
  let v43 : BitVec 1 := Scalar.cmpi .sgt arg12 c0_i32_22
  let v44 : BitVec 32 := Scalar.extui v43
  let c0_i32_23 : BitVec 32 := 0#32
  let v45 : BitVec 1 := Scalar.cmpi .slt arg12 c0_i32_23
  let v46 : BitVec 32 := Scalar.extui v45
  let v47 : BitVec 32 := Scalar.subi v44 v46
  let c5_i32 : BitVec 32 := 5#32
  let c0_i32_24 : BitVec 32 := 0#32
  let v48 : BitVec 1 := Scalar.cmpi .sgt c5_i32 c0_i32_24
  let v49 : BitVec 32 := Scalar.extui v48
  let c0_i32_25 : BitVec 32 := 0#32
  let v50 : BitVec 1 := Scalar.cmpi .slt c5_i32 c0_i32_25
  let v51 : BitVec 32 := Scalar.extui v50
  let v52 : BitVec 32 := Scalar.subi v49 v51
  let v53 : BitVec 1 := Scalar.cmpi .ne v47 v52
  let v54 : BitVec 32 := Scalar.remsi arg12 c5_i32
  let c0_i32_26 : BitVec 32 := 0#32
  let v55 : BitVec 1 := Scalar.cmpi .ne v54 c0_i32_26
  let v56 : BitVec 1 := Scalar.andi v53 v55
  let v42 : BitVec 32 := Scalar.divsi arg12 c5_i32
  let c1_i32_27 : BitVec 32 := 1#32
  let v57 : BitVec 32 := Scalar.subi v42 c1_i32_27
  let v58 : BitVec 32 := Scalar.select v56 v57 v42
  let c128_i32 : BitVec 32 := 128#32
  let v59 : BitVec 32 := Scalar.muli v58 c128_i32
  v59
def k0_mult6 (k0_t3 : Fin k0_t3_loop.trips) : BitVec 32 :=
  let c0_i32_19 : BitVec 32 := 0#32
  let c1_i32_20 : BitVec 32 := 1#32
  let arg12 : BitVec 32 := Scf.iv c0_i32_19 c1_i32_20 k0_t3
  let c128_i32_28 : BitVec 32 := 128#32
  let v61 : BitVec 32 := Scalar.muli arg12 c128_i32_28
  v61
def k0_off5 (k0_t3 : Fin k0_t3_loop.trips) : Fin 2 → Nat :=
  let c0_29 : Index := 0#32
  let c0_i32_19 : BitVec 32 := 0#32
  let c1_i32_20 : BitVec 32 := 1#32
  let arg12 : BitVec 32 := Scf.iv c0_i32_19 c1_i32_20 k0_t3
  let c128_i32_28 : BitVec 32 := 128#32
  let v61 : BitVec 32 := Scalar.muli arg12 c128_i32_28
  let v62 : BitVec 32 := v61
  let v63 : Index := Scalar.indexCast v62
  ![0, v63.toNat]
def k0_off6 (k0_t3 : Fin k0_t3_loop.trips) : Fin 2 → Nat :=
  let c0_30 : Index := 0#32
  let c0_i32_19 : BitVec 32 := 0#32
  let c1_i32_20 : BitVec 32 := 1#32
  let arg12 : BitVec 32 := Scf.iv c0_i32_19 c1_i32_20 k0_t3
  let c0_i32_22 : BitVec 32 := 0#32
  let v43 : BitVec 1 := Scalar.cmpi .sgt arg12 c0_i32_22
  let v44 : BitVec 32 := Scalar.extui v43
  let c0_i32_23 : BitVec 32 := 0#32
  let v45 : BitVec 1 := Scalar.cmpi .slt arg12 c0_i32_23
  let v46 : BitVec 32 := Scalar.extui v45
  let v47 : BitVec 32 := Scalar.subi v44 v46
  let c5_i32 : BitVec 32 := 5#32
  let c0_i32_24 : BitVec 32 := 0#32
  let v48 : BitVec 1 := Scalar.cmpi .sgt c5_i32 c0_i32_24
  let v49 : BitVec 32 := Scalar.extui v48
  let c0_i32_25 : BitVec 32 := 0#32
  let v50 : BitVec 1 := Scalar.cmpi .slt c5_i32 c0_i32_25
  let v51 : BitVec 32 := Scalar.extui v50
  let v52 : BitVec 32 := Scalar.subi v49 v51
  let v53 : BitVec 1 := Scalar.cmpi .ne v47 v52
  let v54 : BitVec 32 := Scalar.remsi arg12 c5_i32
  let c0_i32_26 : BitVec 32 := 0#32
  let v55 : BitVec 1 := Scalar.cmpi .ne v54 c0_i32_26
  let v56 : BitVec 1 := Scalar.andi v53 v55
  let v42 : BitVec 32 := Scalar.divsi arg12 c5_i32
  let c1_i32_27 : BitVec 32 := 1#32
  let v57 : BitVec 32 := Scalar.subi v42 c1_i32_27
  let v58 : BitVec 32 := Scalar.select v56 v57 v42
  let c128_i32 : BitVec 32 := 128#32
  let v59 : BitVec 32 := Scalar.muli v58 c128_i32
  let v60 : BitVec 32 := v59
  let v65 : Index := Scalar.indexCast v60
  ![0, v65.toNat]
def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

@[reducible] def k0_t4_loop : Scf.Loop 32 :=
  let c0_i32_19 : BitVec 32 := 0#32
  let c20_i32 : BitVec 32 := 20#32
  let v41 : BitVec 32 := Scalar.addi c0_i32_19 c20_i32
  let c1_i32_20 : BitVec 32 := 1#32
  ⟨c0_i32_19, v41, c1_i32_20⟩
def k0_mult7 (k0_t4 : Fin k0_t4_loop.trips) : BitVec 32 :=
  let c0_i32_19 : BitVec 32 := 0#32
  let c1_i32_20 : BitVec 32 := 1#32
  let arg12 : BitVec 32 := Scf.iv c0_i32_19 c1_i32_20 k0_t4
  let c0_i32_22 : BitVec 32 := 0#32
  let v43 : BitVec 1 := Scalar.cmpi .sgt arg12 c0_i32_22
  let v44 : BitVec 32 := Scalar.extui v43
  let c0_i32_23 : BitVec 32 := 0#32
  let v45 : BitVec 1 := Scalar.cmpi .slt arg12 c0_i32_23
  let v46 : BitVec 32 := Scalar.extui v45
  let v47 : BitVec 32 := Scalar.subi v44 v46
  let c5_i32 : BitVec 32 := 5#32
  let c0_i32_24 : BitVec 32 := 0#32
  let v48 : BitVec 1 := Scalar.cmpi .sgt c5_i32 c0_i32_24
  let v49 : BitVec 32 := Scalar.extui v48
  let c0_i32_25 : BitVec 32 := 0#32
  let v50 : BitVec 1 := Scalar.cmpi .slt c5_i32 c0_i32_25
  let v51 : BitVec 32 := Scalar.extui v50
  let v52 : BitVec 32 := Scalar.subi v49 v51
  let v53 : BitVec 1 := Scalar.cmpi .ne v47 v52
  let v54 : BitVec 32 := Scalar.remsi arg12 c5_i32
  let c0_i32_26 : BitVec 32 := 0#32
  let v55 : BitVec 1 := Scalar.cmpi .ne v54 c0_i32_26
  let v56 : BitVec 1 := Scalar.andi v53 v55
  let v42 : BitVec 32 := Scalar.divsi arg12 c5_i32
  let c1_i32_27 : BitVec 32 := 1#32
  let v57 : BitVec 32 := Scalar.subi v42 c1_i32_27
  let v58 : BitVec 32 := Scalar.select v56 v57 v42
  let c128_i32 : BitVec 32 := 128#32
  let v59 : BitVec 32 := Scalar.muli v58 c128_i32
  v59
def k0_mult8 (k0_t4 : Fin k0_t4_loop.trips) : BitVec 32 :=
  let c0_i32_19 : BitVec 32 := 0#32
  let c1_i32_20 : BitVec 32 := 1#32
  let arg12 : BitVec 32 := Scf.iv c0_i32_19 c1_i32_20 k0_t4
  let c128_i32_28 : BitVec 32 := 128#32
  let v61 : BitVec 32 := Scalar.muli arg12 c128_i32_28
  v61
def k0_off7 (k0_t4 : Fin k0_t4_loop.trips) : Fin 2 → Nat :=
  let c0_29 : Index := 0#32
  let c0_i32_19 : BitVec 32 := 0#32
  let c1_i32_20 : BitVec 32 := 1#32
  let arg12 : BitVec 32 := Scf.iv c0_i32_19 c1_i32_20 k0_t4
  let c128_i32_28 : BitVec 32 := 128#32
  let v61 : BitVec 32 := Scalar.muli arg12 c128_i32_28
  let v62 : BitVec 32 := v61
  let v63 : Index := Scalar.indexCast v62
  ![0, v63.toNat]
def k0_off8 (k0_t4 : Fin k0_t4_loop.trips) : Fin 2 → Nat :=
  let c0_30 : Index := 0#32
  let c0_i32_19 : BitVec 32 := 0#32
  let c1_i32_20 : BitVec 32 := 1#32
  let arg12 : BitVec 32 := Scf.iv c0_i32_19 c1_i32_20 k0_t4
  let c0_i32_22 : BitVec 32 := 0#32
  let v43 : BitVec 1 := Scalar.cmpi .sgt arg12 c0_i32_22
  let v44 : BitVec 32 := Scalar.extui v43
  let c0_i32_23 : BitVec 32 := 0#32
  let v45 : BitVec 1 := Scalar.cmpi .slt arg12 c0_i32_23
  let v46 : BitVec 32 := Scalar.extui v45
  let v47 : BitVec 32 := Scalar.subi v44 v46
  let c5_i32 : BitVec 32 := 5#32
  let c0_i32_24 : BitVec 32 := 0#32
  let v48 : BitVec 1 := Scalar.cmpi .sgt c5_i32 c0_i32_24
  let v49 : BitVec 32 := Scalar.extui v48
  let c0_i32_25 : BitVec 32 := 0#32
  let v50 : BitVec 1 := Scalar.cmpi .slt c5_i32 c0_i32_25
  let v51 : BitVec 32 := Scalar.extui v50
  let v52 : BitVec 32 := Scalar.subi v49 v51
  let v53 : BitVec 1 := Scalar.cmpi .ne v47 v52
  let v54 : BitVec 32 := Scalar.remsi arg12 c5_i32
  let c0_i32_26 : BitVec 32 := 0#32
  let v55 : BitVec 1 := Scalar.cmpi .ne v54 c0_i32_26
  let v56 : BitVec 1 := Scalar.andi v53 v55
  let v42 : BitVec 32 := Scalar.divsi arg12 c5_i32
  let c1_i32_27 : BitVec 32 := 1#32
  let v57 : BitVec 32 := Scalar.subi v42 c1_i32_27
  let v58 : BitVec 32 := Scalar.select v56 v57 v42
  let c128_i32 : BitVec 32 := 128#32
  let v59 : BitVec 32 := Scalar.muli v58 c128_i32
  let v60 : BitVec 32 := v59
  let v65 : Index := Scalar.indexCast v60
  ![0, v65.toNat]
@[reducible] def k0_t5_loop : Scf.Loop 32 :=
  let c0_i32_4 : BitVec 32 := 0#32
  let c8_i32 : BitVec 32 := 8#32
  let v12 : BitVec 32 := Scalar.addi c0_i32_4 c8_i32
  let c1_i32_5 : BitVec 32 := 1#32
  ⟨c0_i32_4, v12, c1_i32_5⟩
def k0_mult9 (k0_t5 : Fin k0_t5_loop.trips) : BitVec 32 :=
  let c0_i32_4 : BitVec 32 := 0#32
  let c1_i32_5 : BitVec 32 := 1#32
  let arg12 : BitVec 32 := Scf.iv c0_i32_4 c1_i32_5 k0_t5
  let c32_i32 : BitVec 32 := 32#32
  let v41 : BitVec 32 := Scalar.muli arg12 c32_i32
  v41
def k0_off9 (k0_t5 : Fin k0_t5_loop.trips) : Fin 2 → Nat :=
  let c0_i32_4 : BitVec 32 := 0#32
  let c1_i32_5 : BitVec 32 := 1#32
  let arg12 : BitVec 32 := Scf.iv c0_i32_4 c1_i32_5 k0_t5
  let c32_i32 : BitVec 32 := 32#32
  let v41 : BitVec 32 := Scalar.muli arg12 c32_i32
  let v42 : BitVec 32 := v41
  let v43 : Index := Scalar.indexCast v42
  let c0_19 : Index := 0#32
  ![v43.toNat, 0]
def k0_off10 (k0_t5 : Fin k0_t5_loop.trips) : Fin 2 → Nat :=
  let c0_i32_4 : BitVec 32 := 0#32
  let c1_i32_5 : BitVec 32 := 1#32
  let arg12 : BitVec 32 := Scf.iv c0_i32_4 c1_i32_5 k0_t5
  let c32_i32 : BitVec 32 := 32#32
  let v41 : BitVec 32 := Scalar.muli arg12 c32_i32
  let v42 : BitVec 32 := v41
  let v79 : Index := Scalar.indexCast v42
  let c0_32 : Index := 0#32
  ![v79.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2560 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnRefIdeal.lean ====
abbrev S8192x2560 : Shape := ⟨2, ![8192, 2560]⟩
abbrev S8192x512 : Shape := ⟨2, ![8192, 512]⟩
abbrev S1x2560 : Shape := ⟨2, ![1, 2560]⟩
abbrev S8x1024x4x5x128 : Shape := ⟨5, ![8, 1024, 4, 5, 128]⟩
abbrev S8x1024x4x128 : Shape := ⟨4, ![8, 1024, 4, 128]⟩
abbrev S8x4x1024x1024x5 : Shape := ⟨5, ![8, 4, 1024, 1024, 5]⟩
abbrev S8x4x5x1024x1024 : Shape := ⟨5, ![8, 4, 5, 1024, 1024]⟩
abbrev S_ : Shape := ⟨0, ![]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S8x4x5x1024 : Shape := ⟨4, ![8, 4, 5, 1024]⟩
abbrev S8x4x5x1024x1 : Shape := ⟨5, ![8, 4, 5, 1024, 1]⟩
abbrev S8x4x128x5x1024 : Shape := ⟨5, ![8, 4, 128, 5, 1024]⟩
abbrev S2560 : Shape := ⟨1, ![2560]⟩
abbrev S8192 : Shape := ⟨1, ![8192]⟩
abbrev S8192x1 : Shape := ⟨2, ![8192, 1]⟩
abbrev S32x2x128 : Shape := ⟨3, ![32, 2, 128]⟩

abbrev nBuf : Space → Nat
  | .hbm => 84
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x512, .bf16⟩
  | .hbm, ⟨2, _⟩ => ⟨S8192x512, .bf16⟩
  | .hbm, ⟨3, _⟩ => ⟨S1x2560, .f32⟩
  | .hbm, ⟨4, _⟩ => ⟨S8x1024x4x5x128, .bf16⟩
  | .hbm, ⟨5, _⟩ => ⟨S8x1024x4x128, .bf16⟩
  | .hbm, ⟨6, _⟩ => ⟨S8x1024x4x128, .bf16⟩
  | .hbm, ⟨7, _⟩ => ⟨S8x4x1024x1024x5, .f32⟩
  | .hbm, ⟨8, _⟩ => ⟨S8x4x5x1024x1024, .f32⟩
  | .hbm, ⟨9, _⟩ => ⟨S_, .f32⟩
  | .hbm, ⟨10, _⟩ => ⟨S8x4x5x1024x1024, .f32⟩
  | .hbm, ⟨11, _⟩ => ⟨S8x4x5x1024x1024, .f32⟩
  | .hbm, ⟨12, _⟩ => ⟨S1024, .i32⟩
  | .hbm, ⟨13, _⟩ => ⟨S1x1024, .i32⟩
  | .hbm, ⟨14, _⟩ => ⟨S1024x1, .i32⟩
  | .hbm, ⟨15, _⟩ => ⟨S1024x1024, .i32⟩
  | .hbm, ⟨16, _⟩ => ⟨S1024x1024, .i32⟩
  | .hbm, ⟨17, _⟩ => ⟨S1024x1024, .i1⟩
  | .hbm, ⟨18, _⟩ => ⟨S_, .f32⟩
  | .hbm, ⟨19, _⟩ => ⟨S_, .f32⟩
  | .hbm, ⟨20, _⟩ => ⟨S8x4x5x1024x1024, .i1⟩
  | .hbm, ⟨21, _⟩ => ⟨S8x4x5x1024x1024, .f32⟩
  | .hbm, ⟨22, _⟩ => ⟨S8x4x5x1024x1024, .f32⟩
  | .hbm, ⟨23, _⟩ => ⟨S_, .f32⟩
  | .hbm, ⟨24, _⟩ => ⟨S8x4x5x1024, .f32⟩
  | .hbm, ⟨25, _⟩ => ⟨S8x4x5x1024x1, .f32⟩
  | .hbm, ⟨26, _⟩ => ⟨S8x4x5x1024x1024, .f32⟩
  | .hbm, ⟨27, _⟩ => ⟨S8x4x5x1024x1024, .f32⟩
  | .hbm, ⟨28, _⟩ => ⟨S8x4x5x1024x1024, .f32⟩
  | .hbm, ⟨29, _⟩ => ⟨S_, .f32⟩
  | .hbm, ⟨30, _⟩ => ⟨S8x4x5x1024, .f32⟩
  | .hbm, ⟨31, _⟩ => ⟨S8x4x5x1024x1, .f32⟩
  | .hbm, ⟨32, _⟩ => ⟨S8x4x5x1024x1024, .f32⟩
  | .hbm, ⟨33, _⟩ => ⟨S8x4x5x1024x1024, .f32⟩
  | .hbm, ⟨34, _⟩ => ⟨S8x4x5x1024x1024, .bf16⟩
  | .hbm, ⟨35, _⟩ => ⟨S8x4x128x5x1024, .f32⟩
  | .hbm, ⟨36, _⟩ => ⟨S8x1024x4x5x128, .f32⟩
  | .hbm, ⟨37, _⟩ => ⟨S8192x2560, .f32⟩
  | .hbm, ⟨38, _⟩ => ⟨S2560, .f32⟩
  | .hbm, ⟨39, _⟩ => ⟨S8192x2560, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x2560, .f32⟩
  | .hbm, ⟨51, _⟩ => ⟨S8192x2560, .f32⟩
  | .hbm, ⟨52, _⟩ => ⟨S1x2560, .f32⟩
  | .hbm, ⟨53, _⟩ => ⟨S8192x2560, .f32⟩
  | .hbm, ⟨54, _⟩ => ⟨S8192x2560, .f32⟩
  | .hbm, ⟨55, _⟩ => ⟨S8192x2560, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .i1⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x1, .f32⟩
  | .hbm, ⟨69, _⟩ => ⟨S8192x2560, .f32⟩
  | .hbm, ⟨70, _⟩ => ⟨S8192x2560, .f32⟩
  | .hbm, ⟨71, _⟩ => ⟨S8192x2560, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8192x2560, .f32⟩
  | .hbm, ⟨76, _⟩ => ⟨S8192x2560, .f32⟩
  | .hbm, ⟨77, _⟩ => ⟨S_, .f32⟩
  | .hbm, ⟨78, _⟩ => ⟨S8192x2560, .f32⟩
  | .hbm, ⟨79, _⟩ => ⟨S8192x2560, .f32⟩
  | .hbm, ⟨80, _⟩ => ⟨S8192x2560, .i32⟩
  | .hbm, ⟨81, _⟩ => ⟨S8192x2560, .i8⟩
  | .hbm, ⟨82, _⟩ => ⟨S32x2x128, .f32⟩
  | .hbm, ⟨83, _⟩ => ⟨S32x2x128, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_call1_v0 : Ref sig .tc := ⟨.hbm, 65, rfl⟩
abbrev main_call1_v1 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_cst_11 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Proof.DownIdealVal.lean ====
module

public import proofs.«01_k».proof.Proof.Gen.DownIdeal.Frame
public import proofs.«01_k».proof.Proof.Gen.DownIdeal.Loops
public import Idealize.ShloMosaic.Lib.Claim
public import Idealize.ShloMosaic.Lib.VecWindow
public import Idealize.ShloMosaic.Lib.WritesUnit
public import Idealize.ShloMosaic.Lib.ValueIdxCore

@[expose] public section
set_option maxRecDepth 16384
noncomputable section
namespace Cert.DownIdeal.Val
open Cert.DownIdeal Cert.DownIdeal.Gen
open Idealize.ShloMosaic Idealize.ShloMosaic.TcCoe Idealize.ShloMosaic.Tactic
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The loop runs ten trips. -/
theorem trips_eq : k0_t1_loop.trips = 10 := by decide +kernel

/-- Trip `k`'s column offset in the output and in `h`. -/
theorem off2_eq (k : Fin k0_t1_loop.trips) : k0_off2 k = ![0, 256 * k.val] := by
  revert k; decide +kernel

/-- The unpacked weights of trip `k`: its two 128-column tiles side by side. -/
def wsT (x4 : Vec F S6912x640 .i8) (k : Fin k0_t1_loop.trips) : Vec F S6912x256 .bf16 := fun i =>
  if h : (i 1).val < 128 then
    k0_pay3 0#32 1#32 k (VecWindow.window x4 (k0_off1 k 0#32) S6912x128.size (k0_off1_inb k 0)) (ix2 (i 0) ⟨(i 1).val, h⟩)
  else
    k0_pay4 (Scalar.muli 2#32 (Scf.iv 0#32 1#32 k)) 1#32 (VecWindow.window x4 (k0_off1 k 1#32) S6912x128.size (k0_off1_inb k 1))
      (ix2 (i 0) ⟨(i 1).val - 128, by have : (i 1).val < 256 := (i 1).isLt; omega⟩)

/-- What trip `k` stores: 256 columns of the result. -/
def outT (x0 : Vec F S512x6912 .i8) (x1 : Vec F S512x1 .f32) (x2 : Vec F S512x2560 .f32) (x3 : Vec F S1 .f32)
    (x4 : Vec F S6912x640 .i8) (k : Fin k0_t1_loop.trips) : Vec F S512x256 .bf16 :=
  k0_pay2 (k0_pay1 x0) (wsT x4 k) (VecWindow.window x2 (k0_off2 k) S512x256.size (k0_off2_inb k)) x1 (x3 (ix1 0))

/-- What the body leaves in its output block: column `c` is column `c % 256` of trip `c / 256`'s store. -/
def outF (x0 : Vec F S512x6912 .i8) (x1 : Vec F S512x1 .f32) (x2 : Vec F S512x2560 .f32) (x3 : Vec F S1 .f32)
    (x4 : Vec F S6912x640 .i8) : Vec F S512x2560 .bf16 := fun i =>
  outT x0 x1 x2 x3 x4 ⟨(i 1).val / 256, by have : (i 1).val < 2560 := (i 1).isLt; rw [trips_eq]; omega⟩
    (ix2 (i 0) ⟨(i 1).val % 256, Nat.mod_lt _ (by decide)⟩)

section
variable (𝒱 : Variants) (c : Dev nD) (bd : Option 𝒱.V) (i : grid0.Coords) (u1 : Memref sig .tc .vmem S512x6912 .i8) (w1 : u1.IsWhole) (u2 : Memref sig .tc .vmem S512x1 .f32) (w2 : u2.IsWhole) (u3 : Memref sig .tc .vmem S512x2560 .f32) (w3 : u3.IsWhole) (u4 : Memref sig .tc .smem S1 .f32) (w4 : u4.IsWhole) (u5 : Memref sig .tc .vmem S6912x640 .i8) (w5 : u5.IsWhole) (u6 : Memref sig .tc .vmem S512x2560 .bf16) (w6 : u6.IsWhole) (u7 : Memref sig .tc .vmem S512x6912 .bf16) (w7 : u7.IsWhole) (u8 : Memref sig .tc .vmem S6912x256 .bf16) (w8 : u8.IsWhole) (X2 : BufTy.Contents (Elt F) u2.view.ty) (X3 : BufTy.Contents (Elt F) u3.view.ty) (X4 : BufTy.Contents (Elt F) u4.view.ty) (X5 : BufTy.Contents (Elt F) u5.view.ty) (X7 : BufTy.Contents (Elt F) u7.view.ty)

/-- The one piece trip `k` stores into the output, whatever the two written buffers held before. -/
theorem trip_out (x0 : Vec F S512x6912 .i8) (x1 : Vec F S512x1 .f32) (x2 : Vec F S512x2560 .f32) (x3 : Vec F S1 .f32)
    (x4 : Vec F S6912x640 .i8) (h2 : u2.view.read (Elt F) X2 = x1) (h3 : u3.view.read (Elt F) X3 = x2)
    (h4 : u4.view.read (Elt F) X4 = x3) (h5 : u5.view.read (Elt F) X5 = x4)
    (h7 : u7.view.read (Elt F) X7 = k0_pay1 x0) (k : Fin k0_t1_loop.trips)
    (f6 : BufTy.Contents (Elt F) u6.view.ty) (f8 : BufTy.Contents (Elt F) u8.view.ty) :
    (trip_k0_t1 (F := F) 𝒱 c bd i u1 w1 u2 w2 u3 w3 u4 w4 u5 w5 u6 w6 u7 w7 u8 w8 X2 X3 X4 X5 X7 k).1 f6 f8
      = [⟨Rect.unit (s := S512x2560) (k0_off2 k) S512x256.size (k0_off2_inb k), outT x0 x1 x2 x3 x4 k⟩] := by
  subst h2 h3 h4 h5
  have hw : u8.view.readCov (Val := Elt F) [⟨Rect.unit (s := S6912x256) ![0, 128] S6912x128.size inb_S6912x256_S6912x128_0_128, k0_pay4 (Scalar.muli 2#32 (Scf.iv 0#32 1#32 k)) 1#32 (View.readAt (Elt F) u5.view (Rect.unit (s := S6912x640) (k0_off1 k 1#32) S6912x128.size (k0_off1_inb k 1)).toLoadRect X5)⟩, ⟨Rect.unit (s := S6912x256) ![0, 0] S6912x128.size inb_S6912x256_S6912x128_0_0, k0_pay3 0#32 1#32 k (View.readAt (Elt F) u5.view (Rect.unit (s := S6912x640) (k0_off1 k 0#32) S6912x128.size (k0_off1_inb k 0)).toLoadRect X5)⟩] (Rect.unit (s := S6912x256) ![0, 0] S6912x256.size inb_S6912x256_S6912x256_0_0).toLoadRect = wsT (u5.view.read (Elt F) X5) k := by
    unfold View.readCov
    rw [View.readAt_full]
    funext j
    unfold wsT
    by_cases h : (j 1).val < 128
    · rw [dif_pos h, View.read_writes_cons_unit_of_not_mem _ _ _ _ _ j rfl (1 : Fin 2) (Or.inl h)]
      exact View.read_writes_cons_unit_of_mem _ _ _ _ _ j (ix2 (j 0) ⟨(j 1).val, h⟩) rfl
        (Fin.forall_fin_two.mpr ⟨(Nat.zero_add _).symm, (Nat.zero_add _).symm⟩)
    · rw [dif_neg h]
      exact View.read_writes_cons_unit_of_mem _ _ _ _ _ j (ix2 (j 0) ⟨(j 1).val - 128, by have : (j 1).val < 256 := (j 1).isLt; omega⟩) rfl
        (Fin.forall_fin_two.mpr ⟨(Nat.zero_add _).symm, by show (j 1).val = 128 + ((j 1).val - 128); omega⟩)
  have key : (trip_k0_t1 (F := F) 𝒱 c bd i u1 w1 u2 w2 u3 w3 u4 w4 u5 w5 u6 w6 u7 w7 u8 w8 X2 X3 X4 X5 X7 k).1 f6 f8
      = [⟨Rect.unit (s := S512x2560) (k0_off2 k) S512x256.size (k0_off2_inb k), k0_pay2 (u7.view.read (Elt F) X7) (wsT (u5.view.read (Elt F) X5) k) (VecWindow.window (u3.view.read (Elt F) X3) (k0_off2 k) S512x256.size (k0_off2_inb k)) (u2.view.read (Elt F) X2) (u4.view.read (Elt F) X4 (ix1 0))⟩] := by
    rw [← hw, ← View.readAt_full u7.view X7 inb_S512x6912_S512x6912_0_0, ← View.readAt_full u2.view X2 inb_S512x1_S512x1_0_0]
    unfold trip_k0_t1
    dsimp only
    sl_unfold_words
    refine congrArg (fun w => [(⟨Rect.unit (s := S512x2560) (k0_off2 k) S512x256.size (k0_off2_inb k), w⟩ : View.Piece (Elt F) S512x2560 .bf16)]) ?_
    congr 1
    rw [View.readAt_full]
    exact congrArg _ (funext (Fin.forall_fin_one.mpr (Subsingleton.elim (α := Fin 1) _ _)))
  rw [key, h7]; rfl

/-- After the trips before `k` the output's columns below `256 * k` hold the result. -/
theorem loop_out (x0 : Vec F S512x6912 .i8) (x1 : Vec F S512x1 .f32) (x2 : Vec F S512x2560 .f32) (x3 : Vec F S1 .f32)
    (x4 : Vec F S6912x640 .i8) (h2 : u2.view.read (Elt F) X2 = x1) (h3 : u3.view.read (Elt F) X3 = x2)
    (h4 : u4.view.read (Elt F) X4 = x3) (h5 : u5.view.read (Elt F) X5 = x4)
    (h7 : u7.view.read (Elt F) X7 = k0_pay1 x0)
    (G6 : BufTy.Contents (Elt F) u6.view.ty) (G8 : BufTy.Contents (Elt F) u8.view.ty) (k : ℕ) (hk : k ≤ 10) (y : S512x2560.Idx)
    (hy : (y 1).val < 256 * k) :
    u6.view.read (Elt F) (u6.view.writes (Elt F) G6 (pb_k0_t1 (F := F) 𝒱 c bd i u1 w1 u2 w2 u3 w3 u4 w4 u5 w5 u6 w6 u7 w7 u8 w8 X2 X3 X4 X5 X7 G6 G8 k).1) y
      = outF x0 x1 x2 x3 x4 y := by
  induction k with
  | zero => omega
  | succ k ih =>
    have hk' : k < k0_t1_loop.trips := by rw [trips_eq]; omega
    rw [pb_k0_t1_succ (F := F) 𝒱 c bd i u1 w1 u2 w2 u3 w3 u4 w4 u5 w5 u6 w6 u7 w7 u8 w8 X2 X3 X4 X5 X7 G6 G8 ⟨k, hk'⟩]
    dsimp only
    rw [trip_out 𝒱 c bd i u1 w1 u2 w2 u3 w3 u4 w4 u5 w5 u6 w6 u7 w7 u8 w8 X2 X3 X4 X5 X7 x0 x1 x2 x3 x4 h2 h3 h4 h5 h7 ⟨k, hk'⟩, List.singleton_append]
    by_cases hlt : (y 1).val < 256 * k
    · rw [View.read_writes_cons_unit_of_not_mem _ _ _ _ _ y (off2_eq ⟨k, hk'⟩) (1 : Fin 2) (Or.inl hlt)]
      exact ih (by omega) hlt
    · have hd : (y 1).val / 256 = k := by omega
      refine (View.read_writes_cons_unit_of_mem _ _ _ _ _ y (ix2 (y 0) ⟨(y 1).val % 256, Nat.mod_lt _ (by decide)⟩) (off2_eq ⟨k, hk'⟩)
        (Fin.forall_fin_two.mpr ⟨(Nat.zero_add _).symm, by show (y 1).val = 256 * k + (y 1).val % 256; omega⟩)).trans ?_
      unfold outF
      subst hd
      rfl
end

/-! ## The body at one grid point -/

set_option maxHeartbeats 1000000 in
/-- The body, run on whole buffers: the inputs are handed back as they were, the output holds `outF` of them. -/
theorem kernelRun (c : Dev nD) (i : grid0.Coords) (u1 : Memref sig .tc .vmem S512x6912 .i8) (w1 : u1.IsWhole) (u2 : Memref sig .tc .vmem S512x1 .f32) (w2 : u2.IsWhole) (u3 : Memref sig .tc .vmem S512x2560 .f32) (w3 : u3.IsWhole) (u4 : Memref sig .tc .smem S1 .f32) (w4 : u4.IsWhole) (u5 : Memref sig .tc .vmem S6912x640 .i8) (w5 : u5.IsWhole) (u6 : Memref sig .tc .vmem S512x2560 .bf16) (w6 : u6.IsWhole) (u7 : Memref sig .tc .vmem S512x6912 .bf16) (w7 : u7.IsWhole) (u8 : Memref sig .tc .vmem S6912x256 .bf16) (w8 : u8.IsWhole)
    (x0 : Vec F S512x6912 .i8) (x1 : Vec F S512x1 .f32) (x2 : Vec F S512x2560 .f32) (x3 : Vec F S1 .f32) (x4 : Vec F S6912x640 .i8) :
      ∀ (E : Set ℕ) (K : PUnit → sProp 𝕄),
        iprop(owns (c : Thread nD τ) u1 fullShare x0 ∗ owns (c : Thread nD τ) u2 fullShare x1 ∗ owns (c : Thread nD τ) u3 fullShare x2 ∗ owns (c : Thread nD τ) u4 fullShare x3 ∗ owns (c : Thread nD τ) u5 fullShare x4 ∗ (∃ d, owns (c : Thread nD τ) u6 fullShare d) ∗ (∃ d, owns (c : Thread nD τ) u7 fullShare d) ∗ (∃ d, owns (c : Thread nD τ) u8 fullShare d)
            ∗ (iprop(owns (c : Thread nD τ) u1 fullShare x0 ∗ owns (c : Thread nD τ) u2 fullShare x1 ∗ owns (c : Thread nD τ) u3 fullShare x2 ∗ owns (c : Thread nD τ) u4 fullShare x3 ∗ owns (c : Thread nD τ) u5 fullShare x4 ∗ owns (c : Thread nD τ) u6 fullShare (outF x0 x1 x2 x3 x4) ∗ (∃ d, owns (c : Thread nD τ) u7 fullShare d) ∗ (∃ d, owns (c : Thread nD τ) u8 fullShare d)) -∗ K ⟨⟩))
          ⊢ wp frame (wpE (defs₀ (F := F)) Variants.none c none) E (cc0_down i u1 w1 u2 w2 u3 w3 u4 w4 u5 w5 u6 w6 u7 w7 u8 w8) K := by
    intro E K
    simp only [cc0_down_eq_skeleton]; unfold cc0_down_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := w1.eq_unread hf0; obtain rfl := w2.eq_unread hf1; obtain rfl := w3.eq_unread hf2; obtain rfl := w4.eq_unread hf3; obtain rfl := w5.eq_unread hf4
    sl_exec
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; swap; · iexact H5
      ipureintro
      funext y
      rw [show Scf.trips k0_t1_loop.lb k0_t1_loop.ub k0_t1_loop.st = 10 from trips_eq]
      refine loop_out Variants.none c none i u1 w1 u2 w2 u3 w3 u4 w4 u5 w5 u6 w6 u7 w7 u8 w8 _ _ _ _ _ x0 x1 x2 x3 x4 hf1 hf2 hf3 hf4 ?_ f5 fs1 10 le_rfl y (y 1).isLt
      refine (View.read_writes_full _ _ _ _ _).trans ?_
      rw [View.readAt_full, hf0]
    isplitl [HS0]
    · iexists _, _; isplitr; swap; · iexact HS0
      ipureintro; rfl
    iexists _, _; isplitr; swap; · iexact HS1
    ipureintro; rfl

variable (m : (ℓ : Loc nD τ sig) → Buf (Elt F) ℓ) (ρ : Dev nD → PrngReg)

/-! ## The pipeline's proof data -/

/-- What the output buffer holds after the body at point `t`. -/
def outB (c : Dev nD) (t : Fin cfg0.N) : Vec F S512x2560 .bf16 :=
  outF (iblk m c 0 t) (iblk m c 1 t) (iblk m c 2 t) (iblk m c 3 t) (iblk m c 4 t)

/-- The proof data: the arrays as found, each input's block left in place, the output at `outB`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB m c t
  Φ _ := Pipeline.ΦA spec0 c
  q _ := fullShare
  owed _ := 0

/-- The proof data's arrays are those found at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at any point -/

/-- The kernel's two scratch buffers, whole. -/
abbrev scM0_0 : Memref sig .tc .vmem S512x6912 .bf16 := Memref.whole cc0_scratch0
abbrev scM0_1 : Memref sig .tc .vmem S6912x256 .bf16 := Memref.whole cc0_scratch1

/-- The invariant between points: the scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 3200000 in
/-- The body at any point takes the blocks to what the proof data states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every execution ends, with the arrays at what the proof data states and every counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl) (Q' := _)

/-- Every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.DownIdeal.Val
-- ==== Proof.DownFrame.lean ====
module

public import proofs.«01_k».proof.Defs
public import proofs.«01_k».proof.Proof.DownIdealVal
public import proofs.«01_k».proof.Proof.Gen.Down

@[expose] public section
noncomputable section
/-! The frame of the down projection: its program and the idealized one print the same operations, so the idealized program's frame,
    proved at any number format, is the program's. -/
namespace Cert.DownClaims
open Idealize.ShloMosaic Idealize.SL.Sem

/-- The two kernels are one. -/
theorem kernel_eq : @Cert.Down.cc0_down Bits _ _ = @Cert.DownIdeal.cc0_down Bits _ _ := by
  funext i
  unfold Cert.Down.cc0_down Cert.DownIdeal.cc0_down
  rfl

/-- The two body tables are one, -/
theorem bodies_eq : (Cert.Down.defs₀ (F := Bits)) = Cert.DownIdeal.defs₀ (F := Bits) := by
  unfold Cert.Down.defs₀ Cert.DownIdeal.defs₀
  refine congrArg Defs.onTc (funext fun l => funext fun x => ?_)
  match l, x with
  | 0, (t, s) =>
    dsimp only
    rw [kernel_eq]
    rfl

/-- with the pipelines too. -/
theorem defs_eq : (Cert.Down.defs (F := Bits)) = Cert.DownIdeal.defs (F := Bits) := by
  unfold Cert.Down.defs Cert.DownIdeal.defs
  rw [bodies_eq]
  rfl

/-- Every execution ends with the argument arrays unchanged and every counter at zero. -/
theorem frame : Cert.quiescent_Down := by
  intro m ρ _
  rw [defs_eq]
  exact Cert.DownIdeal.Val.frame (F := Bits) m ρ

end Cert.DownClaims
-- ==== Proof.Tern.lean ====
module

public import Idealize.ShloMosaic.Lib.BitcastFour
public import Idealize.ShloMosaic.Lib.Pointwise
public import Idealize.ShloMosaic.Lib.IdealHost
public import Idealize.ShloMosaic.Lib.VecWindow

@[expose] public section
noncomputable section
/-! What a packed byte says: the four two-bit fields of a byte, read as the weights −1, 0, 1 (and 2 for the field the
    packer never writes), on the kernels' side and on the references' side. -/
namespace Cert.Tern
open Idealize.ShloMosaic

/-- Field `f` of the byte `b`, as an integer, less one. -/
def ternZ (b : BitVec 8) (f : ℕ) : ℤ := ((b >>> (2 * f)) &&& 3#8).toInt - 1

/-- Field `f` of the byte `b`, less one, as an extended real: the weight the byte holds in that field. -/
def tern (b : BitVec 8) (f : ℕ) : EReal := ((ternZ b f : ℝ) : EReal)

/-- The mask's bits: the two low bits of each byte. -/
theorem mask_bit (i : ℕ) (hi : i < 32) : (50529027#32 : BitVec 32).getLsbD i = decide (i % 8 < 2) := by
  interval_cases i <;> rfl

/-- The bits of 3 in a byte. -/
theorem three_bit (i : ℕ) (hi : i < 8) : (3#8 : BitVec 8).getLsbD i = decide (i < 2) := by
  interval_cases i <;> rfl

/-- Bytes read four at a time as words, shifted right by `2 f`, masked to the two low bits of each byte and read as
    bytes again: each byte is shifted and masked by itself. -/
theorem unpack_apply {R r n : ℕ} (x : (⟨2, ![R, n]⟩ : Shape).Idx → BitVec 8)
    (h1 : (⟨2, ![R, n]⟩ : Shape).Bitcasts 8 ⟨2, ![r, n]⟩ 32) (h2 : (⟨2, ![r, n]⟩ : Shape).Bitcasts 32 ⟨2, ![R, n]⟩ 8)
    (s : BitVec 32) (f : ℕ) (hf : f < 4) (hs : s = BitVec.ofNat 32 (2 * f)) (a : Fin R) (l : Fin n) :
    bitcast ⟨2, ![R, n]⟩ 8 (andi (shrui (bitcast ⟨2, ![r, n]⟩ 32 x h1) (broadcast ⟨2, ![r, n]⟩ s))
      (broadcast ⟨2, ![r, n]⟩ 50529027#32)) h2 (ix2 a l) = (x (ix2 a l) >>> (2 * f)) &&& 3#8 := by
  show bitcast ⟨2, ![R, n]⟩ 8 (andi (shrui (bitcast ⟨2, ![r, n]⟩ 32 x h1) (broadcast ⟨2, ![r, n]⟩ s))
    (broadcast ⟨2, ![r, n]⟩ 50529027#32)) h2 (ValueIdx.ix2 a l) = (x (ValueIdx.ix2 a l) >>> (2 * f)) &&& 3#8
  have hst : s.toNat = 2 * f := by subst hs; rw [BitVec.toNat_ofNat]; omega
  apply BitVec.eq_of_getLsbD_eq
  intro q hq
  have hq : q < 8 := hq
  rw [bitcast_getLsbD _ h2 (ValueIdx.ix2 a l) q hq (by decide)]
  have hrow : (⟨2, ![R, n]⟩ : Shape).row (ValueIdx.ix2 a l) = a.val := rfl
  have hmod : ((⟨2, ![R, n]⟩ : Shape).row (ValueIdx.ix2 a l) * 8 + q) % 32 = 8 * (a.val % 4) + q := by rw [hrow]; omega
  have hdiv : ((⟨2, ![R, n]⟩ : Shape).row (ValueIdx.ix2 a l) * 8 + q) / 32 = a.val / 4 := by rw [hrow]; omega
  have h24 : R = 4 * r := by have := h1.2.2 0; simp at this; omega
  have hidx : ∀ hp, h2.srcIdx (ValueIdx.ix2 a l) (((⟨2, ![R, n]⟩ : Shape).row (ValueIdx.ix2 a l) * 8 + q) / 32) hp = ValueIdx.ix2 ⟨a.val / 4, by omega⟩ l := by
    intro hp
    funext c
    match c with
    | ⟨0, _⟩ => exact Fin.ext ((h2.srcIdx_row _ _ _ ⟨0, Nat.zero_lt_two⟩ rfl).trans hdiv)
    | ⟨1, _⟩ => exact Fin.ext (h2.srcIdx_other _ _ _ ⟨1, Nat.one_lt_two⟩ (by show ¬ 1 + 2 = 2; omega))
  rw [hidx, hmod]
  show (IntOp.andi (IntOp.shrui .vector (bitcast ⟨2, ![r, n]⟩ 32 x h1 (ValueIdx.ix2 ⟨a.val / 4, by omega⟩ l)) s) 50529027#32).getLsbD _ = _
  unfold IntOp.andi IntOp.shrui
  rw [if_pos (by rw [hst]; omega), BitVec.getLsbD_and, mask_bit _ (by omega), BitVec.ushiftRight_eq', BitVec.getLsbD_ushiftRight, hst,
    BitVec.getLsbD_and, three_bit q hq, BitVec.getLsbD_ushiftRight]
  by_cases hq2 : q < 2
  · rw [bitcast_8_32_getLsbD_ix2 x h1 ⟨a.val / 4, by omega⟩ l (2 * f + (8 * (a.val % 4) + q)) (by omega) a (by show a.val = 4 * (a.val / 4) + _; omega)]
    rw [show (2 * f + (8 * (a.val % 4) + q)) % 8 = 2 * f + q by omega, show decide ((8 * (a.val % 4) + q) % 8 < 2) = decide (q < 2) by congr 1; apply propext; omega]
  · rw [show decide ((8 * (a.val % 4) + q) % 8 < 2) = false by apply decide_eq_false; omega, show decide (q < 2) = false by apply decide_eq_false; omega,
      Bool.and_false, Bool.and_false]

/-- The reference's reading of a field: widened with zeros, shifted, masked, less one, all in 32 bits. -/
theorem ref_field (b : BitVec 8) (f : Fin 4) :
    (IntOp.subi (IntOp.andi (IntOp.shrsi .host (b.setWidth 32) (BitVec.ofNat 32 (2 * f.val))) 3#32) 1#32).toInt = ternZ b f.val := by
  revert b f; decide +kernel

/-- The shifted and masked byte read as a number, less one, is the weight. -/
theorem ker_field (b : BitVec 8) (f : ℕ) :
    ((((b >>> (2 * f)) &&& 3#8).toInt : ℝ) : EReal) - Ideal.ofBits .bf16 0x3F80#16 = tern b f := by
  have h1 : Ideal.ofBits .bf16 0x3F80#16 = (((1 : ℝ)) : EReal) := by exact Ideal.ofBits_one_bf16.trans (by norm_cast)
  rw [h1, ← EReal.coe_sub]
  unfold tern ternZ
  push_cast
  rfl

/-- A window of an array at unit strides, read at an index: the array at the offsets plus the index. -/
theorem window2 {R N A L : ℕ} {α : Type} (x : (⟨2, ![R, N]⟩ : Shape).Idx → α) (off : Fin 2 → ℕ)
    (inb : ∀ a, off a + (![A, L] : Fin 2 → ℕ) a ≤ (⟨2, ![R, N]⟩ : Shape).size a) {o0 o1 : ℕ} (h : off = ![o0, o1]) (a : Fin A) (l : Fin L)
    (i : Fin R) (j : Fin N) (hi : i.val = o0 + a.val) (hj : j.val = o1 + l.val) :
    VecWindow.window x off ![A, L] inb (ix2 a l) = x (ix2 i j) := by
  subst h
  refine congrArg x (funext fun d => ?_)
  match d with
  | ⟨0, _⟩ => exact Fin.ext (by show o0 + 1 * a.val = i.val; omega)
  | ⟨1, _⟩ => exact Fin.ext (by show o1 + 1 * l.val = j.val; omega)

end Cert.Tern
-- ==== Proof.DownEq.lean ====
module

public import proofs.«01_k».proof.Defs
public import proofs.«01_k».proof.Proof.DownIdealVal
public import proofs.«01_k».proof.Proof.Tern
public import proofs.«01_k».proof.Proof.Gen.DownRefIdeal.Run
public import Idealize.ShloMosaic.Lib.MatmulPlain
public import Idealize.ShloMosaic.Lib.Pointwise
public import Idealize.ShloMosaic.Lib.Pipeline.ValueKit

@[expose] public section
set_option maxRecDepth 16384
noncomputable section
/-! The down projection's result as one formula of its arguments: the kernel's array and the reference's both are it. -/
namespace Cert.DownIdeal.Val
open Cert.DownIdeal Cert.DownIdeal.Gen
open Idealize.ShloMosaic Idealize.ShloMosaic.TcCoe Idealize.ShloMosaic.Tactic
open Idealize.SL Idealize.SL.Sem
open Idealize.ShloMosaic.Pipeline (Dat Cfg Window)
open Cert.Tern

/-- The down projection at row `r`, column `c`: the residual plus the row's product with the unpacked weights, times
    the row's scale, times the weights' scale. Column `c`'s weight is field `c / 640` of the byte in column `c % 640`. -/
def spec {R : ℕ} (a0 : (⟨2, ![R, 6912]⟩ : Shape).Idx → BitVec 8) (a1 : (⟨2, ![R, 1]⟩ : Shape).Idx → EReal)
    (a2 : (⟨2, ![R, 2560]⟩ : Shape).Idx → EReal) (a3 : S1.Idx → EReal) (a4 : S6912x640.Idx → BitVec 8) (r : Fin R) (c : Fin 2560) : EReal :=
  a2 (ix2 r c) + ((∑ k : Fin 6912, (((a0 (ix2 r k)).toInt : ℝ) : EReal)
      * tern (a4 (ix2 k ⟨c.val % 640, Nat.mod_lt _ (by decide)⟩)) (c.val / 640)) * a1 (ix2 r 0)) * a3 (ix1 0)

/-- The left tile of trip `k`: field `2k / 5` of its bytes. -/
theorem pay3_apply (k : Fin k0_t1_loop.trips) (X : Vec Ideal S6912x128 .i8) (a : Fin 6912) (l : Fin 128) :
    k0_pay3 (F := Ideal) 0#32 1#32 k X (ix2 a l) = tern (X (ix2 a l)) (2 * k.val / 5) := by
  unfold k0_pay3
  rw [shapeCast_self, ← ker_field]
  refine congrArg (fun b : BitVec 8 => ((b.toInt : ℝ) : EReal) - Ideal.ofBits .bf16 0x3F80#16) ?_
  have hk : k.val < 10 := trips_eq ▸ k.isLt
  exact unpack_apply X _ _ _ (2 * k.val / 5) (by omega) (by clear hk; revert k; decide +kernel) a l

/-- The right tile of trip `k`: field `(2k + 1) / 5` of its bytes. -/
theorem pay4_apply (k : Fin k0_t1_loop.trips) (X : Vec Ideal S6912x128 .i8) (a : Fin 6912) (l : Fin 128) :
    k0_pay4 (F := Ideal) (Scalar.muli 2#32 (Scf.iv 0#32 1#32 k)) 1#32 X (ix2 a l) = tern (X (ix2 a l)) ((2 * k.val + 1) / 5) := by
  unfold k0_pay4
  rw [shapeCast_self, ← ker_field]
  refine congrArg (fun b : BitVec 8 => ((b.toInt : ℝ) : EReal) - Ideal.ofBits .bf16 0x3F80#16) ?_
  have hk : k.val < 10 := trips_eq ▸ k.isLt
  exact unpack_apply X _ _ _ ((2 * k.val + 1) / 5) (by omega) (by clear hk; revert k; decide +kernel) a l

/-- Where the left tile's bytes lie. -/
theorem off1_0 (k : Fin k0_t1_loop.trips) : k0_off1 k 0#32 = ![0, 128 * ((2 * k.val) % 5)] := by
  revert k; decide +kernel
/-- Where the right tile's bytes lie. -/
theorem off1_1 (k : Fin k0_t1_loop.trips) : k0_off1 k 1#32 = ![0, 128 * ((2 * k.val + 1) % 5)] := by
  revert k; decide +kernel

/-- Trip `k`'s unpacked weights: column `l` of the trip is column `256 k + l` of the weights. -/
theorem wsT_apply (x4 : Vec Ideal S6912x640 .i8) (k : Fin k0_t1_loop.trips) (a : Fin 6912) (l : Fin 256) :
    wsT (F := Ideal) x4 k (ix2 a l)
      = tern (x4 (ix2 a ⟨(256 * k.val + l.val) % 640, Nat.mod_lt _ (by decide)⟩)) ((256 * k.val + l.val) / 640) := by
  have hk : k.val < 10 := trips_eq ▸ k.isLt
  have hl := l.isLt
  unfold wsT
  split_ifs with h
  · have h : l.val < 128 := h
    refine (pay3_apply k _ a ⟨l.val, h⟩).trans ?_
    rw [show (256 * k.val + l.val) / 640 = 2 * k.val / 5 by omega]
    exact congrArg (fun b => tern b _) (window2 x4 _ _ (off1_0 k) a ⟨l.val, h⟩ _ _ (Nat.zero_add _).symm (by show (256 * k.val + l.val) % 640 = 128 * ((2 * k.val) % 5) + l.val; omega))
  · have h : ¬ l.val < 128 := h
    refine (pay4_apply k _ a ⟨l.val - 128, by omega⟩).trans ?_
    rw [show (256 * k.val + l.val) / 640 = (2 * k.val + 1) / 5 by omega]
    exact congrArg (fun b => tern b _) (window2 x4 _ _ (off1_1 k) a ⟨l.val - 128, by omega⟩ _ _ (Nat.zero_add _).symm
      (by show (256 * k.val + l.val) % 640 = 128 * ((2 * k.val + 1) % 5) + (l.val - 128); omega))

/-- What a trip stores, at an index. -/
theorem pay2_apply (A : FVec Ideal S512x6912 .bf16) (B : FVec Ideal S6912x256 .bf16) (H : FVec Ideal S512x256 .f32) (S : FVec Ideal S512x1 .f32) (s : EReal)
    (r : Fin 512) (l : Fin 256) :
    k0_pay2 (F := Ideal) A B H S s (ix2 r l)
      = H (ix2 r l) + ((∑ k : Fin 6912, A (ix2 r k) * B (ix2 k l)) * S (ix2 r 0)) * s := by
  pointwise [k0_pay2]

/-- The body's block is the formula of the input blocks. -/
theorem outF_apply (x0 : Vec Ideal S512x6912 .i8) (x1 : Vec Ideal S512x1 .f32) (x2 : Vec Ideal S512x2560 .f32) (x3 : Vec Ideal S1 .f32)
    (x4 : Vec Ideal S6912x640 .i8) (r : Fin 512) (c : Fin 2560) :
    outF (F := Ideal) x0 x1 x2 x3 x4 (ix2 r c) = spec x0 x1 x2 x3 x4 r c := by
  have hc := c.isLt
  unfold outF outT spec
  refine (pay2_apply _ _ _ _ _ r ⟨c.val % 256, Nat.mod_lt _ (by decide)⟩).trans ?_
  refine congrArg₂ (· + ·) (window2 x2 _ _ (off2_eq _) r ⟨c.val % 256, Nat.mod_lt _ (by decide)⟩ _ _ (Nat.zero_add _).symm
    (by show c.val = 256 * (c.val / 256) + c.val % 256; omega)) ?_
  · refine congrArg₂ (· * ·) (congrArg₂ (· * ·) (Finset.sum_congr rfl fun k _ => congrArg₂ (· * ·) ?_ ?_) rfl) rfl
    · unfold k0_pay1; rw [shapeCast_self]; rfl
    · rw [wsT_apply]
      have e : 256 * (c.val / 256) + c.val % 256 = c.val := by omega
      simp only [ix2_1, e]

variable (m : (ℓ : Loc nD τ sig) → Buf (Elt Ideal) ℓ) (ρ : Dev nD → PrngReg)

/-- The kernel's result array, as the formula of its argument arrays. -/
def G (c : Dev nD) : Buf (Elt Ideal) ((c.tc : Thread nD τ).loc main_v0) := fun (i : S8192x2560.Idx) =>
  spec (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (i 0) (i 1)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

/-- The result array after the run is the formula. -/
theorem arr_eq (c : Dev nD) : (dats (F := Ideal) m 0 c).arrAt 5 cfg0.N = G m c := by
  refine (dats m 0 c).arrAt_eq_of_covers 5 _ (by decide +kernel) fun t hf y => ?_
  blk_simp
  rw [after0_5]
  unfold outB
  refine (congrArg _ (eq_ix2 (n0 := 512) (n1 := 2560) y)).trans ((outF_apply _ _ _ _ _ _ _).trans ?_)
  unfold G spec
  blk_point [iblk, V, idx0 t, idx1 t, idx2 t, idx3 t, idx4 t, idx5 t]

end Cert.DownIdeal.Val

namespace Cert.DownRefIdeal.Eq
open Cert.DownRefIdeal Cert.DownRefIdeal.Gen
open Idealize.ShloMosaic Idealize.ShloMosaic.TcCoe
open Cert.Tern

/-- The reference's 640 columns of one field, at an index: the product with that field of the bytes. -/
theorem field_apply (a0 : IVec S8192x6912 8) (a4 : IVec S6912x640 8) (f : Fin 4) (r : Fin 8192) (l : Fin 640) :
    Host.dotGeneral (F := Ideal) dot_S8192x6912_S6912x640_S8192x640_1_0_0_1_n_n none (truncf .bf16 (sitofp .f32 (extsi 32 a0 natLt_8_32)) bitsLt_bf16_f32) (truncf .bf16 (sitofp .f32 (subi (andi (Host.shrsi (extui 32 a4 natLt_8_32) (broadcastInDim S6912x640 ![] bcast_S_S6912x640 (constantI S_ 32 (BitVec.ofNat 32 (2 * f.val))))) (broadcastInDim S6912x640 ![] bcast_S_S6912x640 (constantI S_ 32 3#32))) (broadcastInDim S6912x640 ![] bcast_S_S6912x640 (constantI S_ 32 1#32)))) bitsLt_bf16_f32) (ix2 r l)
      = ∑ k : Fin 6912, (((a0 (ix2 r k)).toInt : ℝ) : EReal) * tern (a4 (ix2 k l)) f.val := by
  pointwise
  refine Finset.sum_congr rfl fun k _ => congrArg₂ (· * ·) ?_ ?_
  · show (((BitVec.signExtend 32 (a0 (ix2 r k))).toInt : ℝ) : EReal) = _
    rw [BitVec.toInt_signExtend_of_le (by decide)]
  · exact congrArg (fun z : ℤ => ((z : ℝ) : EReal)) (ref_field (a4 (ix2 k l)) f)

/-- The reference's whole term from its four fields' products. -/
def refTerm (u0 u1 u2 u3 : FVec Ideal S8192x640 .f32) (a1 : FVec Ideal S8192x1 .f32) (a2 : FVec Ideal S8192x2560 .f32) (a3 : FVec Ideal S1 .f32) : FVec Ideal S8192x2560 .bf16 :=
  truncf .bf16 (addf a2 (mulf (mulf ((concatenate S8192x2560 1 [⟨S8192x640, u0⟩, ⟨S8192x640, u1⟩, ⟨S8192x640, u2⟩, ⟨S8192x640, u3⟩] concatenates_S8192x640_S8192x640_S8192x640_S8192x640_S8192x2560_d1)) (broadcastInDim S8192x2560 ![0, 1] bcast_S8192x1_S8192x2560_0_1 (broadcastInDim S8192x1 ![0] bcast_S8192_S8192x1_0 (shapeCast _ a1 shapeCasts_S8192x1_S8192)))) (broadcastInDim S8192x2560 ![] bcast_S_S8192x2560 (shapeCast _ a3 shapeCasts_S1_S_)))) bitsLt_bf16_f32

/-- The reference's whole term, at an index. -/
theorem refTerm_apply (u0 u1 u2 u3 : FVec Ideal S8192x640 .f32) (a1 : FVec Ideal S8192x1 .f32) (a2 : FVec Ideal S8192x2560 .f32) (a3 : FVec Ideal S1 .f32)
    (r : Fin 8192) (c : Fin 2560) (v : EReal)
    (h : ∀ f : Fin 4, f.val = c.val / 640 → (![u0, u1, u2, u3] f) (ix2 r ⟨c.val % 640, Nat.mod_lt _ (by decide)⟩) = v) :
    refTerm u0 u1 u2 u3 a1 a2 a3 (ix2 r c) = a2 (ix2 r c) + (v * a1 (ix2 r 0)) * a3 (ix1 0) := by
  pointwise [refTerm]
  have hc := c.isLt
  refine congrArg (fun w => a2 (ix2 r c) + w * a1 (ix2 r 0) * a3 (ix1 0)) ?_
  by_cases h0 : c.val < 640
  · rw [dif_pos h0]
    refine Eq.trans (congrArg u0 (congrArg (ix2 r) (Fin.ext ?_))) (h 0 (by show 0 = c.val / 640; omega))
    show c.val = c.val % 640; omega
  rw [dif_neg h0]
  by_cases h1 : c.val - 640 < 640
  · rw [dif_pos h1]
    refine Eq.trans (congrArg u1 (congrArg (ix2 r) (Fin.ext ?_))) (h 1 (by show 1 = c.val / 640; omega))
    show c.val - 640 = c.val % 640; omega
  rw [dif_neg h1]
  by_cases h2 : c.val - 640 - 640 < 640
  · rw [dif_pos h2]
    refine Eq.trans (congrArg u2 (congrArg (ix2 r) (Fin.ext ?_))) (h 2 (by show 2 = c.val / 640; omega))
    show c.val - 640 - 640 = c.val % 640; omega
  rw [dif_neg h2]
  refine Eq.trans (congrArg u3 (congrArg (ix2 r) (Fin.ext ?_))) (h 3 (by show 3 = c.val / 640; omega))
  show c.val - 640 - 640 - 640 = c.val % 640; omega

/-- Field `f`'s product, as the reference writes it. -/
def fieldTerm (a0 : IVec S8192x6912 8) (a4 : IVec S6912x640 8) (w : BitVec 32) : FVec Ideal S8192x640 .f32 :=
  Host.dotGeneral (F := Ideal) dot_S8192x6912_S6912x640_S8192x640_1_0_0_1_n_n none (truncf .bf16 (sitofp .f32 (extsi 32 a0 natLt_8_32)) bitsLt_bf16_f32) (truncf .bf16 (sitofp .f32 (subi (andi (Host.shrsi (extui 32 a4 natLt_8_32) (broadcastInDim S6912x640 ![] bcast_S_S6912x640 (constantI S_ 32 w))) (broadcastInDim S6912x640 ![] bcast_S_S6912x640 (constantI S_ 32 3#32))) (broadcastInDim S6912x640 ![] bcast_S_S6912x640 (constantI S_ 32 1#32)))) bitsLt_bf16_f32)

/-- The reference's term is the formula. -/
theorem ref_eq (a0 : IVec S8192x6912 8) (a1 : FVec Ideal S8192x1 .f32) (a2 : FVec Ideal S8192x2560 .f32) (a3 : FVec Ideal S1 .f32) (a4 : IVec S6912x640 8) :
    refTerm (fieldTerm a0 a4 0#32) (fieldTerm a0 a4 2#32) (fieldTerm a0 a4 4#32) (fieldTerm a0 a4 6#32) a1 a2 a3
      = fun i => Cert.DownIdeal.Val.spec a0 a1 a2 a3 a4 (i 0) (i 1) := by
  funext i
  rw [eq_ix2 (n0 := 8192) (n1 := 2560) i]
  unfold Cert.DownIdeal.Val.spec
  refine refTerm_apply _ _ _ _ _ _ _ _ _ _ fun f hf => ?_
  have e : (![fieldTerm a0 a4 0#32, fieldTerm a0 a4 2#32, fieldTerm a0 a4 4#32, fieldTerm a0 a4 6#32] f) = fieldTerm a0 a4 (BitVec.ofNat 32 (2 * f.val)) := by
    fin_cases f <;> rfl
  rw [e]
  refine (field_apply a0 a4 f _ _).trans ?_
  rw [hf]; rfl

end Cert.DownRefIdeal.Eq

namespace Cert.DownClaims
open Idealize.ShloMosaic Idealize.ShloMosaic.TcCoe Idealize.SL.Sem

/-- The kernel's run: the result array is the formula of the arguments. -/
theorem run (m : (ℓ : Loc Cert.DownIdeal.nD Cert.DownIdeal.τ Cert.DownIdeal.sig) → Buf (Elt Ideal) ℓ) (ρ : Dev Cert.DownIdeal.nD → PrngReg) :
    θ_run Cert.DownIdeal.defs (onTc (τ := Cert.DownIdeal.τ) (Cert.DownIdeal.main (F := Ideal))) ⟨m, fun _ => 0, ρ⟩ fun r =>
      ∀ c : Dev Cert.DownIdeal.nD, r.2.mem ((c.tc : Thread Cert.DownIdeal.nD Cert.DownIdeal.τ).loc Cert.DownIdeal.main_v0) = Cert.DownIdeal.Val.G m c :=
  (θ_run _ _ _).mono (fun _ h c => ((h.1 c).1 5).trans (Cert.DownIdeal.Val.arr_eq m c)) (Cert.DownIdeal.Val.run_main (F := Ideal) m ρ)

/-- The kernel and the reference leave equal results on equal arguments. -/
theorem algebraic : Cert.algebraic_DownIdeal_DownRefIdeal := by
  intro m ρ m' ρ' _ hagree
  refine ⟨fun c => Cert.DownIdeal.Val.G m c, ?_, ?_⟩
  · exact (θ_run Cert.DownIdeal.defs _ _).mono (fun _ h c => ⟨h.1 c, h.2.1 c⟩) (θ_run_and (run m ρ) (Cert.DownIdeal.Val.frame (F := Ideal) m ρ))
  · refine (θ_run Cert.DownRefIdeal.defs _ _).mono (fun _ h c => ⟨(h c).1.trans ?_, (h c).2⟩) (Cert.DownRefIdeal.Value.run (F := Ideal) m' ρ')
    refine (Cert.DownRefIdeal.Eq.ref_eq _ _ _ _ _).trans ?_
    rw [(hagree c).1, (hagree c).2.1, (hagree c).2.2.1, (hagree c).2.2.2.1, (hagree c).2.2.2.2]
    rfl

/-- The reference's run leaves its arguments unchanged and every counter at zero. -/
theorem refFrame : Cert.quiescent_DownRefIdeal := fun m ρ _ =>
  (θ_run Cert.DownRefIdeal.defs _ _).mono (fun _ h => ⟨fun c => (h c).2, sem_eq_zero_of_no_sems rfl _⟩) (Cert.DownRefIdeal.Value.run (F := Ideal) m ρ)

end Cert.DownClaims
-- ==== Proof.GateUpVal.lean ====
module

public import proofs.«01_k».proof.Proof.Gen.GateUp.Frame
public import proofs.«01_k».proof.Proof.Gen.GateUp.Loops
public import Idealize.ShloMosaic.Lib.Claim
public import Idealize.ShloMosaic.Lib.VecWindow
public import Idealize.ShloMosaic.Lib.WritesUnit
public import Idealize.ShloMosaic.Lib.ValueIdxCore

@[expose] public section
set_option maxRecDepth 16384
noncomputable section
namespace Cert.GateUp.Val
open Cert.GateUp Cert.GateUp.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The first loop runs 27 trips. -/
theorem trips1 : k0_t1_loop.trips = 27 := by decide +kernel

/-- The second loop runs 16 trips. -/
theorem trips2 : k0_t2_loop.trips = 16 := by decide +kernel

/-- Trip `k` of the first loop stores 256 columns of `m` from column `256 * k`. -/
theorem off2_eq (k : Fin k0_t1_loop.trips) : k0_off2 k = ![0, 256 * k.val] := by
  revert k; decide +kernel

/-- Trip `k` of the second loop works on 32 rows from row `32 * k`. -/
theorem off3_eq (k : Fin k0_t2_loop.trips) : k0_off3 k = ![32 * k.val, 0] := by
  revert k; decide +kernel

/-- The same rows of the lane buffers. -/
theorem off4_eq (k : Fin k0_t2_loop.trips) : k0_off4 k = ![32 * k.val, 0] := by
  revert k; decide +kernel

/-- The field of the packed byte that 128-column tile `t` holds. -/
def fldN (t : ℕ) : ℕ := if t < 14 then 0 else if t < 27 then 1 else if t < 41 then 2 else 3

/-- The same as a word. -/
def fldW (t : ℕ) : BitVec 32 := BitVec.ofNat 32 (fldN t)

/-- Two 128-column tiles side by side. -/
def pair (l r : Vec F S1x2560x128 .bf16) : Vec F S1x2560x256 .bf16 := fun i =>
  if h : (i 2).val < 128 then l (ix3 0 (i 1) ⟨(i 2).val, h⟩)
  else r (ix3 0 (i 1) ⟨(i 2).val - 128, by have : (i 2).val < 256 := (i 2).isLt; omega⟩)

/-- The packed tile that half `h` of trip `k` reads. -/
abbrev tileT (x : Vec F S2560x1792 .i8) (k : Fin k0_t1_loop.trips) (h : BitVec 32)
    (hb : ∀ a, k0_off1 k h a + S2560x128.size a ≤ S2560x1792.size a) : Vec F S2560x128 .i8 :=
  VecWindow.window x (k0_off1 k h) S2560x128.size hb

/-- The unpacked gate weights of trip `k`. -/
def wgT (x : Vec F S2560x1792 .i8) (k : Fin k0_t1_loop.trips) : Vec F S1x2560x256 .bf16 :=
  pair (k0_pay2 0#32 1#32 k (tileT x k 0#32 (k0_off1_inb k 0)))
    (k0_pay5 (Scalar.muli 2#32 (fldW (2 * k.val + 1))) (k0_pay4 (tileT x k 1#32 (k0_off1_inb k 1))))

/-- The unpacked up weights of trip `k`. -/
def wuT (x : Vec F S2560x1792 .i8) (k : Fin k0_t1_loop.trips) : Vec F S1x2560x256 .bf16 :=
  pair (k0_pay3 (fldW (2 * k.val)) (tileT x k 0#32 (k0_off1_inb k 0)))
    (k0_pay6 (fldW (2 * k.val + 1)) (tileT x k 1#32 (k0_off1_inb k 1)))

/-- What trip `k` of the first loop stores: 256 columns of `m`. -/
def mT (x0 : Vec F S512x2560 .i8) (x1 : Vec F S512x1 .f32) (x3 : Vec F S2 .f32) (x4 x5 : Vec F S2560x1792 .i8)
    (k : Fin k0_t1_loop.trips) : Vec F S512x256 .f32 :=
  k0_pay14 (k0_pay7 (k0_pay13 x0) (wgT x4 k) x1 (x3 (ix1 0))) (k0_pay13 x0) (wuT x5 k) x1 (x3 (ix1 1))

/-- `m` after the first loop. -/
def mF (x0 : Vec F S512x2560 .i8) (x1 : Vec F S512x1 .f32) (x3 : Vec F S2 .f32) (x4 x5 : Vec F S2560x1792 .i8) :
    Vec F S512x6912 .f32 := fun i =>
  mT x0 x1 x3 x4 x5 ⟨(i 1).val / 256, by have : (i 1).val < 6912 := (i 1).isLt; rw [trips1]; omega⟩
    (ix2 (i 0) ⟨(i 1).val % 256, Nat.mod_lt _ (by decide)⟩)

/-- The 32 rows of `m` that trip `k` of the second loop reads. -/
abbrev rowsT (mm : Vec F S512x6912 .f32) (k : Fin k0_t2_loop.trips) : Vec F S32x6912 .f32 :=
  VecWindow.window mm (k0_off3 k) S32x6912.size (k0_off3_inb k)

/-- The trip of the second loop that works on row `r`. -/
def rowTrip (r : Fin 512) : Fin k0_t2_loop.trips := ⟨r.val / 32, by have := r.isLt; rw [trips2]; omega⟩

/-- The row of that trip's strip. -/
def rowIn (r : Fin 512) : Fin 32 := ⟨r.val % 32, Nat.mod_lt _ (by decide)⟩

/-- The codes of `m`'s normalized rows. -/
def codesF (mm : Vec F S512x6912 .f32) (x2 : Vec F S1x6912 .f32) : Vec F S512x6912 .i8 := fun i =>
  k0_pay11 (rowsT mm (rowTrip (i 0))) x2 (ix2 (rowIn (i 0)) (i 1))

/-- Each row's scale, in every lane. -/
def scaleL (mm : Vec F S512x6912 .f32) (x2 : Vec F S1x6912 .f32) : Vec F S512x128 .f32 := fun i =>
  k0_pay12 (rowsT mm (rowTrip (i 0))) x2 (ix2 (rowIn (i 0)) (i 1))

/-- Each row's reciprocal root mean square, in every lane. -/
def rstdL (mm : Vec F S512x6912 .f32) : Vec F S512x128 .f32 := fun i =>
  k0_pay15 (k0_pay8 (rowsT mm (rowTrip (i 0)))) (ix2 (rowIn (i 0)) (i 1))

/-- The weight buffer after the four tiles are stored, read at an index: a slab is its two tiles side by side. -/
theorem slabAt (v : View sig .tc .vmem S2x2560x256 .bf16) (f : BufTy.Contents (Elt F) v.ty) (gl ul gr ur : Vec F S1x2560x128 .bf16) (y : S2x2560x256.Idx) :
    v.read (Elt F) (v.writes (Elt F) f [⟨Rect.unit (s := S2x2560x256) ![1, 0, 128] S1x2560x128.size inb_S2x2560x256_S1x2560x128_1_0_128, ur⟩,
        ⟨Rect.unit (s := S2x2560x256) ![0, 0, 128] S1x2560x128.size inb_S2x2560x256_S1x2560x128_0_0_128, gr⟩,
        ⟨Rect.unit (s := S2x2560x256) ![1, 0, 0] S1x2560x128.size inb_S2x2560x256_S1x2560x128_1_0_0, ul⟩,
        ⟨Rect.unit (s := S2x2560x256) ![0, 0, 0] S1x2560x128.size inb_S2x2560x256_S1x2560x128_0_0_0, gl⟩]) y
      = (if (y 0).val = 0 then pair gl gr else pair ul ur) (ix3 0 (y 1) (y 2)) := by
  have h0 : (y 0).val < 2 := (y 0).isLt
  have h2 : (y 2).val < 256 := (y 2).isLt
  by_cases hs : (y 0).val = 0 <;> by_cases h : (y 2).val < 128
  · rw [if_pos hs, pair, dif_pos h, View.read_writes_cons_unit_of_not_mem _ _ _ _ _ y rfl (2 : Fin 3) (Or.inl h),
      View.read_writes_cons_unit_of_not_mem _ _ _ _ _ y rfl (2 : Fin 3) (Or.inl h),
      View.read_writes_cons_unit_of_not_mem _ _ _ _ _ y rfl (0 : Fin 3) (Or.inl (by show (y 0).val < 1; omega))]
    refine View.read_writes_cons_unit_of_mem _ _ _ _ _ y (ix3 0 (y 1) ⟨(y 2).val, h⟩) rfl fun a => ?_
    match a with
    | 0 => show (y 0).val = 0 + 0; omega
    | 1 => exact (Nat.zero_add _).symm
    | 2 => show (y 2).val = 0 + (y 2).val; omega
  · rw [if_pos hs, pair, dif_neg h, View.read_writes_cons_unit_of_not_mem _ _ _ _ _ y rfl (0 : Fin 3) (Or.inl (by show (y 0).val < 1; omega))]
    refine View.read_writes_cons_unit_of_mem _ _ _ _ _ y (ix3 0 (y 1) ⟨(y 2).val - 128, by omega⟩) rfl fun a => ?_
    match a with
    | 0 => show (y 0).val = 0 + 0; omega
    | 1 => exact (Nat.zero_add _).symm
    | 2 => show (y 2).val = 128 + ((y 2).val - 128); omega
  · rw [if_neg hs, pair, dif_pos h, View.read_writes_cons_unit_of_not_mem _ _ _ _ _ y rfl (2 : Fin 3) (Or.inl h),
      View.read_writes_cons_unit_of_not_mem _ _ _ _ _ y rfl (2 : Fin 3) (Or.inl h)]
    refine View.read_writes_cons_unit_of_mem _ _ _ _ _ y (ix3 0 (y 1) ⟨(y 2).val, h⟩) rfl fun a => ?_
    match a with
    | 0 => show (y 0).val = 1 + 0; omega
    | 1 => exact (Nat.zero_add _).symm
    | 2 => show (y 2).val = 0 + (y 2).val; omega
  · rw [if_neg hs, pair, dif_neg h]
    refine View.read_writes_cons_unit_of_mem _ _ _ _ _ y (ix3 0 (y 1) ⟨(y 2).val - 128, by omega⟩) rfl fun a => ?_
    match a with
    | 0 => show (y 0).val = 1 + 0; omega
    | 1 => exact (Nat.zero_add _).symm
    | 2 => show (y 2).val = 128 + ((y 2).val - 128); omega

/-- A load of either slab after the four tiles are stored. -/
theorem slab (v : View sig .tc .vmem S2x2560x256 .bf16) (gl ul gr ur : Vec F S1x2560x128 .bf16) :
    v.readCov (Val := Elt F) [⟨Rect.unit (s := S2x2560x256) ![1, 0, 128] S1x2560x128.size inb_S2x2560x256_S1x2560x128_1_0_128, ur⟩,
        ⟨Rect.unit (s := S2x2560x256) ![0, 0, 128] S1x2560x128.size inb_S2x2560x256_S1x2560x128_0_0_128, gr⟩,
        ⟨Rect.unit (s := S2x2560x256) ![1, 0, 0] S1x2560x128.size inb_S2x2560x256_S1x2560x128_1_0_0, ul⟩,
        ⟨Rect.unit (s := S2x2560x256) ![0, 0, 0] S1x2560x128.size inb_S2x2560x256_S1x2560x128_0_0_0, gl⟩]
      (Rect.unit (s := S2x2560x256) ![0, 0, 0] S1x2560x256.size inb_S2x2560x256_S1x2560x256_0_0_0).toLoadRect = pair gl gr
    ∧ v.readCov (Val := Elt F) [⟨Rect.unit (s := S2x2560x256) ![1, 0, 128] S1x2560x128.size inb_S2x2560x256_S1x2560x128_1_0_128, ur⟩,
        ⟨Rect.unit (s := S2x2560x256) ![0, 0, 128] S1x2560x128.size inb_S2x2560x256_S1x2560x128_0_0_128, gr⟩,
        ⟨Rect.unit (s := S2x2560x256) ![1, 0, 0] S1x2560x128.size inb_S2x2560x256_S1x2560x128_1_0_0, ul⟩,
        ⟨Rect.unit (s := S2x2560x256) ![0, 0, 0] S1x2560x128.size inb_S2x2560x256_S1x2560x128_0_0_0, gl⟩]
      (Rect.unit (s := S2x2560x256) ![1, 0, 0] S1x2560x256.size inb_S2x2560x256_S1x2560x256_1_0_0).toLoadRect = pair ul ur := by
  constructor <;> unfold View.readCov <;> funext j
  · refine (slabAt v _ gl ul gr ur _).trans ?_
    have h0 : (j 0).val < 1 := (j 0).isLt
    rw [if_pos (by show 0 + 1 * (j 0).val = 0; omega)]
    exact congrArg (pair gl gr) (funext fun a => Fin.ext (match a with
      | 0 => by show 0 = (j 0).val; omega
      | 1 => by show 0 + 1 * (j 1).val = (j 1).val; omega
      | 2 => by show 0 + 1 * (j 2).val = (j 2).val; omega))
  · refine (slabAt v _ gl ul gr ur _).trans ?_
    have h0 : (j 0).val < 1 := (j 0).isLt
    rw [if_neg (by show ¬(1 + 1 * (j 0).val = 0); omega)]
    exact congrArg (pair ul ur) (funext fun a => Fin.ext (match a with
      | 0 => by show 0 = (j 0).val; omega
      | 1 => by show 0 + 1 * (j 1).val = (j 1).val; omega
      | 2 => by show 0 + 1 * (j 2).val = (j 2).val; omega))

/-- The body's own words for the field are `fldW`. -/
theorem fld_even (k : Fin k0_t1_loop.trips) :
    Scalar.addi (Scalar.addi (Scalar.extui (Scalar.cmpi .sge (Scalar.addi (Scalar.muli 2#32 (Scf.iv 0#32 1#32 k)) 0#32) 14#32))
      (Scalar.extui (Scalar.cmpi .sge (Scalar.addi (Scalar.muli 2#32 (Scf.iv 0#32 1#32 k)) 0#32) 27#32)))
      (Scalar.extui (Scalar.cmpi .sge (Scalar.addi (Scalar.muli 2#32 (Scf.iv 0#32 1#32 k)) 0#32) 41#32)) = fldW (2 * k.val) := by
  revert k; decide +kernel

theorem fld_odd (k : Fin k0_t1_loop.trips) :
    Scalar.addi (Scalar.addi (Scalar.extui (Scalar.cmpi .sge (Scalar.addi (Scalar.muli 2#32 (Scf.iv 0#32 1#32 k)) 1#32) 14#32))
      (Scalar.extui (Scalar.cmpi .sge (Scalar.addi (Scalar.muli 2#32 (Scf.iv 0#32 1#32 k)) 1#32) 27#32)))
      (Scalar.extui (Scalar.cmpi .sge (Scalar.addi (Scalar.muli 2#32 (Scf.iv 0#32 1#32 k)) 1#32) 41#32)) = fldW (2 * k.val + 1) := by
  revert k; decide +kernel

section
variable (𝒱 : Variants) (c : Dev nD) (bd : Option 𝒱.V) (i : grid0.Coords) (u1 : Memref sig .tc .vmem S512x2560 .i8) (w1 : u1.IsWhole) (u2 : Memref sig .tc .vmem S512x1 .f32) (w2 : u2.IsWhole) (u3 : Memref sig .tc .vmem S1x6912 .f32) (w3 : u3.IsWhole) (u4 : Memref sig .tc .smem S2 .f32) (w4 : u4.IsWhole) (u5 : Memref sig .tc .vmem S2560x1792 .i8) (w5 : u5.IsWhole) (u6 : Memref sig .tc .vmem S2560x1792 .i8) (w6 : u6.IsWhole) (u7 : Memref sig .tc .vmem S512x6912 .i8) (w7 : u7.IsWhole) (u8 : Memref sig .tc .vmem S1x4x128 .f32) (w8 : u8.IsWhole) (u9 : Memref sig .tc .vmem S1x4x128 .f32) (w9 : u9.IsWhole) (u10 : Memref sig .tc .vmem S512x2560 .bf16) (w10 : u10.IsWhole) (u11 : Memref sig .tc .vmem S2x2560x256 .bf16) (w11 : u11.IsWhole) (u12 : Memref sig .tc .vmem S512x6912 .f32) (w12 : u12.IsWhole) (u13 : Memref sig .tc .vmem S512x128 .f32) (w13 : u13.IsWhole) (u14 : Memref sig .tc .vmem S512x128 .f32) (w14 : u14.IsWhole)
section
variable (X2 : BufTy.Contents (Elt F) u2.view.ty) (X4 : BufTy.Contents (Elt F) u4.view.ty) (X5 : BufTy.Contents (Elt F) u5.view.ty) (X6 : BufTy.Contents (Elt F) u6.view.ty) (X10 : BufTy.Contents (Elt F) u10.view.ty)

/-- The one piece trip `k` stores into `m`, whatever the two written buffers held before. -/
theorem trip_m (x0 : Vec F S512x2560 .i8) (x1 : Vec F S512x1 .f32) (x3 : Vec F S2 .f32) (x4 x5 : Vec F S2560x1792 .i8)
    (h2 : u2.view.read (Elt F) X2 = x1) (h4 : u4.view.read (Elt F) X4 = x3)
    (h5 : u5.view.read (Elt F) X5 = x4) (h6 : u6.view.read (Elt F) X6 = x5)
    (h10 : u10.view.read (Elt F) X10 = k0_pay13 x0) (k : Fin k0_t1_loop.trips)
    (f11 : BufTy.Contents (Elt F) u11.view.ty) (f12 : BufTy.Contents (Elt F) u12.view.ty) :
    (trip_k0_t1 (F := F) 𝒱 c bd i u1 w1 u2 w2 u3 w3 u4 w4 u5 w5 u6 w6 u7 w7 u8 w8 u9 w9 u10 w10 u11 w11 u12 w12 u13 w13 u14 w14 X2 X4 X5 X6 X10 k).2.1 f11 f12
      = [⟨Rect.unit (s := S512x6912) (k0_off2 k) S512x256.size (k0_off2_inb k), mT x0 x1 x3 x4 x5 k⟩] := by
  subst h2 h4 h5 h6
  have key : (trip_k0_t1 (F := F) 𝒱 c bd i u1 w1 u2 w2 u3 w3 u4 w4 u5 w5 u6 w6 u7 w7 u8 w8 u9 w9 u10 w10 u11 w11 u12 w12 u13 w13 u14 w14 X2 X4 X5 X6 X10 k).2.1 f11 f12
      = [⟨Rect.unit (s := S512x6912) (k0_off2 k) S512x256.size (k0_off2_inb k),
          k0_pay14 (k0_pay7 (u10.view.read (Elt F) X10) (wgT (u5.view.read (Elt F) X5) k) (u2.view.read (Elt F) X2) (u4.view.read (Elt F) X4 (ix1 0)))
            (u10.view.read (Elt F) X10) (wuT (u6.view.read (Elt F) X6) k) (u2.view.read (Elt F) X2) (u4.view.read (Elt F) X4 (ix1 1))⟩] := by
    unfold trip_k0_t1
    dsimp only
    sl_unfold_words
    refine congrArg (fun w => [(⟨Rect.unit (s := S512x6912) (k0_off2 k) S512x256.size (k0_off2_inb k), w⟩ : View.Piece (Elt F) S512x6912 .f32)]) ?_
    refine congr (congr (congr (congr (congrArg k0_pay14 (congr (congr (congr (congrArg k0_pay7 ?_) ?_) ?_) ?_)) ?_) ?_) ?_) ?_
    · exact View.readAt_full _ _ _
    · refine (slab u11.view _ _ _ _).1.trans (congr (congrArg pair ?_) ?_)
      · rfl
      · exact congr (congrArg k0_pay5 (congrArg (Scalar.muli 2#32) (fld_odd k))) rfl
    · exact View.readAt_full _ _ _
    · exact congrArg (u4.view.read (Elt F) X4) (funext (Fin.forall_fin_one.mpr rfl))
    · exact View.readAt_full _ _ _
    · refine (slab u11.view _ _ _ _).2.trans (congr (congrArg pair ?_) ?_)
      · exact congr (congrArg k0_pay3 (fld_even k)) rfl
      · exact congr (congrArg k0_pay6 (fld_odd k)) rfl
    · exact View.readAt_full _ _ _
    · exact congrArg (u4.view.read (Elt F) X4) (funext (Fin.forall_fin_one.mpr rfl))
  rw [key, h10]; rfl

/-- After the trips before `k` the columns of `m` below `256 * k` hold their values. -/
theorem loop_m (x0 : Vec F S512x2560 .i8) (x1 : Vec F S512x1 .f32) (x3 : Vec F S2 .f32) (x4 x5 : Vec F S2560x1792 .i8)
    (h2 : u2.view.read (Elt F) X2 = x1) (h4 : u4.view.read (Elt F) X4 = x3)
    (h5 : u5.view.read (Elt F) X5 = x4) (h6 : u6.view.read (Elt F) X6 = x5)
    (h10 : u10.view.read (Elt F) X10 = k0_pay13 x0)
    (G11 : BufTy.Contents (Elt F) u11.view.ty) (G12 : BufTy.Contents (Elt F) u12.view.ty) (k : ℕ) (hk : k ≤ 27) (y : S512x6912.Idx)
    (hy : (y 1).val < 256 * k) :
    u12.view.read (Elt F) (u12.view.writes (Elt F) G12 (pb_k0_t1 (F := F) 𝒱 c bd i u1 w1 u2 w2 u3 w3 u4 w4 u5 w5 u6 w6 u7 w7 u8 w8 u9 w9 u10 w10 u11 w11 u12 w12 u13 w13 u14 w14 X2 X4 X5 X6 X10 G11 G12 k).2) y
      = mF x0 x1 x3 x4 x5 y := by
  induction k with
  | zero => omega
  | succ k ih =>
    have hk' : k < k0_t1_loop.trips := by rw [trips1]; omega
    rw [pb_k0_t1_succ (F := F) 𝒱 c bd i u1 w1 u2 w2 u3 w3 u4 w4 u5 w5 u6 w6 u7 w7 u8 w8 u9 w9 u10 w10 u11 w11 u12 w12 u13 w13 u14 w14 X2 X4 X5 X6 X10 G11 G12 ⟨k, hk'⟩]
    dsimp only
    rw [trip_m 𝒱 c bd i u1 w1 u2 w2 u3 w3 u4 w4 u5 w5 u6 w6 u7 w7 u8 w8 u9 w9 u10 w10 u11 w11 u12 w12 u13 w13 u14 w14 X2 X4 X5 X6 X10 x0 x1 x3 x4 x5 h2 h4 h5 h6 h10 ⟨k, hk'⟩, List.singleton_append]
    by_cases hlt : (y 1).val < 256 * k
    · rw [View.read_writes_cons_unit_of_not_mem _ _ _ _ _ y (off2_eq ⟨k, hk'⟩) (1 : Fin 2) (Or.inl hlt)]
      exact ih (by omega) hlt
    · have hd : (y 1).val / 256 = k := by omega
      refine (View.read_writes_cons_unit_of_mem _ _ _ _ _ y (ix2 (y 0) ⟨(y 1).val % 256, Nat.mod_lt _ (by decide)⟩) (off2_eq ⟨k, hk'⟩)
        (Fin.forall_fin_two.mpr ⟨(Nat.zero_add _).symm, by show (y 1).val = 256 * k + (y 1).val % 256; omega⟩)).trans ?_
      unfold mF
      subst hd
      rfl
end

variable (X3 : BufTy.Contents (Elt F) u3.view.ty) (X12 : BufTy.Contents (Elt F) u12.view.ty)

/-- The three pieces trip `k` of the second loop stores. -/
theorem trip_rows (mm : Vec F S512x6912 .f32) (x2 : Vec F S1x6912 .f32)
    (h3 : u3.view.read (Elt F) X3 = x2) (h12 : u12.view.read (Elt F) X12 = mm) (k : Fin k0_t2_loop.trips) :
    tripL_k0_t2 (F := F) 𝒱 c bd i u1 w1 u2 w2 u3 w3 u4 w4 u5 w5 u6 w6 u7 w7 u8 w8 u9 w9 u10 w10 u11 w11 u12 w12 u13 w13 u14 w14 X3 X12 k
      = ([⟨Rect.unit (s := S512x6912) (k0_off3 k) S32x6912.size (k0_off3_inb k), k0_pay11 (rowsT mm k) x2⟩],
         [⟨Rect.unit (s := S512x128) (k0_off4 k) S32x128.size (k0_off4_inb k), k0_pay12 (rowsT mm k) x2⟩],
         [⟨Rect.unit (s := S512x128) (k0_off4 k) S32x128.size (k0_off4_inb k), k0_pay15 (k0_pay8 (rowsT mm k))⟩]) := by
  subst h3 h12
  rw [← View.readAt_full u3.view X3 inb_S1x6912_S1x6912_0_0]
  unfold tripL_k0_t2 trip_k0_t2
  dsimp only
  sl_unfold_words
  rfl

/-- A buffer written strip by strip: after the trips before `k` its rows below `32 * k` hold the strips. -/
theorem strips {n : ℕ} {e : EltTy} (v : View sig .tc .vmem ⟨2, ![512, n]⟩ e) (G : BufTy.Contents (Elt F) v.ty)
    (w : Fin k0_t2_loop.trips → Vec F ⟨2, ![32, n]⟩ e) (off : Fin k0_t2_loop.trips → Fin 2 → ℕ)
    (inb : ∀ k a, off k a + (⟨2, ![32, n]⟩ : Shape).size a ≤ (⟨2, ![512, n]⟩ : Shape).size a)
    (hoff : ∀ k, off k = ![32 * k.val, 0]) (L : ℕ → List (View.Piece (Elt F) ⟨2, ![512, n]⟩ e))
    (hL : ∀ k : Fin k0_t2_loop.trips, L (k.val + 1) = ⟨Rect.unit (s := ⟨2, ![512, n]⟩) (off k) (⟨2, ![32, n]⟩ : Shape).size (inb k), w k⟩ :: L k.val)
    (k : ℕ) (hk : k ≤ 16) (y : (⟨2, ![512, n]⟩ : Shape).Idx) (hy : (y 0).val < 32 * k) :
    v.read (Elt F) (v.writes (Elt F) G (L k)) y = w (rowTrip (y 0)) (ix2 (rowIn (y 0)) (y 1)) := by
  induction k with
  | zero => omega
  | succ k ih =>
    have hk' : k < k0_t2_loop.trips := by rw [trips2]; omega
    rw [hL ⟨k, hk'⟩]
    by_cases hlt : (y 0).val < 32 * k
    · rw [View.read_writes_cons_unit_of_not_mem _ _ _ _ _ y (hoff ⟨k, hk'⟩) (0 : Fin 2) (Or.inl hlt)]
      exact ih (by omega) hlt
    · have hd : rowTrip (y 0) = ⟨k, hk'⟩ := Fin.ext (by show (y 0).val / 32 = k; omega)
      refine (View.read_writes_cons_unit_of_mem _ _ _ _ _ y (ix2 (rowIn (y 0)) (y 1)) (hoff ⟨k, hk'⟩)
        (Fin.forall_fin_two.mpr ⟨by show (y 0).val = 32 * k + (y 0).val % 32; omega, (Nat.zero_add _).symm⟩)).trans ?_
      rw [hd]; rfl

/-- What the second loop leaves in its three buffers. -/
theorem loop_rows (mm : Vec F S512x6912 .f32) (x2 : Vec F S1x6912 .f32)
    (h3 : u3.view.read (Elt F) X3 = x2) (h12 : u12.view.read (Elt F) X12 = mm)
    (G7 : BufTy.Contents (Elt F) u7.view.ty) (G13 : BufTy.Contents (Elt F) u13.view.ty) (G14 : BufTy.Contents (Elt F) u14.view.ty) :
    u7.view.read (Elt F) (u7.view.writes (Elt F) G7 (pb_k0_t2 (F := F) 𝒱 c bd i u1 w1 u2 w2 u3 w3 u4 w4 u5 w5 u6 w6 u7 w7 u8 w8 u9 w9 u10 w10 u11 w11 u12 w12 u13 w13 u14 w14 X3 X12 16).1) = codesF mm x2
    ∧ u13.view.read (Elt F) (u13.view.writes (Elt F) G13 (pb_k0_t2 (F := F) 𝒱 c bd i u1 w1 u2 w2 u3 w3 u4 w4 u5 w5 u6 w6 u7 w7 u8 w8 u9 w9 u10 w10 u11 w11 u12 w12 u13 w13 u14 w14 X3 X12 16).2.1) = scaleL mm x2
    ∧ u14.view.read (Elt F) (u14.view.writes (Elt F) G14 (pb_k0_t2 (F := F) 𝒱 c bd i u1 w1 u2 w2 u3 w3 u4 w4 u5 w5 u6 w6 u7 w7 u8 w8 u9 w9 u10 w10 u11 w11 u12 w12 u13 w13 u14 w14 X3 X12 16).2.2) = rstdL mm := by
  have hL := fun k : Fin k0_t2_loop.trips => (pb_k0_t2_succ (F := F) 𝒱 c bd i u1 w1 u2 w2 u3 w3 u4 w4 u5 w5 u6 w6 u7 w7 u8 w8 u9 w9 u10 w10 u11 w11 u12 w12 u13 w13 u14 w14 X3 X12 k).trans
    (by rw [trip_rows 𝒱 c bd i u1 w1 u2 w2 u3 w3 u4 w4 u5 w5 u6 w6 u7 w7 u8 w8 u9 w9 u10 w10 u11 w11 u12 w12 u13 w13 u14 w14 X3 X12 mm x2 h3 h12 k])
  refine ⟨funext fun y => ?_, funext fun y => ?_, funext fun y => ?_⟩
  · exact strips u7.view G7 (fun k => k0_pay11 (rowsT mm k) x2) k0_off3 k0_off3_inb off3_eq
      (fun k => (pb_k0_t2 (F := F) 𝒱 c bd i u1 w1 u2 w2 u3 w3 u4 w4 u5 w5 u6 w6 u7 w7 u8 w8 u9 w9 u10 w10 u11 w11 u12 w12 u13 w13 u14 w14 X3 X12 k).1) (fun k => congrArg (fun p => p.1) (hL k)) 16 le_rfl y (y 0).isLt
  · exact strips u13.view G13 (fun k => k0_pay12 (rowsT mm k) x2) k0_off4 k0_off4_inb off4_eq
      (fun k => (pb_k0_t2 (F := F) 𝒱 c bd i u1 w1 u2 w2 u3 w3 u4 w4 u5 w5 u6 w6 u7 w7 u8 w8 u9 w9 u10 w10 u11 w11 u12 w12 u13 w13 u14 w14 X3 X12 k).2.1) (fun k => congrArg (fun p => p.2.1) (hL k)) 16 le_rfl y (y 0).isLt
  · exact strips u14.view G14 (fun k => k0_pay15 (k0_pay8 (rowsT mm k))) k0_off4 k0_off4_inb off4_eq
      (fun k => (pb_k0_t2 (F := F) 𝒱 c bd i u1 w1 u2 w2 u3 w3 u4 w4 u5 w5 u6 w6 u7 w7 u8 w8 u9 w9 u10 w10 u11 w11 u12 w12 u13 w13 u14 w14 X3 X12 k).2.2) (fun k => congrArg (fun p => p.2.2) (hL k)) 16 le_rfl y (y 0).isLt
end

/-! ## The body at one grid point -/

set_option maxHeartbeats 2000000 in
/-- The body, run on whole buffers: the inputs are handed back as they were, the outputs hold the codes, the scales
    and the reciprocal roots of `m`'s rows. -/
theorem kernelRun (c : Dev nD) (i : grid0.Coords) (u1 : Memref sig .tc .vmem S512x2560 .i8) (w1 : u1.IsWhole) (u2 : Memref sig .tc .vmem S512x1 .f32) (w2 : u2.IsWhole) (u3 : Memref sig .tc .vmem S1x6912 .f32) (w3 : u3.IsWhole) (u4 : Memref sig .tc .smem S2 .f32) (w4 : u4.IsWhole) (u5 : Memref sig .tc .vmem S2560x1792 .i8) (w5 : u5.IsWhole) (u6 : Memref sig .tc .vmem S2560x1792 .i8) (w6 : u6.IsWhole) (u7 : Memref sig .tc .vmem S512x6912 .i8) (w7 : u7.IsWhole) (u8 : Memref sig .tc .vmem S1x4x128 .f32) (w8 : u8.IsWhole) (u9 : Memref sig .tc .vmem S1x4x128 .f32) (w9 : u9.IsWhole) (u10 : Memref sig .tc .vmem S512x2560 .bf16) (w10 : u10.IsWhole) (u11 : Memref sig .tc .vmem S2x2560x256 .bf16) (w11 : u11.IsWhole) (u12 : Memref sig .tc .vmem S512x6912 .f32) (w12 : u12.IsWhole) (u13 : Memref sig .tc .vmem S512x128 .f32) (w13 : u13.IsWhole) (u14 : Memref sig .tc .vmem S512x128 .f32) (w14 : u14.IsWhole)
    (x0 : Vec F S512x2560 .i8) (x1 : Vec F S512x1 .f32) (x2 : Vec F S1x6912 .f32) (x3 : Vec F S2 .f32) (x4 : Vec F S2560x1792 .i8) (x5 : Vec F S2560x1792 .i8) :
      ∀ (E : Set ℕ) (K : PUnit → sProp 𝕄),
        iprop(owns (c : Thread nD τ) u1 fullShare x0 ∗ owns (c : Thread nD τ) u2 fullShare x1 ∗ owns (c : Thread nD τ) u3 fullShare x2 ∗ owns (c : Thread nD τ) u4 fullShare x3 ∗ owns (c : Thread nD τ) u5 fullShare x4 ∗ owns (c : Thread nD τ) u6 fullShare x5 ∗ (∃ d, owns (c : Thread nD τ) u7 fullShare d) ∗ (∃ d, owns (c : Thread nD τ) u8 fullShare d) ∗ (∃ d, owns (c : Thread nD τ) u9 fullShare d) ∗ (∃ d, owns (c : Thread nD τ) u10 fullShare d) ∗ (∃ d, owns (c : Thread nD τ) u11 fullShare d) ∗ (∃ d, owns (c : Thread nD τ) u12 fullShare d) ∗ (∃ d, owns (c : Thread nD τ) u13 fullShare d) ∗ (∃ d, owns (c : Thread nD τ) u14 fullShare d)
            ∗ (iprop(owns (c : Thread nD τ) u1 fullShare x0 ∗ owns (c : Thread nD τ) u2 fullShare x1 ∗ owns (c : Thread nD τ) u3 fullShare x2 ∗ owns (c : Thread nD τ) u4 fullShare x3 ∗ owns (c : Thread nD τ) u5 fullShare x4 ∗ owns (c : Thread nD τ) u6 fullShare x5 ∗ owns (c : Thread nD τ) u7 fullShare (codesF (mF x0 x1 x3 x4 x5) x2) ∗ owns (c : Thread nD τ) u8 fullShare (k0_pay16 (scaleL (mF x0 x1 x3 x4 x5) x2)) ∗ owns (c : Thread nD τ) u9 fullShare (k0_pay1 (k0_pay17 (rstdL (mF x0 x1 x3 x4 x5)))) ∗ (∃ d, owns (c : Thread nD τ) u10 fullShare d) ∗ (∃ d, owns (c : Thread nD τ) u11 fullShare d) ∗ (∃ d, owns (c : Thread nD τ) u12 fullShare d) ∗ (∃ d, owns (c : Thread nD τ) u13 fullShare d) ∗ (∃ d, owns (c : Thread nD τ) u14 fullShare d)) -∗ K ⟨⟩))
          ⊢ wp frame (wpE (defs₀ (F := F)) Variants.none c none) E (cc0_gate_up i u1 w1 u2 w2 u3 w3 u4 w4 u5 w5 u6 w6 u7 w7 u8 w8 u9 w9 u10 w10 u11 w11 u12 w12 u13 w13 u14 w14) K := by
    intro E K
    simp only [cc0_gate_up_eq_skeleton]; unfold cc0_gate_up_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5
    sl_exec
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; swap; · iexact H6
      ipureintro
      sl_unfold_words
      rw [show Scf.trips k0_t2_loop.lb k0_t2_loop.ub k0_t2_loop.st = 16 from trips2, show Scf.trips k0_t1_loop.lb k0_t1_loop.ub k0_t1_loop.st = 27 from trips1]
      refine (loop_rows Variants.none c none i u1 w1 u2 w2 u3 w3 u4 w4 u5 w5 u6 w6 u7 w7 u8 w8 u9 w9 u10 w10 u11 w11 u12 w12 u13 w13 u14 w14 _ _ (mF x0 x1 x3 x4 x5) x2 hf2 ?_ f6 fs3 fs4).1
      funext y
      refine loop_m Variants.none c none i u1 w1 u2 w2 u3 w3 u4 w4 u5 w5 u6 w6 u7 w7 u8 w8 u9 w9 u10 w10 u11 w11 u12 w12 u13 w13 u14 w14 _ _ _ _ _ x0 x1 x3 x4 x5 hf1 hf3 hf4 hf5 ?_ fs1 fs2 27 le_rfl y (y 1).isLt
      refine (View.read_writes_full _ _ _ _ _).trans ?_
      rw [View.readAt_full, hf0]
    isplitl [H7]
    · iexists _; isplitr; swap; · iexact H7
      ipureintro
      refine (View.read_writes_full _ _ _ _ _).trans ?_
      sl_unfold_words
      rw [show Scf.trips k0_t2_loop.lb k0_t2_loop.ub k0_t2_loop.st = 16 from trips2, show Scf.trips k0_t1_loop.lb k0_t1_loop.ub k0_t1_loop.st = 27 from trips1]
      refine congrArg k0_pay16 ((View.readAt_full _ _ _).trans (loop_rows Variants.none c none i u1 w1 u2 w2 u3 w3 u4 w4 u5 w5 u6 w6 u7 w7 u8 w8 u9 w9 u10 w10 u11 w11 u12 w12 u13 w13 u14 w14 _ _ (mF x0 x1 x3 x4 x5) x2 hf2 ?_ f6 _ fs4).2.1)
      funext y
      refine loop_m Variants.none c none i u1 w1 u2 w2 u3 w3 u4 w4 u5 w5 u6 w6 u7 w7 u8 w8 u9 w9 u10 w10 u11 w11 u12 w12 u13 w13 u14 w14 _ _ _ _ _ x0 x1 x3 x4 x5 hf1 hf3 hf4 hf5 ?_ fs1 fs2 27 le_rfl y (y 1).isLt
      refine (View.read_writes_full _ _ _ _ _).trans ?_
      rw [View.readAt_full, hf0]
    isplitl [H8]
    · iexists _; isplitr; swap; · iexact H8
      ipureintro
      refine (View.read_writes_full _ _ _ _ _).trans ?_
      sl_unfold_words
      rw [show Scf.trips k0_t2_loop.lb k0_t2_loop.ub k0_t2_loop.st = 16 from trips2, show Scf.trips k0_t1_loop.lb k0_t1_loop.ub k0_t1_loop.st = 27 from trips1]
      refine congrArg (fun w => k0_pay1 (k0_pay17 w)) ((View.readAt_full _ _ _).trans (loop_rows Variants.none c none i u1 w1 u2 w2 u3 w3 u4 w4 u5 w5 u6 w6 u7 w7 u8 w8 u9 w9 u10 w10 u11 w11 u12 w12 u13 w13 u14 w14 _ _ (mF x0 x1 x3 x4 x5) x2 hf2 ?_ f6 fs3 _).2.2)
      funext y
      refine loop_m Variants.none c none i u1 w1 u2 w2 u3 w3 u4 w4 u5 w5 u6 w6 u7 w7 u8 w8 u9 w9 u10 w10 u11 w11 u12 w12 u13 w13 u14 w14 _ _ _ _ _ x0 x1 x3 x4 x5 hf1 hf3 hf4 hf5 ?_ fs1 fs2 27 le_rfl y (y 1).isLt
      refine (View.read_writes_full _ _ _ _ _).trans ?_
      rw [View.readAt_full, hf0]
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

variable (m : (ℓ : Loc nD τ sig) → Buf (Elt F) ℓ) (ρ : Dev nD → PrngReg)

/-! ## The pipeline's proof data -/

/-- `m`'s 512 rows at point `t`. -/
def mB (c : Dev nD) (t : Fin cfg0.N) : Vec F S512x6912 .f32 :=
  mF (iblk m c 0 t) (iblk m c 1 t) (iblk m c 3 t) (iblk m c 4 t) (iblk m c 5 t)

/-- The proof data: the arrays as found, each input's block left in place, the outputs at their values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesF (mB m c t) (iblk m c 2 t)
    | ⟨7, _⟩ => k0_pay16 (scaleL (mB m c t) (iblk m c 2 t))
    | ⟨8, _⟩ => k0_pay1 (k0_pay17 (rstdL (mB m c t)))
  Φ _ := Pipeline.ΦA spec0 c
  q _ := fullShare
  owed _ := 0

/-- The proof data's arrays are those found at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesF (mB m c t) (iblk m c 2 t) := by dsimp only [dats]
theorem after0_7 (c : Dev nD) (t : Fin cfg0.N) : (dats m 0 c).after 7 t = k0_pay16 (scaleL (mB m c t) (iblk m c 2 t)) := by dsimp only [dats]
theorem after0_8 (c : Dev nD) (t : Fin cfg0.N) : (dats m 0 c).after 8 t = k0_pay1 (k0_pay17 (rstdL (mB m c t))) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at any point -/

/-- The kernel's scratch buffers, whole. -/
abbrev scM0_0 : Memref sig .tc .vmem S512x2560 .bf16 := Memref.whole cc0_scratch0
abbrev scM0_1 : Memref sig .tc .vmem S2x2560x256 .bf16 := Memref.whole cc0_scratch1
abbrev scM0_2 : Memref sig .tc .vmem S512x6912 .f32 := Memref.whole cc0_scratch2
abbrev scM0_3 : Memref sig .tc .vmem S512x128 .f32 := Memref.whole cc0_scratch3
abbrev scM0_4 : Memref sig .tc .vmem S512x128 .f32 := Memref.whole cc0_scratch4

/-- The invariant between points: the scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 3200000 in
/-- The body at any point takes the blocks to what the proof data states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every execution ends, with the arrays at what the proof data states and every counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl) (Q' := _)

/-- Every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.GateUp.Val
-- ==== Proof.GateUpIdealVal.lean ====
module

public import proofs.«01_k».proof.Proof.Gen.GateUpIdeal.Frame
public import proofs.«01_k».proof.Proof.Gen.GateUpIdeal.Loops
public import Idealize.ShloMosaic.Lib.Claim
public import Idealize.ShloMosaic.Lib.VecWindow
public import Idealize.ShloMosaic.Lib.WritesUnit
public import Idealize.ShloMosaic.Lib.ValueIdxCore

@[expose] public section
set_option maxRecDepth 16384
noncomputable section
namespace Cert.GateUpIdeal.Val
open Cert.GateUpIdeal Cert.GateUpIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The first loop runs 27 trips. -/
theorem trips1 : k0_t1_loop.trips = 27 := by decide +kernel

/-- The second loop runs 16 trips. -/
theorem trips2 : k0_t2_loop.trips = 16 := by decide +kernel

/-- Trip `k` of the first loop stores 256 columns of `m` from column `256 * k`. -/
theorem off2_eq (k : Fin k0_t1_loop.trips) : k0_off2 k = ![0, 256 * k.val] := by
  revert k; decide +kernel

/-- Trip `k` of the second loop works on 32 rows from row `32 * k`. -/
theorem off3_eq (k : Fin k0_t2_loop.trips) : k0_off3 k = ![32 * k.val, 0] := by
  revert k; decide +kernel

/-- The same rows of the lane buffers. -/
theorem off4_eq (k : Fin k0_t2_loop.trips) : k0_off4 k = ![32 * k.val, 0] := by
  revert k; decide +kernel

/-- The field of the packed byte that 128-column tile `t` holds. -/
def fldN (t : ℕ) : ℕ := if t < 14 then 0 else if t < 27 then 1 else if t < 41 then 2 else 3

/-- The same as a word. -/
def fldW (t : ℕ) : BitVec 32 := BitVec.ofNat 32 (fldN t)

/-- Two 128-column tiles side by side. -/
def pair (l r : Vec F S1x2560x128 .bf16) : Vec F S1x2560x256 .bf16 := fun i =>
  if h : (i 2).val < 128 then l (ix3 0 (i 1) ⟨(i 2).val, h⟩)
  else r (ix3 0 (i 1) ⟨(i 2).val - 128, by have : (i 2).val < 256 := (i 2).isLt; omega⟩)

/-- The packed tile that half `h` of trip `k` reads. -/
abbrev tileT (x : Vec F S2560x1792 .i8) (k : Fin k0_t1_loop.trips) (h : BitVec 32)
    (hb : ∀ a, k0_off1 k h a + S2560x128.size a ≤ S2560x1792.size a) : Vec F S2560x128 .i8 :=
  VecWindow.window x (k0_off1 k h) S2560x128.size hb

/-- The unpacked gate weights of trip `k`. -/
def wgT (x : Vec F S2560x1792 .i8) (k : Fin k0_t1_loop.trips) : Vec F S1x2560x256 .bf16 :=
  pair (k0_pay2 0#32 1#32 k (tileT x k 0#32 (k0_off1_inb k 0)))
    (k0_pay5 (Scalar.muli 2#32 (fldW (2 * k.val + 1))) (k0_pay4 (tileT x k 1#32 (k0_off1_inb k 1))))

/-- The unpacked up weights of trip `k`. -/
def wuT (x : Vec F S2560x1792 .i8) (k : Fin k0_t1_loop.trips) : Vec F S1x2560x256 .bf16 :=
  pair (k0_pay3 (fldW (2 * k.val)) (tileT x k 0#32 (k0_off1_inb k 0)))
    (k0_pay6 (fldW (2 * k.val + 1)) (tileT x k 1#32 (k0_off1_inb k 1)))

/-- What trip `k` of the first loop stores: 256 columns of `m`. -/
def mT (x0 : Vec F S512x2560 .i8) (x1 : Vec F S512x1 .f32) (x3 : Vec F S2 .f32) (x4 x5 : Vec F S2560x1792 .i8)
    (k : Fin k0_t1_loop.trips) : Vec F S512x256 .f32 :=
  k0_pay14 (k0_pay7 (k0_pay13 x0) (wgT x4 k) x1 (x3 (ix1 0))) (k0_pay13 x0) (wuT x5 k) x1 (x3 (ix1 1))

/-- `m` after the first loop. -/
def mF (x0 : Vec F S512x2560 .i8) (x1 : Vec F S512x1 .f32) (x3 : Vec F S2 .f32) (x4 x5 : Vec F S2560x1792 .i8) :
    Vec F S512x6912 .f32 := fun i =>
  mT x0 x1 x3 x4 x5 ⟨(i 1).val / 256, by have : (i 1).val < 6912 := (i 1).isLt; rw [trips1]; omega⟩
    (ix2 (i 0) ⟨(i 1).val % 256, Nat.mod_lt _ (by decide)⟩)

/-- The 32 rows of `m` that trip `k` of the second loop reads. -/
abbrev rowsT (mm : Vec F S512x6912 .f32) (k : Fin k0_t2_loop.trips) : Vec F S32x6912 .f32 :=
  VecWindow.window mm (k0_off3 k) S32x6912.size (k0_off3_inb k)

/-- The trip of the second loop that works on row `r`. -/
def rowTrip (r : Fin 512) : Fin k0_t2_loop.trips := ⟨r.val / 32, by have := r.isLt; rw [trips2]; omega⟩

/-- The row of that trip's strip. -/
def rowIn (r : Fin 512) : Fin 32 := ⟨r.val % 32, Nat.mod_lt _ (by decide)⟩

/-- The codes of `m`'s normalized rows. -/
def codesF (mm : Vec F S512x6912 .f32) (x2 : Vec F S1x6912 .f32) : Vec F S512x6912 .i8 := fun i =>
  k0_pay11 (rowsT mm (rowTrip (i 0))) x2 (ix2 (rowIn (i 0)) (i 1))

/-- Each row's scale, in every lane. -/
def scaleL (mm : Vec F S512x6912 .f32) (x2 : Vec F S1x6912 .f32) : Vec F S512x128 .f32 := fun i =>
  k0_pay12 (rowsT mm (rowTrip (i 0))) x2 (ix2 (rowIn (i 0)) (i 1))

/-- Each row's reciprocal root mean square, in every lane. -/
def rstdL (mm : Vec F S512x6912 .f32) : Vec F S512x128 .f32 := fun i =>
  k0_pay15 (k0_pay8 (rowsT mm (rowTrip (i 0)))) (ix2 (rowIn (i 0)) (i 1))

/-- The weight buffer after the four tiles are stored, read at an index: a slab is its two tiles side by side. -/
theorem slabAt (v : View sig .tc .vmem S2x2560x256 .bf16) (f : BufTy.Contents (Elt F) v.ty) (gl ul gr ur : Vec F S1x2560x128 .bf16) (y : S2x2560x256.Idx) :
    v.read (Elt F) (v.writes (Elt F) f [⟨Rect.unit (s := S2x2560x256) ![1, 0, 128] S1x2560x128.size inb_S2x2560x256_S1x2560x128_1_0_128, ur⟩,
        ⟨Rect.unit (s := S2x2560x256) ![0, 0, 128] S1x2560x128.size inb_S2x2560x256_S1x2560x128_0_0_128, gr⟩,
        ⟨Rect.unit (s := S2x2560x256) ![1, 0, 0] S1x2560x128.size inb_S2x2560x256_S1x2560x128_1_0_0, ul⟩,
        ⟨Rect.unit (s := S2x2560x256) ![0, 0, 0] S1x2560x128.size inb_S2x2560x256_S1x2560x128_0_0_0, gl⟩]) y
      = (if (y 0).val = 0 then pair gl gr else pair ul ur) (ix3 0 (y 1) (y 2)) := by
  have h0 : (y 0).val < 2 := (y 0).isLt
  have h2 : (y 2).val < 256 := (y 2).isLt
  by_cases hs : (y 0).val = 0 <;> by_cases h : (y 2).val < 128
  · rw [if_pos hs, pair, dif_pos h, View.read_writes_cons_unit_of_not_mem _ _ _ _ _ y rfl (2 : Fin 3) (Or.inl h),
      View.read_writes_cons_unit_of_not_mem _ _ _ _ _ y rfl (2 : Fin 3) (Or.inl h),
      View.read_writes_cons_unit_of_not_mem _ _ _ _ _ y rfl (0 : Fin 3) (Or.inl (by show (y 0).val < 1; omega))]
    refine View.read_writes_cons_unit_of_mem _ _ _ _ _ y (ix3 0 (y 1) ⟨(y 2).val, h⟩) rfl fun a => ?_
    match a with
    | 0 => show (y 0).val = 0 + 0; omega
    | 1 => exact (Nat.zero_add _).symm
    | 2 => show (y 2).val = 0 + (y 2).val; omega
  · rw [if_pos hs, pair, dif_neg h, View.read_writes_cons_unit_of_not_mem _ _ _ _ _ y rfl (0 : Fin 3) (Or.inl (by show (y 0).val < 1; omega))]
    refine View.read_writes_cons_unit_of_mem _ _ _ _ _ y (ix3 0 (y 1) ⟨(y 2).val - 128, by omega⟩) rfl fun a => ?_
    match a with
    | 0 => show (y 0).val = 0 + 0; omega
    | 1 => exact (Nat.zero_add _).symm
    | 2 => show (y 2).val = 128 + ((y 2).val - 128); omega
  · rw [if_neg hs, pair, dif_pos h, View.read_writes_cons_unit_of_not_mem _ _ _ _ _ y rfl (2 : Fin 3) (Or.inl h),
      View.read_writes_cons_unit_of_not_mem _ _ _ _ _ y rfl (2 : Fin 3) (Or.inl h)]
    refine View.read_writes_cons_unit_of_mem _ _ _ _ _ y (ix3 0 (y 1) ⟨(y 2).val, h⟩) rfl fun a => ?_
    match a with
    | 0 => show (y 0).val = 1 + 0; omega
    | 1 => exact (Nat.zero_add _).symm
    | 2 => show (y 2).val = 0 + (y 2).val; omega
  · rw [if_neg hs, pair, dif_neg h]
    refine View.read_writes_cons_unit_of_mem _ _ _ _ _ y (ix3 0 (y 1) ⟨(y 2).val - 128, by omega⟩) rfl fun a => ?_
    match a with
    | 0 => show (y 0).val = 1 + 0; omega
    | 1 => exact (Nat.zero_add _).symm
    | 2 => show (y 2).val = 128 + ((y 2).val - 128); omega

/-- A load of either slab after the four tiles are stored. -/
theorem slab (v : View sig .tc .vmem S2x2560x256 .bf16) (gl ul gr ur : Vec F S1x2560x128 .bf16) :
    v.readCov (Val := Elt F) [⟨Rect.unit (s := S2x2560x256) ![1, 0, 128] S1x2560x128.size inb_S2x2560x256_S1x2560x128_1_0_128, ur⟩,
        ⟨Rect.unit (s := S2x2560x256) ![0, 0, 128] S1x2560x128.size inb_S2x2560x256_S1x2560x128_0_0_128, gr⟩,
        ⟨Rect.unit (s := S2x2560x256) ![1, 0, 0] S1x2560x128.size inb_S2x2560x256_S1x2560x128_1_0_0, ul⟩,
        ⟨Rect.unit (s := S2x2560x256) ![0, 0, 0] S1x2560x128.size inb_S2x2560x256_S1x2560x128_0_0_0, gl⟩]
      (Rect.unit (s := S2x2560x256) ![0, 0, 0] S1x2560x256.size inb_S2x2560x256_S1x2560x256_0_0_0).toLoadRect = pair gl gr
    ∧ v.readCov (Val := Elt F) [⟨Rect.unit (s := S2x2560x256) ![1, 0, 128] S1x2560x128.size inb_S2x2560x256_S1x2560x128_1_0_128, ur⟩,
        ⟨Rect.unit (s := S2x2560x256) ![0, 0, 128] S1x2560x128.size inb_S2x2560x256_S1x2560x128_0_0_128, gr⟩,
        ⟨Rect.unit (s := S2x2560x256) ![1, 0, 0] S1x2560x128.size inb_S2x2560x256_S1x2560x128_1_0_0, ul⟩,
        ⟨Rect.unit (s := S2x2560x256) ![0, 0, 0] S1x2560x128.size inb_S2x2560x256_S1x2560x128_0_0_0, gl⟩]
      (Rect.unit (s := S2x2560x256) ![1, 0, 0] S1x2560x256.size inb_S2x2560x256_S1x2560x256_1_0_0).toLoadRect = pair ul ur := by
  constructor <;> unfold View.readCov <;> funext j
  · refine (slabAt v _ gl ul gr ur _).trans ?_
    have h0 : (j 0).val < 1 := (j 0).isLt
    rw [if_pos (by show 0 + 1 * (j 0).val = 0; omega)]
    exact congrArg (pair gl gr) (funext fun a => Fin.ext (match a with
      | 0 => by show 0 = (j 0).val; omega
      | 1 => by show 0 + 1 * (j 1).val = (j 1).val; omega
      | 2 => by show 0 + 1 * (j 2).val = (j 2).val; omega))
  · refine (slabAt v _ gl ul gr ur _).trans ?_
    have h0 : (j 0).val < 1 := (j 0).isLt
    rw [if_neg (by show ¬(1 + 1 * (j 0).val = 0); omega)]
    exact congrArg (pair ul ur) (funext fun a => Fin.ext (match a with
      | 0 => by show 0 = (j 0).val; omega
      | 1 => by show 0 + 1 * (j 1).val = (j 1).val; omega
      | 2 => by show 0 + 1 * (j 2).val = (j 2).val; omega))

/-- The body's own words for the field are `fldW`. -/
theorem fld_even (k : Fin k0_t1_loop.trips) :
    Scalar.addi (Scalar.addi (Scalar.extui (Scalar.cmpi .sge (Scalar.addi (Scalar.muli 2#32 (Scf.iv 0#32 1#32 k)) 0#32) 14#32))
      (Scalar.extui (Scalar.cmpi .sge (Scalar.addi (Scalar.muli 2#32 (Scf.iv 0#32 1#32 k)) 0#32) 27#32)))
      (Scalar.extui (Scalar.cmpi .sge (Scalar.addi (Scalar.muli 2#32 (Scf.iv 0#32 1#32 k)) 0#32) 41#32)) = fldW (2 * k.val) := by
  revert k; decide +kernel

theorem fld_odd (k : Fin k0_t1_loop.trips) :
    Scalar.addi (Scalar.addi (Scalar.extui (Scalar.cmpi .sge (Scalar.addi (Scalar.muli 2#32 (Scf.iv 0#32 1#32 k)) 1#32) 14#32))
      (Scalar.extui (Scalar.cmpi .sge (Scalar.addi (Scalar.muli 2#32 (Scf.iv 0#32 1#32 k)) 1#32) 27#32)))
      (Scalar.extui (Scalar.cmpi .sge (Scalar.addi (Scalar.muli 2#32 (Scf.iv 0#32 1#32 k)) 1#32) 41#32)) = fldW (2 * k.val + 1) := by
  revert k; decide +kernel

section
variable (𝒱 : Variants) (c : Dev nD) (bd : Option 𝒱.V) (i : grid0.Coords) (u1 : Memref sig .tc .vmem S512x2560 .i8) (w1 : u1.IsWhole) (u2 : Memref sig .tc .vmem S512x1 .f32) (w2 : u2.IsWhole) (u3 : Memref sig .tc .vmem S1x6912 .f32) (w3 : u3.IsWhole) (u4 : Memref sig .tc .smem S2 .f32) (w4 : u4.IsWhole) (u5 : Memref sig .tc .vmem S2560x1792 .i8) (w5 : u5.IsWhole) (u6 : Memref sig .tc .vmem S2560x1792 .i8) (w6 : u6.IsWhole) (u7 : Memref sig .tc .vmem S512x6912 .i8) (w7 : u7.IsWhole) (u8 : Memref sig .tc .vmem S1x4x128 .f32) (w8 : u8.IsWhole) (u9 : Memref sig .tc .vmem S1x4x128 .f32) (w9 : u9.IsWhole) (u10 : Memref sig .tc .vmem S512x2560 .bf16) (w10 : u10.IsWhole) (u11 : Memref sig .tc .vmem S2x2560x256 .bf16) (w11 : u11.IsWhole) (u12 : Memref sig .tc .vmem S512x6912 .f32) (w12 : u12.IsWhole) (u13 : Memref sig .tc .vmem S512x128 .f32) (w13 : u13.IsWhole) (u14 : Memref sig .tc .vmem S512x128 .f32) (w14 : u14.IsWhole)
section
variable (X2 : BufTy.Contents (Elt F) u2.view.ty) (X4 : BufTy.Contents (Elt F) u4.view.ty) (X5 : BufTy.Contents (Elt F) u5.view.ty) (X6 : BufTy.Contents (Elt F) u6.view.ty) (X10 : BufTy.Contents (Elt F) u10.view.ty)

/-- The one piece trip `k` stores into `m`, whatever the two written buffers held before. -/
theorem trip_m (x0 : Vec F S512x2560 .i8) (x1 : Vec F S512x1 .f32) (x3 : Vec F S2 .f32) (x4 x5 : Vec F S2560x1792 .i8)
    (h2 : u2.view.read (Elt F) X2 = x1) (h4 : u4.view.read (Elt F) X4 = x3)
    (h5 : u5.view.read (Elt F) X5 = x4) (h6 : u6.view.read (Elt F) X6 = x5)
    (h10 : u10.view.read (Elt F) X10 = k0_pay13 x0) (k : Fin k0_t1_loop.trips)
    (f11 : BufTy.Contents (Elt F) u11.view.ty) (f12 : BufTy.Contents (Elt F) u12.view.ty) :
    (trip_k0_t1 (F := F) 𝒱 c bd i u1 w1 u2 w2 u3 w3 u4 w4 u5 w5 u6 w6 u7 w7 u8 w8 u9 w9 u10 w10 u11 w11 u12 w12 u13 w13 u14 w14 X2 X4 X5 X6 X10 k).2.1 f11 f12
      = [⟨Rect.unit (s := S512x6912) (k0_off2 k) S512x256.size (k0_off2_inb k), mT x0 x1 x3 x4 x5 k⟩] := by
  subst h2 h4 h5 h6
  have key : (trip_k0_t1 (F := F) 𝒱 c bd i u1 w1 u2 w2 u3 w3 u4 w4 u5 w5 u6 w6 u7 w7 u8 w8 u9 w9 u10 w10 u11 w11 u12 w12 u13 w13 u14 w14 X2 X4 X5 X6 X10 k).2.1 f11 f12
      = [⟨Rect.unit (s := S512x6912) (k0_off2 k) S512x256.size (k0_off2_inb k),
          k0_pay14 (k0_pay7 (u10.view.read (Elt F) X10) (wgT (u5.view.read (Elt F) X5) k) (u2.view.read (Elt F) X2) (u4.view.read (Elt F) X4 (ix1 0)))
            (u10.view.read (Elt F) X10) (wuT (u6.view.read (Elt F) X6) k) (u2.view.read (Elt F) X2) (u4.view.read (Elt F) X4 (ix1 1))⟩] := by
    unfold trip_k0_t1
    dsimp only
    sl_unfold_words
    refine congrArg (fun w => [(⟨Rect.unit (s := S512x6912) (k0_off2 k) S512x256.size (k0_off2_inb k), w⟩ : View.Piece (Elt F) S512x6912 .f32)]) ?_
    refine congr (congr (congr (congr (congrArg k0_pay14 (congr (congr (congr (congrArg k0_pay7 ?_) ?_) ?_) ?_)) ?_) ?_) ?_) ?_
    · exact View.readAt_full _ _ _
    · refine (slab u11.view _ _ _ _).1.trans (congr (congrArg pair ?_) ?_)
      · rfl
      · exact congr (congrArg k0_pay5 (congrArg (Scalar.muli 2#32) (fld_odd k))) rfl
    · exact View.readAt_full _ _ _
    · exact congrArg (u4.view.read (Elt F) X4) (funext (Fin.forall_fin_one.mpr rfl))
    · exact View.readAt_full _ _ _
    · refine (slab u11.view _ _ _ _).2.trans (congr (congrArg pair ?_) ?_)
      · exact congr (congrArg k0_pay3 (fld_even k)) rfl
      · exact congr (congrArg k0_pay6 (fld_odd k)) rfl
    · exact View.readAt_full _ _ _
    · exact congrArg (u4.view.read (Elt F) X4) (funext (Fin.forall_fin_one.mpr rfl))
  rw [key, h10]; rfl

/-- After the trips before `k` the columns of `m` below `256 * k` hold their values. -/
theorem loop_m (x0 : Vec F S512x2560 .i8) (x1 : Vec F S512x1 .f32) (x3 : Vec F S2 .f32) (x4 x5 : Vec F S2560x1792 .i8)
    (h2 : u2.view.read (Elt F) X2 = x1) (h4 : u4.view.read (Elt F) X4 = x3)
    (h5 : u5.view.read (Elt F) X5 = x4) (h6 : u6.view.read (Elt F) X6 = x5)
    (h10 : u10.view.read (Elt F) X10 = k0_pay13 x0)
    (G11 : BufTy.Contents (Elt F) u11.view.ty) (G12 : BufTy.Contents (Elt F) u12.view.ty) (k : ℕ) (hk : k ≤ 27) (y : S512x6912.Idx)
    (hy : (y 1).val < 256 * k) :
    u12.view.read (Elt F) (u12.view.writes (Elt F) G12 (pb_k0_t1 (F := F) 𝒱 c bd i u1 w1 u2 w2 u3 w3 u4 w4 u5 w5 u6 w6 u7 w7 u8 w8 u9 w9 u10 w10 u11 w11 u12 w12 u13 w13 u14 w14 X2 X4 X5 X6 X10 G11 G12 k).2) y
      = mF x0 x1 x3 x4 x5 y := by
  induction k with
  | zero => omega
  | succ k ih =>
    have hk' : k < k0_t1_loop.trips := by rw [trips1]; omega
    rw [pb_k0_t1_succ (F := F) 𝒱 c bd i u1 w1 u2 w2 u3 w3 u4 w4 u5 w5 u6 w6 u7 w7 u8 w8 u9 w9 u10 w10 u11 w11 u12 w12 u13 w13 u14 w14 X2 X4 X5 X6 X10 G11 G12 ⟨k, hk'⟩]
    dsimp only
    rw [trip_m 𝒱 c bd i u1 w1 u2 w2 u3 w3 u4 w4 u5 w5 u6 w6 u7 w7 u8 w8 u9 w9 u10 w10 u11 w11 u12 w12 u13 w13 u14 w14 X2 X4 X5 X6 X10 x0 x1 x3 x4 x5 h2 h4 h5 h6 h10 ⟨k, hk'⟩, List.singleton_append]
    by_cases hlt : (y 1).val < 256 * k
    · rw [View.read_writes_cons_unit_of_not_mem _ _ _ _ _ y (off2_eq ⟨k, hk'⟩) (1 : Fin 2) (Or.inl hlt)]
      exact ih (by omega) hlt
    · have hd : (y 1).val / 256 = k := by omega
      refine (View.read_writes_cons_unit_of_mem _ _ _ _ _ y (ix2 (y 0) ⟨(y 1).val % 256, Nat.mod_lt _ (by decide)⟩) (off2_eq ⟨k, hk'⟩)
        (Fin.forall_fin_two.mpr ⟨(Nat.zero_add _).symm, by show (y 1).val = 256 * k + (y 1).val % 256; omega⟩)).trans ?_
      unfold mF
      subst hd
      rfl
end

variable (X3 : BufTy.Contents (Elt F) u3.view.ty) (X12 : BufTy.Contents (Elt F) u12.view.ty)

/-- The three pieces trip `k` of the second loop stores. -/
theorem trip_rows (mm : Vec F S512x6912 .f32) (x2 : Vec F S1x6912 .f32)
    (h3 : u3.view.read (Elt F) X3 = x2) (h12 : u12.view.read (Elt F) X12 = mm) (k : Fin k0_t2_loop.trips) :
    tripL_k0_t2 (F := F) 𝒱 c bd i u1 w1 u2 w2 u3 w3 u4 w4 u5 w5 u6 w6 u7 w7 u8 w8 u9 w9 u10 w10 u11 w11 u12 w12 u13 w13 u14 w14 X3 X12 k
      = ([⟨Rect.unit (s := S512x6912) (k0_off3 k) S32x6912.size (k0_off3_inb k), k0_pay11 (rowsT mm k) x2⟩],
         [⟨Rect.unit (s := S512x128) (k0_off4 k) S32x128.size (k0_off4_inb k), k0_pay12 (rowsT mm k) x2⟩],
         [⟨Rect.unit (s := S512x128) (k0_off4 k) S32x128.size (k0_off4_inb k), k0_pay15 (k0_pay8 (rowsT mm k))⟩]) := by
  subst h3 h12
  rw [← View.readAt_full u3.view X3 inb_S1x6912_S1x6912_0_0]
  unfold tripL_k0_t2 trip_k0_t2
  dsimp only
  sl_unfold_words
  rfl

/-- A buffer written strip by strip: after the trips before `k` its rows below `32 * k` hold the strips. -/
theorem strips {n : ℕ} {e : EltTy} (v : View sig .tc .vmem ⟨2, ![512, n]⟩ e) (G : BufTy.Contents (Elt F) v.ty)
    (w : Fin k0_t2_loop.trips → Vec F ⟨2, ![32, n]⟩ e) (off : Fin k0_t2_loop.trips → Fin 2 → ℕ)
    (inb : ∀ k a, off k a + (⟨2, ![32, n]⟩ : Shape).size a ≤ (⟨2, ![512, n]⟩ : Shape).size a)
    (hoff : ∀ k, off k = ![32 * k.val, 0]) (L : ℕ → List (View.Piece (Elt F) ⟨2, ![512, n]⟩ e))
    (hL : ∀ k : Fin k0_t2_loop.trips, L (k.val + 1) = ⟨Rect.unit (s := ⟨2, ![512, n]⟩) (off k) (⟨2, ![32, n]⟩ : Shape).size (inb k), w k⟩ :: L k.val)
    (k : ℕ) (hk : k ≤ 16) (y : (⟨2, ![512, n]⟩ : Shape).Idx) (hy : (y 0).val < 32 * k) :
    v.read (Elt F) (v.writes (Elt F) G (L k)) y = w (rowTrip (y 0)) (ix2 (rowIn (y 0)) (y 1)) := by
  induction k with
  | zero => omega
  | succ k ih =>
    have hk' : k < k0_t2_loop.trips := by rw [trips2]; omega
    rw [hL ⟨k, hk'⟩]
    by_cases hlt : (y 0).val < 32 * k
    · rw [View.read_writes_cons_unit_of_not_mem _ _ _ _ _ y (hoff ⟨k, hk'⟩) (0 : Fin 2) (Or.inl hlt)]
      exact ih (by omega) hlt
    · have hd : rowTrip (y 0) = ⟨k, hk'⟩ := Fin.ext (by show (y 0).val / 32 = k; omega)
      refine (View.read_writes_cons_unit_of_mem _ _ _ _ _ y (ix2 (rowIn (y 0)) (y 1)) (hoff ⟨k, hk'⟩)
        (Fin.forall_fin_two.mpr ⟨by show (y 0).val = 32 * k + (y 0).val % 32; omega, (Nat.zero_add _).symm⟩)).trans ?_
      rw [hd]; rfl

/-- What the second loop leaves in its three buffers. -/
theorem loop_rows (mm : Vec F S512x6912 .f32) (x2 : Vec F S1x6912 .f32)
    (h3 : u3.view.read (Elt F) X3 = x2) (h12 : u12.view.read (Elt F) X12 = mm)
    (G7 : BufTy.Contents (Elt F) u7.view.ty) (G13 : BufTy.Contents (Elt F) u13.view.ty) (G14 : BufTy.Contents (Elt F) u14.view.ty) :
    u7.view.read (Elt F) (u7.view.writes (Elt F) G7 (pb_k0_t2 (F := F) 𝒱 c bd i u1 w1 u2 w2 u3 w3 u4 w4 u5 w5 u6 w6 u7 w7 u8 w8 u9 w9 u10 w10 u11 w11 u12 w12 u13 w13 u14 w14 X3 X12 16).1) = codesF mm x2
    ∧ u13.view.read (Elt F) (u13.view.writes (Elt F) G13 (pb_k0_t2 (F := F) 𝒱 c bd i u1 w1 u2 w2 u3 w3 u4 w4 u5 w5 u6 w6 u7 w7 u8 w8 u9 w9 u10 w10 u11 w11 u12 w12 u13 w13 u14 w14 X3 X12 16).2.1) = scaleL mm x2
    ∧ u14.view.read (Elt F) (u14.view.writes (Elt F) G14 (pb_k0_t2 (F := F) 𝒱 c bd i u1 w1 u2 w2 u3 w3 u4 w4 u5 w5 u6 w6 u7 w7 u8 w8 u9 w9 u10 w10 u11 w11 u12 w12 u13 w13 u14 w14 X3 X12 16).2.2) = rstdL mm := by
  have hL := fun k : Fin k0_t2_loop.trips => (pb_k0_t2_succ (F := F) 𝒱 c bd i u1 w1 u2 w2 u3 w3 u4 w4 u5 w5 u6 w6 u7 w7 u8 w8 u9 w9 u10 w10 u11 w11 u12 w12 u13 w13 u14 w14 X3 X12 k).trans
    (by rw [trip_rows 𝒱 c bd i u1 w1 u2 w2 u3 w3 u4 w4 u5 w5 u6 w6 u7 w7 u8 w8 u9 w9 u10 w10 u11 w11 u12 w12 u13 w13 u14 w14 X3 X12 mm x2 h3 h12 k])
  refine ⟨funext fun y => ?_, funext fun y => ?_, funext fun y => ?_⟩
  · exact strips u7.view G7 (fun k => k0_pay11 (rowsT mm k) x2) k0_off3 k0_off3_inb off3_eq
      (fun k => (pb_k0_t2 (F := F) 𝒱 c bd i u1 w1 u2 w2 u3 w3 u4 w4 u5 w5 u6 w6 u7 w7 u8 w8 u9 w9 u10 w10 u11 w11 u12 w12 u13 w13 u14 w14 X3 X12 k).1) (fun k => congrArg (fun p => p.1) (hL k)) 16 le_rfl y (y 0).isLt
  · exact strips u13.view G13 (fun k => k0_pay12 (rowsT mm k) x2) k0_off4 k0_off4_inb off4_eq
      (fun k => (pb_k0_t2 (F := F) 𝒱 c bd i u1 w1 u2 w2 u3 w3 u4 w4 u5 w5 u6 w6 u7 w7 u8 w8 u9 w9 u10 w10 u11 w11 u12 w12 u13 w13 u14 w14 X3 X12 k).2.1) (fun k => congrArg (fun p => p.2.1) (hL k)) 16 le_rfl y (y 0).isLt
  · exact strips u14.view G14 (fun k => k0_pay15 (k0_pay8 (rowsT mm k))) k0_off4 k0_off4_inb off4_eq
      (fun k => (pb_k0_t2 (F := F) 𝒱 c bd i u1 w1 u2 w2 u3 w3 u4 w4 u5 w5 u6 w6 u7 w7 u8 w8 u9 w9 u10 w10 u11 w11 u12 w12 u13 w13 u14 w14 X3 X12 k).2.2) (fun k => congrArg (fun p => p.2.2) (hL k)) 16 le_rfl y (y 0).isLt
end

/-! ## The body at one grid point -/

set_option maxHeartbeats 2000000 in
/-- The body, run on whole buffers: the inputs are handed back as they were, the outputs hold the codes, the scales
    and the reciprocal roots of `m`'s rows. -/
theorem kernelRun (c : Dev nD) (i : grid0.Coords) (u1 : Memref sig .tc .vmem S512x2560 .i8) (w1 : u1.IsWhole) (u2 : Memref sig .tc .vmem S512x1 .f32) (w2 : u2.IsWhole) (u3 : Memref sig .tc .vmem S1x6912 .f32) (w3 : u3.IsWhole) (u4 : Memref sig .tc .smem S2 .f32) (w4 : u4.IsWhole) (u5 : Memref sig .tc .vmem S2560x1792 .i8) (w5 : u5.IsWhole) (u6 : Memref sig .tc .vmem S2560x1792 .i8) (w6 : u6.IsWhole) (u7 : Memref sig .tc .vmem S512x6912 .i8) (w7 : u7.IsWhole) (u8 : Memref sig .tc .vmem S1x4x128 .f32) (w8 : u8.IsWhole) (u9 : Memref sig .tc .vmem S1x4x128 .f32) (w9 : u9.IsWhole) (u10 : Memref sig .tc .vmem S512x2560 .bf16) (w10 : u10.IsWhole) (u11 : Memref sig .tc .vmem S2x2560x256 .bf16) (w11 : u11.IsWhole) (u12 : Memref sig .tc .vmem S512x6912 .f32) (w12 : u12.IsWhole) (u13 : Memref sig .tc .vmem S512x128 .f32) (w13 : u13.IsWhole) (u14 : Memref sig .tc .vmem S512x128 .f32) (w14 : u14.IsWhole)
    (x0 : Vec F S512x2560 .i8) (x1 : Vec F S512x1 .f32) (x2 : Vec F S1x6912 .f32) (x3 : Vec F S2 .f32) (x4 : Vec F S2560x1792 .i8) (x5 : Vec F S2560x1792 .i8) :
      ∀ (E : Set ℕ) (K : PUnit → sProp 𝕄),
        iprop(owns (c : Thread nD τ) u1 fullShare x0 ∗ owns (c : Thread nD τ) u2 fullShare x1 ∗ owns (c : Thread nD τ) u3 fullShare x2 ∗ owns (c : Thread nD τ) u4 fullShare x3 ∗ owns (c : Thread nD τ) u5 fullShare x4 ∗ owns (c : Thread nD τ) u6 fullShare x5 ∗ (∃ d, owns (c : Thread nD τ) u7 fullShare d) ∗ (∃ d, owns (c : Thread nD τ) u8 fullShare d) ∗ (∃ d, owns (c : Thread nD τ) u9 fullShare d) ∗ (∃ d, owns (c : Thread nD τ) u10 fullShare d) ∗ (∃ d, owns (c : Thread nD τ) u11 fullShare d) ∗ (∃ d, owns (c : Thread nD τ) u12 fullShare d) ∗ (∃ d, owns (c : Thread nD τ) u13 fullShare d) ∗ (∃ d, owns (c : Thread nD τ) u14 fullShare d)
            ∗ (iprop(owns (c : Thread nD τ) u1 fullShare x0 ∗ owns (c : Thread nD τ) u2 fullShare x1 ∗ owns (c : Thread nD τ) u3 fullShare x2 ∗ owns (c : Thread nD τ) u4 fullShare x3 ∗ owns (c : Thread nD τ) u5 fullShare x4 ∗ owns (c : Thread nD τ) u6 fullShare x5 ∗ owns (c : Thread nD τ) u7 fullShare (codesF (mF x0 x1 x3 x4 x5) x2) ∗ owns (c : Thread nD τ) u8 fullShare (k0_pay16 (scaleL (mF x0 x1 x3 x4 x5) x2)) ∗ owns (c : Thread nD τ) u9 fullShare (k0_pay1 (k0_pay17 (rstdL (mF x0 x1 x3 x4 x5)))) ∗ (∃ d, owns (c : Thread nD τ) u10 fullShare d) ∗ (∃ d, owns (c : Thread nD τ) u11 fullShare d) ∗ (∃ d, owns (c : Thread nD τ) u12 fullShare d) ∗ (∃ d, owns (c : Thread nD τ) u13 fullShare d) ∗ (∃ d, owns (c : Thread nD τ) u14 fullShare d)) -∗ K ⟨⟩))
          ⊢ wp frame (wpE (defs₀ (F := F)) Variants.none c none) E (cc0_gate_up i u1 w1 u2 w2 u3 w3 u4 w4 u5 w5 u6 w6 u7 w7 u8 w8 u9 w9 u10 w10 u11 w11 u12 w12 u13 w13 u14 w14) K := by
    intro E K
    simp only [cc0_gate_up_eq_skeleton]; unfold cc0_gate_up_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5
    sl_exec
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]
    · iexists _; isplitr; · ipureintro; exact w6.read_unread _
      iexact H5
    isplitl [H6]
    · iexists _; isplitr; swap; · iexact H6
      ipureintro
      sl_unfold_words
      rw [show Scf.trips k0_t2_loop.lb k0_t2_loop.ub k0_t2_loop.st = 16 from trips2, show Scf.trips k0_t1_loop.lb k0_t1_loop.ub k0_t1_loop.st = 27 from trips1]
      refine (loop_rows Variants.none c none i u1 w1 u2 w2 u3 w3 u4 w4 u5 w5 u6 w6 u7 w7 u8 w8 u9 w9 u10 w10 u11 w11 u12 w12 u13 w13 u14 w14 _ _ (mF x0 x1 x3 x4 x5) x2 hf2 ?_ f6 fs3 fs4).1
      funext y
      refine loop_m Variants.none c none i u1 w1 u2 w2 u3 w3 u4 w4 u5 w5 u6 w6 u7 w7 u8 w8 u9 w9 u10 w10 u11 w11 u12 w12 u13 w13 u14 w14 _ _ _ _ _ x0 x1 x3 x4 x5 hf1 hf3 hf4 hf5 ?_ fs1 fs2 27 le_rfl y (y 1).isLt
      refine (View.read_writes_full _ _ _ _ _).trans ?_
      rw [View.readAt_full, hf0]
    isplitl [H7]
    · iexists _; isplitr; swap; · iexact H7
      ipureintro
      refine (View.read_writes_full _ _ _ _ _).trans ?_
      sl_unfold_words
      rw [show Scf.trips k0_t2_loop.lb k0_t2_loop.ub k0_t2_loop.st = 16 from trips2, show Scf.trips k0_t1_loop.lb k0_t1_loop.ub k0_t1_loop.st = 27 from trips1]
      refine congrArg k0_pay16 ((View.readAt_full _ _ _).trans (loop_rows Variants.none c none i u1 w1 u2 w2 u3 w3 u4 w4 u5 w5 u6 w6 u7 w7 u8 w8 u9 w9 u10 w10 u11 w11 u12 w12 u13 w13 u14 w14 _ _ (mF x0 x1 x3 x4 x5) x2 hf2 ?_ f6 _ fs4).2.1)
      funext y
      refine loop_m Variants.none c none i u1 w1 u2 w2 u3 w3 u4 w4 u5 w5 u6 w6 u7 w7 u8 w8 u9 w9 u10 w10 u11 w11 u12 w12 u13 w13 u14 w14 _ _ _ _ _ x0 x1 x3 x4 x5 hf1 hf3 hf4 hf5 ?_ fs1 fs2 27 le_rfl y (y 1).isLt
      refine (View.read_writes_full _ _ _ _ _).trans ?_
      rw [View.readAt_full, hf0]
    isplitl [H8]
    · iexists _; isplitr; swap; · iexact H8
      ipureintro
      refine (View.read_writes_full _ _ _ _ _).trans ?_
      sl_unfold_words
      rw [show Scf.trips k0_t2_loop.lb k0_t2_loop.ub k0_t2_loop.st = 16 from trips2, show Scf.trips k0_t1_loop.lb k0_t1_loop.ub k0_t1_loop.st = 27 from trips1]
      refine congrArg (fun w => k0_pay1 (k0_pay17 w)) ((View.readAt_full _ _ _).trans (loop_rows Variants.none c none i u1 w1 u2 w2 u3 w3 u4 w4 u5 w5 u6 w6 u7 w7 u8 w8 u9 w9 u10 w10 u11 w11 u12 w12 u13 w13 u14 w14 _ _ (mF x0 x1 x3 x4 x5) x2 hf2 ?_ f6 fs3 _).2.2)
      funext y
      refine loop_m Variants.none c none i u1 w1 u2 w2 u3 w3 u4 w4 u5 w5 u6 w6 u7 w7 u8 w8 u9 w9 u10 w10 u11 w11 u12 w12 u13 w13 u14 w14 _ _ _ _ _ x0 x1 x3 x4 x5 hf1 hf3 hf4 hf5 ?_ fs1 fs2 27 le_rfl y (y 1).isLt
      refine (View.read_writes_full _ _ _ _ _).trans ?_
      rw [View.readAt_full, hf0]
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

variable (m : (ℓ : Loc nD τ sig) → Buf (Elt F) ℓ) (ρ : Dev nD → PrngReg)

/-! ## The pipeline's proof data -/

/-- `m`'s 512 rows at point `t`. -/
def mB (c : Dev nD) (t : Fin cfg0.N) : Vec F S512x6912 .f32 :=
  mF (iblk m c 0 t) (iblk m c 1 t) (iblk m c 3 t) (iblk m c 4 t) (iblk m c 5 t)

/-- The proof data: the arrays as found, each input's block left in place, the outputs at their values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesF (mB m c t) (iblk m c 2 t)
    | ⟨7, _⟩ => k0_pay16 (scaleL (mB m c t) (iblk m c 2 t))
    | ⟨8, _⟩ => k0_pay1 (k0_pay17 (rstdL (mB m c t)))
  Φ _ := Pipeline.ΦA spec0 c
  q _ := fullShare
  owed _ := 0

/-- The proof data's arrays are those found at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesF (mB m c t) (iblk m c 2 t) := by dsimp only [dats]
theorem after0_7 (c : Dev nD) (t : Fin cfg0.N) : (dats m 0 c).after 7 t = k0_pay16 (scaleL (mB m c t) (iblk m c 2 t)) := by dsimp only [dats]
theorem after0_8 (c : Dev nD) (t : Fin cfg0.N) : (dats m 0 c).after 8 t = k0_pay1 (k0_pay17 (rstdL (mB m c t))) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at any point -/

/-- The kernel's scratch buffers, whole. -/
abbrev scM0_0 : Memref sig .tc .vmem S512x2560 .bf16 := Memref.whole cc0_scratch0
abbrev scM0_1 : Memref sig .tc .vmem S2x2560x256 .bf16 := Memref.whole cc0_scratch1
abbrev scM0_2 : Memref sig .tc .vmem S512x6912 .f32 := Memref.whole cc0_scratch2
abbrev scM0_3 : Memref sig .tc .vmem S512x128 .f32 := Memref.whole cc0_scratch3
abbrev scM0_4 : Memref sig .tc .vmem S512x128 .f32 := Memref.whole cc0_scratch4

/-- The invariant between points: the scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 3200000 in
/-- The body at any point takes the blocks to what the proof data states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every execution ends, with the arrays at what the proof data states and every counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl) (Q' := _)

/-- Every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.GateUpIdeal.Val
-- ==== Proof.RowQuant.lean ====
module

public import Idealize.ShloMosaic.Lib.Pointwise
public import Idealize.ShloMosaic.Lib.IdealHost

@[expose] public section
noncomputable section
/-! Root-mean-square normalisation and int8 quantisation of one row, as functions of the row's entries: the formulas that
    both the kernels and the references compute row by row. -/
namespace Cert.RowQuant
open Idealize.ShloMosaic

/-- One over the root of a row's mean square (`d` the row's length as the programs write it) plus 1e-5. -/
def rstd {n : ℕ} (d : EReal) (v : Fin n → EReal) : EReal :=
  Ideal.rsqrt (Ideal.div (∑ x, v x * v x) d + Ideal.ofBits FTy.f32 0x3727C5AC#32)

/-- A row's greatest absolute value. -/
def amax {n : ℕ} (u : Fin n → EReal) : EReal :=
  Finset.fold max (Ideal.ofBits FTy.f32 0xFF800000#32) (fun x => FloatOps.absf (F := Ideal) (φ := .f32) (u x)) Finset.univ

/-- The quantisation scale from the greatest absolute value: it over 127, or 1 where it is 0. -/
def scale (a : EReal) : EReal := if a = 0 then 1 else Ideal.div a (Ideal.ofBits FTy.f32 0x42FE0000#32)

/-- A quotient rounded half to even and clipped to [−127, 127]. -/
def clip (q : EReal) : EReal :=
  min (Ideal.ofBits FTy.f32 0x42FE0000#32) (max (Ideal.ofBits FTy.f32 0xC2FE0000#32) (Ideal.liftRound Ideal.roundHalfEven q))

/-- The int8 code of a quotient. -/
def code (q : EReal) : BitVec 8 := Ideal.fptosi 8 (clip q)

theorem word_127 : Ideal.ofBits FTy.f32 0x42FE0000#32 = ((127 : ℝ) : EReal) := by
  simp [Ideal.ofBits, Ideal.ieee, -EReal.coe_mul, -EReal.coe_neg]; norm_num

theorem word_m127 : Ideal.ofBits FTy.f32 0xC2FE0000#32 = ((-127 : ℝ) : EReal) := by
  simp [Ideal.ofBits, Ideal.ieee, -EReal.coe_mul, -EReal.coe_neg]; norm_num

/-- Whatever the quotient, the clipped one is a real between −127 and 127. -/
theorem clip_real (q : EReal) : ∃ r : ℝ, clip q = (r : EReal) ∧ -127 ≤ r ∧ r ≤ 127 := by
  unfold clip
  rw [word_127, word_m127]
  have hmin : ∀ a b : ℝ, min (a : EReal) (b : EReal) = ((min a b : ℝ) : EReal) := fun a b => (EReal.coe_strictMono.monotone.map_min).symm
  have hmax : ∀ a b : ℝ, max (a : EReal) (b : EReal) = ((max a b : ℝ) : EReal) := fun a b => (EReal.coe_strictMono.monotone.map_max).symm
  generalize Ideal.liftRound Ideal.roundHalfEven q = z
  induction z with
  | bot => exact ⟨-127, by rw [max_eq_left bot_le, hmin]; norm_num, le_refl _, by norm_num⟩
  | top => exact ⟨127, by rw [max_eq_right le_top, min_eq_left le_top], by norm_num, le_refl _⟩
  | coe z => exact ⟨min 127 (max (-127) z), by rw [hmax, hmin], le_min (by norm_num) (le_max_left _ _), min_le_left _ _⟩

/-- A clipped quotient converted to 32 bits and cut to 8 is the one converted to 8 bits. -/
theorem code_narrow (q : EReal) : (Ideal.fptosi 32 (clip q)).setWidth 8 = code q := by
  obtain ⟨r, e, h1, h2⟩ := clip_real q
  unfold code
  rw [e]
  unfold Ideal.fptosi
  show (BitVec.ofInt 32 (max _ (min _ (if 0 ≤ r then ⌊r⌋ else ⌈r⌉)))).setWidth 8 = BitVec.ofInt 8 (max _ (min _ (if 0 ≤ r then ⌊r⌋ else ⌈r⌉)))
  have hz : -127 ≤ (if 0 ≤ r then ⌊r⌋ else ⌈r⌉) ∧ (if 0 ≤ r then ⌊r⌋ else ⌈r⌉) ≤ 127 := by
    split
    · exact ⟨Int.le_floor.2 (by push_cast; linarith), Int.floor_le_iff.2 (by push_cast; linarith)⟩
    · exact ⟨Int.le_ceil_iff.2 (by push_cast; linarith), Int.ceil_le.2 (by push_cast; linarith)⟩
  generalize (if 0 ≤ r then ⌊r⌋ else ⌈r⌉) = z at hz ⊢
  obtain ⟨ha, hb⟩ := hz
  have k32 : max (-((2 ^ (32 - 1) : ℕ) : ℤ)) (min (((2 ^ (32 - 1) : ℕ) : ℤ) - 1) z) = z := by push_cast; omega
  have k8 : max (-((2 ^ (8 - 1) : ℕ) : ℤ)) (min (((2 ^ (8 - 1) : ℕ) : ℤ) - 1) z) = z := by push_cast; omega
  rw [k32, k8]
  interval_cases z <;> rfl

/-- Of a square's column masked to its diagonal, the sum is the diagonal entry. -/
theorem diag_sum (f : Fin 128 → EReal) (b : Fin 128) :
    (∑ x : Fin 128, Scalar.select (IntOp.cmpi CmpIPredicate.eq (BitVec.ofNat 32 x.val) (BitVec.ofNat 32 b.val)) (f x) 0) = f b := by
  rw [Finset.sum_eq_single b]
  · have : IntOp.cmpi CmpIPredicate.eq (BitVec.ofNat 32 b.val) (BitVec.ofNat 32 b.val) = 1#1 := by revert b; decide +kernel
    rw [this]; rfl
  · intro x _ hx
    have : IntOp.cmpi CmpIPredicate.eq (BitVec.ofNat 32 x.val) (BitVec.ofNat 32 b.val) = 0#1 := by
      revert x b; decide +kernel
    rw [this]; rfl
  · intro h; exact absurd (Finset.mem_univ _) h

end Cert.RowQuant
-- ==== Proof.Repack.lean ====
module

public import proofs.«01_k».proof.Defs
public import proofs.«01_k».proof.Proof.Tern
public import proofs.«01_k».proof.Proof.Gen.GateUpIdeal.Frame
public import Idealize.ShloMosaic.Lib.Routing.OpsSet

@[expose] public section
set_option maxRecDepth 16384
noncomputable section
/-! The gate/up weights as the kernel repacks them before its loop: what byte stands at each packed column, and that the
    fields of the repacked bytes, tile by tile, are the packed weights' columns in order. -/
namespace Cert.GateUpIdeal.Repack
open Cert.GateUpIdeal Cert.GateUpIdeal.Gen
open Idealize.ShloMosaic Idealize.ShloMosaic.TcCoe
open Cert.Tern Idealize.ShloMosaic.Routing

/-- The weights padded with 64 zero columns. -/
def padH (w : IVec S2560x1728 8) : IVec S2560x1792 8 :=
  pad S2560x1792 ![0, 0] ![0, 64] ![0, 0] w (trunci 8 (constantI S_ 32 0#32) natLt_8_32) pads_S2560x1728_S2560x1792_000_0640 h_S_

/-- The padded weights rolled right by 64 columns. -/
def rollH (w : IVec S2560x1728 8) : IVec S2560x1792 8 :=
  concatenate S2560x1792 1 [⟨S2560x64, extractStridedSlice S2560x64 ![0, 1728] (padH w) slices_S2560x1792_S2560x64_0_1728⟩,
    ⟨S2560x1728, extractStridedSlice S2560x1728 ![0, 0] (padH w) slices_S2560x1792_S2560x1728_0_0⟩] concatenates_S2560x64_S2560x1728_S2560x1792_d1

/-- The first 64 columns, each byte shifted down by one field. -/
def updH (w : IVec S2560x1728 8) : IVec S2560x64 8 :=
  trunci 8 (Host.shrui (extui 32 (extractStridedSlice S2560x64 ![0, 0] w slices_S2560x1728_S2560x64_0_0) natLt_8_32)
    (broadcastInDim S2560x64 ![] bcast_S_S2560x64 (constantI S_ 32 2#32))) natLt_8_32

/-- The padded weights with the padding overwritten by those. -/
def lowH (w : IVec S2560x1728 8) : IVec S2560x1792 8 :=
  Host.scatter scatter_S2560x1792_S1_S2560x64_01_n_1_0 (fun _ b => b) (padH w) (broadcastInDim S1 ![] bcast_S_S1 (constantI S_ 32 1728#32)) (updH w)

/-- The repacked weights: fields 0 and 2 from `lowH`, fields 1 and 3 from `rollH`. -/
def repackH (w : IVec S2560x1728 8) : IVec S2560x1792 8 :=
  trunci 8 (ori (andi (extui 32 (lowH w) natLt_8_32) (broadcastInDim S2560x1792 ![] bcast_S_S2560x1792 (constantI S_ 32 51#32)))
    (andi (extui 32 (rollH w) natLt_8_32) (broadcastInDim S2560x1792 ![] bcast_S_S2560x1792 (constantI S_ 32 204#32)))) natLt_8_32

/-- The padded weights at a column before the padding. -/
theorem padH_lt (w : IVec S2560x1728 8) (k : Fin 2560) (p : Fin 1792) (h : p.val < 1728) : padH w (ix2 k p) = w (ix2 k ⟨p.val, h⟩) := by
  pointwise [padH]
  exact dif_pos h

/-- The rolled weights past the 64 columns rolled in. -/
theorem rollH_ge (w : IVec S2560x1728 8) (k : Fin 2560) (p : Fin 1792) (h : 64 ≤ p.val) : rollH w (ix2 k p) = w (ix2 k ⟨p.val - 64, by omega⟩) := by
  pointwise [rollH]
  exact (dif_neg (by omega)).trans (padH_lt w k _ _)

/-- The shifted first columns. -/
theorem updH_apply (w : IVec S2560x1728 8) (k : Fin 2560) (p : Fin 64) : updH w (ix2 k p) = w (ix2 k ⟨p.val, by omega⟩) >>> 2 := by
  pointwise [updH]
  generalize w _ = b
  revert b; decide +kernel

/-- Update (k, q) of the scatter lands at column 1728 + q. -/
theorem lands (k : Fin 2560) (q : Fin 64) :
    scatter_S2560x1792_S1_S2560x64_01_n_1_0.resultIdx? (ix2 k q) (broadcastInDim S1 ![] bcast_S_S1 (constantI S_ 32 1728#32))
      = some (ix2 k (⟨1728 + q.val, by omega⟩ : Fin 1792)) := by
  have e : ∀ a : Fin 2, scatter_S2560x1792_S1_S2560x64_01_n_1_0.start (ix2 k q) (broadcastInDim S1 ![] bcast_S_S1 (constantI S_ 32 1728#32)) a
      + scatter_S2560x1792_S1_S2560x64_01_n_1_0.window (ix2 k q) a = ((![k.val, 1728 + q.val] a : ℕ) : ℤ) := fun a => by
    match a with
    | 0 =>
      show (0 : ℤ) + (k.val : ℤ) = (k.val : ℤ)
      omega
    | 1 =>
      show ((1728#32 : BitVec 32).toInt : ℤ) + (q.val : ℤ) = ((1728 + q.val : ℕ) : ℤ)
      have : ((1728#32 : BitVec 32).toInt : ℤ) = 1728 := by decide
      omega
  unfold ScatterDims.resultIdx?
  rw [dif_pos (fun a => by
    rw [e a]
    match a with
    | 0 => exact ⟨by positivity, by show ((k.val : ℕ) : ℤ) < (2560 : ℕ); have := k.isLt; omega⟩
    | 1 => exact ⟨by positivity, by show ((1728 + q.val : ℕ) : ℤ) < (1792 : ℕ); have := q.isLt; omega⟩)]
  refine congrArg some (funext fun a => Fin.ext ?_)
  match a with
  | 0 => exact (congrArg Int.toNat (e 0)).trans (Int.toNat_natCast _)
  | 1 => exact (congrArg Int.toNat (e 1)).trans (Int.toNat_natCast _)

/-- The overwritten weights before the padding. -/
theorem lowH_lt (w : IVec S2560x1728 8) (k : Fin 2560) (p : Fin 1792) (h : p.val < 1728) : lowH w (ix2 k p) = w (ix2 k ⟨p.val, h⟩) := by
  unfold lowH
  refine (scatter_set_miss _ _ _ _ _ fun j hj => ?_).trans (padH_lt w k p h)
  obtain ⟨k', q, rfl⟩ : ∃ (k' : Fin 2560) (q : Fin 64), j = ix2 k' q := ⟨_, _, eq_ix2 (n0 := 2560) (n1 := 64) j⟩
  rw [lands] at hj
  have : 1728 + q.val = p.val := congrArg (fun z : S2560x1792.Idx => (z 1).val) (Option.some.inj hj)
  omega

/-- The overwritten weights in the padding: the first columns, shifted. -/
theorem lowH_ge (w : IVec S2560x1728 8) (k : Fin 2560) (p : Fin 1792) (h : 1728 ≤ p.val) :
    lowH w (ix2 k p) = w (ix2 k ⟨p.val - 1728, by omega⟩) >>> 2 := by
  have hp := p.isLt
  unfold lowH
  refine (scatter_set_hit _ _ _ _ _ (updH w (ix2 k ⟨p.val - 1728, by omega⟩)) (fun j hj => ?_) (ix2 k ⟨p.val - 1728, by omega⟩) ?_).trans (updH_apply w k _)
  · obtain ⟨k', q, rfl⟩ : ∃ (k' : Fin 2560) (q : Fin 64), j = ix2 k' q := ⟨_, _, eq_ix2 (n0 := 2560) (n1 := 64) j⟩
    rw [lands] at hj
    have h0 : k'.val = k.val := congrArg (fun z : S2560x1792.Idx => (z 0).val) (Option.some.inj hj)
    have h1 : 1728 + q.val = p.val := congrArg (fun z : S2560x1792.Idx => (z 1).val) (Option.some.inj hj)
    refine congrArg (updH w) (congrArg₂ ix2 (Fin.ext h0) (Fin.ext ?_))
    show q.val = p.val - 1728
    omega
  · rw [lands]
    exact congrArg some (congrArg (ix2 k) (Fin.ext (by show 1728 + (p.val - 1728) = p.val; omega)))

/-- The repacked byte. -/
theorem repackH_apply (w : IVec S2560x1728 8) (k : Fin 2560) (p : Fin 1792) :
    repackH w (ix2 k p) = (lowH w (ix2 k p) &&& 51#8) ||| (rollH w (ix2 k p) &&& 204#8) := by
  pointwise [repackH]
  generalize lowH w _ = a
  generalize rollH w _ = b
  have h1 : ∀ a : BitVec 8, BitVec.setWidth 8 (IntOp.andi (BitVec.setWidth 32 a) 51#32) = a &&& 51#8 := by decide +kernel
  have h2 : ∀ b : BitVec 8, BitVec.setWidth 8 (IntOp.andi (BitVec.setWidth 32 b) 204#32) = b &&& 204#8 := by decide +kernel
  rw [← h1, ← h2]
  exact BitVec.setWidth_or

theorem even_field (a b : BitVec 8) (f : ℕ) (hf : f = 0 ∨ f = 2) : ternZ ((a &&& 51#8) ||| (b &&& 204#8)) f = ternZ a f := by
  rcases hf with rfl | rfl
  all_goals
    refine congrArg (fun z : BitVec 8 => z.toInt - 1) ?_
    apply BitVec.eq_of_getLsbD_eq
    intro i hi
    interval_cases i <;> simp [BitVec.getLsbD_and, BitVec.getLsbD_or, BitVec.getLsbD_ushiftRight] <;> decide

theorem odd_field (a b : BitVec 8) (f : ℕ) (hf : f = 1 ∨ f = 3) : ternZ ((a &&& 51#8) ||| (b &&& 204#8)) f = ternZ b f := by
  rcases hf with rfl | rfl
  all_goals
    refine congrArg (fun z : BitVec 8 => z.toInt - 1) ?_
    apply BitVec.eq_of_getLsbD_eq
    intro i hi
    interval_cases i <;> simp [BitVec.getLsbD_and, BitVec.getLsbD_or, BitVec.getLsbD_ushiftRight] <;> decide

theorem shifted_field (a : BitVec 8) (f : ℕ) (hf : f = 0 ∨ f = 2) : ternZ (a >>> 2) f = ternZ a (f + 1) := by
  rcases hf with rfl | rfl <;> (unfold ternZ; rw [← BitVec.shiftRight_add])

/-- Field `f` of the repacked byte at packed column `p` is field `C / 1728` of the weights at column `C % 1728`, where
    `C` is `p` plus the column at which the tiles of that field begin, less the packed column at which they begin. -/
theorem repack_field (w : IVec S2560x1728 8) (k : Fin 2560) (p : Fin 1792) (f C : ℕ) (hf : f < 4)
    (hC : C = p.val + (![0, 1664, 3456, 5120] : Fin 4 → ℕ) ⟨f, hf⟩) (h1 : f = 1 ∨ f = 3 → 64 ≤ p.val) :
    tern (repackH w (ix2 k p)) f = tern (w (ix2 k ⟨C % 1728, Nat.mod_lt _ (by decide)⟩)) (C / 1728) := by
  have hp := p.isLt
  refine congrArg (fun z : ℤ => ((z : ℝ) : EReal)) ?_
  rw [repackH_apply]
  have key : ∀ (q : Fin 1728) (g : ℕ), q.val = C % 1728 → g = C / 1728 → ternZ (w (ix2 k q)) g = ternZ (w (ix2 k ⟨C % 1728, Nat.mod_lt _ (by decide)⟩)) (C / 1728) := by
    intro q g hq hg
    rw [hg]
    exact congrArg (fun z => ternZ (w (ix2 k z)) (C / 1728)) (Fin.ext hq)
  interval_cases f
  · have hC : C = p.val + 0 := hC
    rw [even_field _ _ _ (Or.inl rfl)]
    by_cases h : p.val < 1728
    · rw [lowH_lt w k p h]; exact key _ _ (by show p.val = _; omega) (by omega)
    · rw [lowH_ge w k p (by omega), shifted_field _ _ (Or.inl rfl)]; exact key _ _ (by show p.val - 1728 = _; omega) (by omega)
  · have hC : C = p.val + 1664 := hC
    have := h1 (Or.inl rfl)
    rw [odd_field _ _ _ (Or.inl rfl), rollH_ge w k p this]; exact key _ _ (by show p.val - 64 = _; omega) (by omega)
  · have hC : C = p.val + 3456 := hC
    rw [even_field _ _ _ (Or.inr rfl)]
    by_cases h : p.val < 1728
    · rw [lowH_lt w k p h]; exact key _ _ (by show p.val = _; omega) (by omega)
    · rw [lowH_ge w k p (by omega), shifted_field _ _ (Or.inr rfl)]; exact key _ _ (by show p.val - 1728 = _; omega) (by omega)
  · have hC : C = p.val + 5120 := hC
    have := h1 (Or.inr rfl)
    rw [odd_field _ _ _ (Or.inr rfl), rollH_ge w k p this]; exact key _ _ (by show p.val - 64 = _; omega) (by omega)

end Cert.GateUpIdeal.Repack

namespace Cert.GateUpIdeal.Val
open Cert.GateUpIdeal Cert.GateUpIdeal.Gen
open Idealize.ShloMosaic Idealize.ShloMosaic.TcCoe Idealize.ShloMosaic.Tactic
open Cert.GateUpIdeal.Repack
variable {F : FTy → Type} [FloatOps F]
variable (m : (ℓ : Loc nD τ sig) → Buf (Elt F) ℓ)

/-- The kernel finds the gate weights repacked. -/
theorem V_wg (c : Dev nD) : V m c main_v16 = repackH (m ((c : Thread nD τ).loc main_arg4)) := by
  show StableHlo.after (List.flatten [hostOps0, hostOps0_1, hostOps0_2, hostOps0_3, hostOps0_4, hostOps0_5, hostOps0_6]) (fun b => m (c, b)) (Proc.devRef .tc main_v16) = _
  simp only [hostOps0, hostOps0_1, hostOps0_2, hostOps0_3, hostOps0_4, hostOps0_5, hostOps0_6, List.flatten_cons, List.flatten_nil, List.append_nil, List.cons_append, List.nil_append,
    StableHlo.TRef.unary, StableHlo.TRef.binary, StableHlo.TRef.toBuf, StableHlo.TRef.ofBuf, cast_eq]
  after_results_simp <;> rfl

/-- The kernel finds the up weights repacked. -/
theorem V_wu (c : Dev nD) : V m c main_v33 = repackH (m ((c : Thread nD τ).loc main_arg5)) := by
  show StableHlo.after (List.flatten [hostOps0, hostOps0_1, hostOps0_2, hostOps0_3, hostOps0_4, hostOps0_5, hostOps0_6]) (fun b => m (c, b)) (Proc.devRef .tc main_v33) = _
  simp only [hostOps0, hostOps0_1, hostOps0_2, hostOps0_3, hostOps0_4, hostOps0_5, hostOps0_6, List.flatten_cons, List.flatten_nil, List.append_nil, List.cons_append, List.nil_append,
    StableHlo.TRef.unary, StableHlo.TRef.binary, StableHlo.TRef.toBuf, StableHlo.TRef.ofBuf, cast_eq]
  after_results_simp <;> rfl

end Cert.GateUpIdeal.Val
-- ==== Proof.GateUpRefEq.lean ====
module

public import proofs.«01_k».proof.Defs
public import proofs.«01_k».proof.Proof.Tern
public import proofs.«01_k».proof.Proof.RowQuant
public import proofs.«01_k».proof.Proof.Gen.GateUpRefIdeal.Run
public import Idealize.ShloMosaic.Lib.MatmulPlain
public import Idealize.ShloMosaic.Lib.Pointwise

@[expose] public section
set_option maxRecDepth 16384
noncomputable section
/-! The gate/up reference's three results as formulas of the arguments, row by row. -/
namespace Cert.GateUpSpec
open Idealize.ShloMosaic
open Cert.Tern

/-- A row of codes against column `C` of the packed ternary weights: field `C / 1728` of column `C % 1728`. -/
def dotT (q : Fin 2560 → BitVec 8) (w : Fin 2560 → Fin 1728 → BitVec 8) (C : Fin 6912) : EReal :=
  ∑ k : Fin 2560, (((q k).toInt : ℝ) : EReal) * tern (w k ⟨C.val % 1728, Nat.mod_lt _ (by decide)⟩) (C.val / 1728)

/-- A row of the feed-forward's inner values: the squared rectified gate times up. -/
def inner (q : Fin 2560 → BitVec 8) (a : EReal) (wg wu : Fin 2560 → Fin 1728 → BitVec 8) (sg su : EReal) (C : Fin 6912) : EReal :=
  max (dotT q wg C * a * sg) 0 * max (dotT q wg C * a * sg) 0 * (dotT q wu C * a * su)

/-- The row length as the programs write it. -/
abbrev D : EReal := Ideal.ofBits FTy.f32 0x45D80000#32

/-- The normalised row. -/
def normed (v g : Fin 6912 → EReal) (C : Fin 6912) : EReal := v C * RowQuant.rstd D v * g C

/-- The row's quantisation scale. -/
def scl (v g : Fin 6912 → EReal) : EReal := RowQuant.scale (RowQuant.amax (normed v g))

/-- The row's int8 codes. -/
def cod (v g : Fin 6912 → EReal) (C : Fin 6912) : BitVec 8 := RowQuant.code (Ideal.div (normed v g C) (scl v g))

end Cert.GateUpSpec

namespace Cert.GateUpRefIdeal.Eq
open Cert.GateUpRefIdeal Cert.GateUpRefIdeal.Gen Cert.GateUpRefIdeal.Value
open Idealize.ShloMosaic Idealize.ShloMosaic.TcCoe
open Idealize.SL Idealize.SL.Sem
open Cert.Tern Cert.GateUpSpec

/-- One field's product, as the reference writes it. -/
def fieldTerm (a0 : IVec S8192x2560 8) (a4 : IVec S2560x1728 8) (w : BitVec 32) : FVec Ideal S8192x1728 .f32 :=
  Host.dotGeneral (F := Ideal) dot_S8192x2560_S2560x1728_S8192x1728_1_0_0_1_n_n none (truncf .bf16 (sitofp .f32 (extsi 32 a0 natLt_8_32)) bitsLt_bf16_f32) (truncf .bf16 (sitofp .f32 (subi (andi (Host.shrsi (extui 32 a4 natLt_8_32) (broadcastInDim S2560x1728 ![] bcast_S_S2560x1728 (constantI S_ 32 w))) (broadcastInDim S2560x1728 ![] bcast_S_S2560x1728 (constantI S_ 32 3#32))) (broadcastInDim S2560x1728 ![] bcast_S_S2560x1728 (constantI S_ 32 1#32)))) bitsLt_bf16_f32)

/-- One field's product at an index. -/
theorem field_apply (a0 : IVec S8192x2560 8) (a4 : IVec S2560x1728 8) (f : Fin 4) (r : Fin 8192) (l : Fin 1728) :
    fieldTerm a0 a4 (BitVec.ofNat 32 (2 * f.val)) (ix2 r l)
      = ∑ k : Fin 2560, (((a0 (ix2 r k)).toInt : ℝ) : EReal) * tern (a4 (ix2 k l)) f.val := by
  pointwise [fieldTerm]
  refine Finset.sum_congr rfl fun k _ => congrArg₂ (· * ·) ?_ ?_
  · show (((BitVec.signExtend 32 (a0 (ix2 r k))).toInt : ℝ) : EReal) = _
    rw [BitVec.toInt_signExtend_of_le (by decide)]
  · exact congrArg (fun z : ℤ => ((z : ℝ) : EReal)) (ref_field (a4 (ix2 k l)) f)

/-- Four fields' products side by side, scaled by the row's and the matrix's scale, as the reference writes it. -/
def linTerm (u0 u1 u2 u3 : FVec Ideal S8192x1728 .f32) (a1 : FVec Ideal S8192x1 .f32) (s : FVec Ideal S1 .f32) : FVec Ideal S8192x6912 .f32 :=
  mulf (mulf ((concatenate S8192x6912 1 [⟨S8192x1728, u0⟩, ⟨S8192x1728, u1⟩, ⟨S8192x1728, u2⟩, ⟨S8192x1728, u3⟩] concatenates_S8192x1728_S8192x1728_S8192x1728_S8192x1728_S8192x6912_d1)) (broadcastInDim S8192x6912 ![0, 1] bcast_S8192x1_S8192x6912_0_1 (broadcastInDim S8192x1 ![0] bcast_S8192_S8192x1_0 (shapeCast _ a1 shapeCasts_S8192x1_S8192)))) (broadcastInDim S8192x6912 ![] bcast_S_S8192x6912 (shapeCast _ s shapeCasts_S1_S_))

/-- That, at an index. -/
theorem linTerm_apply (u0 u1 u2 u3 : FVec Ideal S8192x1728 .f32) (a1 : FVec Ideal S8192x1 .f32) (s : FVec Ideal S1 .f32)
    (r : Fin 8192) (c : Fin 6912) (v : EReal)
    (h : ∀ f : Fin 4, f.val = c.val / 1728 → (![u0, u1, u2, u3] f) (ix2 r ⟨c.val % 1728, Nat.mod_lt _ (by decide)⟩) = v) :
    linTerm u0 u1 u2 u3 a1 s (ix2 r c) = v * a1 (ix2 r 0) * s (ix1 0) := by
  pointwise [linTerm]
  have hc := c.isLt
  refine congrArg (fun w => w * a1 (ix2 r 0) * s (ix1 0)) ?_
  by_cases h0 : c.val < 1728
  · rw [dif_pos h0]
    refine Eq.trans (congrArg u0 (congrArg (ix2 r) (Fin.ext ?_))) (h 0 (by show 0 = c.val / 1728; omega))
    show c.val = c.val % 1728; omega
  rw [dif_neg h0]
  by_cases h1 : c.val - 1728 < 1728
  · rw [dif_pos h1]
    refine Eq.trans (congrArg u1 (congrArg (ix2 r) (Fin.ext ?_))) (h 1 (by show 1 = c.val / 1728; omega))
    show c.val - 1728 = c.val % 1728; omega
  rw [dif_neg h1]
  by_cases h2 : c.val - 1728 - 1728 < 1728
  · rw [dif_pos h2]
    refine Eq.trans (congrArg u2 (congrArg (ix2 r) (Fin.ext ?_))) (h 2 (by show 2 = c.val / 1728; omega))
    show c.val - 1728 - 1728 = c.val % 1728; omega
  rw [dif_neg h2]
  refine Eq.trans (congrArg u3 (congrArg (ix2 r) (Fin.ext ?_))) (h 3 (by show 3 = c.val / 1728; omega))
  show c.val - 1728 - 1728 - 1728 = c.val % 1728; omega

/-- The reference's linear layer on packed weights. -/
def lin (a0 : IVec S8192x2560 8) (a1 : FVec Ideal S8192x1 .f32) (w : IVec S2560x1728 8) (s : FVec Ideal S1 .f32) : FVec Ideal S8192x6912 .f32 :=
  linTerm (fieldTerm a0 w 0#32) (fieldTerm a0 w 2#32) (fieldTerm a0 w 4#32) (fieldTerm a0 w 6#32) a1 s

/-- The linear layer at an index. -/
theorem lin_apply (a0 : IVec S8192x2560 8) (a1 : FVec Ideal S8192x1 .f32) (w : IVec S2560x1728 8) (s : FVec Ideal S1 .f32) (r : Fin 8192) (c : Fin 6912) :
    lin a0 a1 w s (ix2 r c) = dotT (fun k => a0 (ix2 r k)) (fun k p => w (ix2 k p)) c * a1 (ix2 r 0) * s (ix1 0) := by
  refine linTerm_apply _ _ _ _ _ _ _ _ _ fun f hf => ?_
  have e : (![fieldTerm a0 w 0#32, fieldTerm a0 w 2#32, fieldTerm a0 w 4#32, fieldTerm a0 w 6#32] f) = fieldTerm a0 w (BitVec.ofNat 32 (2 * f.val)) := by
    fin_cases f <;> rfl
  rw [e]
  refine (field_apply a0 w f _ _).trans ?_
  rw [hf]; rfl

/-- The squared rectified gate times up. -/
def glu (G U : FVec Ideal S8192x6912 .f32) : FVec Ideal S8192x6912 .f32 :=
  mulf (mulf (maximumf G (broadcastInDim S8192x6912 ![] bcast_S_S8192x6912 (constant S_ .f32 0x00000000#32))) (maximumf G (broadcastInDim S8192x6912 ![] bcast_S_S8192x6912 (constant S_ .f32 0x00000000#32)))) U

/-- The inner values as the reference writes them. -/
def refM (a0 : IVec S8192x2560 8) (a1 : FVec Ideal S8192x1 .f32) (a3 : FVec Ideal S2 .f32) (a4 a5 : IVec S2560x1728 8) : FVec Ideal S8192x6912 .f32 :=
  glu (lin a0 a1 a4 (extractStridedSlice S1 ![0] a3 slices_S2_S1_0)) (lin a0 a1 a5 (extractStridedSlice S1 ![1] a3 slices_S2_S1_1))

/-- The inner values at an index. -/
theorem refM_apply (a0 : IVec S8192x2560 8) (a1 : FVec Ideal S8192x1 .f32) (a3 : FVec Ideal S2 .f32) (a4 a5 : IVec S2560x1728 8) (r : Fin 8192) (c : Fin 6912) :
    refM a0 a1 a3 a4 a5 (ix2 r c)
      = inner (fun k => a0 (ix2 r k)) (a1 (ix2 r 0)) (fun k p => a4 (ix2 k p)) (fun k p => a5 (ix2 k p)) (a3 (ix1 0)) (a3 (ix1 1)) c := by
  have e0 : extractStridedSlice S1 ![0] a3 slices_S2_S1_0 (ix1 0) = a3 (ix1 0) := by pointwise
  have e1 : extractStridedSlice S1 ![1] a3 slices_S2_S1_1 (ix1 0) = a3 (ix1 1) := by pointwise
  pointwise [refM, glu]
  rw [lin_apply, lin_apply, e0, e1]
  unfold GateUpSpec.inner
  with_reducible rfl

/-- The reciprocal root mean squares as the reference writes them. -/
def refR (M : FVec Ideal S8192x6912 .f32) : FVec Ideal S8192 .f32 :=
  Host.rsqrt (addf (Host.divf (Host.reduceAdd (mulf M M) (constant S_ .f32 0x00000000#32) reducesTo_S8192x6912_S8192_d1 h_S_) (broadcastInDim S8192 ![] bcast_S_S8192 (constant S_ .f32 0x45D80000#32))) (broadcastInDim S8192 ![] bcast_S_S8192 (constant S_ .f32 0x3727C5AC#32)))

/-- Those, at a row. -/
theorem refR_apply (M : FVec Ideal S8192x6912 .f32) (r : Fin 8192) : refR M (ix1 r) = RowQuant.rstd D (fun c => M (ix2 r c)) := by
  pointwise [refR]
  rfl

/-- A row's number at every column. -/
def bc (R : FVec Ideal S8192 .f32) : FVec Ideal S8192x6912 .f32 :=
  broadcastInDim S8192x6912 ![0, 1] bcast_S8192x1_S8192x6912_0_1 (broadcastInDim S8192x1 ![0] bcast_S8192_S8192x1_0 R)

theorem bc_apply (R : FVec Ideal S8192 .f32) (r : Fin 8192) (c : Fin 6912) : bc R (ix2 r c) = R (ix1 r) := by
  pointwise [bc]

/-- The normalised values as the reference writes them. -/
def refN (M : FVec Ideal S8192x6912 .f32) (g : FVec Ideal S1x6912 .f32) : FVec Ideal S8192x6912 .f32 :=
  mulf (mulf M (bc (refR M))) (broadcastInDim S8192x6912 ![0, 1] bcast_S1x6912_S8192x6912_0_1 (broadcastInDim S1x6912 ![1] bcast_S6912_S1x6912_1 (shapeCast _ g shapeCasts_S1x6912_S6912)))

/-- Those, at an index. -/
theorem refN_apply (M : FVec Ideal S8192x6912 .f32) (g : FVec Ideal S1x6912 .f32) (r : Fin 8192) (c : Fin 6912) :
    refN M g (ix2 r c) = normed (fun c => M (ix2 r c)) (fun c => g (ix2 0 c)) c := by
  pointwise [refN]
  rw [bc_apply, refR_apply]
  rfl

/-- The greatest absolute values as the reference writes them. -/
def refA (N : FVec Ideal S8192x6912 .f32) : FVec Ideal S8192 .f32 :=
  Host.reduce FloatOps.maximumf (Host.absf N) (constant S_ .f32 0xFF800000#32) reducesTo_S8192x6912_S8192_d1 h_S_

/-- Those, at a row. -/
theorem refA_apply (N : FVec Ideal S8192x6912 .f32) (r : Fin 8192) : refA N (ix1 r) = RowQuant.amax (fun c => N (ix2 r c)) := by
  pointwise [refA]
  rfl

/-- The scales as the reference writes them. -/
def refS (A : FVec Ideal S8192 .f32) : FVec Ideal S8192 .f32 :=
  select (cmpf .oeq A (broadcastInDim S8192 ![] bcast_S_S8192 (constant S_ .f32 0x00000000#32))) (broadcastInDim S8192 ![] bcast_S_S8192 (id (constant S_ .f32 0x3F800000#32))) (Host.divf A (broadcastInDim S8192 ![] bcast_S_S8192 (constant S_ .f32 0x42FE0000#32)))

/-- Those, at a row. -/
theorem refS_apply (A : FVec Ideal S8192 .f32) (r : Fin 8192) : refS A (ix1 r) = RowQuant.scale (A (ix1 r)) := by
  pointwise [refS]
  show (if A (ix1 r) = 0 then Ideal.ofBits FTy.f32 0x3F800000#32 else _) = _
  rw [Ideal.ofBits_one_f32]
  rfl

/-- The codes as the reference writes them. -/
def refC (N : FVec Ideal S8192x6912 .f32) (S : FVec Ideal S8192 .f32) : IVec S8192x6912 8 :=
  trunci 8 (fptosi 32 (minimumf (broadcastInDim S8192x6912 ![] bcast_S_S8192x6912 (id (constant S_ .f32 0x42FE0000#32))) (maximumf (broadcastInDim S8192x6912 ![] bcast_S_S8192x6912 (id (constant S_ .f32 0xC2FE0000#32))) (Host.roundeven (Host.divf N (bc S)))))) natLt_8_32

/-- Those, at an index. -/
theorem refC_apply (N : FVec Ideal S8192x6912 .f32) (S : FVec Ideal S8192 .f32) (r : Fin 8192) (c : Fin 6912) :
    refC N S (ix2 r c) = RowQuant.code (Ideal.div (N (ix2 r c)) (S (ix1 r))) := by
  rw [← RowQuant.code_narrow]
  pointwise [refC]
  rw [bc_apply]
  rfl

variable (m : (ℓ : Loc nD τ sig) → Buf (Elt Ideal) ℓ) (c : Dev nD)

/-- The run's inner values. -/
abbrev mM : FVec Ideal S8192x6912 .f32 :=
  refM (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))

/-- The run's third result is the reciprocal root mean squares. -/
theorem res2_eq : res_main_v131 m c = shapeCast _ (refR (mM m c)) shapeCasts_S8192_S16x4x128 := by
  unfold res_main_v131; rfl

/-- The run's second result is the scales. -/
theorem res1_eq : res_main_v130 m c = shapeCast _ (refS (refA (refN (mM m c) (m ((c.tc : Thread nD τ).loc main_arg2))))) shapeCasts_S8192_S16x4x128 := by
  unfold res_main_v130; rfl

/-- The run's first result is the codes. -/
theorem res0_eq : res_main_v129 m c = refC (refN (mM m c) (m ((c.tc : Thread nD τ).loc main_arg2))) (refS (refA (refN (mM m c) (m ((c.tc : Thread nD τ).loc main_arg2))))) := by
  unfold res_main_v129; rfl

/-- A row's number laid out in 16 by 4 by 128. -/
theorem lay_apply (R : FVec Ideal S8192 .f32) (t : Fin 16) (a : Fin 4) (b : Fin 128) :
    shapeCast S16x4x128 R shapeCasts_S8192_S16x4x128 (ix3 t a b) = R (ix1 ⟨512 * t.val + 128 * a.val + b.val, by omega⟩) := by
  pointwise
  refine congrArg R (congrArg ix1 (Fin.ext ?_))
  show t.val * 512 + a.val * 128 + b.val = 512 * t.val + 128 * a.val + b.val
  omega

end Cert.GateUpRefIdeal.Eq
-- ==== Proof.GateUpEq.lean ====
module

public import proofs.«01_k».proof.Defs
public import proofs.«01_k».proof.Proof.GateUpIdealVal
public import proofs.«01_k».proof.Proof.Tern
public import proofs.«01_k».proof.Proof.RowQuant
public import proofs.«01_k».proof.Proof.Repack
public import proofs.«01_k».proof.Proof.GateUpRefEq
public import Idealize.ShloMosaic.Lib.MatmulPlain
public import Idealize.ShloMosaic.Lib.Pointwise
public import Idealize.ShloMosaic.Lib.Pipeline.ValueKit

@[expose] public section
set_option maxRecDepth 16384
noncomputable section
/-! The gate/up kernel's three results as formulas of its arguments, row by row, and their equality with the reference's. -/
namespace Cert.GateUpIdeal.Val
open Cert.GateUpIdeal Cert.GateUpIdeal.Gen
open Idealize.ShloMosaic Idealize.ShloMosaic.TcCoe Idealize.ShloMosaic.Tactic
open Idealize.SL Idealize.SL.Sem
open Idealize.ShloMosaic.Pipeline (Dat Cfg Window)
open Cert.Tern Cert.GateUpSpec Cert.GateUpIdeal.Repack

/-! ## The unpacked weights -/

/-- A tile with a leading axis of one, at an index. -/
theorem lead_apply (X : FVec Ideal S2560x128 .bf16) (a : Fin 2560) (l : Fin 128) :
    shapeCast S1x2560x128 X shapeCasts_S2560x128_S1x2560x128 (ix3 0 a l) = X (ix2 a l) := by
  pointwise

/-- A tile's unpacking by the words' shift `s = 2 f`: field `f` of each byte, less one. -/
theorem tail_apply (X : Vec Ideal S2560x128 .i8) (s : BitVec 32) (f : ℕ) (hf : f < 4) (hs : s = BitVec.ofNat 32 (2 * f)) (a : Fin 2560) (l : Fin 128) :
    shapeCast S1x2560x128 (subf (sitofp (F := Ideal) .bf16 (bitcast S2560x128 8 (andi (shrui (bitcast S640x128 32
        (shapeCast S2560x128 X shapeCasts_S2560x128_S2560x128) bitcasts_S2560x128_w8_S640x128_w32) (broadcast S640x128 s)) (broadcast S640x128 50529027#32))
        bitcasts_S640x128_w32_S2560x128_w8)) (broadcast S2560x128 (Scalar.ofBits .bf16 0x3F80#16))) shapeCasts_S2560x128_S1x2560x128 (ix3 0 a l)
      = tern (X (ix2 a l)) f := by
  rw [lead_apply, shapeCast_self, ← ker_field]
  refine congrArg (fun b : BitVec 8 => ((b.toInt : ℝ) : EReal) - Ideal.ofBits .bf16 0x3F80#16) ?_
  exact unpack_apply X _ _ s f hf hs a l

theorem fldN_lt (t : ℕ) : fldN t < 4 := by unfold fldN; split_ifs <;> omega

theorem fldW_two (t : ℕ) : Scalar.muli 2#32 (fldW t) = BitVec.ofNat 32 (2 * fldN t) := by
  unfold fldW fldN
  split_ifs <;> rfl

/-- The tile at which field `f` of the packed columns begins. -/
def baseN (f : ℕ) : ℕ := if f = 0 then 0 else if f = 1 then 13 else if f = 2 then 27 else 40

/-- Where the left tile's bytes lie. -/
theorem off1_0 (k : Fin k0_t1_loop.trips) : k0_off1 k 0#32 = ![0, 128 * (2 * k.val - baseN (fldN (2 * k.val)))] := by
  revert k; decide +kernel
/-- Where the right tile's bytes lie. -/
theorem off1_1 (k : Fin k0_t1_loop.trips) : k0_off1 k 1#32 = ![0, 128 * (2 * k.val + 1 - baseN (fldN (2 * k.val + 1)))] := by
  revert k; decide +kernel

theorem pay2_apply (k : Fin k0_t1_loop.trips) (X : Vec Ideal S2560x128 .i8) (a : Fin 2560) (l : Fin 128) :
    k0_pay2 (F := Ideal) 0#32 1#32 k X (ix3 0 a l) = tern (X (ix2 a l)) (fldN (2 * k.val)) := by
  unfold k0_pay2
  exact tail_apply X _ _ (fldN_lt _) (by revert k; decide +kernel) a l

theorem pay5_apply (t : ℕ) (X : Vec Ideal S2560x128 .i8) (a : Fin 2560) (l : Fin 128) :
    k0_pay5 (F := Ideal) (Scalar.muli 2#32 (fldW t)) (k0_pay4 (F := Ideal) X) (ix3 0 a l) = tern (X (ix2 a l)) (fldN t) := by
  unfold k0_pay5 k0_pay4
  exact tail_apply X _ _ (fldN_lt _) (fldW_two t) a l

theorem pay3_apply (t : ℕ) (X : Vec Ideal S2560x128 .i8) (a : Fin 2560) (l : Fin 128) :
    k0_pay3 (F := Ideal) (fldW t) X (ix3 0 a l) = tern (X (ix2 a l)) (fldN t) := by
  unfold k0_pay3
  exact tail_apply X _ _ (fldN_lt _) (fldW_two t) a l

theorem pay6_apply (t : ℕ) (X : Vec Ideal S2560x128 .i8) (a : Fin 2560) (l : Fin 128) :
    k0_pay6 (F := Ideal) (fldW t) X (ix3 0 a l) = tern (X (ix2 a l)) (fldN t) := by
  unfold k0_pay6
  exact tail_apply X _ _ (fldN_lt _) (fldW_two t) a l

/-- Column `l` of tile `t` of the repacked weights is column `128 t + l` of the weights. -/
theorem tile_field (w : IVec S2560x1728 8) (a : Fin 2560) (t l : ℕ) (ht : t < 54) (hl : l < 128) (p : Fin 1792)
    (hp : p.val = 128 * (t - baseN (fldN t)) + l) (C : Fin 6912) (hC : C.val = 128 * t + l) :
    tern (repackH w (ix2 a p)) (fldN t) = tern (w (ix2 a ⟨C.val % 1728, Nat.mod_lt _ (by decide)⟩)) (C.val / 1728) := by
  unfold fldN baseN at *
  by_cases h0 : t < 14
  · simp only [if_pos h0] at hp ⊢
    exact repack_field w a p 0 C.val (by omega) (by show C.val = p.val + 0; simp at hp; omega) (by omega)
  by_cases h1 : t < 27
  · simp only [if_neg h0, if_pos h1] at hp ⊢
    exact repack_field w a p 1 C.val (by omega) (by show C.val = p.val + 1664; simp at hp; omega) (by simp at hp; omega)
  by_cases h2 : t < 41
  · simp only [if_neg h0, if_neg h1, if_pos h2] at hp ⊢
    exact repack_field w a p 2 C.val (by omega) (by show C.val = p.val + 3456; simp at hp; omega) (by omega)
  · simp only [if_neg h0, if_neg h1, if_neg h2] at hp ⊢
    exact repack_field w a p 3 C.val (by omega) (by show C.val = p.val + 5120; simp at hp; omega) (by simp at hp; omega)

/-- Column `l` of a pair of tiles whose halves hold tiles `2 k` and `2 k + 1` of the repacked weights. -/
theorem pair_apply (w : IVec S2560x1728 8) (k : Fin k0_t1_loop.trips) (L R : Vec Ideal S1x2560x128 .bf16)
    (hL : ∀ (a : Fin 2560) (l : Fin 128), L (ix3 0 a l) = tern (tileT (F := Ideal) (repackH w) k 0#32 (k0_off1_inb k 0) (ix2 a l)) (fldN (2 * k.val)))
    (hR : ∀ (a : Fin 2560) (l : Fin 128), R (ix3 0 a l) = tern (tileT (F := Ideal) (repackH w) k 1#32 (k0_off1_inb k 1) (ix2 a l)) (fldN (2 * k.val + 1)))
    (a : Fin 2560) (l : Fin 256) (C : Fin 6912) (hC : C.val = 256 * k.val + l.val) :
    pair (F := Ideal) L R (ix3 0 a l) = tern (w (ix2 a ⟨C.val % 1728, Nat.mod_lt _ (by decide)⟩)) (C.val / 1728) := by
  have hk : k.val < 27 := trips1 ▸ k.isLt
  have hl := l.isLt
  have hb : ∀ t, t < 54 → t - baseN (fldN t) < 14 := by decide
  unfold pair
  by_cases h : l.val < 128
  · refine (dif_pos (show ((ix3 0 a l : S1x2560x256.Idx) 2).val < 128 from h)).trans ?_
    refine (hL a ⟨l.val, h⟩).trans ?_
    have := hb (2 * k.val) (by omega)
    refine (congrArg (fun b => tern b _) (window2 (repackH w) _ _ (off1_0 k) a ⟨l.val, h⟩ a
      ⟨128 * (2 * k.val - baseN (fldN (2 * k.val))) + l.val, by omega⟩ (Nat.zero_add _).symm rfl)).trans ?_
    exact tile_field w a (2 * k.val) l.val (by omega) h _ rfl C (by omega)
  · refine (dif_neg (show ¬ ((ix3 0 a l : S1x2560x256.Idx) 2).val < 128 from h)).trans ?_
    refine (hR a ⟨l.val - 128, by omega⟩).trans ?_
    have := hb (2 * k.val + 1) (by omega)
    refine (congrArg (fun b => tern b _) (window2 (repackH w) _ _ (off1_1 k) a ⟨l.val - 128, by omega⟩ a
      ⟨128 * (2 * k.val + 1 - baseN (fldN (2 * k.val + 1))) + (l.val - 128), by omega⟩ (Nat.zero_add _).symm rfl)).trans ?_
    exact tile_field w a (2 * k.val + 1) (l.val - 128) (by omega) (by omega) _ rfl C (by omega)

/-- Trip `k`'s gate weights: column `l` is column `256 k + l` of the weights. -/
theorem wgT_apply (w : IVec S2560x1728 8) (k : Fin k0_t1_loop.trips) (a : Fin 2560) (l : Fin 256) (C : Fin 6912) (hC : C.val = 256 * k.val + l.val) :
    wgT (F := Ideal) (repackH w) k (ix3 0 a l) = tern (w (ix2 a ⟨C.val % 1728, Nat.mod_lt _ (by decide)⟩)) (C.val / 1728) :=
  pair_apply w k _ _ (fun a l => pay2_apply k _ a l) (fun a l => pay5_apply _ _ a l) a l C hC

/-- Trip `k`'s up weights, likewise. -/
theorem wuT_apply (w : IVec S2560x1728 8) (k : Fin k0_t1_loop.trips) (a : Fin 2560) (l : Fin 256) (C : Fin 6912) (hC : C.val = 256 * k.val + l.val) :
    wuT (F := Ideal) (repackH w) k (ix3 0 a l) = tern (w (ix2 a ⟨C.val % 1728, Nat.mod_lt _ (by decide)⟩)) (C.val / 1728) :=
  pair_apply w k _ _ (fun a l => pay3_apply _ _ a l) (fun a l => pay6_apply _ _ a l) a l C hC

/-! ## The inner values -/

theorem pay13_apply (x0 : Vec Ideal S512x2560 .i8) (r : Fin 512) (k : Fin 2560) :
    k0_pay13 (F := Ideal) x0 (ix2 r k) = (((x0 (ix2 r k)).toInt : ℝ) : EReal) := by
  pointwise [k0_pay13]
  rfl

theorem pay7_apply (A : Vec Ideal S512x2560 .bf16) (B : Vec Ideal S1x2560x256 .bf16) (S : Vec Ideal S512x1 .f32) (s : Elt Ideal .f32) (r : Fin 512) (l : Fin 256) :
    k0_pay7 (F := Ideal) A B S s (ix2 r l) = (∑ x, A (ix2 r x) * B (ix3 0 x l)) * S (ix2 r 0) * s := by
  pointwise [k0_pay7]

theorem pay14_apply (G : FVec Ideal S512x256 .f32) (A : Vec Ideal S512x2560 .bf16) (B : Vec Ideal S1x2560x256 .bf16) (S : Vec Ideal S512x1 .f32) (s : Elt Ideal .f32)
    (r : Fin 512) (l : Fin 256) :
    k0_pay14 (F := Ideal) G A B S s (ix2 r l)
      = max (G (ix2 r l)) 0 * max (G (ix2 r l)) 0 * ((∑ x, A (ix2 r x) * B (ix3 0 x l)) * S (ix2 r 0) * s) := by
  pointwise [k0_pay14]

/-- The inner values of the input blocks. -/
theorem mF_apply (x0 : Vec Ideal S512x2560 .i8) (x1 : Vec Ideal S512x1 .f32) (x3 : Vec Ideal S2 .f32) (wg wu : IVec S2560x1728 8) (r : Fin 512) (C : Fin 6912) :
    mF (F := Ideal) x0 x1 x3 (repackH wg) (repackH wu) (ix2 r C)
      = inner (fun k => x0 (ix2 r k)) (x1 (ix2 r 0)) (fun k p => wg (ix2 k p)) (fun k p => wu (ix2 k p)) (x3 (ix1 0)) (x3 (ix1 1)) C := by
  have hC := C.isLt
  have e : C.val = 256 * (C.val / 256) + C.val % 256 := by omega
  unfold mF mT
  refine (pay14_apply _ _ _ _ _ r ⟨C.val % 256, Nat.mod_lt _ (by decide)⟩).trans ?_
  rw [pay7_apply]
  unfold GateUpSpec.inner dotT
  refine congrArg₂ (· * ·) (congrArg (fun z : EReal => max (z * x1 (ix2 r 0) * x3 (ix1 0)) 0 * max (z * x1 (ix2 r 0) * x3 (ix1 0)) 0) ?_)
    (congrArg (fun z : EReal => z * x1 (ix2 r 0) * x3 (ix1 1)) ?_)
  · exact Finset.sum_congr rfl fun k _ => congrArg₂ (· * ·) (pay13_apply x0 r k) (wgT_apply wg _ k _ C e)
  · exact Finset.sum_congr rfl fun k _ => congrArg₂ (· * ·) (pay13_apply x0 r k) (wuT_apply wu _ k _ C e)

/-! ## Normalisation and quantisation -/

theorem pay8_apply (M : Vec Ideal S32x6912 .f32) (r : Fin 32) : k0_pay8 (F := Ideal) M (ix2 r 0) = RowQuant.rstd D (fun x => M (ix2 r x)) := by
  pointwise [k0_pay8]
  rfl

theorem pay9_apply (M : Vec Ideal S32x6912 .f32) (g : Vec Ideal S1x6912 .f32) (r : Fin 32) (C : Fin 6912) :
    k0_pay9 (F := Ideal) M g (ix2 r C) = normed (fun x => M (ix2 r x)) (fun x => g (ix2 0 x)) C := by
  unfold k0_pay9
  pointwise
  rw [pay8_apply]
  rfl

theorem pay10_apply (M : Vec Ideal S32x6912 .f32) (g : Vec Ideal S1x6912 .f32) (r : Fin 32) :
    k0_pay10 (F := Ideal) M g (ix2 r 0) = scl (fun x => M (ix2 r x)) (fun x => g (ix2 0 x)) := by
  unfold k0_pay10
  pointwise
  simp only [pay9_apply]
  rfl

theorem pay11_apply (M : Vec Ideal S32x6912 .f32) (g : Vec Ideal S1x6912 .f32) (r : Fin 32) (C : Fin 6912) :
    k0_pay11 (F := Ideal) M g (ix2 r C) = cod (fun x => M (ix2 r x)) (fun x => g (ix2 0 x)) C := by
  unfold k0_pay11
  pointwise
  rw [pay9_apply, pay10_apply]
  rfl

theorem pay12_apply (M : Vec Ideal S32x6912 .f32) (g : Vec Ideal S1x6912 .f32) (r : Fin 32) (l : Fin 128) :
    k0_pay12 (F := Ideal) M g (ix2 r l) = scl (fun x => M (ix2 r x)) (fun x => g (ix2 0 x)) := by
  unfold k0_pay12
  pointwise
  exact pay10_apply M g r

theorem pay15_apply (R : FVec Ideal S32x1 .f32) (r : Fin 32) (l : Fin 128) : k0_pay15 (F := Ideal) R (ix2 r l) = R (ix2 r 0) := by
  pointwise [k0_pay15]

/-- The strip of 32 rows that holds row `r`, read at that row. -/
theorem rowsT_apply (mm : Vec Ideal S512x6912 .f32) (r : Fin 512) (C : Fin 6912) :
    rowsT (F := Ideal) mm (rowTrip r) (ix2 (rowIn r) C) = mm (ix2 r C) :=
  window2 mm _ _ (off3_eq _) (rowIn r) C r C (by show r.val = 32 * (r.val / 32) + r.val % 32; omega) (Nat.zero_add _).symm

theorem rows_eq (mm : Vec Ideal S512x6912 .f32) (r : Fin 512) :
    (fun C => rowsT (F := Ideal) mm (rowTrip r) (ix2 (rowIn r) C)) = fun C => mm (ix2 r C) :=
  funext fun C => rowsT_apply mm r C

theorem codesF_apply (mm : Vec Ideal S512x6912 .f32) (g : Vec Ideal S1x6912 .f32) (r : Fin 512) (C : Fin 6912) :
    codesF (F := Ideal) mm g (ix2 r C) = cod (fun x => mm (ix2 r x)) (fun x => g (ix2 0 x)) C := by
  exact (pay11_apply _ _ (rowIn r) C).trans (congrArg (fun v => cod v (fun x => g (ix2 0 x)) C) (rows_eq mm r))

theorem scaleL_apply (mm : Vec Ideal S512x6912 .f32) (g : Vec Ideal S1x6912 .f32) (r : Fin 512) (l : Fin 128) :
    scaleL (F := Ideal) mm g (ix2 r l) = scl (fun x => mm (ix2 r x)) (fun x => g (ix2 0 x)) := by
  exact (pay12_apply _ _ (rowIn r) l).trans (congrArg (fun v => scl v (fun x => g (ix2 0 x))) (rows_eq mm r))

theorem rstdL_apply (mm : Vec Ideal S512x6912 .f32) (r : Fin 512) (l : Fin 128) :
    rstdL (F := Ideal) mm (ix2 r l) = RowQuant.rstd D (fun x => mm (ix2 r x)) := by
  exact (pay15_apply _ (rowIn r) l).trans ((pay8_apply _ _).trans (congrArg (RowQuant.rstd D) (rows_eq mm r)))

/-- The lane buffer's diagonal, laid out in 4 by 128: row `128 a + b`, lane `b`. -/
theorem pay16_apply (M : Vec Ideal S512x128 .f32) (a : Fin 4) (b : Fin 128) :
    k0_pay16 (F := Ideal) M (ix3 0 a b) = M (ix2 ⟨a.val * 128 + b.val, by omega⟩ b) := by
  unfold k0_pay16
  pointwise
  exact RowQuant.diag_sum (fun x => M (ix2 ⟨a.val * 128 + x.val, by omega⟩ b)) b

theorem pay17_apply (M : Vec Ideal S512x128 .f32) (a : Fin 4) (b : Fin 128) :
    k0_pay1 (F := Ideal) (k0_pay17 (F := Ideal) M) (ix3 0 a b) = M (ix2 ⟨a.val * 128 + b.val, by omega⟩ b) := by
  pointwise [k0_pay1, k0_pay17]
  exact RowQuant.diag_sum (fun x => M (ix2 ⟨a.val * 128 + x.val, by omega⟩ b)) b

/-! ## The result arrays -/

variable (m : (ℓ : Loc nD τ sig) → Buf (Elt Ideal) ℓ) (ρ : Dev nD → PrngReg)

/-- Row `r` of the inner values, from the argument arrays. -/
def row (c : Dev nD) (r : Fin 8192) : Fin 6912 → EReal :=
  inner (fun k => m ((c.tc : Thread nD τ).loc main_arg0) (ix2 r k)) (m ((c.tc : Thread nD τ).loc main_arg1) (ix2 r 0))
    (fun k p => m ((c.tc : Thread nD τ).loc main_arg4) (ix2 k p)) (fun k p => m ((c.tc : Thread nD τ).loc main_arg5) (ix2 k p))
    (m ((c.tc : Thread nD τ).loc main_arg3) (ix1 0)) (m ((c.tc : Thread nD τ).loc main_arg3) (ix1 1))

/-- The normalisation's weights. -/
def gw (c : Dev nD) : Fin 6912 → EReal := fun C => m ((c.tc : Thread nD τ).loc main_arg2) (ix2 0 C)

/-- The codes, as the formula of the argument arrays. -/
def G0 (c : Dev nD) : Buf (Elt Ideal) ((c.tc : Thread nD τ).loc main_v34_0) := fun (i : S8192x6912.Idx) => cod (row m c (i 0)) (gw m c) (i 1)

/-- The row of the 8192 at a place of 16 by 4 by 128. -/
def lay (i : S16x4x128.Idx) : Fin 8192 := ⟨512 * (i 0).val + 128 * (i 1).val + (i 2).val, by
  have h0 : (i 0).val < 16 := (i 0).isLt
  have h1 : (i 1).val < 4 := (i 1).isLt
  have h2 : (i 2).val < 128 := (i 2).isLt
  omega⟩

/-- The scales, as the formula of the argument arrays. -/
def G1 (c : Dev nD) : Buf (Elt Ideal) ((c.tc : Thread nD τ).loc main_v34_1) := fun (i : S16x4x128.Idx) => scl (row m c (lay i)) (gw m c)

/-- The reciprocal root mean squares, as the formula of the argument arrays. -/
def G2 (c : Dev nD) : Buf (Elt Ideal) ((c.tc : Thread nD τ).loc main_v34_2) := fun (i : S16x4x128.Idx) => RowQuant.rstd D (row m c (lay i))

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0, 0] := (by decide +kernel : ∀ t : Fin grid0.N, _)
theorem idx8 : ∀ t : Fin cfg0.N, win0_8.index t = ![t.val, 0, 0] := (by decide +kernel : ∀ t : Fin grid0.N, _)

theorem tlt (t : Fin cfg0.N) : t.val < 16 := by
  have h : cfg0.N = 16 := (by decide +kernel : grid0.N = 16)
  exact h ▸ t.isLt

/-- The codes' block at point `t`, read at an index. -/
theorem iblk0_apply (c : Dev nD) (t : Fin cfg0.N) (r : Fin 512) (k : Fin 2560) :
    (iblk m c 0 t : Vec Ideal S512x2560 .i8) (ix2 r k) = m ((c.tc : Thread nD τ).loc main_arg0) (ix2 ⟨512 * t.val + r.val, by have := tlt t; omega⟩ k) := by
  show ((cfg0.win 0).blk t).view.read (Elt Ideal) (V m c main_arg0) (ix2 r k) = _
  rw [V_main_arg0]
  blk_point [idx0 t]

/-- The row scales' block at point `t`, read at an index. -/
theorem iblk1_apply (c : Dev nD) (t : Fin cfg0.N) (r : Fin 512) :
    (iblk m c 1 t : Vec Ideal S512x1 .f32) (ix2 r 0) = m ((c.tc : Thread nD τ).loc main_arg1) (ix2 ⟨512 * t.val + r.val, by have := tlt t; omega⟩ 0) := by
  show ((cfg0.win 1).blk t).view.read (Elt Ideal) (V m c main_arg1) (ix2 r 0) = _
  rw [V_main_arg1]
  blk_point [idx1 t]

/-- The normalisation's weights, whole at every point. -/
theorem iblk2_apply (c : Dev nD) (t : Fin cfg0.N) (C : Fin 6912) :
    (iblk m c 2 t : Vec Ideal S1x6912 .f32) (ix2 0 C) = m ((c.tc : Thread nD τ).loc main_arg2) (ix2 0 C) := by
  show ((cfg0.win 2).blk t).view.read (Elt Ideal) (V m c main_arg2) (ix2 0 C) = _
  rw [V_main_arg2]
  blk_point [idx2 t]

/-- The matrices' scales, whole at every point. -/
theorem iblk3_apply (c : Dev nD) (t : Fin cfg0.N) (s : Fin 2) :
    (iblk m c 3 t : Vec Ideal S2 .f32) (ix1 s) = m ((c.tc : Thread nD τ).loc main_arg3) (ix1 s) := by
  show ((cfg0.win 3).blk t).view.read (Elt Ideal) (V m c main_arg3) (ix1 s) = _
  rw [V_main_arg3]
  blk_point [idx3 t]

/-- The repacked gate weights, whole at every point. -/
theorem iblk4_eq (c : Dev nD) (t : Fin cfg0.N) : (iblk m c 4 t : Vec Ideal S2560x1792 .i8) = repackH (m ((c.tc : Thread nD τ).loc main_arg4)) := by
  funext y
  show ((cfg0.win 4).blk t).view.read (Elt Ideal) (V m c main_v16) y = _
  rw [V_wg]
  blk_point [idx4 t]

/-- The repacked up weights, whole at every point. -/
theorem iblk5_eq (c : Dev nD) (t : Fin cfg0.N) : (iblk m c 5 t : Vec Ideal S2560x1792 .i8) = repackH (m ((c.tc : Thread nD τ).loc main_arg5)) := by
  funext y
  show ((cfg0.win 5).blk t).view.read (Elt Ideal) (V m c main_v33) y = _
  rw [V_wu]
  blk_point [idx5 t]

/-- Row `r` of point `t`'s inner values is row `512 t + r`. -/
theorem mB_row (c : Dev nD) (t : Fin cfg0.N) (r : Fin 512) :
    (fun C => mB (F := Ideal) m c t (ix2 r C)) = row m c ⟨512 * t.val + r.val, by have := tlt t; omega⟩ := by
  funext C
  unfold mB
  rw [iblk4_eq, iblk5_eq]
  refine (mF_apply _ _ _ _ _ r C).trans ?_
  unfold row
  rw [iblk1_apply, iblk3_apply, iblk3_apply]
  simp only [iblk0_apply]

theorem gw_eq (c : Dev nD) (t : Fin cfg0.N) : (fun C => (iblk m c 2 t : Vec Ideal S1x6912 .f32) (ix2 0 C)) = gw m c := by
  funext C; exact iblk2_apply m c t C

/-- The codes of point `t`'s row `r`. -/
theorem blk6_apply (c : Dev nD) (t : Fin cfg0.N) (r : Fin 512) (C : Fin 6912) :
    codesF (F := Ideal) (mB m c t) (iblk m c 2 t) (ix2 r C) = cod (row m c ⟨512 * t.val + r.val, by have := tlt t; omega⟩) (gw m c) C :=
  (codesF_apply _ _ r C).trans (congrArg₂ (fun v g => cod v g C) (mB_row m c t r) (gw_eq m c t))

/-- The scales of point `t`, laid out. -/
theorem blk7_apply (c : Dev nD) (t : Fin cfg0.N) (z : Fin 1) (a : Fin 4) (b : Fin 128) :
    k0_pay16 (F := Ideal) (scaleL (mB m c t) (iblk m c 2 t)) (ix3 z a b)
      = scl (row m c ⟨512 * t.val + (a.val * 128 + b.val), by have := tlt t; omega⟩) (gw m c) := by
  obtain rfl : z = 0 := Subsingleton.elim _ _
  exact (pay16_apply _ a b).trans ((scaleL_apply _ _ _ b).trans (congrArg₂ scl (mB_row m c t ⟨a.val * 128 + b.val, by omega⟩) (gw_eq m c t)))

/-- The reciprocal root mean squares of point `t`, laid out. -/
theorem blk8_apply (c : Dev nD) (t : Fin cfg0.N) (z : Fin 1) (a : Fin 4) (b : Fin 128) :
    k0_pay1 (F := Ideal) (k0_pay17 (rstdL (mB m c t))) (ix3 z a b)
      = RowQuant.rstd D (row m c ⟨512 * t.val + (a.val * 128 + b.val), by have := tlt t; omega⟩) := by
  obtain rfl : z = 0 := Subsingleton.elim _ _
  exact (pay17_apply _ a b).trans ((rstdL_apply _ _ b).trans (congrArg (RowQuant.rstd D) (mB_row m c t ⟨a.val * 128 + b.val, by omega⟩)))

/-- The codes' array after the run is the formula. -/
theorem arr0_eq (c : Dev nD) : (dats (F := Ideal) m 0 c).arrAt 6 cfg0.N = G0 m c := by
  refine (dats m 0 c).arrAt_eq_of_covers 6 _ (by decide +kernel) fun t hf y => ?_
  blk_simp
  rw [after0_6]
  refine (congrArg _ (eq_ix2 (n0 := 512) (n1 := 6912) y)).trans ((blk6_apply m c t _ _).trans ?_)
  unfold G0
  refine congrArg₂ (fun r C => cod (row m c r) (gw m c) C) (Fin.ext ?_) (Fin.ext ?_)
  · blk_simp
    rw [idx6 t]
    show 512 * t.val + (y 0).val = t.val * 512 + (y 0).val
    omega
  · blk_simp
    rw [idx6 t]
    show (y 1).val = 0 * 6912 + (y 1).val
    omega

/-- The scales' array after the run is the formula. -/
theorem arr1_eq (c : Dev nD) : (dats (F := Ideal) m 0 c).arrAt 7 cfg0.N = G1 m c := by
  refine (dats m 0 c).arrAt_eq_of_covers 7 _ (by decide +kernel) fun t hf y => ?_
  blk_simp
  rw [after0_7]
  refine (congrArg _ (eq_ix3 (n0 := 1) (n1 := 4) (n2 := 128) y)).trans ((blk7_apply m c t _ _ _).trans ?_)
  unfold G1
  refine congrArg (fun r => scl (row m c r) (gw m c)) (Fin.ext ?_)
  unfold lay
  blk_point [idx7 t]
  exact Fin.ext (by dsimp only; omega)

/-- The reciprocal root mean squares' array after the run is the formula. -/
theorem arr2_eq (c : Dev nD) : (dats (F := Ideal) m 0 c).arrAt 8 cfg0.N = G2 m c := by
  refine (dats m 0 c).arrAt_eq_of_covers 8 _ (by decide +kernel) fun t hf y => ?_
  blk_simp
  rw [after0_8]
  refine (congrArg _ (eq_ix3 (n0 := 1) (n1 := 4) (n2 := 128) y)).trans ((blk8_apply m c t _ _ _).trans ?_)
  unfold G2
  refine congrArg (fun r => RowQuant.rstd D (row m c r)) (Fin.ext ?_)
  unfold lay
  blk_point [idx8 t]
  exact Fin.ext (by dsimp only; omega)

end Cert.GateUpIdeal.Val

namespace Cert.GateUpClaims
open Idealize.ShloMosaic Idealize.ShloMosaic.TcCoe Idealize.SL.Sem
open Cert.GateUpSpec

/-- The kernel's run: the three result arrays are the formulas of the arguments. -/
theorem run (m : (ℓ : Loc Cert.GateUpIdeal.nD Cert.GateUpIdeal.τ Cert.GateUpIdeal.sig) → Buf (Elt Ideal) ℓ) (ρ : Dev Cert.GateUpIdeal.nD → PrngReg) :
    θ_run Cert.GateUpIdeal.defs (onTc (τ := Cert.GateUpIdeal.τ) (Cert.GateUpIdeal.main (F := Ideal))) ⟨m, fun _ => 0, ρ⟩ fun r =>
      ∀ c : Dev Cert.GateUpIdeal.nD, r.2.mem ((c.tc : Thread Cert.GateUpIdeal.nD Cert.GateUpIdeal.τ).loc Cert.GateUpIdeal.main_v34_0) = Cert.GateUpIdeal.Val.G0 m c
        ∧ r.2.mem ((c.tc : Thread Cert.GateUpIdeal.nD Cert.GateUpIdeal.τ).loc Cert.GateUpIdeal.main_v34_1) = Cert.GateUpIdeal.Val.G1 m c
        ∧ r.2.mem ((c.tc : Thread Cert.GateUpIdeal.nD Cert.GateUpIdeal.τ).loc Cert.GateUpIdeal.main_v34_2) = Cert.GateUpIdeal.Val.G2 m c :=
  (θ_run _ _ _).mono (fun _ h c => ⟨((h.1 c).1 6).trans (Cert.GateUpIdeal.Val.arr0_eq m c), ((h.1 c).1 7).trans (Cert.GateUpIdeal.Val.arr1_eq m c),
    ((h.1 c).1 8).trans (Cert.GateUpIdeal.Val.arr2_eq m c)⟩) (Cert.GateUpIdeal.Val.run_main (F := Ideal) m ρ)

/-- Equal argument arrays give the reference's rows and the kernel's rows alike. -/
theorem rows (m : (ℓ : Loc Cert.GateUpIdeal.nD Cert.GateUpIdeal.τ Cert.GateUpIdeal.sig) → Buf (Elt Ideal) ℓ)
    (m' : (ℓ : Loc Cert.GateUpRefIdeal.nD Cert.GateUpRefIdeal.τ Cert.GateUpRefIdeal.sig) → Buf (Elt Ideal) ℓ) (c : Dev Cert.GateUpIdeal.nD)
    (h0 : m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0))
    (h1 : m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1))
    (h3 : m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3))
    (h4 : m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4))
    (h5 : m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5))
    (r : Fin 8192) : (fun C => Cert.GateUpRefIdeal.Eq.mM m' c (ix2 r C)) = Cert.GateUpIdeal.Val.row m c r := by
  funext C
  unfold Cert.GateUpRefIdeal.Eq.mM
  rw [h0, h1, h3, h4, h5]
  exact Cert.GateUpRefIdeal.Eq.refM_apply _ _ _ _ _ r C

/-- The kernel and the reference leave equal results on equal arguments. -/
theorem algebraic : Cert.algebraic_GateUpIdeal_GateUpRefIdeal := by
  intro m ρ m' ρ' _ hagree
  have hr := fun c => rows m m' c (hagree c).1 (hagree c).2.1 (hagree c).2.2.2.1 (hagree c).2.2.2.2.1 (hagree c).2.2.2.2.2
  have hN : ∀ (c : Dev Cert.GateUpIdeal.nD) (r : Fin 8192) (C : Fin 6912),
      Cert.GateUpRefIdeal.Eq.refN (Cert.GateUpRefIdeal.Eq.mM m' c) (m' ((c.tc : Thread Cert.GateUpRefIdeal.nD Cert.GateUpRefIdeal.τ).loc Cert.GateUpRefIdeal.main_arg2)) (ix2 r C)
        = normed (Cert.GateUpIdeal.Val.row m c r) (Cert.GateUpIdeal.Val.gw m c) C := fun c r C => by
    rw [Cert.GateUpRefIdeal.Eq.refN_apply, hr, (hagree c).2.2.1]
    rfl
  have hS : ∀ (c : Dev Cert.GateUpIdeal.nD) (r : Fin 8192),
      Cert.GateUpRefIdeal.Eq.refS (Cert.GateUpRefIdeal.Eq.refA (Cert.GateUpRefIdeal.Eq.refN (Cert.GateUpRefIdeal.Eq.mM m' c) (m' ((c.tc : Thread Cert.GateUpRefIdeal.nD Cert.GateUpRefIdeal.τ).loc Cert.GateUpRefIdeal.main_arg2)))) (ix1 r)
        = scl (Cert.GateUpIdeal.Val.row m c r) (Cert.GateUpIdeal.Val.gw m c) := fun c r => by
    rw [Cert.GateUpRefIdeal.Eq.refS_apply, Cert.GateUpRefIdeal.Eq.refA_apply]
    unfold scl
    exact congrArg (fun v => RowQuant.scale (RowQuant.amax v)) (funext fun C => hN c r C)
  refine ⟨fun c => Cert.GateUpIdeal.Val.G0 m c, fun c => Cert.GateUpIdeal.Val.G1 m c, fun c => Cert.GateUpIdeal.Val.G2 m c, ?_, ?_⟩
  · exact (θ_run Cert.GateUpIdeal.defs _ _).mono (fun _ h c => ⟨(h.1 c).1, (h.1 c).2.1, (h.1 c).2.2, h.2.1 c⟩)
      (θ_run_and (run m ρ) (Cert.GateUpIdeal.Val.frame (F := Ideal) m ρ))
  · refine (θ_run Cert.GateUpRefIdeal.defs _ _).mono (fun _ h c => ⟨(h c).1.trans ?_, (h c).2.1.trans ?_, (h c).2.2.1.trans ?_, (h c).2.2.2⟩)
      (Cert.GateUpRefIdeal.Value.run (F := Ideal) m' ρ')
    · rw [Cert.GateUpRefIdeal.Eq.res0_eq]
      funext i
      refine (congrArg _ (eq_ix2 (n0 := 8192) (n1 := 6912) i)).trans ((Cert.GateUpRefIdeal.Eq.refC_apply _ _ (i 0) (i 1)).trans ?_)
      exact congrArg₂ (fun a b => RowQuant.code (Ideal.div a b)) (hN c _ _) (hS c _)
    · rw [Cert.GateUpRefIdeal.Eq.res1_eq]
      funext i
      exact (congrArg _ (eq_ix3 (n0 := 16) (n1 := 4) (n2 := 128) i)).trans ((Cert.GateUpRefIdeal.Eq.lay_apply _ (i 0) (i 1) (i 2)).trans (hS c _))
    · rw [Cert.GateUpRefIdeal.Eq.res2_eq]
      funext i
      refine (congrArg _ (eq_ix3 (n0 := 16) (n1 := 4) (n2 := 128) i)).trans ((Cert.GateUpRefIdeal.Eq.lay_apply _ (i 0) (i 1) (i 2)).trans
        ((Cert.GateUpRefIdeal.Eq.refR_apply _ _).trans ?_))
      rw [hr]
      rfl

/-- The reference's run leaves its arguments unchanged and every counter at zero. -/
theorem refFrame : Cert.quiescent_GateUpRefIdeal := fun m ρ _ =>
  (θ_run Cert.GateUpRefIdeal.defs _ _).mono (fun _ h => ⟨fun c => (h c).2.2.2, sem_eq_zero_of_no_sems rfl _⟩) (Cert.GateUpRefIdeal.Value.run (F := Ideal) m ρ)

end Cert.GateUpClaims
-- ==== Proof.QkvVal.lean ====
module

public import proofs.«01_k».proof.Proof.Gen.Qkv.Frame
public import proofs.«01_k».proof.Proof.Gen.Qkv.Loops
public import Idealize.ShloMosaic.Lib.Claim
public import Idealize.ShloMosaic.Lib.VecWindow
public import Idealize.ShloMosaic.Lib.WritesUnit
public import Idealize.ShloMosaic.Lib.ValueIdxCore

@[expose] public section
set_option maxRecDepth 16384
noncomputable section
namespace Cert.Qkv.Val
open Cert.Qkv Cert.Qkv.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The unpacking loop runs 20 trips. -/
theorem trips1 : k0_t1_loop.trips = 20 := by decide +kernel

/-- The quantisation's loop runs 16 trips. -/
theorem trips2 : k0_t2_loop.trips = 16 := by decide +kernel

/-- The query projection's loop runs 10 trips. -/
theorem trips3 : k0_t3_loop.trips = 10 := by decide +kernel

/-- The packed rows of trip `k` lie inside the query weights, -/
theorem inb1 (k : Fin k0_t1_loop.trips) : ∀ a, k0_off1 k a + S128x640.size a ≤ S2560x640.size a := by
  revert k; decide +kernel

/-- and inside the key and value weights. -/
theorem inb6 (k : Fin k0_t1_loop.trips) : ∀ a, k0_off6 k a + S128x128.size a ≤ S2560x128.size a := by
  revert k; decide +kernel

/-- The body unpacks at the first grid point and at no other. -/
theorem cond_iff (t : Fin cfg0.N) : k0_cond1 (grid0.coords t) = 1#1 ↔ t.val = 0 := by
  revert t; decide +kernel

/-- The 128 packed rows of the query weights that trip `k` of the first loop reads, -/
abbrev packQ (x : Vec F S2560x640 .i8) (k : Fin k0_t1_loop.trips) : Vec F S128x640 .i8 :=
  VecWindow.window x (k0_off1 k) S128x640.size (inb1 k)

/-- and those of the key or value weights. -/
abbrev packS (x : Vec F S2560x128 .i8) (k : Fin k0_t1_loop.trips) : Vec F S128x128 .i8 :=
  VecWindow.window x (k0_off6 k) S128x128.size (inb6 k)

/-- Field `f` of a packed tile of the query weights, unpacked, -/
def fieldQ (f : ℕ) (w : Vec F S128x640 .i8) : Vec F S128x640 .bf16 :=
  if f = 0 then k0_pay2 w else if f = 1 then k0_pay3 w else if f = 2 then k0_pay4 w else k0_pay5 w

/-- of the key weights, -/
def fieldK (f : ℕ) (w : Vec F S128x128 .i8) : Vec F S128x128 .bf16 :=
  if f = 0 then k0_pay6 w else if f = 1 then k0_pay7 w else if f = 2 then k0_pay9 (F := F) (k0_pay8 w) 4#32 else k0_pay10 w

/-- and of the value weights. -/
def fieldV (f : ℕ) (w : Vec F S128x128 .i8) : Vec F S128x128 .bf16 :=
  if f = 0 then k0_pay11 w else if f = 1 then k0_pay18 (F := F) (k0_pay12 w) 50529027#32 else if f = 2 then k0_pay19 w else k0_pay20 w

/-- The trip of the unpacking that works on weight row `r`. -/
def wTrip (r : Fin 2560) : Fin k0_t1_loop.trips := ⟨r.val / 128, by have := r.isLt; rw [trips1]; omega⟩

/-- The row of that trip's tile. -/
def wRow (r : Fin 2560) : Fin 128 := ⟨r.val % 128, Nat.mod_lt _ (by decide)⟩

/-- The unpacked weights, row block by row block: 640 columns from each field of the query weights, then 128 from each of
    the key weights, then 128 from each of the value weights. -/
def wF (xq : Vec F S2560x640 .i8) (xk xv : Vec F S2560x128 .i8) : Vec F S2560x3584 .bf16 := fun i =>
  if (i 1).val < 2560 then
    fieldQ ((i 1).val / 640) (packQ xq (wTrip (i 0))) (ix2 (wRow (i 0)) ⟨(i 1).val % 640, Nat.mod_lt _ (by decide)⟩)
  else if (i 1).val < 3072 then
    fieldK (((i 1).val - 2560) / 128) (packS xk (wTrip (i 0))) (ix2 (wRow (i 0)) ⟨(i 1).val % 128, Nat.mod_lt _ (by decide)⟩)
  else
    fieldV (((i 1).val - 3072) / 128) (packS xv (wTrip (i 0))) (ix2 (wRow (i 0)) ⟨(i 1).val % 128, Nat.mod_lt _ (by decide)⟩)

/-- The 32 rows of `x` that trip `k` of the second loop reads. -/
abbrev rowsT (x : Vec F S512x2560 .bf16) (k : Fin k0_t2_loop.trips) : Vec F S32x2560 .bf16 :=
  VecWindow.window x (k0_off15 k) S32x2560.size (k0_off15_inb k)

/-- The trip of the second loop that works on row `r`. -/
def rowTrip (r : Fin 512) : Fin k0_t2_loop.trips := ⟨r.val / 32, by have := r.isLt; rw [trips2]; omega⟩

/-- The row of that trip's strip. -/
def rowIn (r : Fin 512) : Fin 32 := ⟨r.val % 32, Nat.mod_lt _ (by decide)⟩

/-- The codes of `x`'s normalized rows, -/
def codesF (x : Vec F S512x2560 .bf16) (g : Vec F S1x2560 .f32) : Vec F S512x2560 .i8 := fun i =>
  k0_pay16 (rowsT x (rowTrip (i 0))) g (ix2 (rowIn (i 0)) (i 1))

/-- the same as floats, -/
def clipF (x : Vec F S512x2560 .bf16) (g : Vec F S1x2560 .f32) : Vec F S512x2560 .bf16 := fun i =>
  k0_pay17 (rowsT x (rowTrip (i 0))) g (ix2 (rowIn (i 0)) (i 1))

/-- and each row's scale, in every lane. -/
def scaleL (x : Vec F S512x2560 .bf16) (g : Vec F S1x2560 .f32) : Vec F S512x128 .f32 := fun i =>
  k0_pay21 (k0_pay14 (rowsT x (rowTrip (i 0))) g) (ix2 (rowIn (i 0)) (i 1))

section
variable (cs : Vec F S512x2560 .bf16) (a : Vec F S512x128 .f32) (x2 x3 : Vec F S512x128 .f32) (x4 : Vec F S3 .f32) (w : Vec F S2560x3584 .bf16)

/-- What trip `k` of the third loop stores: 256 columns of the queries. -/
def qT (k : Fin k0_t3_loop.trips) : Vec F S512x256 .bf16 :=
  k0_pay23 (x4 (ix1 0)) cs (VecWindow.window w (k0_off17 k) S2560x256.size (k0_off17_inb k)) a x2 x3 x2 x3

/-- The queries. -/
def qF : Vec F S512x2560 .bf16 := fun i =>
  qT cs a x2 x3 x4 w ⟨(i 1).val / 256, by have : (i 1).val < 2560 := (i 1).isLt; rw [trips3]; omega⟩
    (ix2 (i 0) ⟨(i 1).val % 256, Nat.mod_lt _ (by decide)⟩)

/-- 256 columns of the weights. -/
abbrev wCols (C : ℕ) (inb : ∀ a, ![0, C] a + S2560x256.size a ≤ S2560x3584.size a) : Vec F S2560x256 .bf16 :=
  VecWindow.window w ![0, C] S2560x256.size inb

/-- The first 256 columns of the keys, -/
def kT0 : Vec F S512x256 .bf16 :=
  k0_pay26 (k0_pay24 (x4 (ix1 1)) cs (wCols w 2560 inb_S2560x3584_S2560x256_0_2560) a)
    (k0_pay25 (x4 (ix1 1)) cs (wCols w 2560 inb_S2560x3584_S2560x256_0_2560) a) x2 x3 x2 x3

/-- the last 256, -/
def kT1 : Vec F S512x256 .bf16 :=
  k0_pay31 (k0_pay27 (x4 (ix1 1)) cs (wCols w 2816 inb_S2560x3584_S2560x256_0_2816) a)
    (k0_pay29 (x4 (ix1 1)) cs (wCols w 2816 inb_S2560x3584_S2560x256_0_2816) a x2)
    (k0_pay30 (x4 (ix1 1)) cs (wCols w 2816 inb_S2560x3584_S2560x256_0_2816) a) x3 x2 x3

/-- the first 256 of the values, -/
def vT0 : Vec F S512x256 .bf16 := k0_pay32 (x4 (ix1 2)) cs (wCols w 3072 inb_S2560x3584_S2560x256_0_3072) a

/-- the last 256. -/
def vT1 : Vec F S512x256 .bf16 := k0_pay1 (x4 (ix1 2)) (k0_pay33 cs (wCols w 3328 inb_S2560x3584_S2560x256_0_3328) a)
end

/-- One word of three, read by its one-word rectangle. -/
theorem word_read (v : View sig .tc .smem S3 .f32) (X : BufTy.Contents (Elt F) v.ty) (k : Fin 3)
    (inb : ∀ a, (![k.val] : Fin 1 → ℕ) a + (![1] : Fin 1 → ℕ) a ≤ S3.size a) (h) :
    View.readAt (Elt F) v (Rect.unit (s := S3) ![k.val] ![1] inb).toLoadRect X (Shape.Idx.first h) = v.read (Elt F) X (ix1 k) :=
  congrArg (v.read (Elt F) X) (funext (Fin.forall_fin_one.mpr (Fin.ext (by rfl))))

/-- Two blocks of 256 columns side by side. -/
def halves (p0 p1 : Vec F S512x256 .bf16) : Vec F S512x512 .bf16 := fun i =>
  if h : (i 1).val < 256 then p0 (ix2 (i 0) ⟨(i 1).val, h⟩)
  else p1 (ix2 (i 0) ⟨(i 1).val - 256, by have : (i 1).val < 512 := (i 1).isLt; omega⟩)

/-- A buffer written in two blocks of columns. -/
theorem read_halves (v : View sig .tc .vmem S512x512 .bf16) (G : BufTy.Contents (Elt F) v.ty) (p0 p1 : Vec F S512x256 .bf16) :
    v.read (Elt F) (v.writes (Elt F) G
      [⟨Rect.unit (s := S512x512) ![0, 256] S512x256.size inb_S512x512_S512x256_0_256, p1⟩,
       ⟨Rect.unit (s := S512x512) ![0, 0] S512x256.size inb_S512x512_S512x256_0_0, p0⟩]) = halves p0 p1 := by
  funext y
  have hy : (y 1).val < 512 := (y 1).isLt
  unfold halves
  by_cases h : (y 1).val < 256
  · rw [dif_pos h, View.read_writes_cons_unit_of_not_mem _ _ _ _ _ y rfl (1 : Fin 2) (Or.inl h)]
    exact View.read_writes_cons_unit_of_mem _ _ _ _ _ y (ix2 (y 0) ⟨(y 1).val, h⟩) rfl
      (Fin.forall_fin_two.mpr ⟨(Nat.zero_add _).symm, (Nat.zero_add _).symm⟩)
  · rw [dif_neg h]
    exact View.read_writes_cons_unit_of_mem _ _ _ _ _ y (ix2 (y 0) ⟨(y 1).val - 256, by omega⟩) rfl
      (Fin.forall_fin_two.mpr ⟨(Nat.zero_add _).symm, by show (y 1).val = 256 + ((y 1).val - 256); omega⟩)

/-! ## Four fields stored side by side -/
section
variable {n : ℕ} (v : View sig .tc .vmem S2560x3584 .bf16) (G : BufTy.Contents (Elt F) v.ty) (L : List (View.Piece (Elt F) S2560x3584 .bf16))
  (k C : ℕ) (o0 o1 o2 o3 : Fin 2 → ℕ)
  (i0 : ∀ a, o0 a + (⟨2, ![128, n]⟩ : Shape).size a ≤ S2560x3584.size a) (i1 : ∀ a, o1 a + (⟨2, ![128, n]⟩ : Shape).size a ≤ S2560x3584.size a)
  (i2 : ∀ a, o2 a + (⟨2, ![128, n]⟩ : Shape).size a ≤ S2560x3584.size a) (i3 : ∀ a, o3 a + (⟨2, ![128, n]⟩ : Shape).size a ≤ S2560x3584.size a)
  (p0 p1 p2 p3 : Vec F ⟨2, ![128, n]⟩ .bf16) (y : S2560x3584.Idx)

/-- Four tiles of `n` columns each, in front of other pieces. -/
abbrev four : List (View.Piece (Elt F) S2560x3584 .bf16) :=
  ⟨Rect.unit (s := S2560x3584) o3 (⟨2, ![128, n]⟩ : Shape).size i3, p3⟩ :: ⟨Rect.unit (s := S2560x3584) o2 (⟨2, ![128, n]⟩ : Shape).size i2, p2⟩
    :: ⟨Rect.unit (s := S2560x3584) o1 (⟨2, ![128, n]⟩ : Shape).size i1, p1⟩ :: ⟨Rect.unit (s := S2560x3584) o0 (⟨2, ![128, n]⟩ : Shape).size i0, p0⟩ :: L

/-- Left of the four tiles, right of them or above them, the pieces behind them are read. -/
theorem four_out (e0 : o0 = ![128 * k, C]) (e1 : o1 = ![128 * k, C + n]) (e2 : o2 = ![128 * k, C + 2 * n]) (e3 : o3 = ![128 * k, C + 3 * n])
    (h : (y 0).val < 128 * k ∨ (y 1).val < C ∨ C + 4 * n ≤ (y 1).val) :
    v.read (Elt F) (v.writes (Elt F) G (four L o0 o1 o2 o3 i0 i1 i2 i3 p0 p1 p2 p3)) y = v.read (Elt F) (v.writes (Elt F) G L) y := by
  unfold four
  rcases h with h | h | h
  · rw [View.read_writes_cons_unit_of_not_mem _ _ _ _ _ y e3 (0 : Fin 2) (Or.inl h),
      View.read_writes_cons_unit_of_not_mem _ _ _ _ _ y e2 (0 : Fin 2) (Or.inl h),
      View.read_writes_cons_unit_of_not_mem _ _ _ _ _ y e1 (0 : Fin 2) (Or.inl h),
      View.read_writes_cons_unit_of_not_mem _ _ _ _ _ y e0 (0 : Fin 2) (Or.inl h)]
  · rw [View.read_writes_cons_unit_of_not_mem _ _ _ _ _ y e3 (1 : Fin 2) (Or.inl (show (y 1).val < C + 3 * n by omega)),
      View.read_writes_cons_unit_of_not_mem _ _ _ _ _ y e2 (1 : Fin 2) (Or.inl (show (y 1).val < C + 2 * n by omega)),
      View.read_writes_cons_unit_of_not_mem _ _ _ _ _ y e1 (1 : Fin 2) (Or.inl (show (y 1).val < C + n by omega)),
      View.read_writes_cons_unit_of_not_mem _ _ _ _ _ y e0 (1 : Fin 2) (Or.inl h)]
  · rw [View.read_writes_cons_unit_of_not_mem _ _ _ _ _ y e3 (1 : Fin 2) (Or.inr (show C + 3 * n + n ≤ (y 1).val by omega)),
      View.read_writes_cons_unit_of_not_mem _ _ _ _ _ y e2 (1 : Fin 2) (Or.inr (show C + 2 * n + n ≤ (y 1).val by omega)),
      View.read_writes_cons_unit_of_not_mem _ _ _ _ _ y e1 (1 : Fin 2) (Or.inr (show C + n + n ≤ (y 1).val by omega)),
      View.read_writes_cons_unit_of_not_mem _ _ _ _ _ y e0 (1 : Fin 2) (Or.inr (show C + n ≤ (y 1).val by omega))]

/-- Within the four tiles, the tile is read whose columns these are. -/
theorem four_in (e0 : o0 = ![128 * k, C]) (e1 : o1 = ![128 * k, C + n]) (e2 : o2 = ![128 * k, C + 2 * n]) (e3 : o3 = ![128 * k, C + 3 * n])
    (hr : (y 0).val = 128 * k + (wRow (y 0)).val) (hl : C ≤ (y 1).val) (hu : (y 1).val < C + 4 * n) (a : Elt F .bf16)
    (a0 : ∀ z : Fin n, (y 1).val = C + z.val → p0 (ix2 (wRow (y 0)) z) = a)
    (a1 : ∀ z : Fin n, (y 1).val = C + n + z.val → p1 (ix2 (wRow (y 0)) z) = a)
    (a2 : ∀ z : Fin n, (y 1).val = C + 2 * n + z.val → p2 (ix2 (wRow (y 0)) z) = a)
    (a3 : ∀ z : Fin n, (y 1).val = C + 3 * n + z.val → p3 (ix2 (wRow (y 0)) z) = a) :
    v.read (Elt F) (v.writes (Elt F) G (four L o0 o1 o2 o3 i0 i1 i2 i3 p0 p1 p2 p3)) y = a := by
  unfold four
  by_cases c3 : C + 3 * n ≤ (y 1).val
  · exact (View.read_writes_cons_unit_of_mem _ _ _ _ _ y (ix2 (wRow (y 0)) ⟨(y 1).val - (C + 3 * n), by omega⟩) e3
      (Fin.forall_fin_two.mpr ⟨hr, by show (y 1).val = C + 3 * n + ((y 1).val - (C + 3 * n)); omega⟩)).trans (a3 _ (by dsimp only; omega))
  rw [View.read_writes_cons_unit_of_not_mem _ _ _ _ _ y e3 (1 : Fin 2) (Or.inl (show (y 1).val < C + 3 * n by omega))]
  by_cases c2 : C + 2 * n ≤ (y 1).val
  · exact (View.read_writes_cons_unit_of_mem _ _ _ _ _ y (ix2 (wRow (y 0)) ⟨(y 1).val - (C + 2 * n), by omega⟩) e2
      (Fin.forall_fin_two.mpr ⟨hr, by show (y 1).val = C + 2 * n + ((y 1).val - (C + 2 * n)); omega⟩)).trans (a2 _ (by dsimp only; omega))
  rw [View.read_writes_cons_unit_of_not_mem _ _ _ _ _ y e2 (1 : Fin 2) (Or.inl (show (y 1).val < C + 2 * n by omega))]
  by_cases c1 : C + n ≤ (y 1).val
  · exact (View.read_writes_cons_unit_of_mem _ _ _ _ _ y (ix2 (wRow (y 0)) ⟨(y 1).val - (C + n), by omega⟩) e1
      (Fin.forall_fin_two.mpr ⟨hr, by show (y 1).val = C + n + ((y 1).val - (C + n)); omega⟩)).trans (a1 _ (by dsimp only; omega))
  rw [View.read_writes_cons_unit_of_not_mem _ _ _ _ _ y e1 (1 : Fin 2) (Or.inl (show (y 1).val < C + n by omega))]
  exact (View.read_writes_cons_unit_of_mem _ _ _ _ _ y (ix2 (wRow (y 0)) ⟨(y 1).val - C, by omega⟩) e0
      (Fin.forall_fin_two.mpr ⟨hr, by show (y 1).val = C + ((y 1).val - C); omega⟩)).trans (a0 _ (by dsimp only; omega))
end

section
variable (𝒱 : Variants) (c : Dev nD) (bd : Option 𝒱.V) (i : grid0.Coords) (u1 : Memref sig .tc .vmem S512x2560 .bf16) (w1 : u1.IsWhole) (u2 : Memref sig .tc .vmem S1x2560 .f32) (w2 : u2.IsWhole) (u3 : Memref sig .tc .vmem S512x128 .f32) (w3 : u3.IsWhole) (u4 : Memref sig .tc .vmem S512x128 .f32) (w4 : u4.IsWhole) (u5 : Memref sig .tc .smem S3 .f32) (w5 : u5.IsWhole) (u6 : Memref sig .tc .vmem S2560x640 .i8) (w6 : u6.IsWhole) (u7 : Memref sig .tc .vmem S2560x128 .i8) (w7 : u7.IsWhole) (u8 : Memref sig .tc .vmem S2560x128 .i8) (w8 : u8.IsWhole) (u9 : Memref sig .tc .vmem S512x2560 .bf16) (w9 : u9.IsWhole) (u10 : Memref sig .tc .vmem S512x512 .bf16) (w10 : u10.IsWhole) (u11 : Memref sig .tc .vmem S512x512 .bf16) (w11 : u11.IsWhole) (u12 : Memref sig .tc .vmem S512x2560 .i8) (w12 : u12.IsWhole) (u13 : Memref sig .tc .vmem S1x4x128 .f32) (w13 : u13.IsWhole) (u14 : Memref sig .tc .vmem S2560x3584 .bf16) (w14 : u14.IsWhole) (u15 : Memref sig .tc .vmem S512x2560 .bf16) (w15 : u15.IsWhole) (u16 : Memref sig .tc .vmem S512x128 .f32) (w16 : u16.IsWhole)

section
variable (h1 : k0_cond1 i = 1#1) (X6 : BufTy.Contents (Elt F) u6.view.ty) (X7 : BufTy.Contents (Elt F) u7.view.ty) (X8 : BufTy.Contents (Elt F) u8.view.ty)
  (xq : Vec F S2560x640 .i8) (xk xv : Vec F S2560x128 .i8)
  (h6 : u6.view.read (Elt F) X6 = xq) (h7 : u7.view.read (Elt F) X7 = xk) (h8 : u8.view.read (Elt F) X8 = xv)
include h6 h7 h8

/-- The twelve pieces trip `k` of the unpacking stores, last first. -/
theorem trip_w (k : Fin k0_t1_loop.trips) (L : List (View.Piece (Elt F) S2560x3584 .bf16)) :
    tripL_k0_t1 (F := F) 𝒱 c bd i u1 w1 u2 w2 u3 w3 u4 w4 u5 w5 u6 w6 u7 w7 u8 w8 u9 w9 u10 w10 u11 w11 u12 w12 u13 w13 u14 w14 u15 w15 u16 w16 h1 X6 X7 X8 k ++ L
      = four (n := 128) (four (n := 128) (four (n := 640) L
          (k0_off2 k) (k0_off3 k) (k0_off4 k) (k0_off5 k) (k0_off2_inb i k h1) (k0_off3_inb i k h1) (k0_off4_inb i k h1) (k0_off5_inb i k h1)
            (fieldQ 0 (packQ xq k)) (fieldQ 1 (packQ xq k)) (fieldQ 2 (packQ xq k)) (fieldQ 3 (packQ xq k)))
          (k0_off7 k) (k0_off8 k) (k0_off9 k) (k0_off10 k) (k0_off7_inb i k h1) (k0_off8_inb i k h1) (k0_off9_inb i k h1) (k0_off10_inb i k h1)
            (fieldK 0 (packS xk k)) (fieldK 1 (packS xk k)) (fieldK 2 (packS xk k)) (fieldK 3 (packS xk k)))
          (k0_off11 k) (k0_off12 k) (k0_off13 k) (k0_off14 k) (k0_off11_inb i k h1) (k0_off12_inb i k h1) (k0_off13_inb i k h1) (k0_off14_inb i k h1)
            (fieldV 0 (packS xv k)) (fieldV 1 (packS xv k)) (fieldV 2 (packS xv k)) (fieldV 3 (packS xv k)) := by
  subst h6 h7 h8
  unfold tripL_k0_t1 trip_k0_t1
  dsimp only
  sl_unfold_words
  rfl

omit h6 h7 h8 in
/-- A field's entry, at equal field numbers and equal columns. -/
theorem at_field {n f f' : ℕ} (P : ℕ → Vec F ⟨2, ![128, n]⟩ .bf16) (r : Fin 128) (z z' : Fin n) (hf : f = f') (hz : z.val = z'.val) :
    P f (ix2 r z) = P f' (ix2 r z') := by
  subst hf; rw [Fin.ext hz]

/-- After the trips before `k` the rows of the weight buffer below `128 * k` hold the unpacked weights. -/
theorem loop_w (G : BufTy.Contents (Elt F) u14.view.ty) (k : ℕ) (hk : k ≤ 20) (y : S2560x3584.Idx) (hy : (y 0).val < 128 * k) :
    u14.view.read (Elt F) (u14.view.writes (Elt F) G (pb_k0_t1 (F := F) 𝒱 c bd i u1 w1 u2 w2 u3 w3 u4 w4 u5 w5 u6 w6 u7 w7 u8 w8 u9 w9 u10 w10 u11 w11 u12 w12 u13 w13 u14 w14 u15 w15 u16 w16 h1 X6 X7 X8 k)) y = wF xq xk xv y := by
  induction k with
  | zero => omega
  | succ k ih =>
    have hk' : k < k0_t1_loop.trips := by rw [trips1]; omega
    rw [pb_k0_t1_succ (F := F) 𝒱 c bd i u1 w1 u2 w2 u3 w3 u4 w4 u5 w5 u6 w6 u7 w7 u8 w8 u9 w9 u10 w10 u11 w11 u12 w12 u13 w13 u14 w14 u15 w15 u16 w16 h1 X6 X7 X8 ⟨k, hk'⟩]
    rw [trip_w 𝒱 c bd i u1 w1 u2 w2 u3 w3 u4 w4 u5 w5 u6 w6 u7 w7 u8 w8 u9 w9 u10 w10 u11 w11 u12 w12 u13 w13 u14 w14 u15 w15 u16 w16 h1 X6 X7 X8 xq xk xv h6 h7 h8 ⟨k, hk'⟩]
    have hc : (y 1).val < 3584 := (y 1).isLt
    by_cases hlt : (y 0).val < 128 * k
    · refine (four_out _ _ _ k 3072 _ _ _ _ _ _ _ _ _ _ _ _ y (k0_off11_eq ⟨k, hk'⟩) (k0_off12_eq ⟨k, hk'⟩) (k0_off13_eq ⟨k, hk'⟩) (k0_off14_eq ⟨k, hk'⟩) (Or.inl hlt)).trans ?_
      refine (four_out _ _ _ k 2560 _ _ _ _ _ _ _ _ _ _ _ _ y (k0_off7_eq ⟨k, hk'⟩) (k0_off8_eq ⟨k, hk'⟩) (k0_off9_eq ⟨k, hk'⟩) (k0_off10_eq ⟨k, hk'⟩) (Or.inl hlt)).trans ?_
      refine (four_out _ _ _ k 0 _ _ _ _ _ _ _ _ _ _ _ _ y (k0_off2_eq ⟨k, hk'⟩) (k0_off3_eq ⟨k, hk'⟩) (k0_off4_eq ⟨k, hk'⟩) (k0_off5_eq ⟨k, hk'⟩) (Or.inl hlt)).trans ?_
      exact ih (by omega) hlt
    · have hd : wTrip (y 0) = ⟨k, hk'⟩ := Fin.ext (by show (y 0).val / 128 = k; omega)
      have hr : (y 0).val = 128 * k + (wRow (y 0)).val := by show (y 0).val = 128 * k + (y 0).val % 128; omega
      unfold wF
      rw [hd]
      by_cases b2 : 3072 ≤ (y 1).val
      · rw [if_neg (by omega), if_neg (by omega)]
        refine four_in _ _ _ k 3072 _ _ _ _ _ _ _ _ _ _ _ _ y (k0_off11_eq ⟨k, hk'⟩) (k0_off12_eq ⟨k, hk'⟩) (k0_off13_eq ⟨k, hk'⟩) (k0_off14_eq ⟨k, hk'⟩) hr b2 (by omega) _ ?_ ?_ ?_ ?_
        all_goals
          intro z hz
          have hzl := z.isLt
          exact at_field (fun f => fieldV f (packS xv ⟨k, hk'⟩)) _ _ _ (by omega) (by dsimp only; omega)
      rw [four_out _ _ _ k 3072 _ _ _ _ _ _ _ _ _ _ _ _ y (k0_off11_eq ⟨k, hk'⟩) (k0_off12_eq ⟨k, hk'⟩) (k0_off13_eq ⟨k, hk'⟩) (k0_off14_eq ⟨k, hk'⟩) (Or.inr (Or.inl (by omega)))]
      by_cases b1 : 2560 ≤ (y 1).val
      · rw [if_neg (by omega), if_pos (by omega)]
        refine four_in _ _ _ k 2560 _ _ _ _ _ _ _ _ _ _ _ _ y (k0_off7_eq ⟨k, hk'⟩) (k0_off8_eq ⟨k, hk'⟩) (k0_off9_eq ⟨k, hk'⟩) (k0_off10_eq ⟨k, hk'⟩) hr b1 (by omega) _ ?_ ?_ ?_ ?_
        all_goals
          intro z hz
          have hzl := z.isLt
          exact at_field (fun f => fieldK f (packS xk ⟨k, hk'⟩)) _ _ _ (by omega) (by dsimp only; omega)
      rw [four_out _ _ _ k 2560 _ _ _ _ _ _ _ _ _ _ _ _ y (k0_off7_eq ⟨k, hk'⟩) (k0_off8_eq ⟨k, hk'⟩) (k0_off9_eq ⟨k, hk'⟩) (k0_off10_eq ⟨k, hk'⟩) (Or.inr (Or.inl (by omega)))]
      rw [if_pos (by omega)]
      refine four_in _ _ _ k 0 _ _ _ _ _ _ _ _ _ _ _ _ y (k0_off2_eq ⟨k, hk'⟩) (k0_off3_eq ⟨k, hk'⟩) (k0_off4_eq ⟨k, hk'⟩) (k0_off5_eq ⟨k, hk'⟩) hr (Nat.zero_le _) (by omega) _ ?_ ?_ ?_ ?_
      all_goals
        intro z hz
        have hzl := z.isLt
        exact at_field (fun f => fieldQ f (packQ xq ⟨k, hk'⟩)) _ _ _ (by omega) (by dsimp only; omega)
end

section
variable (X1 : BufTy.Contents (Elt F) u1.view.ty) (X2 : BufTy.Contents (Elt F) u2.view.ty)

/-- The three pieces trip `k` of the second loop stores. -/
theorem trip_rows (x : Vec F S512x2560 .bf16) (g : Vec F S1x2560 .f32)
    (hx : u1.view.read (Elt F) X1 = x) (hg : u2.view.read (Elt F) X2 = g) (k : Fin k0_t2_loop.trips) :
    tripL_k0_t2 (F := F) 𝒱 c bd i u1 w1 u2 w2 u3 w3 u4 w4 u5 w5 u6 w6 u7 w7 u8 w8 u9 w9 u10 w10 u11 w11 u12 w12 u13 w13 u14 w14 u15 w15 u16 w16 X1 X2 k
      = ([⟨Rect.unit (s := S512x2560) (k0_off15 k) S32x2560.size (k0_off15_inb k), k0_pay16 (rowsT x k) g⟩],
         [⟨Rect.unit (s := S512x2560) (k0_off15 k) S32x2560.size (k0_off15_inb k), k0_pay17 (rowsT x k) g⟩],
         [⟨Rect.unit (s := S512x128) (k0_off16 k) S32x128.size (k0_off16_inb k), k0_pay21 (k0_pay14 (rowsT x k) g)⟩]) := by
  subst hx hg
  rw [← View.readAt_full u2.view X2 inb_S1x2560_S1x2560_0_0]
  unfold tripL_k0_t2 trip_k0_t2
  dsimp only
  sl_unfold_words
  rfl

/-- A buffer written strip by strip: after the trips before `k` its rows below `32 * k` hold the strips. -/
theorem strips {n : ℕ} {e : EltTy} (v : View sig .tc .vmem ⟨2, ![512, n]⟩ e) (G : BufTy.Contents (Elt F) v.ty)
    (w : Fin k0_t2_loop.trips → Vec F ⟨2, ![32, n]⟩ e) (off : Fin k0_t2_loop.trips → Fin 2 → ℕ)
    (inb : ∀ k a, off k a + (⟨2, ![32, n]⟩ : Shape).size a ≤ (⟨2, ![512, n]⟩ : Shape).size a)
    (hoff : ∀ k, off k = ![32 * k.val, 0]) (L : ℕ → List (View.Piece (Elt F) ⟨2, ![512, n]⟩ e))
    (hL : ∀ k : Fin k0_t2_loop.trips, L (k.val + 1) = ⟨Rect.unit (s := ⟨2, ![512, n]⟩) (off k) (⟨2, ![32, n]⟩ : Shape).size (inb k), w k⟩ :: L k.val)
    (k : ℕ) (hk : k ≤ 16) (y : (⟨2, ![512, n]⟩ : Shape).Idx) (hy : (y 0).val < 32 * k) :
    v.read (Elt F) (v.writes (Elt F) G (L k)) y = w (rowTrip (y 0)) (ix2 (rowIn (y 0)) (y 1)) := by
  induction k with
  | zero => omega
  | succ k ih =>
    have hk' : k < k0_t2_loop.trips := by rw [trips2]; omega
    rw [hL ⟨k, hk'⟩]
    by_cases hlt : (y 0).val < 32 * k
    · rw [View.read_writes_cons_unit_of_not_mem _ _ _ _ _ y (hoff ⟨k, hk'⟩) (0 : Fin 2) (Or.inl hlt)]
      exact ih (by omega) hlt
    · have hd : rowTrip (y 0) = ⟨k, hk'⟩ := Fin.ext (by show (y 0).val / 32 = k; omega)
      refine (View.read_writes_cons_unit_of_mem _ _ _ _ _ y (ix2 (rowIn (y 0)) (y 1)) (hoff ⟨k, hk'⟩)
        (Fin.forall_fin_two.mpr ⟨by show (y 0).val = 32 * k + (y 0).val % 32; omega, (Nat.zero_add _).symm⟩)).trans ?_
      rw [hd]; rfl

/-- What the second loop leaves in its three buffers. -/
theorem loop_rows (x : Vec F S512x2560 .bf16) (g : Vec F S1x2560 .f32)
    (hx : u1.view.read (Elt F) X1 = x) (hg : u2.view.read (Elt F) X2 = g)
    (G12 : BufTy.Contents (Elt F) u12.view.ty) (G15 : BufTy.Contents (Elt F) u15.view.ty) (G16 : BufTy.Contents (Elt F) u16.view.ty) :
    u12.view.read (Elt F) (u12.view.writes (Elt F) G12 (pb_k0_t2 (F := F) 𝒱 c bd i u1 w1 u2 w2 u3 w3 u4 w4 u5 w5 u6 w6 u7 w7 u8 w8 u9 w9 u10 w10 u11 w11 u12 w12 u13 w13 u14 w14 u15 w15 u16 w16 X1 X2 16).1) = codesF x g
    ∧ u15.view.read (Elt F) (u15.view.writes (Elt F) G15 (pb_k0_t2 (F := F) 𝒱 c bd i u1 w1 u2 w2 u3 w3 u4 w4 u5 w5 u6 w6 u7 w7 u8 w8 u9 w9 u10 w10 u11 w11 u12 w12 u13 w13 u14 w14 u15 w15 u16 w16 X1 X2 16).2.1) = clipF x g
    ∧ u16.view.read (Elt F) (u16.view.writes (Elt F) G16 (pb_k0_t2 (F := F) 𝒱 c bd i u1 w1 u2 w2 u3 w3 u4 w4 u5 w5 u6 w6 u7 w7 u8 w8 u9 w9 u10 w10 u11 w11 u12 w12 u13 w13 u14 w14 u15 w15 u16 w16 X1 X2 16).2.2) = scaleL x g := by
  have hL := fun k : Fin k0_t2_loop.trips => (pb_k0_t2_succ (F := F) 𝒱 c bd i u1 w1 u2 w2 u3 w3 u4 w4 u5 w5 u6 w6 u7 w7 u8 w8 u9 w9 u10 w10 u11 w11 u12 w12 u13 w13 u14 w14 u15 w15 u16 w16 X1 X2 k).trans
    (by rw [trip_rows 𝒱 c bd i u1 w1 u2 w2 u3 w3 u4 w4 u5 w5 u6 w6 u7 w7 u8 w8 u9 w9 u10 w10 u11 w11 u12 w12 u13 w13 u14 w14 u15 w15 u16 w16 X1 X2 x g hx hg k])
  refine ⟨funext fun y => ?_, funext fun y => ?_, funext fun y => ?_⟩
  · exact strips u12.view G12 (fun k => k0_pay16 (rowsT x k) g) k0_off15 k0_off15_inb k0_off15_eq
      (fun k => (pb_k0_t2 (F := F) 𝒱 c bd i u1 w1 u2 w2 u3 w3 u4 w4 u5 w5 u6 w6 u7 w7 u8 w8 u9 w9 u10 w10 u11 w11 u12 w12 u13 w13 u14 w14 u15 w15 u16 w16 X1 X2 k).1) (fun k => congrArg (fun p => p.1) (hL k)) 16 le_rfl y (y 0).isLt
  · exact strips u15.view G15 (fun k => k0_pay17 (rowsT x k) g) k0_off15 k0_off15_inb k0_off15_eq
      (fun k => (pb_k0_t2 (F := F) 𝒱 c bd i u1 w1 u2 w2 u3 w3 u4 w4 u5 w5 u6 w6 u7 w7 u8 w8 u9 w9 u10 w10 u11 w11 u12 w12 u13 w13 u14 w14 u15 w15 u16 w16 X1 X2 k).2.1) (fun k => congrArg (fun p => p.2.1) (hL k)) 16 le_rfl y (y 0).isLt
  · exact strips u16.view G16 (fun k => k0_pay21 (k0_pay14 (rowsT x k) g)) k0_off16 k0_off16_inb k0_off16_eq
      (fun k => (pb_k0_t2 (F := F) 𝒱 c bd i u1 w1 u2 w2 u3 w3 u4 w4 u5 w5 u6 w6 u7 w7 u8 w8 u9 w9 u10 w10 u11 w11 u12 w12 u13 w13 u14 w14 u15 w15 u16 w16 X1 X2 k).2.2) (fun k => congrArg (fun p => p.2.2) (hL k)) 16 le_rfl y (y 0).isLt
end

section
variable (X3 : BufTy.Contents (Elt F) u3.view.ty) (X4 : BufTy.Contents (Elt F) u4.view.ty) (X5 : BufTy.Contents (Elt F) u5.view.ty) (X14 : BufTy.Contents (Elt F) u14.view.ty) (X15 : BufTy.Contents (Elt F) u15.view.ty) (X16 : BufTy.Contents (Elt F) u16.view.ty)
  (cs : Vec F S512x2560 .bf16) (a : Vec F S512x128 .f32) (x2 x3 : Vec F S512x128 .f32) (x4 : Vec F S3 .f32) (w : Vec F S2560x3584 .bf16)
  (h3 : u3.view.read (Elt F) X3 = x2) (h4 : u4.view.read (Elt F) X4 = x3) (h5 : u5.view.read (Elt F) X5 = x4)
  (h14 : u14.view.read (Elt F) X14 = w) (h15 : u15.view.read (Elt F) X15 = cs) (h16 : u16.view.read (Elt F) X16 = a)
include h3 h4 h5 h14 h15 h16

/-- The one piece trip `k` of the query projection stores. -/
theorem trip_q (k : Fin k0_t3_loop.trips) :
    tripL_k0_t3 (F := F) 𝒱 c bd i u1 w1 u2 w2 u3 w3 u4 w4 u5 w5 u6 w6 u7 w7 u8 w8 u9 w9 u10 w10 u11 w11 u12 w12 u13 w13 u14 w14 u15 w15 u16 w16 X3 X4 X5 X14 X15 X16 k
      = [⟨Rect.unit (s := S512x2560) (k0_off18 k) S512x256.size (k0_off18_inb k), qT cs a x2 x3 x4 w k⟩] := by
  subst h3 h4 h5 h14 h15 h16
  unfold qT
  rw [← View.readAt_full u3.view X3 inb_S512x128_S512x128_0_0, ← View.readAt_full u4.view X4 inb_S512x128_S512x128_0_0,
    ← View.readAt_full u15.view X15 inb_S512x2560_S512x2560_0_0, ← View.readAt_full u16.view X16 inb_S512x128_S512x128_0_0]
  unfold tripL_k0_t3 trip_k0_t3
  dsimp only
  sl_unfold_words
  refine congrArg (fun w => [(⟨Rect.unit (s := S512x2560) (k0_off18 k) S512x256.size (k0_off18_inb k), w⟩ : View.Piece (Elt F) S512x2560 .bf16)]) ?_
  refine congr (congr (congr (congr (congr (congr (congr (congrArg k0_pay23 ?_) rfl) rfl) rfl) rfl) rfl) rfl) rfl
  exact congrArg (u5.view.read (Elt F) X5) (funext (Fin.forall_fin_one.mpr rfl))

/-- After the trips before `k` the columns of the queries below `256 * k` hold their values. -/
theorem loop_q (G : BufTy.Contents (Elt F) u9.view.ty) (k : ℕ) (hk : k ≤ 10) (y : S512x2560.Idx) (hy : (y 1).val < 256 * k) :
    u9.view.read (Elt F) (u9.view.writes (Elt F) G (pb_k0_t3 (F := F) 𝒱 c bd i u1 w1 u2 w2 u3 w3 u4 w4 u5 w5 u6 w6 u7 w7 u8 w8 u9 w9 u10 w10 u11 w11 u12 w12 u13 w13 u14 w14 u15 w15 u16 w16 X3 X4 X5 X14 X15 X16 k)) y
      = qF cs a x2 x3 x4 w y := by
  induction k with
  | zero => omega
  | succ k ih =>
    have hk' : k < k0_t3_loop.trips := by rw [trips3]; omega
    rw [pb_k0_t3_succ (F := F) 𝒱 c bd i u1 w1 u2 w2 u3 w3 u4 w4 u5 w5 u6 w6 u7 w7 u8 w8 u9 w9 u10 w10 u11 w11 u12 w12 u13 w13 u14 w14 u15 w15 u16 w16 X3 X4 X5 X14 X15 X16 ⟨k, hk'⟩]
    rw [trip_q 𝒱 c bd i u1 w1 u2 w2 u3 w3 u4 w4 u5 w5 u6 w6 u7 w7 u8 w8 u9 w9 u10 w10 u11 w11 u12 w12 u13 w13 u14 w14 u15 w15 u16 w16 X3 X4 X5 X14 X15 X16 cs a x2 x3 x4 w h3 h4 h5 h14 h15 h16 ⟨k, hk'⟩, List.singleton_append]
    by_cases hlt : (y 1).val < 256 * k
    · rw [View.read_writes_cons_unit_of_not_mem _ _ _ _ _ y (k0_off18_eq ⟨k, hk'⟩) (1 : Fin 2) (Or.inl hlt)]
      exact ih (by omega) hlt
    · have hd : (y 1).val / 256 = k := by omega
      refine (View.read_writes_cons_unit_of_mem _ _ _ _ _ y (ix2 (y 0) ⟨(y 1).val % 256, Nat.mod_lt _ (by decide)⟩) (k0_off18_eq ⟨k, hk'⟩)
        (Fin.forall_fin_two.mpr ⟨(Nat.zero_add _).symm, by show (y 1).val = 256 * k + (y 1).val % 256; omega⟩)).trans ?_
      unfold qF
      subst hd
      rfl
end
end

/-! ## The body at one grid point -/

/-- Two blocks side by side, each block equal to a stated one. -/
theorem pieces_k {v : View sig .tc .vmem S512x512 .bf16} (G : BufTy.Contents (Elt F) v.ty) {p0 p1 q0 q1 : Vec F S512x256 .bf16} (h0 : p0 = q0) (h1 : p1 = q1) :
    v.read (Elt F) (v.writes (Elt F) G
      [⟨Rect.unit (s := S512x512) ![0, 256] S512x256.size inb_S512x512_S512x256_0_256, p1⟩,
       ⟨Rect.unit (s := S512x512) ![0, 0] S512x256.size inb_S512x512_S512x256_0_0, p0⟩]) = halves q0 q1 := by
  subst h0 h1; exact read_halves v G p0 p1

/-- A fact proved after its use. -/
theorem and_use {p q : Prop} (h : p) (f : p → q) : q := f h

set_option maxHeartbeats 3200000 in
/-- The body, run on whole buffers: the inputs are handed back as they were, the outputs hold the queries, keys, values,
    codes and scales, the first scratch buffer the unpacked weights. At a point that does not unpack, that buffer must hold
    them already. -/
theorem kernelRun (c : Dev nD) (i : grid0.Coords) (u1 : Memref sig .tc .vmem S512x2560 .bf16) (w1 : u1.IsWhole) (u2 : Memref sig .tc .vmem S1x2560 .f32) (w2 : u2.IsWhole) (u3 : Memref sig .tc .vmem S512x128 .f32) (w3 : u3.IsWhole) (u4 : Memref sig .tc .vmem S512x128 .f32) (w4 : u4.IsWhole) (u5 : Memref sig .tc .smem S3 .f32) (w5 : u5.IsWhole) (u6 : Memref sig .tc .vmem S2560x640 .i8) (w6 : u6.IsWhole) (u7 : Memref sig .tc .vmem S2560x128 .i8) (w7 : u7.IsWhole) (u8 : Memref sig .tc .vmem S2560x128 .i8) (w8 : u8.IsWhole) (u9 : Memref sig .tc .vmem S512x2560 .bf16) (w9 : u9.IsWhole) (u10 : Memref sig .tc .vmem S512x512 .bf16) (w10 : u10.IsWhole) (u11 : Memref sig .tc .vmem S512x512 .bf16) (w11 : u11.IsWhole) (u12 : Memref sig .tc .vmem S512x2560 .i8) (w12 : u12.IsWhole) (u13 : Memref sig .tc .vmem S1x4x128 .f32) (w13 : u13.IsWhole) (u14 : Memref sig .tc .vmem S2560x3584 .bf16) (w14 : u14.IsWhole) (u15 : Memref sig .tc .vmem S512x2560 .bf16) (w15 : u15.IsWhole) (u16 : Memref sig .tc .vmem S512x128 .f32) (w16 : u16.IsWhole)
    (x0 : Vec F S512x2560 .bf16) (x1 : Vec F S1x2560 .f32) (x2 : Vec F S512x128 .f32) (x3 : Vec F S512x128 .f32) (x4 : Vec F S3 .f32) (x5 : Vec F S2560x640 .i8) (x6 : Vec F S2560x128 .i8) (x7 : Vec F S2560x128 .i8)
    (d : Vec F S2560x3584 .bf16) (hd : ¬ k0_cond1 i = 1#1 → d = wF x5 x6 x7) :
      ∀ (E : Set ℕ) (K : PUnit → sProp 𝕄),
        iprop(owns (c : Thread nD τ) u1 fullShare x0 ∗ owns (c : Thread nD τ) u2 fullShare x1 ∗ owns (c : Thread nD τ) u3 fullShare x2 ∗ owns (c : Thread nD τ) u4 fullShare x3 ∗ owns (c : Thread nD τ) u5 fullShare x4 ∗ owns (c : Thread nD τ) u6 fullShare x5 ∗ owns (c : Thread nD τ) u7 fullShare x6 ∗ owns (c : Thread nD τ) u8 fullShare x7 ∗ (∃ d, owns (c : Thread nD τ) u9 fullShare d) ∗ (∃ d, owns (c : Thread nD τ) u10 fullShare d) ∗ (∃ d, owns (c : Thread nD τ) u11 fullShare d) ∗ (∃ d, owns (c : Thread nD τ) u12 fullShare d) ∗ (∃ d, owns (c : Thread nD τ) u13 fullShare d) ∗ owns (c : Thread nD τ) u14 fullShare d ∗ (∃ d, owns (c : Thread nD τ) u15 fullShare d) ∗ (∃ d, owns (c : Thread nD τ) u16 fullShare d)
            ∗ (iprop(owns (c : Thread nD τ) u1 fullShare x0 ∗ owns (c : Thread nD τ) u2 fullShare x1 ∗ owns (c : Thread nD τ) u3 fullShare x2 ∗ owns (c : Thread nD τ) u4 fullShare x3 ∗ owns (c : Thread nD τ) u5 fullShare x4 ∗ owns (c : Thread nD τ) u6 fullShare x5 ∗ owns (c : Thread nD τ) u7 fullShare x6 ∗ owns (c : Thread nD τ) u8 fullShare x7 ∗ owns (c : Thread nD τ) u9 fullShare (qF (clipF x0 x1) (scaleL x0 x1) x2 x3 x4 (wF x5 x6 x7)) ∗ owns (c : Thread nD τ) u10 fullShare (halves (kT0 (clipF x0 x1) (scaleL x0 x1) x2 x3 x4 (wF x5 x6 x7)) (kT1 (clipF x0 x1) (scaleL x0 x1) x2 x3 x4 (wF x5 x6 x7))) ∗ owns (c : Thread nD τ) u11 fullShare (halves (vT0 (clipF x0 x1) (scaleL x0 x1) x4 (wF x5 x6 x7)) (vT1 (clipF x0 x1) (scaleL x0 x1) x4 (wF x5 x6 x7))) ∗ owns (c : Thread nD τ) u12 fullShare (codesF x0 x1) ∗ owns (c : Thread nD τ) u13 fullShare (k0_pay22 (scaleL x0 x1)) ∗ owns (c : Thread nD τ) u14 fullShare (wF x5 x6 x7) ∗ (∃ d, owns (c : Thread nD τ) u15 fullShare d) ∗ (∃ d, owns (c : Thread nD τ) u16 fullShare d)) -∗ K ⟨⟩))
          ⊢ wp frame (wpE (defs₀ (F := F)) Variants.none c none) E (cc0_qkv i u1 w1 u2 w2 u3 w3 u4 w4 u5 w5 u6 w6 u7 w7 u8 w8 u9 w9 u10 w10 u11 w11 u12 w12 u13 w13 u14 w14 u15 w15 u16 w16) K := by
    intro E K
    simp only [cc0_qkv_eq_skeleton]; unfold cc0_qkv_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, ⟨%ds1, %fs1, -, HS1⟩, ⟨%ds2, %fs2, -, HS2⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7
    by_cases hc : k0_cond1 i = 1#1 <;> first | simp only [dif_pos hc] | simp only [dif_neg hc]
    all_goals
      sl_exec
      sl_step
      iapply Hk
      isplitl [H0]
      · iexists _; isplitr; · ipureintro; exact w1.read_unread _
        iexact H0
      isplitl [H1]
      · iexists _; isplitr; · ipureintro; exact w2.read_unread _
        iexact H1
      isplitl [H2]
      · iexists _; isplitr; · ipureintro; exact w3.read_unread _
        iexact H2
      isplitl [H3]
      · iexists _; isplitr; · ipureintro; exact w4.read_unread _
        iexact H3
      isplitl [H4]
      · iexists _; isplitr; · ipureintro; exact w5.read_unread _
        iexact H4
      isplitl [H5]
      · iexists _; isplitr; · ipureintro; exact w6.read_unread _
        iexact H5
      isplitl [H6]
      · iexists _; isplitr; · ipureintro; exact w7.read_unread _
        iexact H6
      isplitl [H7]
      · iexists _; isplitr; · ipureintro; exact w8.read_unread _
        iexact H7
      isplitl [H8]
      · iexists _; isplitr; swap; · iexact H8
        ipureintro
        sl_unfold_words
        simp only [show Scf.trips k0_t1_loop.lb k0_t1_loop.ub k0_t1_loop.st = 20 from trips1, show Scf.trips k0_t2_loop.lb k0_t2_loop.ub k0_t2_loop.st = 16 from trips2, show Scf.trips k0_t3_loop.lb k0_t3_loop.ub k0_t3_loop.st = 10 from trips3]
        funext y
        refine loop_q Variants.none c none i u1 w1 u2 w2 u3 w3 u4 w4 u5 w5 u6 w6 u7 w7 u8 w8 u9 w9 u10 w10 u11 w11 u12 w12 u13 w13 u14 w14 u15 w15 u16 w16 _ _ _ _ _ _ (clipF x0 x1) (scaleL x0 x1) x2 x3 x4 (wF x5 x6 x7) hf2 hf3 hf4 ?_ (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1 (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2 f8 10 le_rfl y (y 1).isLt
        (first | exact hfs0.trans (hd hc) | exact funext fun y => loop_w Variants.none c none i u1 w1 u2 w2 u3 w3 u4 w4 u5 w5 u6 w6 u7 w7 u8 w8 u9 w9 u10 w10 u11 w11 u12 w12 u13 w13 u14 w14 u15 w15 u16 w16 hc _ _ _ x5 x6 x7 hf5 hf6 hf7 fs0 20 le_rfl y (y 0).isLt)
      isplitl [H9]
      · iexists _; isplitr; swap; · iexact H9
        ipureintro
        sl_unfold_words
        simp only [show Scf.trips k0_t1_loop.lb k0_t1_loop.ub k0_t1_loop.st = 20 from trips1, show Scf.trips k0_t2_loop.lb k0_t2_loop.ub k0_t2_loop.st = 16 from trips2, show Scf.trips k0_t3_loop.lb k0_t3_loop.ub k0_t3_loop.st = 10 from trips3]
        unfold kT0 kT1
        refine and_use (p := u14.view.read (Elt F) _ = (wF x5 x6 x7)) ?_ (fun hw => pieces_k _ (congr (congr (congr (congr (congr (congrArg k0_pay26 (congr (congr (congr (congrArg k0_pay24 ((word_read u5.view _ 1 _ _).trans (congrFun hf4 (ix1 1)))) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1)) (congrArg (fun w : Vec F S2560x3584 .bf16 => wCols w 2560 inb_S2560x3584_S2560x256_0_2560) hw)) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2))) (congr (congr (congr (congrArg k0_pay25 ((word_read u5.view _ 1 _ _).trans (congrFun hf4 (ix1 1)))) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1)) (congrArg (fun w : Vec F S2560x3584 .bf16 => wCols w 2560 inb_S2560x3584_S2560x256_0_2560) hw)) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2))) ((View.readAt_full _ _ _).trans hf2)) ((View.readAt_full _ _ _).trans hf3)) ((View.readAt_full _ _ _).trans hf2)) ((View.readAt_full _ _ _).trans hf3)) (congr (congr (congr (congr (congr (congrArg k0_pay31 (congr (congr (congr (congrArg k0_pay27 ((word_read u5.view _ 1 _ _).trans (congrFun hf4 (ix1 1)))) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1)) (congrArg (fun w : Vec F S2560x3584 .bf16 => wCols w 2816 inb_S2560x3584_S2560x256_0_2816) hw)) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2))) (congr (congr (congr (congr (congrArg k0_pay29 ((word_read u5.view _ 1 _ _).trans (congrFun hf4 (ix1 1)))) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1)) (congrArg (fun w : Vec F S2560x3584 .bf16 => wCols w 2816 inb_S2560x3584_S2560x256_0_2816) hw)) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2)) ((View.readAt_full _ _ _).trans hf2))) (congr (congr (congr (congrArg k0_pay30 ((word_read u5.view _ 1 _ _).trans (congrFun hf4 (ix1 1)))) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1)) (congrArg (fun w : Vec F S2560x3584 .bf16 => wCols w 2816 inb_S2560x3584_S2560x256_0_2816) hw)) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2))) ((View.readAt_full _ _ _).trans hf3)) ((View.readAt_full _ _ _).trans hf2)) ((View.readAt_full _ _ _).trans hf3)))
        (first | exact hfs0.trans (hd hc) | exact funext fun y => loop_w Variants.none c none i u1 w1 u2 w2 u3 w3 u4 w4 u5 w5 u6 w6 u7 w7 u8 w8 u9 w9 u10 w10 u11 w11 u12 w12 u13 w13 u14 w14 u15 w15 u16 w16 hc _ _ _ x5 x6 x7 hf5 hf6 hf7 fs0 20 le_rfl y (y 0).isLt)
      isplitl [H10]
      · iexists _; isplitr; swap; · iexact H10
        ipureintro
        sl_unfold_words
        simp only [show Scf.trips k0_t1_loop.lb k0_t1_loop.ub k0_t1_loop.st = 20 from trips1, show Scf.trips k0_t2_loop.lb k0_t2_loop.ub k0_t2_loop.st = 16 from trips2, show Scf.trips k0_t3_loop.lb k0_t3_loop.ub k0_t3_loop.st = 10 from trips3]
        unfold vT0 vT1
        refine and_use (p := u14.view.read (Elt F) _ = (wF x5 x6 x7)) ?_ (fun hw => pieces_k _ (congr (congr (congr (congrArg k0_pay32 ((word_read u5.view _ 2 _ _).trans (congrFun hf4 (ix1 2)))) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1)) (congrArg (fun w : Vec F S2560x3584 .bf16 => wCols w 3072 inb_S2560x3584_S2560x256_0_3072) hw)) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2)) (congr (congrArg k0_pay1 ((word_read u5.view _ 2 _ _).trans (congrFun hf4 (ix1 2)))) (congr (congr (congrArg k0_pay33 ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1)) (congrArg (fun w : Vec F S2560x3584 .bf16 => wCols w 3328 inb_S2560x3584_S2560x256_0_3328) hw)) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2))))
        (first | exact hfs0.trans (hd hc) | exact funext fun y => loop_w Variants.none c none i u1 w1 u2 w2 u3 w3 u4 w4 u5 w5 u6 w6 u7 w7 u8 w8 u9 w9 u10 w10 u11 w11 u12 w12 u13 w13 u14 w14 u15 w15 u16 w16 hc _ _ _ x5 x6 x7 hf5 hf6 hf7 fs0 20 le_rfl y (y 0).isLt)
      isplitl [H11]
      · iexists _; isplitr; swap; · iexact H11
        ipureintro
        sl_unfold_words
        simp only [show Scf.trips k0_t1_loop.lb k0_t1_loop.ub k0_t1_loop.st = 20 from trips1, show Scf.trips k0_t2_loop.lb k0_t2_loop.ub k0_t2_loop.st = 16 from trips2, show Scf.trips k0_t3_loop.lb k0_t3_loop.ub k0_t3_loop.st = 10 from trips3]
        exact (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).1
      isplitl [H12]
      · iexists _; isplitr; swap; · iexact H12
        ipureintro
        sl_unfold_words
        simp only [show Scf.trips k0_t1_loop.lb k0_t1_loop.ub k0_t1_loop.st = 20 from trips1, show Scf.trips k0_t2_loop.lb k0_t2_loop.ub k0_t2_loop.st = 16 from trips2, show Scf.trips k0_t3_loop.lb k0_t3_loop.ub k0_t3_loop.st = 10 from trips3]
        refine (View.read_writes_full _ _ _ _ _).trans ?_
        exact congrArg k0_pay22 ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2)
      isplitl [HS0]
      · iexists _; isplitr; swap; · iexact HS0
        ipureintro
        sl_unfold_words
        try simp only [show Scf.trips k0_t1_loop.lb k0_t1_loop.ub k0_t1_loop.st = 20 from trips1]
        (first | exact hfs0.trans (hd hc) | exact funext fun y => loop_w Variants.none c none i u1 w1 u2 w2 u3 w3 u4 w4 u5 w5 u6 w6 u7 w7 u8 w8 u9 w9 u10 w10 u11 w11 u12 w12 u13 w13 u14 w14 u15 w15 u16 w16 hc _ _ _ x5 x6 x7 hf5 hf6 hf7 fs0 20 le_rfl y (y 0).isLt)
      isplitl [HS1]
      · iexists _, _; isplitr; swap; · iexact HS1
        ipureintro; rfl
      iexists _, _; isplitr; swap; · iexact HS2
      ipureintro; rfl

variable (m : (ℓ : Loc nD τ sig) → Buf (Elt F) ℓ) (ρ : Dev nD → PrngReg)

/-! ## The pipeline's proof data -/

/-- The unpacked weights, from the packed blocks the first point fetches. -/
def wB (c : Dev nD) : Vec F S2560x3584 .bf16 := wF (iblk m c 5 t0_0) (iblk m c 6 t0_0) (iblk m c 7 t0_0)

/-- Every point's packed blocks are the first point's: the whole arrays. -/
theorem iblk5_const (c : Dev nD) (t : Fin cfg0.N) : (iblk m c 5 t : Vec F S2560x640 .i8) = iblk m c 5 t0_0 := rfl
theorem iblk6_const (c : Dev nD) (t : Fin cfg0.N) : (iblk m c 6 t : Vec F S2560x128 .i8) = iblk m c 6 t0_0 := rfl
theorem iblk7_const (c : Dev nD) (t : Fin cfg0.N) : (iblk m c 7 t : Vec F S2560x128 .i8) = iblk m c 7 t0_0 := rfl

/-- The kernel's scratch buffers, whole. -/
abbrev scM0_0 : Memref sig .tc .vmem S2560x3584 .bf16 := Memref.whole cc0_scratch0
abbrev scM0_1 : Memref sig .tc .vmem S512x2560 .bf16 := Memref.whole cc0_scratch1
abbrev scM0_2 : Memref sig .tc .vmem S512x128 .f32 := Memref.whole cc0_scratch2

/-- The invariant after the first point: the first scratch buffer holds the unpacked weights. -/
def carried (c : Dev nD) : sProp 𝕄 :=
  iprop(iprop(owns (c : Thread nD τ) scM0_0 fullShare (wB m c) ∗ (∃ d, owns (c : Thread nD τ) scM0_1 fullShare d) ∗ (∃ d, owns (c : Thread nD τ) scM0_2 fullShare d)) ∗ (∃ r, prngReg c r))

/-- The proof data: the arrays as found, each input's block left in place, the outputs at their values, the unpacked
    weights carried from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => qF (clipF (iblk m c 0 t) (iblk m c 1 t)) (scaleL (iblk m c 0 t) (iblk m c 1 t)) (iblk m c 2 t) (iblk m c 3 t) (iblk m c 4 t) (wB m c)
    | ⟨9, _⟩ => halves (kT0 (clipF (iblk m c 0 t) (iblk m c 1 t)) (scaleL (iblk m c 0 t) (iblk m c 1 t)) (iblk m c 2 t) (iblk m c 3 t) (iblk m c 4 t) (wB m c)) (kT1 (clipF (iblk m c 0 t) (iblk m c 1 t)) (scaleL (iblk m c 0 t) (iblk m c 1 t)) (iblk m c 2 t) (iblk m c 3 t) (iblk m c 4 t) (wB m c))
    | ⟨10, _⟩ => halves (vT0 (clipF (iblk m c 0 t) (iblk m c 1 t)) (scaleL (iblk m c 0 t) (iblk m c 1 t)) (iblk m c 4 t) (wB m c)) (vT1 (clipF (iblk m c 0 t) (iblk m c 1 t)) (scaleL (iblk m c 0 t) (iblk m c 1 t)) (iblk m c 4 t) (wB m c))
    | ⟨11, _⟩ => codesF (iblk m c 0 t) (iblk m c 1 t)
    | ⟨12, _⟩ => k0_pay22 (scaleL (iblk m c 0 t) (iblk m c 1 t))
  Φ t := if t.val = 0 then Pipeline.ΦA spec0 c else carried m c
  q _ := fullShare
  owed _ := 0

/-- The proof data's arrays are those found at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = qF (clipF (iblk m c 0 t) (iblk m c 1 t)) (scaleL (iblk m c 0 t) (iblk m c 1 t)) (iblk m c 2 t) (iblk m c 3 t) (iblk m c 4 t) (wB m c) := by dsimp only [dats]
theorem after0_9 (c : Dev nD) (t : Fin cfg0.N) : (dats m 0 c).after 9 t = halves (kT0 (clipF (iblk m c 0 t) (iblk m c 1 t)) (scaleL (iblk m c 0 t) (iblk m c 1 t)) (iblk m c 2 t) (iblk m c 3 t) (iblk m c 4 t) (wB m c)) (kT1 (clipF (iblk m c 0 t) (iblk m c 1 t)) (scaleL (iblk m c 0 t) (iblk m c 1 t)) (iblk m c 2 t) (iblk m c 3 t) (iblk m c 4 t) (wB m c)) := by dsimp only [dats]
theorem after0_10 (c : Dev nD) (t : Fin cfg0.N) : (dats m 0 c).after 10 t = halves (vT0 (clipF (iblk m c 0 t) (iblk m c 1 t)) (scaleL (iblk m c 0 t) (iblk m c 1 t)) (iblk m c 4 t) (wB m c)) (vT1 (clipF (iblk m c 0 t) (iblk m c 1 t)) (scaleL (iblk m c 0 t) (iblk m c 1 t)) (iblk m c 4 t) (wB m c)) := by dsimp only [dats]
theorem after0_11 (c : Dev nD) (t : Fin cfg0.N) : (dats m 0 c).after 11 t = codesF (iblk m c 0 t) (iblk m c 1 t) := by dsimp only [dats]
theorem after0_12 (c : Dev nD) (t : Fin cfg0.N) : (dats m 0 c).after 12 t = k0_pay22 (scaleL (iblk m c 0 t) (iblk m c 1 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at any point -/

/-- The launch's invariant: the scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The carried invariant implies the launch's. -/
theorem carried_forget (c : Dev nD) : carried m c ⊢ (Pipeline.ΦA spec0 c : sProp 𝕄) := by
  rw [PhiA0_eq]; unfold carried
  iintro ⟨⟨HS0, HS1, HS2⟩, Hg⟩
  isplitl [HS0 HS1 HS2]
  · isplitl [HS0]; · iexists _; iexact HS0
    isplitl [HS1]; · iexact HS1
    iexact HS2
  iexact Hg

/-- At the start the invariant is the launch's, -/
theorem Phi_zero (c : Dev nD) (t : Fin (cfg0.N + 1)) (h : t.val = 0) : (dats m 0 c).Φ t = Pipeline.ΦA spec0 c := by
  dsimp only [dats]; exact if_pos h

/-- afterwards the carried one. -/
theorem Phi_pos (c : Dev nD) (t : Fin (cfg0.N + 1)) (h : t.val ≠ 0) : (dats m 0 c).Φ t = carried m c := by
  dsimp only [dats]; exact if_neg h

/-- Before any point the first scratch buffer holds something, and from the second point on the unpacked weights. -/
theorem Phi_open (c : Dev nD) (t : Fin cfg0.N) : (dats m 0 c).Φ t.castSucc ⊢
    (iprop(∃ d, iprop(⌜t.val ≠ 0 → d = wB m c⌝ ∗ iprop(owns (c : Thread nD τ) scM0_0 fullShare d ∗ (∃ d, owns (c : Thread nD τ) scM0_1 fullShare d) ∗ (∃ d, owns (c : Thread nD τ) scM0_2 fullShare d)) ∗ (∃ r, prngReg c r))) : sProp 𝕄) := by
  by_cases h : t.val = 0
  · rw [Phi_zero m c t.castSucc h, PhiA0_eq]
    iintro ⟨⟨⟨%d, HS0⟩, HS1, HS2⟩, Hg⟩
    iexists d
    isplitr
    · ipureintro; exact fun h' => absurd h h'
    isplitl [HS0 HS1 HS2]
    · isplitl [HS0]; · iexact HS0
      isplitl [HS1]; · iexact HS1
      iexact HS2
    iexact Hg
  · rw [Phi_pos m c t.castSucc h]
    unfold carried
    iintro ⟨⟨HS0, HS1, HS2⟩, Hg⟩
    iexists _
    isplitr
    · ipureintro; exact fun _ => rfl
    isplitl [HS0 HS1 HS2]
    · isplitl [HS0]; · iexact HS0
      isplitl [HS1]; · iexact HS1
      iexact HS2
    iexact Hg

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 3200000 in
/-- The body at any point takes the blocks to what the proof data states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [Phi_pos m c t.succ (Nat.succ_ne_zero _),
    show (dats m 0 c).owesAt () t.succ = (dats m 0 c).owesAt () t.castSucc from rfl,
    after0_0, after0_1, after0_2, after0_3, after0_4, after0_5, after0_6, after0_7, after0_8, after0_9, after0_10, after0_11, after0_12]
  refine (sep_mono (Phi_open m c t) .rfl).trans ?_
  unfold carried wB
  iintro ⟨⟨%dw, %hdw, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) dw (fun hc => hdw fun h0 => hc ((cond_iff t).mpr h0))) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every execution ends, with the arrays at what the proof data states and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => (Phi_zero m c 0 rfl) ▸ .rfl)
    (hout := fun c => (Phi_pos m c (Fin.last cfg0.N) (by decide)) ▸ carried_forget m c) (Q' := _)

/-- Every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Qkv.Val
-- ==== Proof.QkvIdealVal.lean ====
module

public import proofs.«01_k».proof.Proof.Gen.QkvIdeal.Frame
public import proofs.«01_k».proof.Proof.Gen.QkvIdeal.Loops
public import Idealize.ShloMosaic.Lib.Claim
public import Idealize.ShloMosaic.Lib.VecWindow
public import Idealize.ShloMosaic.Lib.WritesUnit
public import Idealize.ShloMosaic.Lib.ValueIdxCore

@[expose] public section
set_option maxRecDepth 16384
noncomputable section
namespace Cert.QkvIdeal.Val
open Cert.QkvIdeal Cert.QkvIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The unpacking loop runs 20 trips. -/
theorem trips1 : k0_t1_loop.trips = 20 := by decide +kernel

/-- The quantisation's loop runs 16 trips. -/
theorem trips2 : k0_t2_loop.trips = 16 := by decide +kernel

/-- The query projection's loop runs 10 trips. -/
theorem trips3 : k0_t3_loop.trips = 10 := by decide +kernel

/-- The packed rows of trip `k` lie inside the query weights, -/
theorem inb1 (k : Fin k0_t1_loop.trips) : ∀ a, k0_off1 k a + S128x640.size a ≤ S2560x640.size a := by
  revert k; decide +kernel

/-- and inside the key and value weights. -/
theorem inb6 (k : Fin k0_t1_loop.trips) : ∀ a, k0_off6 k a + S128x128.size a ≤ S2560x128.size a := by
  revert k; decide +kernel

/-- The body unpacks at the first grid point and at no other. -/
theorem cond_iff (t : Fin cfg0.N) : k0_cond1 (grid0.coords t) = 1#1 ↔ t.val = 0 := by
  revert t; decide +kernel

/-- The 128 packed rows of the query weights that trip `k` of the first loop reads, -/
abbrev packQ (x : Vec F S2560x640 .i8) (k : Fin k0_t1_loop.trips) : Vec F S128x640 .i8 :=
  VecWindow.window x (k0_off1 k) S128x640.size (inb1 k)

/-- and those of the key or value weights. -/
abbrev packS (x : Vec F S2560x128 .i8) (k : Fin k0_t1_loop.trips) : Vec F S128x128 .i8 :=
  VecWindow.window x (k0_off6 k) S128x128.size (inb6 k)

/-- Field `f` of a packed tile of the query weights, unpacked, -/
def fieldQ (f : ℕ) (w : Vec F S128x640 .i8) : Vec F S128x640 .bf16 :=
  if f = 0 then k0_pay2 w else if f = 1 then k0_pay3 w else if f = 2 then k0_pay4 w else k0_pay5 w

/-- of the key weights, -/
def fieldK (f : ℕ) (w : Vec F S128x128 .i8) : Vec F S128x128 .bf16 :=
  if f = 0 then k0_pay6 w else if f = 1 then k0_pay7 w else if f = 2 then k0_pay9 (F := F) (k0_pay8 w) 4#32 else k0_pay10 w

/-- and of the value weights. -/
def fieldV (f : ℕ) (w : Vec F S128x128 .i8) : Vec F S128x128 .bf16 :=
  if f = 0 then k0_pay11 w else if f = 1 then k0_pay18 (F := F) (k0_pay12 w) 50529027#32 else if f = 2 then k0_pay19 w else k0_pay20 w

/-- The trip of the unpacking that works on weight row `r`. -/
def wTrip (r : Fin 2560) : Fin k0_t1_loop.trips := ⟨r.val / 128, by have := r.isLt; rw [trips1]; omega⟩

/-- The row of that trip's tile. -/
def wRow (r : Fin 2560) : Fin 128 := ⟨r.val % 128, Nat.mod_lt _ (by decide)⟩

/-- The unpacked weights, row block by row block: 640 columns from each field of the query weights, then 128 from each of
    the key weights, then 128 from each of the value weights. -/
def wF (xq : Vec F S2560x640 .i8) (xk xv : Vec F S2560x128 .i8) : Vec F S2560x3584 .bf16 := fun i =>
  if (i 1).val < 2560 then
    fieldQ ((i 1).val / 640) (packQ xq (wTrip (i 0))) (ix2 (wRow (i 0)) ⟨(i 1).val % 640, Nat.mod_lt _ (by decide)⟩)
  else if (i 1).val < 3072 then
    fieldK (((i 1).val - 2560) / 128) (packS xk (wTrip (i 0))) (ix2 (wRow (i 0)) ⟨(i 1).val % 128, Nat.mod_lt _ (by decide)⟩)
  else
    fieldV (((i 1).val - 3072) / 128) (packS xv (wTrip (i 0))) (ix2 (wRow (i 0)) ⟨(i 1).val % 128, Nat.mod_lt _ (by decide)⟩)

/-- The 32 rows of `x` that trip `k` of the second loop reads. -/
abbrev rowsT (x : Vec F S512x2560 .bf16) (k : Fin k0_t2_loop.trips) : Vec F S32x2560 .bf16 :=
  VecWindow.window x (k0_off15 k) S32x2560.size (k0_off15_inb k)

/-- The trip of the second loop that works on row `r`. -/
def rowTrip (r : Fin 512) : Fin k0_t2_loop.trips := ⟨r.val / 32, by have := r.isLt; rw [trips2]; omega⟩

/-- The row of that trip's strip. -/
def rowIn (r : Fin 512) : Fin 32 := ⟨r.val % 32, Nat.mod_lt _ (by decide)⟩

/-- The codes of `x`'s normalized rows, -/
def codesF (x : Vec F S512x2560 .bf16) (g : Vec F S1x2560 .f32) : Vec F S512x2560 .i8 := fun i =>
  k0_pay16 (rowsT x (rowTrip (i 0))) g (ix2 (rowIn (i 0)) (i 1))

/-- the same as floats, -/
def clipF (x : Vec F S512x2560 .bf16) (g : Vec F S1x2560 .f32) : Vec F S512x2560 .bf16 := fun i =>
  k0_pay17 (rowsT x (rowTrip (i 0))) g (ix2 (rowIn (i 0)) (i 1))

/-- and each row's scale, in every lane. -/
def scaleL (x : Vec F S512x2560 .bf16) (g : Vec F S1x2560 .f32) : Vec F S512x128 .f32 := fun i =>
  k0_pay21 (k0_pay14 (rowsT x (rowTrip (i 0))) g) (ix2 (rowIn (i 0)) (i 1))

section
variable (cs : Vec F S512x2560 .bf16) (a : Vec F S512x128 .f32) (x2 x3 : Vec F S512x128 .f32) (x4 : Vec F S3 .f32) (w : Vec F S2560x3584 .bf16)

/-- What trip `k` of the third loop stores: 256 columns of the queries. -/
def qT (k : Fin k0_t3_loop.trips) : Vec F S512x256 .bf16 :=
  k0_pay23 (x4 (ix1 0)) cs (VecWindow.window w (k0_off17 k) S2560x256.size (k0_off17_inb k)) a x2 x3 x2 x3

/-- The queries. -/
def qF : Vec F S512x2560 .bf16 := fun i =>
  qT cs a x2 x3 x4 w ⟨(i 1).val / 256, by have : (i 1).val < 2560 := (i 1).isLt; rw [trips3]; omega⟩
    (ix2 (i 0) ⟨(i 1).val % 256, Nat.mod_lt _ (by decide)⟩)

/-- 256 columns of the weights. -/
abbrev wCols (C : ℕ) (inb : ∀ a, ![0, C] a + S2560x256.size a ≤ S2560x3584.size a) : Vec F S2560x256 .bf16 :=
  VecWindow.window w ![0, C] S2560x256.size inb

/-- The first 256 columns of the keys, -/
def kT0 : Vec F S512x256 .bf16 :=
  k0_pay26 (k0_pay24 (x4 (ix1 1)) cs (wCols w 2560 inb_S2560x3584_S2560x256_0_2560) a)
    (k0_pay25 (x4 (ix1 1)) cs (wCols w 2560 inb_S2560x3584_S2560x256_0_2560) a) x2 x3 x2 x3

/-- the last 256, -/
def kT1 : Vec F S512x256 .bf16 :=
  k0_pay31 (k0_pay27 (x4 (ix1 1)) cs (wCols w 2816 inb_S2560x3584_S2560x256_0_2816) a)
    (k0_pay29 (x4 (ix1 1)) cs (wCols w 2816 inb_S2560x3584_S2560x256_0_2816) a x2)
    (k0_pay30 (x4 (ix1 1)) cs (wCols w 2816 inb_S2560x3584_S2560x256_0_2816) a) x3 x2 x3

/-- the first 256 of the values, -/
def vT0 : Vec F S512x256 .bf16 := k0_pay32 (x4 (ix1 2)) cs (wCols w 3072 inb_S2560x3584_S2560x256_0_3072) a

/-- the last 256. -/
def vT1 : Vec F S512x256 .bf16 := k0_pay1 (x4 (ix1 2)) (k0_pay33 cs (wCols w 3328 inb_S2560x3584_S2560x256_0_3328) a)
end

/-- One word of three, read by its one-word rectangle. -/
theorem word_read (v : View sig .tc .smem S3 .f32) (X : BufTy.Contents (Elt F) v.ty) (k : Fin 3)
    (inb : ∀ a, (![k.val] : Fin 1 → ℕ) a + (![1] : Fin 1 → ℕ) a ≤ S3.size a) (h) :
    View.readAt (Elt F) v (Rect.unit (s := S3) ![k.val] ![1] inb).toLoadRect X (Shape.Idx.first h) = v.read (Elt F) X (ix1 k) :=
  congrArg (v.read (Elt F) X) (funext (Fin.forall_fin_one.mpr (Fin.ext (by rfl))))

/-- Two blocks of 256 columns side by side. -/
def halves (p0 p1 : Vec F S512x256 .bf16) : Vec F S512x512 .bf16 := fun i =>
  if h : (i 1).val < 256 then p0 (ix2 (i 0) ⟨(i 1).val, h⟩)
  else p1 (ix2 (i 0) ⟨(i 1).val - 256, by have : (i 1).val < 512 := (i 1).isLt; omega⟩)

/-- A buffer written in two blocks of columns. -/
theorem read_halves (v : View sig .tc .vmem S512x512 .bf16) (G : BufTy.Contents (Elt F) v.ty) (p0 p1 : Vec F S512x256 .bf16) :
    v.read (Elt F) (v.writes (Elt F) G
      [⟨Rect.unit (s := S512x512) ![0, 256] S512x256.size inb_S512x512_S512x256_0_256, p1⟩,
       ⟨Rect.unit (s := S512x512) ![0, 0] S512x256.size inb_S512x512_S512x256_0_0, p0⟩]) = halves p0 p1 := by
  funext y
  have hy : (y 1).val < 512 := (y 1).isLt
  unfold halves
  by_cases h : (y 1).val < 256
  · rw [dif_pos h, View.read_writes_cons_unit_of_not_mem _ _ _ _ _ y rfl (1 : Fin 2) (Or.inl h)]
    exact View.read_writes_cons_unit_of_mem _ _ _ _ _ y (ix2 (y 0) ⟨(y 1).val, h⟩) rfl
      (Fin.forall_fin_two.mpr ⟨(Nat.zero_add _).symm, (Nat.zero_add _).symm⟩)
  · rw [dif_neg h]
    exact View.read_writes_cons_unit_of_mem _ _ _ _ _ y (ix2 (y 0) ⟨(y 1).val - 256, by omega⟩) rfl
      (Fin.forall_fin_two.mpr ⟨(Nat.zero_add _).symm, by show (y 1).val = 256 + ((y 1).val - 256); omega⟩)

/-! ## Four fields stored side by side -/
section
variable {n : ℕ} (v : View sig .tc .vmem S2560x3584 .bf16) (G : BufTy.Contents (Elt F) v.ty) (L : List (View.Piece (Elt F) S2560x3584 .bf16))
  (k C : ℕ) (o0 o1 o2 o3 : Fin 2 → ℕ)
  (i0 : ∀ a, o0 a + (⟨2, ![128, n]⟩ : Shape).size a ≤ S2560x3584.size a) (i1 : ∀ a, o1 a + (⟨2, ![128, n]⟩ : Shape).size a ≤ S2560x3584.size a)
  (i2 : ∀ a, o2 a + (⟨2, ![128, n]⟩ : Shape).size a ≤ S2560x3584.size a) (i3 : ∀ a, o3 a + (⟨2, ![128, n]⟩ : Shape).size a ≤ S2560x3584.size a)
  (p0 p1 p2 p3 : Vec F ⟨2, ![128, n]⟩ .bf16) (y : S2560x3584.Idx)

/-- Four tiles of `n` columns each, in front of other pieces. -/
abbrev four : List (View.Piece (Elt F) S2560x3584 .bf16) :=
  ⟨Rect.unit (s := S2560x3584) o3 (⟨2, ![128, n]⟩ : Shape).size i3, p3⟩ :: ⟨Rect.unit (s := S2560x3584) o2 (⟨2, ![128, n]⟩ : Shape).size i2, p2⟩
    :: ⟨Rect.unit (s := S2560x3584) o1 (⟨2, ![128, n]⟩ : Shape).size i1, p1⟩ :: ⟨Rect.unit (s := S2560x3584) o0 (⟨2, ![128, n]⟩ : Shape).size i0, p0⟩ :: L

/-- Left of the four tiles, right of them or above them, the pieces behind them are read. -/
theorem four_out (e0 : o0 = ![128 * k, C]) (e1 : o1 = ![128 * k, C + n]) (e2 : o2 = ![128 * k, C + 2 * n]) (e3 : o3 = ![128 * k, C + 3 * n])
    (h : (y 0).val < 128 * k ∨ (y 1).val < C ∨ C + 4 * n ≤ (y 1).val) :
    v.read (Elt F) (v.writes (Elt F) G (four L o0 o1 o2 o3 i0 i1 i2 i3 p0 p1 p2 p3)) y = v.read (Elt F) (v.writes (Elt F) G L) y := by
  unfold four
  rcases h with h | h | h
  · rw [View.read_writes_cons_unit_of_not_mem _ _ _ _ _ y e3 (0 : Fin 2) (Or.inl h),
      View.read_writes_cons_unit_of_not_mem _ _ _ _ _ y e2 (0 : Fin 2) (Or.inl h),
      View.read_writes_cons_unit_of_not_mem _ _ _ _ _ y e1 (0 : Fin 2) (Or.inl h),
      View.read_writes_cons_unit_of_not_mem _ _ _ _ _ y e0 (0 : Fin 2) (Or.inl h)]
  · rw [View.read_writes_cons_unit_of_not_mem _ _ _ _ _ y e3 (1 : Fin 2) (Or.inl (show (y 1).val < C + 3 * n by omega)),
      View.read_writes_cons_unit_of_not_mem _ _ _ _ _ y e2 (1 : Fin 2) (Or.inl (show (y 1).val < C + 2 * n by omega)),
      View.read_writes_cons_unit_of_not_mem _ _ _ _ _ y e1 (1 : Fin 2) (Or.inl (show (y 1).val < C + n by omega)),
      View.read_writes_cons_unit_of_not_mem _ _ _ _ _ y e0 (1 : Fin 2) (Or.inl h)]
  · rw [View.read_writes_cons_unit_of_not_mem _ _ _ _ _ y e3 (1 : Fin 2) (Or.inr (show C + 3 * n + n ≤ (y 1).val by omega)),
      View.read_writes_cons_unit_of_not_mem _ _ _ _ _ y e2 (1 : Fin 2) (Or.inr (show C + 2 * n + n ≤ (y 1).val by omega)),
      View.read_writes_cons_unit_of_not_mem _ _ _ _ _ y e1 (1 : Fin 2) (Or.inr (show C + n + n ≤ (y 1).val by omega)),
      View.read_writes_cons_unit_of_not_mem _ _ _ _ _ y e0 (1 : Fin 2) (Or.inr (show C + n ≤ (y 1).val by omega))]

/-- Within the four tiles, the tile is read whose columns these are. -/
theorem four_in (e0 : o0 = ![128 * k, C]) (e1 : o1 = ![128 * k, C + n]) (e2 : o2 = ![128 * k, C + 2 * n]) (e3 : o3 = ![128 * k, C + 3 * n])
    (hr : (y 0).val = 128 * k + (wRow (y 0)).val) (hl : C ≤ (y 1).val) (hu : (y 1).val < C + 4 * n) (a : Elt F .bf16)
    (a0 : ∀ z : Fin n, (y 1).val = C + z.val → p0 (ix2 (wRow (y 0)) z) = a)
    (a1 : ∀ z : Fin n, (y 1).val = C + n + z.val → p1 (ix2 (wRow (y 0)) z) = a)
    (a2 : ∀ z : Fin n, (y 1).val = C + 2 * n + z.val → p2 (ix2 (wRow (y 0)) z) = a)
    (a3 : ∀ z : Fin n, (y 1).val = C + 3 * n + z.val → p3 (ix2 (wRow (y 0)) z) = a) :
    v.read (Elt F) (v.writes (Elt F) G (four L o0 o1 o2 o3 i0 i1 i2 i3 p0 p1 p2 p3)) y = a := by
  unfold four
  by_cases c3 : C + 3 * n ≤ (y 1).val
  · exact (View.read_writes_cons_unit_of_mem _ _ _ _ _ y (ix2 (wRow (y 0)) ⟨(y 1).val - (C + 3 * n), by omega⟩) e3
      (Fin.forall_fin_two.mpr ⟨hr, by show (y 1).val = C + 3 * n + ((y 1).val - (C + 3 * n)); omega⟩)).trans (a3 _ (by dsimp only; omega))
  rw [View.read_writes_cons_unit_of_not_mem _ _ _ _ _ y e3 (1 : Fin 2) (Or.inl (show (y 1).val < C + 3 * n by omega))]
  by_cases c2 : C + 2 * n ≤ (y 1).val
  · exact (View.read_writes_cons_unit_of_mem _ _ _ _ _ y (ix2 (wRow (y 0)) ⟨(y 1).val - (C + 2 * n), by omega⟩) e2
      (Fin.forall_fin_two.mpr ⟨hr, by show (y 1).val = C + 2 * n + ((y 1).val - (C + 2 * n)); omega⟩)).trans (a2 _ (by dsimp only; omega))
  rw [View.read_writes_cons_unit_of_not_mem _ _ _ _ _ y e2 (1 : Fin 2) (Or.inl (show (y 1).val < C + 2 * n by omega))]
  by_cases c1 : C + n ≤ (y 1).val
  · exact (View.read_writes_cons_unit_of_mem _ _ _ _ _ y (ix2 (wRow (y 0)) ⟨(y 1).val - (C + n), by omega⟩) e1
      (Fin.forall_fin_two.mpr ⟨hr, by show (y 1).val = C + n + ((y 1).val - (C + n)); omega⟩)).trans (a1 _ (by dsimp only; omega))
  rw [View.read_writes_cons_unit_of_not_mem _ _ _ _ _ y e1 (1 : Fin 2) (Or.inl (show (y 1).val < C + n by omega))]
  exact (View.read_writes_cons_unit_of_mem _ _ _ _ _ y (ix2 (wRow (y 0)) ⟨(y 1).val - C, by omega⟩) e0
      (Fin.forall_fin_two.mpr ⟨hr, by show (y 1).val = C + ((y 1).val - C); omega⟩)).trans (a0 _ (by dsimp only; omega))
end

section
variable (𝒱 : Variants) (c : Dev nD) (bd : Option 𝒱.V) (i : grid0.Coords) (u1 : Memref sig .tc .vmem S512x2560 .bf16) (w1 : u1.IsWhole) (u2 : Memref sig .tc .vmem S1x2560 .f32) (w2 : u2.IsWhole) (u3 : Memref sig .tc .vmem S512x128 .f32) (w3 : u3.IsWhole) (u4 : Memref sig .tc .vmem S512x128 .f32) (w4 : u4.IsWhole) (u5 : Memref sig .tc .smem S3 .f32) (w5 : u5.IsWhole) (u6 : Memref sig .tc .vmem S2560x640 .i8) (w6 : u6.IsWhole) (u7 : Memref sig .tc .vmem S2560x128 .i8) (w7 : u7.IsWhole) (u8 : Memref sig .tc .vmem S2560x128 .i8) (w8 : u8.IsWhole) (u9 : Memref sig .tc .vmem S512x2560 .bf16) (w9 : u9.IsWhole) (u10 : Memref sig .tc .vmem S512x512 .bf16) (w10 : u10.IsWhole) (u11 : Memref sig .tc .vmem S512x512 .bf16) (w11 : u11.IsWhole) (u12 : Memref sig .tc .vmem S512x2560 .i8) (w12 : u12.IsWhole) (u13 : Memref sig .tc .vmem S1x4x128 .f32) (w13 : u13.IsWhole) (u14 : Memref sig .tc .vmem S2560x3584 .bf16) (w14 : u14.IsWhole) (u15 : Memref sig .tc .vmem S512x2560 .bf16) (w15 : u15.IsWhole) (u16 : Memref sig .tc .vmem S512x128 .f32) (w16 : u16.IsWhole)

section
variable (h1 : k0_cond1 i = 1#1) (X6 : BufTy.Contents (Elt F) u6.view.ty) (X7 : BufTy.Contents (Elt F) u7.view.ty) (X8 : BufTy.Contents (Elt F) u8.view.ty)
  (xq : Vec F S2560x640 .i8) (xk xv : Vec F S2560x128 .i8)
  (h6 : u6.view.read (Elt F) X6 = xq) (h7 : u7.view.read (Elt F) X7 = xk) (h8 : u8.view.read (Elt F) X8 = xv)
include h6 h7 h8

/-- The twelve pieces trip `k` of the unpacking stores, last first. -/
theorem trip_w (k : Fin k0_t1_loop.trips) (L : List (View.Piece (Elt F) S2560x3584 .bf16)) :
    tripL_k0_t1 (F := F) 𝒱 c bd i u1 w1 u2 w2 u3 w3 u4 w4 u5 w5 u6 w6 u7 w7 u8 w8 u9 w9 u10 w10 u11 w11 u12 w12 u13 w13 u14 w14 u15 w15 u16 w16 h1 X6 X7 X8 k ++ L
      = four (n := 128) (four (n := 128) (four (n := 640) L
          (k0_off2 k) (k0_off3 k) (k0_off4 k) (k0_off5 k) (k0_off2_inb i k h1) (k0_off3_inb i k h1) (k0_off4_inb i k h1) (k0_off5_inb i k h1)
            (fieldQ 0 (packQ xq k)) (fieldQ 1 (packQ xq k)) (fieldQ 2 (packQ xq k)) (fieldQ 3 (packQ xq k)))
          (k0_off7 k) (k0_off8 k) (k0_off9 k) (k0_off10 k) (k0_off7_inb i k h1) (k0_off8_inb i k h1) (k0_off9_inb i k h1) (k0_off10_inb i k h1)
            (fieldK 0 (packS xk k)) (fieldK 1 (packS xk k)) (fieldK 2 (packS xk k)) (fieldK 3 (packS xk k)))
          (k0_off11 k) (k0_off12 k) (k0_off13 k) (k0_off14 k) (k0_off11_inb i k h1) (k0_off12_inb i k h1) (k0_off13_inb i k h1) (k0_off14_inb i k h1)
            (fieldV 0 (packS xv k)) (fieldV 1 (packS xv k)) (fieldV 2 (packS xv k)) (fieldV 3 (packS xv k)) := by
  subst h6 h7 h8
  unfold tripL_k0_t1 trip_k0_t1
  dsimp only
  sl_unfold_words
  rfl

omit h6 h7 h8 in
/-- A field's entry, at equal field numbers and equal columns. -/
theorem at_field {n f f' : ℕ} (P : ℕ → Vec F ⟨2, ![128, n]⟩ .bf16) (r : Fin 128) (z z' : Fin n) (hf : f = f') (hz : z.val = z'.val) :
    P f (ix2 r z) = P f' (ix2 r z') := by
  subst hf; rw [Fin.ext hz]

/-- After the trips before `k` the rows of the weight buffer below `128 * k` hold the unpacked weights. -/
theorem loop_w (G : BufTy.Contents (Elt F) u14.view.ty) (k : ℕ) (hk : k ≤ 20) (y : S2560x3584.Idx) (hy : (y 0).val < 128 * k) :
    u14.view.read (Elt F) (u14.view.writes (Elt F) G (pb_k0_t1 (F := F) 𝒱 c bd i u1 w1 u2 w2 u3 w3 u4 w4 u5 w5 u6 w6 u7 w7 u8 w8 u9 w9 u10 w10 u11 w11 u12 w12 u13 w13 u14 w14 u15 w15 u16 w16 h1 X6 X7 X8 k)) y = wF xq xk xv y := by
  induction k with
  | zero => omega
  | succ k ih =>
    have hk' : k < k0_t1_loop.trips := by rw [trips1]; omega
    rw [pb_k0_t1_succ (F := F) 𝒱 c bd i u1 w1 u2 w2 u3 w3 u4 w4 u5 w5 u6 w6 u7 w7 u8 w8 u9 w9 u10 w10 u11 w11 u12 w12 u13 w13 u14 w14 u15 w15 u16 w16 h1 X6 X7 X8 ⟨k, hk'⟩]
    rw [trip_w 𝒱 c bd i u1 w1 u2 w2 u3 w3 u4 w4 u5 w5 u6 w6 u7 w7 u8 w8 u9 w9 u10 w10 u11 w11 u12 w12 u13 w13 u14 w14 u15 w15 u16 w16 h1 X6 X7 X8 xq xk xv h6 h7 h8 ⟨k, hk'⟩]
    have hc : (y 1).val < 3584 := (y 1).isLt
    by_cases hlt : (y 0).val < 128 * k
    · refine (four_out _ _ _ k 3072 _ _ _ _ _ _ _ _ _ _ _ _ y (k0_off11_eq ⟨k, hk'⟩) (k0_off12_eq ⟨k, hk'⟩) (k0_off13_eq ⟨k, hk'⟩) (k0_off14_eq ⟨k, hk'⟩) (Or.inl hlt)).trans ?_
      refine (four_out _ _ _ k 2560 _ _ _ _ _ _ _ _ _ _ _ _ y (k0_off7_eq ⟨k, hk'⟩) (k0_off8_eq ⟨k, hk'⟩) (k0_off9_eq ⟨k, hk'⟩) (k0_off10_eq ⟨k, hk'⟩) (Or.inl hlt)).trans ?_
      refine (four_out _ _ _ k 0 _ _ _ _ _ _ _ _ _ _ _ _ y (k0_off2_eq ⟨k, hk'⟩) (k0_off3_eq ⟨k, hk'⟩) (k0_off4_eq ⟨k, hk'⟩) (k0_off5_eq ⟨k, hk'⟩) (Or.inl hlt)).trans ?_
      exact ih (by omega) hlt
    · have hd : wTrip (y 0) = ⟨k, hk'⟩ := Fin.ext (by show (y 0).val / 128 = k; omega)
      have hr : (y 0).val = 128 * k + (wRow (y 0)).val := by show (y 0).val = 128 * k + (y 0).val % 128; omega
      unfold wF
      rw [hd]
      by_cases b2 : 3072 ≤ (y 1).val
      · rw [if_neg (by omega), if_neg (by omega)]
        refine four_in _ _ _ k 3072 _ _ _ _ _ _ _ _ _ _ _ _ y (k0_off11_eq ⟨k, hk'⟩) (k0_off12_eq ⟨k, hk'⟩) (k0_off13_eq ⟨k, hk'⟩) (k0_off14_eq ⟨k, hk'⟩) hr b2 (by omega) _ ?_ ?_ ?_ ?_
        all_goals
          intro z hz
          have hzl := z.isLt
          exact at_field (fun f => fieldV f (packS xv ⟨k, hk'⟩)) _ _ _ (by omega) (by dsimp only; omega)
      rw [four_out _ _ _ k 3072 _ _ _ _ _ _ _ _ _ _ _ _ y (k0_off11_eq ⟨k, hk'⟩) (k0_off12_eq ⟨k, hk'⟩) (k0_off13_eq ⟨k, hk'⟩) (k0_off14_eq ⟨k, hk'⟩) (Or.inr (Or.inl (by omega)))]
      by_cases b1 : 2560 ≤ (y 1).val
      · rw [if_neg (by omega), if_pos (by omega)]
        refine four_in _ _ _ k 2560 _ _ _ _ _ _ _ _ _ _ _ _ y (k0_off7_eq ⟨k, hk'⟩) (k0_off8_eq ⟨k, hk'⟩) (k0_off9_eq ⟨k, hk'⟩) (k0_off10_eq ⟨k, hk'⟩) hr b1 (by omega) _ ?_ ?_ ?_ ?_
        all_goals
          intro z hz
          have hzl := z.isLt
          exact at_field (fun f => fieldK f (packS xk ⟨k, hk'⟩)) _ _ _ (by omega) (by dsimp only; omega)
      rw [four_out _ _ _ k 2560 _ _ _ _ _ _ _ _ _ _ _ _ y (k0_off7_eq ⟨k, hk'⟩) (k0_off8_eq ⟨k, hk'⟩) (k0_off9_eq ⟨k, hk'⟩) (k0_off10_eq ⟨k, hk'⟩) (Or.inr (Or.inl (by omega)))]
      rw [if_pos (by omega)]
      refine four_in _ _ _ k 0 _ _ _ _ _ _ _ _ _ _ _ _ y (k0_off2_eq ⟨k, hk'⟩) (k0_off3_eq ⟨k, hk'⟩) (k0_off4_eq ⟨k, hk'⟩) (k0_off5_eq ⟨k, hk'⟩) hr (Nat.zero_le _) (by omega) _ ?_ ?_ ?_ ?_
      all_goals
        intro z hz
        have hzl := z.isLt
        exact at_field (fun f => fieldQ f (packQ xq ⟨k, hk'⟩)) _ _ _ (by omega) (by dsimp only; omega)
end

section
variable (X1 : BufTy.Contents (Elt F) u1.view.ty) (X2 : BufTy.Contents (Elt F) u2.view.ty)

/-- The three pieces trip `k` of the second loop stores. -/
theorem trip_rows (x : Vec F S512x2560 .bf16) (g : Vec F S1x2560 .f32)
    (hx : u1.view.read (Elt F) X1 = x) (hg : u2.view.read (Elt F) X2 = g) (k : Fin k0_t2_loop.trips) :
    tripL_k0_t2 (F := F) 𝒱 c bd i u1 w1 u2 w2 u3 w3 u4 w4 u5 w5 u6 w6 u7 w7 u8 w8 u9 w9 u10 w10 u11 w11 u12 w12 u13 w13 u14 w14 u15 w15 u16 w16 X1 X2 k
      = ([⟨Rect.unit (s := S512x2560) (k0_off15 k) S32x2560.size (k0_off15_inb k), k0_pay16 (rowsT x k) g⟩],
         [⟨Rect.unit (s := S512x2560) (k0_off15 k) S32x2560.size (k0_off15_inb k), k0_pay17 (rowsT x k) g⟩],
         [⟨Rect.unit (s := S512x128) (k0_off16 k) S32x128.size (k0_off16_inb k), k0_pay21 (k0_pay14 (rowsT x k) g)⟩]) := by
  subst hx hg
  rw [← View.readAt_full u2.view X2 inb_S1x2560_S1x2560_0_0]
  unfold tripL_k0_t2 trip_k0_t2
  dsimp only
  sl_unfold_words
  rfl

/-- A buffer written strip by strip: after the trips before `k` its rows below `32 * k` hold the strips. -/
theorem strips {n : ℕ} {e : EltTy} (v : View sig .tc .vmem ⟨2, ![512, n]⟩ e) (G : BufTy.Contents (Elt F) v.ty)
    (w : Fin k0_t2_loop.trips → Vec F ⟨2, ![32, n]⟩ e) (off : Fin k0_t2_loop.trips → Fin 2 → ℕ)
    (inb : ∀ k a, off k a + (⟨2, ![32, n]⟩ : Shape).size a ≤ (⟨2, ![512, n]⟩ : Shape).size a)
    (hoff : ∀ k, off k = ![32 * k.val, 0]) (L : ℕ → List (View.Piece (Elt F) ⟨2, ![512, n]⟩ e))
    (hL : ∀ k : Fin k0_t2_loop.trips, L (k.val + 1) = ⟨Rect.unit (s := ⟨2, ![512, n]⟩) (off k) (⟨2, ![32, n]⟩ : Shape).size (inb k), w k⟩ :: L k.val)
    (k : ℕ) (hk : k ≤ 16) (y : (⟨2, ![512, n]⟩ : Shape).Idx) (hy : (y 0).val < 32 * k) :
    v.read (Elt F) (v.writes (Elt F) G (L k)) y = w (rowTrip (y 0)) (ix2 (rowIn (y 0)) (y 1)) := by
  induction k with
  | zero => omega
  | succ k ih =>
    have hk' : k < k0_t2_loop.trips := by rw [trips2]; omega
    rw [hL ⟨k, hk'⟩]
    by_cases hlt : (y 0).val < 32 * k
    · rw [View.read_writes_cons_unit_of_not_mem _ _ _ _ _ y (hoff ⟨k, hk'⟩) (0 : Fin 2) (Or.inl hlt)]
      exact ih (by omega) hlt
    · have hd : rowTrip (y 0) = ⟨k, hk'⟩ := Fin.ext (by show (y 0).val / 32 = k; omega)
      refine (View.read_writes_cons_unit_of_mem _ _ _ _ _ y (ix2 (rowIn (y 0)) (y 1)) (hoff ⟨k, hk'⟩)
        (Fin.forall_fin_two.mpr ⟨by show (y 0).val = 32 * k + (y 0).val % 32; omega, (Nat.zero_add _).symm⟩)).trans ?_
      rw [hd]; rfl

/-- What the second loop leaves in its three buffers. -/
theorem loop_rows (x : Vec F S512x2560 .bf16) (g : Vec F S1x2560 .f32)
    (hx : u1.view.read (Elt F) X1 = x) (hg : u2.view.read (Elt F) X2 = g)
    (G12 : BufTy.Contents (Elt F) u12.view.ty) (G15 : BufTy.Contents (Elt F) u15.view.ty) (G16 : BufTy.Contents (Elt F) u16.view.ty) :
    u12.view.read (Elt F) (u12.view.writes (Elt F) G12 (pb_k0_t2 (F := F) 𝒱 c bd i u1 w1 u2 w2 u3 w3 u4 w4 u5 w5 u6 w6 u7 w7 u8 w8 u9 w9 u10 w10 u11 w11 u12 w12 u13 w13 u14 w14 u15 w15 u16 w16 X1 X2 16).1) = codesF x g
    ∧ u15.view.read (Elt F) (u15.view.writes (Elt F) G15 (pb_k0_t2 (F := F) 𝒱 c bd i u1 w1 u2 w2 u3 w3 u4 w4 u5 w5 u6 w6 u7 w7 u8 w8 u9 w9 u10 w10 u11 w11 u12 w12 u13 w13 u14 w14 u15 w15 u16 w16 X1 X2 16).2.1) = clipF x g
    ∧ u16.view.read (Elt F) (u16.view.writes (Elt F) G16 (pb_k0_t2 (F := F) 𝒱 c bd i u1 w1 u2 w2 u3 w3 u4 w4 u5 w5 u6 w6 u7 w7 u8 w8 u9 w9 u10 w10 u11 w11 u12 w12 u13 w13 u14 w14 u15 w15 u16 w16 X1 X2 16).2.2) = scaleL x g := by
  have hL := fun k : Fin k0_t2_loop.trips => (pb_k0_t2_succ (F := F) 𝒱 c bd i u1 w1 u2 w2 u3 w3 u4 w4 u5 w5 u6 w6 u7 w7 u8 w8 u9 w9 u10 w10 u11 w11 u12 w12 u13 w13 u14 w14 u15 w15 u16 w16 X1 X2 k).trans
    (by rw [trip_rows 𝒱 c bd i u1 w1 u2 w2 u3 w3 u4 w4 u5 w5 u6 w6 u7 w7 u8 w8 u9 w9 u10 w10 u11 w11 u12 w12 u13 w13 u14 w14 u15 w15 u16 w16 X1 X2 x g hx hg k])
  refine ⟨funext fun y => ?_, funext fun y => ?_, funext fun y => ?_⟩
  · exact strips u12.view G12 (fun k => k0_pay16 (rowsT x k) g) k0_off15 k0_off15_inb k0_off15_eq
      (fun k => (pb_k0_t2 (F := F) 𝒱 c bd i u1 w1 u2 w2 u3 w3 u4 w4 u5 w5 u6 w6 u7 w7 u8 w8 u9 w9 u10 w10 u11 w11 u12 w12 u13 w13 u14 w14 u15 w15 u16 w16 X1 X2 k).1) (fun k => congrArg (fun p => p.1) (hL k)) 16 le_rfl y (y 0).isLt
  · exact strips u15.view G15 (fun k => k0_pay17 (rowsT x k) g) k0_off15 k0_off15_inb k0_off15_eq
      (fun k => (pb_k0_t2 (F := F) 𝒱 c bd i u1 w1 u2 w2 u3 w3 u4 w4 u5 w5 u6 w6 u7 w7 u8 w8 u9 w9 u10 w10 u11 w11 u12 w12 u13 w13 u14 w14 u15 w15 u16 w16 X1 X2 k).2.1) (fun k => congrArg (fun p => p.2.1) (hL k)) 16 le_rfl y (y 0).isLt
  · exact strips u16.view G16 (fun k => k0_pay21 (k0_pay14 (rowsT x k) g)) k0_off16 k0_off16_inb k0_off16_eq
      (fun k => (pb_k0_t2 (F := F) 𝒱 c bd i u1 w1 u2 w2 u3 w3 u4 w4 u5 w5 u6 w6 u7 w7 u8 w8 u9 w9 u10 w10 u11 w11 u12 w12 u13 w13 u14 w14 u15 w15 u16 w16 X1 X2 k).2.2) (fun k => congrArg (fun p => p.2.2) (hL k)) 16 le_rfl y (y 0).isLt
end

section
variable (X3 : BufTy.Contents (Elt F) u3.view.ty) (X4 : BufTy.Contents (Elt F) u4.view.ty) (X5 : BufTy.Contents (Elt F) u5.view.ty) (X14 : BufTy.Contents (Elt F) u14.view.ty) (X15 : BufTy.Contents (Elt F) u15.view.ty) (X16 : BufTy.Contents (Elt F) u16.view.ty)
  (cs : Vec F S512x2560 .bf16) (a : Vec F S512x128 .f32) (x2 x3 : Vec F S512x128 .f32) (x4 : Vec F S3 .f32) (w : Vec F S2560x3584 .bf16)
  (h3 : u3.view.read (Elt F) X3 = x2) (h4 : u4.view.read (Elt F) X4 = x3) (h5 : u5.view.read (Elt F) X5 = x4)
  (h14 : u14.view.read (Elt F) X14 = w) (h15 : u15.view.read (Elt F) X15 = cs) (h16 : u16.view.read (Elt F) X16 = a)
include h3 h4 h5 h14 h15 h16

/-- The one piece trip `k` of the query projection stores. -/
theorem trip_q (k : Fin k0_t3_loop.trips) :
    tripL_k0_t3 (F := F) 𝒱 c bd i u1 w1 u2 w2 u3 w3 u4 w4 u5 w5 u6 w6 u7 w7 u8 w8 u9 w9 u10 w10 u11 w11 u12 w12 u13 w13 u14 w14 u15 w15 u16 w16 X3 X4 X5 X14 X15 X16 k
      = [⟨Rect.unit (s := S512x2560) (k0_off18 k) S512x256.size (k0_off18_inb k), qT cs a x2 x3 x4 w k⟩] := by
  subst h3 h4 h5 h14 h15 h16
  unfold qT
  rw [← View.readAt_full u3.view X3 inb_S512x128_S512x128_0_0, ← View.readAt_full u4.view X4 inb_S512x128_S512x128_0_0,
    ← View.readAt_full u15.view X15 inb_S512x2560_S512x2560_0_0, ← View.readAt_full u16.view X16 inb_S512x128_S512x128_0_0]
  unfold tripL_k0_t3 trip_k0_t3
  dsimp only
  sl_unfold_words
  refine congrArg (fun w => [(⟨Rect.unit (s := S512x2560) (k0_off18 k) S512x256.size (k0_off18_inb k), w⟩ : View.Piece (Elt F) S512x2560 .bf16)]) ?_
  refine congr (congr (congr (congr (congr (congr (congr (congrArg k0_pay23 ?_) rfl) rfl) rfl) rfl) rfl) rfl) rfl
  exact congrArg (u5.view.read (Elt F) X5) (funext (Fin.forall_fin_one.mpr rfl))

/-- After the trips before `k` the columns of the queries below `256 * k` hold their values. -/
theorem loop_q (G : BufTy.Contents (Elt F) u9.view.ty) (k : ℕ) (hk : k ≤ 10) (y : S512x2560.Idx) (hy : (y 1).val < 256 * k) :
    u9.view.read (Elt F) (u9.view.writes (Elt F) G (pb_k0_t3 (F := F) 𝒱 c bd i u1 w1 u2 w2 u3 w3 u4 w4 u5 w5 u6 w6 u7 w7 u8 w8 u9 w9 u10 w10 u11 w11 u12 w12 u13 w13 u14 w14 u15 w15 u16 w16 X3 X4 X5 X14 X15 X16 k)) y
      = qF cs a x2 x3 x4 w y := by
  induction k with
  | zero => omega
  | succ k ih =>
    have hk' : k < k0_t3_loop.trips := by rw [trips3]; omega
    rw [pb_k0_t3_succ (F := F) 𝒱 c bd i u1 w1 u2 w2 u3 w3 u4 w4 u5 w5 u6 w6 u7 w7 u8 w8 u9 w9 u10 w10 u11 w11 u12 w12 u13 w13 u14 w14 u15 w15 u16 w16 X3 X4 X5 X14 X15 X16 ⟨k, hk'⟩]
    rw [trip_q 𝒱 c bd i u1 w1 u2 w2 u3 w3 u4 w4 u5 w5 u6 w6 u7 w7 u8 w8 u9 w9 u10 w10 u11 w11 u12 w12 u13 w13 u14 w14 u15 w15 u16 w16 X3 X4 X5 X14 X15 X16 cs a x2 x3 x4 w h3 h4 h5 h14 h15 h16 ⟨k, hk'⟩, List.singleton_append]
    by_cases hlt : (y 1).val < 256 * k
    · rw [View.read_writes_cons_unit_of_not_mem _ _ _ _ _ y (k0_off18_eq ⟨k, hk'⟩) (1 : Fin 2) (Or.inl hlt)]
      exact ih (by omega) hlt
    · have hd : (y 1).val / 256 = k := by omega
      refine (View.read_writes_cons_unit_of_mem _ _ _ _ _ y (ix2 (y 0) ⟨(y 1).val % 256, Nat.mod_lt _ (by decide)⟩) (k0_off18_eq ⟨k, hk'⟩)
        (Fin.forall_fin_two.mpr ⟨(Nat.zero_add _).symm, by show (y 1).val = 256 * k + (y 1).val % 256; omega⟩)).trans ?_
      unfold qF
      subst hd
      rfl
end
end

/-! ## The body at one grid point -/

/-- Two blocks side by side, each block equal to a stated one. -/
theorem pieces_k {v : View sig .tc .vmem S512x512 .bf16} (G : BufTy.Contents (Elt F) v.ty) {p0 p1 q0 q1 : Vec F S512x256 .bf16} (h0 : p0 = q0) (h1 : p1 = q1) :
    v.read (Elt F) (v.writes (Elt F) G
      [⟨Rect.unit (s := S512x512) ![0, 256] S512x256.size inb_S512x512_S512x256_0_256, p1⟩,
       ⟨Rect.unit (s := S512x512) ![0, 0] S512x256.size inb_S512x512_S512x256_0_0, p0⟩]) = halves q0 q1 := by
  subst h0 h1; exact read_halves v G p0 p1

/-- A fact proved after its use. -/
theorem and_use {p q : Prop} (h : p) (f : p → q) : q := f h

set_option maxHeartbeats 3200000 in
/-- The body, run on whole buffers: the inputs are handed back as they were, the outputs hold the queries, keys, values,
    codes and scales, the first scratch buffer the unpacked weights. At a point that does not unpack, that buffer must hold
    them already. -/
theorem kernelRun (c : Dev nD) (i : grid0.Coords) (u1 : Memref sig .tc .vmem S512x2560 .bf16) (w1 : u1.IsWhole) (u2 : Memref sig .tc .vmem S1x2560 .f32) (w2 : u2.IsWhole) (u3 : Memref sig .tc .vmem S512x128 .f32) (w3 : u3.IsWhole) (u4 : Memref sig .tc .vmem S512x128 .f32) (w4 : u4.IsWhole) (u5 : Memref sig .tc .smem S3 .f32) (w5 : u5.IsWhole) (u6 : Memref sig .tc .vmem S2560x640 .i8) (w6 : u6.IsWhole) (u7 : Memref sig .tc .vmem S2560x128 .i8) (w7 : u7.IsWhole) (u8 : Memref sig .tc .vmem S2560x128 .i8) (w8 : u8.IsWhole) (u9 : Memref sig .tc .vmem S512x2560 .bf16) (w9 : u9.IsWhole) (u10 : Memref sig .tc .vmem S512x512 .bf16) (w10 : u10.IsWhole) (u11 : Memref sig .tc .vmem S512x512 .bf16) (w11 : u11.IsWhole) (u12 : Memref sig .tc .vmem S512x2560 .i8) (w12 : u12.IsWhole) (u13 : Memref sig .tc .vmem S1x4x128 .f32) (w13 : u13.IsWhole) (u14 : Memref sig .tc .vmem S2560x3584 .bf16) (w14 : u14.IsWhole) (u15 : Memref sig .tc .vmem S512x2560 .bf16) (w15 : u15.IsWhole) (u16 : Memref sig .tc .vmem S512x128 .f32) (w16 : u16.IsWhole)
    (x0 : Vec F S512x2560 .bf16) (x1 : Vec F S1x2560 .f32) (x2 : Vec F S512x128 .f32) (x3 : Vec F S512x128 .f32) (x4 : Vec F S3 .f32) (x5 : Vec F S2560x640 .i8) (x6 : Vec F S2560x128 .i8) (x7 : Vec F S2560x128 .i8)
    (d : Vec F S2560x3584 .bf16) (hd : ¬ k0_cond1 i = 1#1 → d = wF x5 x6 x7) :
      ∀ (E : Set ℕ) (K : PUnit → sProp 𝕄),
        iprop(owns (c : Thread nD τ) u1 fullShare x0 ∗ owns (c : Thread nD τ) u2 fullShare x1 ∗ owns (c : Thread nD τ) u3 fullShare x2 ∗ owns (c : Thread nD τ) u4 fullShare x3 ∗ owns (c : Thread nD τ) u5 fullShare x4 ∗ owns (c : Thread nD τ) u6 fullShare x5 ∗ owns (c : Thread nD τ) u7 fullShare x6 ∗ owns (c : Thread nD τ) u8 fullShare x7 ∗ (∃ d, owns (c : Thread nD τ) u9 fullShare d) ∗ (∃ d, owns (c : Thread nD τ) u10 fullShare d) ∗ (∃ d, owns (c : Thread nD τ) u11 fullShare d) ∗ (∃ d, owns (c : Thread nD τ) u12 fullShare d) ∗ (∃ d, owns (c : Thread nD τ) u13 fullShare d) ∗ owns (c : Thread nD τ) u14 fullShare d ∗ (∃ d, owns (c : Thread nD τ) u15 fullShare d) ∗ (∃ d, owns (c : Thread nD τ) u16 fullShare d)
            ∗ (iprop(owns (c : Thread nD τ) u1 fullShare x0 ∗ owns (c : Thread nD τ) u2 fullShare x1 ∗ owns (c : Thread nD τ) u3 fullShare x2 ∗ owns (c : Thread nD τ) u4 fullShare x3 ∗ owns (c : Thread nD τ) u5 fullShare x4 ∗ owns (c : Thread nD τ) u6 fullShare x5 ∗ owns (c : Thread nD τ) u7 fullShare x6 ∗ owns (c : Thread nD τ) u8 fullShare x7 ∗ owns (c : Thread nD τ) u9 fullShare (qF (clipF x0 x1) (scaleL x0 x1) x2 x3 x4 (wF x5 x6 x7)) ∗ owns (c : Thread nD τ) u10 fullShare (halves (kT0 (clipF x0 x1) (scaleL x0 x1) x2 x3 x4 (wF x5 x6 x7)) (kT1 (clipF x0 x1) (scaleL x0 x1) x2 x3 x4 (wF x5 x6 x7))) ∗ owns (c : Thread nD τ) u11 fullShare (halves (vT0 (clipF x0 x1) (scaleL x0 x1) x4 (wF x5 x6 x7)) (vT1 (clipF x0 x1) (scaleL x0 x1) x4 (wF x5 x6 x7))) ∗ owns (c : Thread nD τ) u12 fullShare (codesF x0 x1) ∗ owns (c : Thread nD τ) u13 fullShare (k0_pay22 (scaleL x0 x1)) ∗ owns (c : Thread nD τ) u14 fullShare (wF x5 x6 x7) ∗ (∃ d, owns (c : Thread nD τ) u15 fullShare d) ∗ (∃ d, owns (c : Thread nD τ) u16 fullShare d)) -∗ K ⟨⟩))
          ⊢ wp frame (wpE (defs₀ (F := F)) Variants.none c none) E (cc0_qkv i u1 w1 u2 w2 u3 w3 u4 w4 u5 w5 u6 w6 u7 w7 u8 w8 u9 w9 u10 w10 u11 w11 u12 w12 u13 w13 u14 w14 u15 w15 u16 w16) K := by
    intro E K
    simp only [cc0_qkv_eq_skeleton]; unfold cc0_qkv_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, ⟨%ds1, %fs1, -, HS1⟩, ⟨%ds2, %fs2, -, HS2⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5; obtain rfl := w7.eq_unread hf6; obtain rfl := w8.eq_unread hf7
    by_cases hc : k0_cond1 i = 1#1 <;> first | simp only [dif_pos hc] | simp only [dif_neg hc]
    all_goals
      sl_exec
      sl_step
      iapply Hk
      isplitl [H0]
      · iexists _; isplitr; · ipureintro; exact w1.read_unread _
        iexact H0
      isplitl [H1]
      · iexists _; isplitr; · ipureintro; exact w2.read_unread _
        iexact H1
      isplitl [H2]
      · iexists _; isplitr; · ipureintro; exact w3.read_unread _
        iexact H2
      isplitl [H3]
      · iexists _; isplitr; · ipureintro; exact w4.read_unread _
        iexact H3
      isplitl [H4]
      · iexists _; isplitr; · ipureintro; exact w5.read_unread _
        iexact H4
      isplitl [H5]
      · iexists _; isplitr; · ipureintro; exact w6.read_unread _
        iexact H5
      isplitl [H6]
      · iexists _; isplitr; · ipureintro; exact w7.read_unread _
        iexact H6
      isplitl [H7]
      · iexists _; isplitr; · ipureintro; exact w8.read_unread _
        iexact H7
      isplitl [H8]
      · iexists _; isplitr; swap; · iexact H8
        ipureintro
        sl_unfold_words
        simp only [show Scf.trips k0_t1_loop.lb k0_t1_loop.ub k0_t1_loop.st = 20 from trips1, show Scf.trips k0_t2_loop.lb k0_t2_loop.ub k0_t2_loop.st = 16 from trips2, show Scf.trips k0_t3_loop.lb k0_t3_loop.ub k0_t3_loop.st = 10 from trips3]
        funext y
        refine loop_q Variants.none c none i u1 w1 u2 w2 u3 w3 u4 w4 u5 w5 u6 w6 u7 w7 u8 w8 u9 w9 u10 w10 u11 w11 u12 w12 u13 w13 u14 w14 u15 w15 u16 w16 _ _ _ _ _ _ (clipF x0 x1) (scaleL x0 x1) x2 x3 x4 (wF x5 x6 x7) hf2 hf3 hf4 ?_ (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1 (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2 f8 10 le_rfl y (y 1).isLt
        (first | exact hfs0.trans (hd hc) | exact funext fun y => loop_w Variants.none c none i u1 w1 u2 w2 u3 w3 u4 w4 u5 w5 u6 w6 u7 w7 u8 w8 u9 w9 u10 w10 u11 w11 u12 w12 u13 w13 u14 w14 u15 w15 u16 w16 hc _ _ _ x5 x6 x7 hf5 hf6 hf7 fs0 20 le_rfl y (y 0).isLt)
      isplitl [H9]
      · iexists _; isplitr; swap; · iexact H9
        ipureintro
        sl_unfold_words
        simp only [show Scf.trips k0_t1_loop.lb k0_t1_loop.ub k0_t1_loop.st = 20 from trips1, show Scf.trips k0_t2_loop.lb k0_t2_loop.ub k0_t2_loop.st = 16 from trips2, show Scf.trips k0_t3_loop.lb k0_t3_loop.ub k0_t3_loop.st = 10 from trips3]
        unfold kT0 kT1
        refine and_use (p := u14.view.read (Elt F) _ = (wF x5 x6 x7)) ?_ (fun hw => pieces_k _ (congr (congr (congr (congr (congr (congrArg k0_pay26 (congr (congr (congr (congrArg k0_pay24 ((word_read u5.view _ 1 _ _).trans (congrFun hf4 (ix1 1)))) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1)) (congrArg (fun w : Vec F S2560x3584 .bf16 => wCols w 2560 inb_S2560x3584_S2560x256_0_2560) hw)) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2))) (congr (congr (congr (congrArg k0_pay25 ((word_read u5.view _ 1 _ _).trans (congrFun hf4 (ix1 1)))) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1)) (congrArg (fun w : Vec F S2560x3584 .bf16 => wCols w 2560 inb_S2560x3584_S2560x256_0_2560) hw)) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2))) ((View.readAt_full _ _ _).trans hf2)) ((View.readAt_full _ _ _).trans hf3)) ((View.readAt_full _ _ _).trans hf2)) ((View.readAt_full _ _ _).trans hf3)) (congr (congr (congr (congr (congr (congrArg k0_pay31 (congr (congr (congr (congrArg k0_pay27 ((word_read u5.view _ 1 _ _).trans (congrFun hf4 (ix1 1)))) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1)) (congrArg (fun w : Vec F S2560x3584 .bf16 => wCols w 2816 inb_S2560x3584_S2560x256_0_2816) hw)) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2))) (congr (congr (congr (congr (congrArg k0_pay29 ((word_read u5.view _ 1 _ _).trans (congrFun hf4 (ix1 1)))) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1)) (congrArg (fun w : Vec F S2560x3584 .bf16 => wCols w 2816 inb_S2560x3584_S2560x256_0_2816) hw)) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2)) ((View.readAt_full _ _ _).trans hf2))) (congr (congr (congr (congrArg k0_pay30 ((word_read u5.view _ 1 _ _).trans (congrFun hf4 (ix1 1)))) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1)) (congrArg (fun w : Vec F S2560x3584 .bf16 => wCols w 2816 inb_S2560x3584_S2560x256_0_2816) hw)) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2))) ((View.readAt_full _ _ _).trans hf3)) ((View.readAt_full _ _ _).trans hf2)) ((View.readAt_full _ _ _).trans hf3)))
        (first | exact hfs0.trans (hd hc) | exact funext fun y => loop_w Variants.none c none i u1 w1 u2 w2 u3 w3 u4 w4 u5 w5 u6 w6 u7 w7 u8 w8 u9 w9 u10 w10 u11 w11 u12 w12 u13 w13 u14 w14 u15 w15 u16 w16 hc _ _ _ x5 x6 x7 hf5 hf6 hf7 fs0 20 le_rfl y (y 0).isLt)
      isplitl [H10]
      · iexists _; isplitr; swap; · iexact H10
        ipureintro
        sl_unfold_words
        simp only [show Scf.trips k0_t1_loop.lb k0_t1_loop.ub k0_t1_loop.st = 20 from trips1, show Scf.trips k0_t2_loop.lb k0_t2_loop.ub k0_t2_loop.st = 16 from trips2, show Scf.trips k0_t3_loop.lb k0_t3_loop.ub k0_t3_loop.st = 10 from trips3]
        unfold vT0 vT1
        refine and_use (p := u14.view.read (Elt F) _ = (wF x5 x6 x7)) ?_ (fun hw => pieces_k _ (congr (congr (congr (congrArg k0_pay32 ((word_read u5.view _ 2 _ _).trans (congrFun hf4 (ix1 2)))) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1)) (congrArg (fun w : Vec F S2560x3584 .bf16 => wCols w 3072 inb_S2560x3584_S2560x256_0_3072) hw)) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2)) (congr (congrArg k0_pay1 ((word_read u5.view _ 2 _ _).trans (congrFun hf4 (ix1 2)))) (congr (congr (congrArg k0_pay33 ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.1)) (congrArg (fun w : Vec F S2560x3584 .bf16 => wCols w 3328 inb_S2560x3584_S2560x256_0_3328) hw)) ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2))))
        (first | exact hfs0.trans (hd hc) | exact funext fun y => loop_w Variants.none c none i u1 w1 u2 w2 u3 w3 u4 w4 u5 w5 u6 w6 u7 w7 u8 w8 u9 w9 u10 w10 u11 w11 u12 w12 u13 w13 u14 w14 u15 w15 u16 w16 hc _ _ _ x5 x6 x7 hf5 hf6 hf7 fs0 20 le_rfl y (y 0).isLt)
      isplitl [H11]
      · iexists _; isplitr; swap; · iexact H11
        ipureintro
        sl_unfold_words
        simp only [show Scf.trips k0_t1_loop.lb k0_t1_loop.ub k0_t1_loop.st = 20 from trips1, show Scf.trips k0_t2_loop.lb k0_t2_loop.ub k0_t2_loop.st = 16 from trips2, show Scf.trips k0_t3_loop.lb k0_t3_loop.ub k0_t3_loop.st = 10 from trips3]
        exact (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).1
      isplitl [H12]
      · iexists _; isplitr; swap; · iexact H12
        ipureintro
        sl_unfold_words
        simp only [show Scf.trips k0_t1_loop.lb k0_t1_loop.ub k0_t1_loop.st = 20 from trips1, show Scf.trips k0_t2_loop.lb k0_t2_loop.ub k0_t2_loop.st = 16 from trips2, show Scf.trips k0_t3_loop.lb k0_t3_loop.ub k0_t3_loop.st = 10 from trips3]
        refine (View.read_writes_full _ _ _ _ _).trans ?_
        exact congrArg k0_pay22 ((View.readAt_full _ _ _).trans (loop_rows Variants.none c none i u1 w1 u2 w2 u3 w3 u4 w4 u5 w5 u6 w6 u7 w7 u8 w8 u9 w9 u10 w10 u11 w11 u12 w12 u13 w13 u14 w14 u15 w15 u16 w16 _ _ x0 x1 hf0 hf1 f11 fs1 fs2).2.2)
      isplitl [HS0]
      · iexists _; isplitr; swap; · iexact HS0
        ipureintro
        sl_unfold_words
        try simp only [show Scf.trips k0_t1_loop.lb k0_t1_loop.ub k0_t1_loop.st = 20 from trips1]
        (first | exact hfs0.trans (hd hc) | exact funext fun y => loop_w Variants.none c none i u1 w1 u2 w2 u3 w3 u4 w4 u5 w5 u6 w6 u7 w7 u8 w8 u9 w9 u10 w10 u11 w11 u12 w12 u13 w13 u14 w14 u15 w15 u16 w16 hc _ _ _ x5 x6 x7 hf5 hf6 hf7 fs0 20 le_rfl y (y 0).isLt)
      isplitl [HS1]
      · iexists _, _; isplitr; swap; · iexact HS1
        ipureintro; rfl
      iexists _, _; isplitr; swap; · iexact HS2
      ipureintro; rfl

variable (m : (ℓ : Loc nD τ sig) → Buf (Elt F) ℓ) (ρ : Dev nD → PrngReg)

/-! ## The pipeline's proof data -/

/-- The unpacked weights, from the packed blocks the first point fetches. -/
def wB (c : Dev nD) : Vec F S2560x3584 .bf16 := wF (iblk m c 5 t0_0) (iblk m c 6 t0_0) (iblk m c 7 t0_0)

/-- Every point's packed blocks are the first point's: the whole arrays. -/
theorem iblk5_const (c : Dev nD) (t : Fin cfg0.N) : (iblk m c 5 t : Vec F S2560x640 .i8) = iblk m c 5 t0_0 := rfl
theorem iblk6_const (c : Dev nD) (t : Fin cfg0.N) : (iblk m c 6 t : Vec F S2560x128 .i8) = iblk m c 6 t0_0 := rfl
theorem iblk7_const (c : Dev nD) (t : Fin cfg0.N) : (iblk m c 7 t : Vec F S2560x128 .i8) = iblk m c 7 t0_0 := rfl

/-- The kernel's scratch buffers, whole. -/
abbrev scM0_0 : Memref sig .tc .vmem S2560x3584 .bf16 := Memref.whole cc0_scratch0
abbrev scM0_1 : Memref sig .tc .vmem S512x2560 .bf16 := Memref.whole cc0_scratch1
abbrev scM0_2 : Memref sig .tc .vmem S512x128 .f32 := Memref.whole cc0_scratch2

/-- The invariant after the first point: the first scratch buffer holds the unpacked weights. -/
def carried (c : Dev nD) : sProp 𝕄 :=
  iprop(iprop(owns (c : Thread nD τ) scM0_0 fullShare (wB m c) ∗ (∃ d, owns (c : Thread nD τ) scM0_1 fullShare d) ∗ (∃ d, owns (c : Thread nD τ) scM0_2 fullShare d)) ∗ (∃ r, prngReg c r))

/-- The proof data: the arrays as found, each input's block left in place, the outputs at their values, the unpacked
    weights carried from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => qF (clipF (iblk m c 0 t) (iblk m c 1 t)) (scaleL (iblk m c 0 t) (iblk m c 1 t)) (iblk m c 2 t) (iblk m c 3 t) (iblk m c 4 t) (wB m c)
    | ⟨9, _⟩ => halves (kT0 (clipF (iblk m c 0 t) (iblk m c 1 t)) (scaleL (iblk m c 0 t) (iblk m c 1 t)) (iblk m c 2 t) (iblk m c 3 t) (iblk m c 4 t) (wB m c)) (kT1 (clipF (iblk m c 0 t) (iblk m c 1 t)) (scaleL (iblk m c 0 t) (iblk m c 1 t)) (iblk m c 2 t) (iblk m c 3 t) (iblk m c 4 t) (wB m c))
    | ⟨10, _⟩ => halves (vT0 (clipF (iblk m c 0 t) (iblk m c 1 t)) (scaleL (iblk m c 0 t) (iblk m c 1 t)) (iblk m c 4 t) (wB m c)) (vT1 (clipF (iblk m c 0 t) (iblk m c 1 t)) (scaleL (iblk m c 0 t) (iblk m c 1 t)) (iblk m c 4 t) (wB m c))
    | ⟨11, _⟩ => codesF (iblk m c 0 t) (iblk m c 1 t)
    | ⟨12, _⟩ => k0_pay22 (scaleL (iblk m c 0 t) (iblk m c 1 t))
  Φ t := if t.val = 0 then Pipeline.ΦA spec0 c else carried m c
  q _ := fullShare
  owed _ := 0

/-- The proof data's arrays are those found at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = qF (clipF (iblk m c 0 t) (iblk m c 1 t)) (scaleL (iblk m c 0 t) (iblk m c 1 t)) (iblk m c 2 t) (iblk m c 3 t) (iblk m c 4 t) (wB m c) := by dsimp only [dats]
theorem after0_9 (c : Dev nD) (t : Fin cfg0.N) : (dats m 0 c).after 9 t = halves (kT0 (clipF (iblk m c 0 t) (iblk m c 1 t)) (scaleL (iblk m c 0 t) (iblk m c 1 t)) (iblk m c 2 t) (iblk m c 3 t) (iblk m c 4 t) (wB m c)) (kT1 (clipF (iblk m c 0 t) (iblk m c 1 t)) (scaleL (iblk m c 0 t) (iblk m c 1 t)) (iblk m c 2 t) (iblk m c 3 t) (iblk m c 4 t) (wB m c)) := by dsimp only [dats]
theorem after0_10 (c : Dev nD) (t : Fin cfg0.N) : (dats m 0 c).after 10 t = halves (vT0 (clipF (iblk m c 0 t) (iblk m c 1 t)) (scaleL (iblk m c 0 t) (iblk m c 1 t)) (iblk m c 4 t) (wB m c)) (vT1 (clipF (iblk m c 0 t) (iblk m c 1 t)) (scaleL (iblk m c 0 t) (iblk m c 1 t)) (iblk m c 4 t) (wB m c)) := by dsimp only [dats]
theorem after0_11 (c : Dev nD) (t : Fin cfg0.N) : (dats m 0 c).after 11 t = codesF (iblk m c 0 t) (iblk m c 1 t) := by dsimp only [dats]
theorem after0_12 (c : Dev nD) (t : Fin cfg0.N) : (dats m 0 c).after 12 t = k0_pay22 (scaleL (iblk m c 0 t) (iblk m c 1 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at any point -/

/-- The launch's invariant: the scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The carried invariant implies the launch's. -/
theorem carried_forget (c : Dev nD) : carried m c ⊢ (Pipeline.ΦA spec0 c : sProp 𝕄) := by
  rw [PhiA0_eq]; unfold carried
  iintro ⟨⟨HS0, HS1, HS2⟩, Hg⟩
  isplitl [HS0 HS1 HS2]
  · isplitl [HS0]; · iexists _; iexact HS0
    isplitl [HS1]; · iexact HS1
    iexact HS2
  iexact Hg

/-- At the start the invariant is the launch's, -/
theorem Phi_zero (c : Dev nD) (t : Fin (cfg0.N + 1)) (h : t.val = 0) : (dats m 0 c).Φ t = Pipeline.ΦA spec0 c := by
  dsimp only [dats]; exact if_pos h

/-- afterwards the carried one. -/
theorem Phi_pos (c : Dev nD) (t : Fin (cfg0.N + 1)) (h : t.val ≠ 0) : (dats m 0 c).Φ t = carried m c := by
  dsimp only [dats]; exact if_neg h

/-- Before any point the first scratch buffer holds something, and from the second point on the unpacked weights. -/
theorem Phi_open (c : Dev nD) (t : Fin cfg0.N) : (dats m 0 c).Φ t.castSucc ⊢
    (iprop(∃ d, iprop(⌜t.val ≠ 0 → d = wB m c⌝ ∗ iprop(owns (c : Thread nD τ) scM0_0 fullShare d ∗ (∃ d, owns (c : Thread nD τ) scM0_1 fullShare d) ∗ (∃ d, owns (c : Thread nD τ) scM0_2 fullShare d)) ∗ (∃ r, prngReg c r))) : sProp 𝕄) := by
  by_cases h : t.val = 0
  · rw [Phi_zero m c t.castSucc h, PhiA0_eq]
    iintro ⟨⟨⟨%d, HS0⟩, HS1, HS2⟩, Hg⟩
    iexists d
    isplitr
    · ipureintro; exact fun h' => absurd h h'
    isplitl [HS0 HS1 HS2]
    · isplitl [HS0]; · iexact HS0
      isplitl [HS1]; · iexact HS1
      iexact HS2
    iexact Hg
  · rw [Phi_pos m c t.castSucc h]
    unfold carried
    iintro ⟨⟨HS0, HS1, HS2⟩, Hg⟩
    iexists _
    isplitr
    · ipureintro; exact fun _ => rfl
    isplitl [HS0 HS1 HS2]
    · isplitl [HS0]; · iexact HS0
      isplitl [HS1]; · iexact HS1
      iexact HS2
    iexact Hg

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 3200000 in
/-- The body at any point takes the blocks to what the proof data states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [Phi_pos m c t.succ (Nat.succ_ne_zero _),
    show (dats m 0 c).owesAt () t.succ = (dats m 0 c).owesAt () t.castSucc from rfl,
    after0_0, after0_1, after0_2, after0_3, after0_4, after0_5, after0_6, after0_7, after0_8, after0_9, after0_10, after0_11, after0_12]
  refine (sep_mono (Phi_open m c t) .rfl).trans ?_
  unfold carried wB
  iintro ⟨⟨%dw, %hdw, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) dw (fun hc => hdw fun h0 => hc ((cond_iff t).mpr h0))) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every execution ends, with the arrays at what the proof data states and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => (Phi_zero m c 0 rfl) ▸ .rfl)
    (hout := fun c => (Phi_pos m c (Fin.last cfg0.N) (by decide)) ▸ carried_forget m c) (Q' := _)

/-- Every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.QkvIdeal.Val
-- ==== Proof.RowSpec.lean ====
module

public import proofs.«01_k».proof.Proof.Tern
public import proofs.«01_k».proof.Proof.RowQuant

@[expose] public section
noncomputable section
/-! A row of a packed ternary linear layer and a row's normalisation and quantisation, generic in the sizes: the formulas
    that the calls with 2560-entry rows and their references compute. -/
namespace Cert.RowSpec
open Idealize.ShloMosaic
open Cert.Tern

/-- A row of codes against column `C` of packed ternary weights `n` bytes wide: field `C / n` of byte column `C % n`. -/
def dotP {n : ℕ} (hn : 0 < n) (q : Fin 2560 → BitVec 8) (w : Fin 2560 → Fin n → BitVec 8) (C : ℕ) : EReal :=
  ∑ k : Fin 2560, (((q k).toInt : ℝ) : EReal) * tern (w k ⟨C % n, Nat.mod_lt _ hn⟩) (C / n)

/-- The row length 2560 as the programs write it. -/
abbrev D : EReal := Ideal.ofBits FTy.f32 0x45200000#32

/-- The normalised row. -/
def normed (v g : Fin 2560 → EReal) (C : Fin 2560) : EReal := v C * RowQuant.rstd D v * g C

/-- The row's quantisation scale. -/
def scl (v g : Fin 2560 → EReal) : EReal := RowQuant.scale (RowQuant.amax (normed v g))

/-- The row's int8 codes. -/
def cod (v g : Fin 2560 → EReal) (C : Fin 2560) : BitVec 8 := RowQuant.code (Ideal.div (normed v g C) (scl v g))

end Cert.RowSpec
-- ==== Proof.QkvSpec.lean ====
module

public import proofs.«01_k».proof.Proof.RowSpec

@[expose] public section
noncomputable section
/-! The formulas of the first call beyond a row's quantisation: a clipped quotient is the number its code holds, a scaled
    column of a packed linear layer, and the rotation of a head's two halves by an angle. -/
namespace Cert.QkvSpec
open Idealize.ShloMosaic
open Cert.Tern Cert.RowSpec

/-- A clipped quotient is a whole number between −127 and 127. -/
theorem clip_int (q : EReal) : ∃ z : ℤ, RowQuant.clip q = ((z : ℝ) : EReal) ∧ -127 ≤ z ∧ z ≤ 127 := by
  unfold RowQuant.clip
  rw [RowQuant.word_127, RowQuant.word_m127]
  have hmin : ∀ a b : ℝ, min (a : EReal) (b : EReal) = ((min a b : ℝ) : EReal) := fun a b => (EReal.coe_strictMono.monotone.map_min).symm
  have hmax : ∀ a b : ℝ, max (a : EReal) (b : EReal) = ((max a b : ℝ) : EReal) := fun a b => (EReal.coe_strictMono.monotone.map_max).symm
  induction q with
  | bot =>
    refine ⟨-127, ?_, by norm_num, by norm_num⟩
    show min ((127 : ℝ) : EReal) (max ((-127 : ℝ) : EReal) ⊥) = _
    rw [max_eq_left bot_le, hmin]; norm_num
  | top =>
    refine ⟨127, ?_, by norm_num, by norm_num⟩
    show min ((127 : ℝ) : EReal) (max ((-127 : ℝ) : EReal) ⊤) = _
    rw [max_eq_right le_top, min_eq_left le_top]; norm_num
  | coe x =>
    refine ⟨min 127 (max (-127) (Ideal.roundHalfEven x)), ?_, le_min (by norm_num) (le_max_left _ _), min_le_left _ _⟩
    show min ((127 : ℝ) : EReal) (max ((-127 : ℝ) : EReal) ((Ideal.roundHalfEven x : ℝ) : EReal)) = _
    rw [hmax, hmin]
    push_cast
    rfl

/-- A quotient's code holds the clipped quotient. -/
theorem code_value (q : EReal) : (((RowQuant.code q).toInt : ℝ) : EReal) = RowQuant.clip q := by
  obtain ⟨z, e, ha, hb⟩ := clip_int q
  unfold RowQuant.code
  rw [e]
  refine congrArg (fun y : ℤ => ((y : ℝ) : EReal)) ?_
  unfold Ideal.fptosi
  show (BitVec.ofInt 8 (max _ (min _ (if (0 : ℝ) ≤ (z : ℝ) then ⌊(z : ℝ)⌋ else ⌈(z : ℝ)⌉)))).toInt = z
  rw [Int.floor_intCast, Int.ceil_intCast, ite_self]
  have k8 : max (-((2 ^ (8 - 1) : ℕ) : ℤ)) (min (((2 ^ (8 - 1) : ℕ) : ℤ) - 1) z) = z := by push_cast; omega
  rw [k8]
  interval_cases z <;> rfl

/-- Column `C` of a packed linear layer `n` bytes wide, scaled by the row's and the matrix's scale. -/
def lin {n : ℕ} (hn : 0 < n) (q : Fin 2560 → BitVec 8) (w : Fin 2560 → Fin n → BitVec 8) (a s : EReal) (C : ℕ) : EReal :=
  dotP hn q w C * a * s

/-- An index of the 64 rotation frequencies from a column. -/
def lane (C : ℕ) : Fin 64 := ⟨C % 64, Nat.mod_lt _ (by decide)⟩

/-- Column `C` of the rotated row `t` of heads of 128: with `A` the row's angles, `t` times the cosine plus, times the
    sine, the head's other half, that of the second half negated. -/
def rope (t : ℕ → EReal) (A : Fin 64 → EReal) (C : ℕ) : EReal :=
  t C * Ideal.cos (A (lane C)) + (if C % 128 < 64 then -t (C + 64) else t (C - 64)) * Ideal.sin (A (lane C))

end Cert.QkvSpec
-- ==== Proof.OprojRefEq.lean ====
module

public import proofs.«01_k».proof.Defs
public import proofs.«01_k».proof.Proof.Tern
public import proofs.«01_k».proof.Proof.RowQuant
public import proofs.«01_k».proof.Proof.RowSpec
public import proofs.«01_k».proof.Proof.Gen.OprojRefIdeal.Run
public import Idealize.ShloMosaic.Lib.MatmulPlain
public import Idealize.ShloMosaic.Lib.Pointwise

@[expose] public section
set_option maxRecDepth 16384
noncomputable section
/-! The output projection reference's three results as formulas of the arguments, row by row. -/
namespace Cert.OprojRefIdeal.Eq
open Cert.OprojRefIdeal Cert.OprojRefIdeal.Gen Cert.OprojRefIdeal.Value
open Idealize.ShloMosaic Idealize.ShloMosaic.TcCoe
open Idealize.SL Idealize.SL.Sem
open Cert.Tern Cert.RowSpec

/-- One field's product, as the reference writes it. -/
def fieldTerm (a0 : IVec S8192x2560 8) (a5 : IVec S2560x640 8) (w : BitVec 32) : FVec Ideal S8192x640 .f32 :=
  Host.dotGeneral (F := Ideal) dot_S8192x2560_S2560x640_S8192x640_1_0_0_1_n_n none (truncf .bf16 (sitofp .f32 (extsi 32 a0 natLt_8_32)) bitsLt_bf16_f32) (truncf .bf16 (sitofp .f32 (subi (andi (Host.shrsi (extui 32 a5 natLt_8_32) (broadcastInDim S2560x640 ![] bcast_S_S2560x640 (constantI S_ 32 w))) (broadcastInDim S2560x640 ![] bcast_S_S2560x640 (constantI S_ 32 3#32))) (broadcastInDim S2560x640 ![] bcast_S_S2560x640 (constantI S_ 32 1#32)))) bitsLt_bf16_f32)

/-- One field's product at an index. -/
theorem field_apply (a0 : IVec S8192x2560 8) (a5 : IVec S2560x640 8) (f : Fin 4) (r : Fin 8192) (l : Fin 640) :
    fieldTerm a0 a5 (BitVec.ofNat 32 (2 * f.val)) (ix2 r l)
      = ∑ k : Fin 2560, (((a0 (ix2 r k)).toInt : ℝ) : EReal) * tern (a5 (ix2 k l)) f.val := by
  pointwise [fieldTerm]
  refine Finset.sum_congr rfl fun k _ => congrArg₂ (· * ·) ?_ ?_
  · show (((BitVec.signExtend 32 (a0 (ix2 r k))).toInt : ℝ) : EReal) = _
    rw [BitVec.toInt_signExtend_of_le (by decide)]
  · exact congrArg (fun z : ℤ => ((z : ℝ) : EReal)) (ref_field (a5 (ix2 k l)) f)

/-- Four fields' products side by side, scaled by the row's and the matrix's scale, as the reference writes it. -/
def linTerm (u0 u1 u2 u3 : FVec Ideal S8192x640 .f32) (a1 : FVec Ideal S8192x1 .f32) (s : FVec Ideal S1 .f32) : FVec Ideal S8192x2560 .f32 :=
  mulf (mulf ((concatenate S8192x2560 1 [⟨S8192x640, u0⟩, ⟨S8192x640, u1⟩, ⟨S8192x640, u2⟩, ⟨S8192x640, u3⟩] concatenates_S8192x640_S8192x640_S8192x640_S8192x640_S8192x2560_d1)) (broadcastInDim S8192x2560 ![0, 1] bcast_S8192x1_S8192x2560_0_1 (broadcastInDim S8192x1 ![0] bcast_S8192_S8192x1_0 (shapeCast _ a1 shapeCasts_S8192x1_S8192)))) (broadcastInDim S8192x2560 ![] bcast_S_S8192x2560 (shapeCast _ s shapeCasts_S1_S_))

/-- That, at an index. -/
theorem linTerm_apply (u0 u1 u2 u3 : FVec Ideal S8192x640 .f32) (a1 : FVec Ideal S8192x1 .f32) (s : FVec Ideal S1 .f32)
    (r : Fin 8192) (c : Fin 2560) (v : EReal)
    (h : ∀ f : Fin 4, f.val = c.val / 640 → (![u0, u1, u2, u3] f) (ix2 r ⟨c.val % 640, Nat.mod_lt _ (by decide)⟩) = v) :
    linTerm u0 u1 u2 u3 a1 s (ix2 r c) = v * a1 (ix2 r 0) * s (ix1 0) := by
  pointwise [linTerm]
  have hc := c.isLt
  refine congrArg (fun w => w * a1 (ix2 r 0) * s (ix1 0)) ?_
  by_cases h0 : c.val < 640
  · rw [dif_pos h0]
    refine Eq.trans (congrArg u0 (congrArg (ix2 r) (Fin.ext ?_))) (h 0 (by show 0 = c.val / 640; omega))
    show c.val = c.val % 640; omega
  rw [dif_neg h0]
  by_cases h1 : c.val - 640 < 640
  · rw [dif_pos h1]
    refine Eq.trans (congrArg u1 (congrArg (ix2 r) (Fin.ext ?_))) (h 1 (by show 1 = c.val / 640; omega))
    show c.val - 640 = c.val % 640; omega
  rw [dif_neg h1]
  by_cases h2 : c.val - 640 - 640 < 640
  · rw [dif_pos h2]
    refine Eq.trans (congrArg u2 (congrArg (ix2 r) (Fin.ext ?_))) (h 2 (by show 2 = c.val / 640; omega))
    show c.val - 640 - 640 = c.val % 640; omega
  rw [dif_neg h2]
  refine Eq.trans (congrArg u3 (congrArg (ix2 r) (Fin.ext ?_))) (h 3 (by show 3 = c.val / 640; omega))
  show c.val - 640 - 640 - 640 = c.val % 640; omega

/-- The reference's linear layer on packed weights. -/
def lin (a0 : IVec S8192x2560 8) (a1 : FVec Ideal S8192x1 .f32) (w : IVec S2560x640 8) (s : FVec Ideal S1 .f32) : FVec Ideal S8192x2560 .f32 :=
  linTerm (fieldTerm a0 w 0#32) (fieldTerm a0 w 2#32) (fieldTerm a0 w 4#32) (fieldTerm a0 w 6#32) a1 s

/-- The linear layer at an index. -/
theorem lin_apply (a0 : IVec S8192x2560 8) (a1 : FVec Ideal S8192x1 .f32) (w : IVec S2560x640 8) (s : FVec Ideal S1 .f32) (r : Fin 8192) (c : Fin 2560) :
    lin a0 a1 w s (ix2 r c) = dotP (n := 640) (by decide) (fun k => a0 (ix2 r k)) (fun k p => w (ix2 k p)) c.val * a1 (ix2 r 0) * s (ix1 0) := by
  refine linTerm_apply _ _ _ _ _ _ _ _ _ fun f hf => ?_
  have e : (![fieldTerm a0 w 0#32, fieldTerm a0 w 2#32, fieldTerm a0 w 4#32, fieldTerm a0 w 6#32] f) = fieldTerm a0 w (BitVec.ofNat 32 (2 * f.val)) := by
    fin_cases f <;> rfl
  rw [e]
  refine (field_apply a0 w f _ _).trans ?_
  rw [hf]; rfl

/-- The residual stream plus the projected rows, as the reference writes it. -/
def refM (a0 : IVec S8192x2560 8) (a1 : FVec Ideal S8192x1 .f32) (a2 : FVec Ideal S8192x2560 .bf16) (a4 : FVec Ideal S1 .f32) (a5 : IVec S2560x640 8) : FVec Ideal S8192x2560 .f32 :=
  addf (extf .f32 a2 bitsLt_bf16_f32) (lin a0 a1 a5 a4)

/-- That, at an index. -/
theorem refM_apply (a0 : IVec S8192x2560 8) (a1 : FVec Ideal S8192x1 .f32) (a2 : FVec Ideal S8192x2560 .bf16) (a4 : FVec Ideal S1 .f32) (a5 : IVec S2560x640 8) (r : Fin 8192) (c : Fin 2560) :
    refM a0 a1 a2 a4 a5 (ix2 r c)
      = a2 (ix2 r c) + dotP (n := 640) (by decide) (fun k => a0 (ix2 r k)) (fun k p => a5 (ix2 k p)) c.val * a1 (ix2 r 0) * a4 (ix1 0) :=
  congrArg (a2 (ix2 r c) + ·) (lin_apply a0 a1 a5 a4 r c)

/-- The reciprocal root mean squares as the reference writes them. -/
def refR (M : FVec Ideal S8192x2560 .f32) : FVec Ideal S8192 .f32 :=
  Host.rsqrt (addf (Host.divf (Host.reduceAdd (mulf M M) (constant S_ .f32 0x00000000#32) reducesTo_S8192x2560_S8192_d1 h_S_) (broadcastInDim S8192 ![] bcast_S_S8192 (constant S_ .f32 0x45200000#32))) (broadcastInDim S8192 ![] bcast_S_S8192 (constant S_ .f32 0x3727C5AC#32)))

/-- Those, at a row. -/
theorem refR_apply (M : FVec Ideal S8192x2560 .f32) (r : Fin 8192) : refR M (ix1 r) = RowQuant.rstd D (fun c => M (ix2 r c)) := by
  pointwise [refR]
  rfl

/-- A row's number at every column. -/
def bc (R : FVec Ideal S8192 .f32) : FVec Ideal S8192x2560 .f32 :=
  broadcastInDim S8192x2560 ![0, 1] bcast_S8192x1_S8192x2560_0_1 (broadcastInDim S8192x1 ![0] bcast_S8192_S8192x1_0 R)

theorem bc_apply (R : FVec Ideal S8192 .f32) (r : Fin 8192) (c : Fin 2560) : bc R (ix2 r c) = R (ix1 r) := by
  pointwise [bc]

/-- The normalised values as the reference writes them. -/
def refN (M : FVec Ideal S8192x2560 .f32) (g : FVec Ideal S1x2560 .f32) : FVec Ideal S8192x2560 .f32 :=
  mulf (mulf M (bc (refR M))) (broadcastInDim S8192x2560 ![0, 1] bcast_S1x2560_S8192x2560_0_1 (broadcastInDim S1x2560 ![1] bcast_S2560_S1x2560_1 (shapeCast _ g shapeCasts_S1x2560_S2560)))

/-- Those, at an index. -/
theorem refN_apply (M : FVec Ideal S8192x2560 .f32) (g : FVec Ideal S1x2560 .f32) (r : Fin 8192) (c : Fin 2560) :
    refN M g (ix2 r c) = normed (fun c => M (ix2 r c)) (fun c => g (ix2 0 c)) c := by
  pointwise [refN]
  rw [bc_apply, refR_apply]
  rfl

/-- The greatest absolute values as the reference writes them. -/
def refA (N : FVec Ideal S8192x2560 .f32) : FVec Ideal S8192 .f32 :=
  Host.reduce FloatOps.maximumf (Host.absf N) (constant S_ .f32 0xFF800000#32) reducesTo_S8192x2560_S8192_d1 h_S_

/-- Those, at a row. -/
theorem refA_apply (N : FVec Ideal S8192x2560 .f32) (r : Fin 8192) : refA N (ix1 r) = RowQuant.amax (fun c => N (ix2 r c)) := by
  pointwise [refA]
  rfl

/-- The scales as the reference writes them. -/
def refS (A : FVec Ideal S8192 .f32) : FVec Ideal S8192 .f32 :=
  select (cmpf .oeq A (broadcastInDim S8192 ![] bcast_S_S8192 (constant S_ .f32 0x00000000#32))) (broadcastInDim S8192 ![] bcast_S_S8192 (id (constant S_ .f32 0x3F800000#32))) (Host.divf A (broadcastInDim S8192 ![] bcast_S_S8192 (constant S_ .f32 0x42FE0000#32)))

/-- Those, at a row. -/
theorem refS_apply (A : FVec Ideal S8192 .f32) (r : Fin 8192) : refS A (ix1 r) = RowQuant.scale (A (ix1 r)) := by
  pointwise [refS]
  show (if A (ix1 r) = 0 then Ideal.ofBits FTy.f32 0x3F800000#32 else _) = _
  rw [Ideal.ofBits_one_f32]
  rfl

/-- The codes as the reference writes them. -/
def refC (N : FVec Ideal S8192x2560 .f32) (S : FVec Ideal S8192 .f32) : IVec S8192x2560 8 :=
  trunci 8 (fptosi 32 (minimumf (broadcastInDim S8192x2560 ![] bcast_S_S8192x2560 (id (constant S_ .f32 0x42FE0000#32))) (maximumf (broadcastInDim S8192x2560 ![] bcast_S_S8192x2560 (id (constant S_ .f32 0xC2FE0000#32))) (Host.roundeven (Host.divf N (bc S)))))) natLt_8_32

/-- Those, at an index. -/
theorem refC_apply (N : FVec Ideal S8192x2560 .f32) (S : FVec Ideal S8192 .f32) (r : Fin 8192) (c : Fin 2560) :
    refC N S (ix2 r c) = RowQuant.code (Ideal.div (N (ix2 r c)) (S (ix1 r))) := by
  rw [← RowQuant.code_narrow]
  pointwise [refC]
  rw [bc_apply]
  rfl

variable (m : (ℓ : Loc nD τ sig) → Buf (Elt Ideal) ℓ) (c : Dev nD)

/-- The run's first result, as a term of the arguments. -/
abbrev mM : FVec Ideal S8192x2560 .f32 :=
  refM (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))

/-- The run's third result is the scales. -/
theorem res2_eq : res_out2 m c = shapeCast _ (refS (refA (refN (mM m c) (m ((c.tc : Thread nD τ).loc main_arg3))))) shapeCasts_S8192_S16x4x128 := by
  unfold res_out2 res_main_v78; rfl

/-- The run's second result is the codes. -/
theorem res1_eq : res_out1 m c = refC (refN (mM m c) (m ((c.tc : Thread nD τ).loc main_arg3))) (refS (refA (refN (mM m c) (m ((c.tc : Thread nD τ).loc main_arg3))))) := by
  unfold res_out1 res_main_v77; rfl

/-- A row's number laid out in 16 by 4 by 128. -/
theorem lay_apply (R : FVec Ideal S8192 .f32) (t : Fin 16) (a : Fin 4) (b : Fin 128) :
    shapeCast S16x4x128 R shapeCasts_S8192_S16x4x128 (ix3 t a b) = R (ix1 ⟨512 * t.val + 128 * a.val + b.val, by omega⟩) := by
  pointwise
  refine congrArg R (congrArg ix1 (Fin.ext ?_))
  show t.val * 512 + a.val * 128 + b.val = 512 * t.val + 128 * a.val + b.val
  omega

end Cert.OprojRefIdeal.Eq
-- ==== Proof.QkvRefEq.lean ====
module

public import proofs.«01_k».proof.Defs
public import proofs.«01_k».proof.Proof.Tern
public import proofs.«01_k».proof.Proof.RowQuant
public import proofs.«01_k».proof.Proof.RowSpec
public import proofs.«01_k».proof.Proof.QkvSpec
public import proofs.«01_k».proof.Proof.OprojRefEq
public import proofs.«01_k».proof.Proof.Gen.QkvRefIdeal.Run
public import Idealize.ShloMosaic.Lib.MatmulPlain
public import Idealize.ShloMosaic.Lib.Pointwise

@[expose] public section
set_option maxRecDepth 16384
noncomputable section
/-! The first call's reference's five results as formulas of the arguments, row by row. The normalisation, the
    quantisation and the 640-byte fields are written as in the output projection's reference, whose lemmas serve here. -/
namespace Cert.QkvRefIdeal.Eq
open Cert.QkvRefIdeal Cert.QkvRefIdeal.Gen Cert.QkvRefIdeal.Value
open Idealize.ShloMosaic Idealize.ShloMosaic.TcCoe Idealize.ShloMosaic.StableHlo
open Idealize.SL Idealize.SL.Sem
open Cert.Tern Cert.RowSpec Cert.QkvSpec
open Cert.OprojRefIdeal.Eq (fieldTerm field_apply bc bc_apply refR refR_apply refN refN_apply refA refA_apply refS refS_apply refC refC_apply lay_apply)

/-! ## The linear layers -/

/-- One field's product with 128-byte rows, as the reference writes it. -/
def fieldS (a0 : IVec S8192x2560 8) (w : IVec S2560x128 8) (s : BitVec 32) : FVec Ideal S8192x128 .f32 :=
  Host.dotGeneral (F := Ideal) dot_S8192x2560_S2560x128_S8192x128_1_0_0_1_n_n none (truncf .bf16 (sitofp .f32 (extsi 32 a0 natLt_8_32)) bitsLt_bf16_f32) (truncf .bf16 (sitofp .f32 (subi (andi (Host.shrsi (extui 32 w natLt_8_32) (broadcastInDim S2560x128 ![] bcast_S_S2560x128 (constantI S_ 32 s))) (broadcastInDim S2560x128 ![] bcast_S_S2560x128 (constantI S_ 32 3#32))) (broadcastInDim S2560x128 ![] bcast_S_S2560x128 (constantI S_ 32 1#32)))) bitsLt_bf16_f32)

/-- One field's product with 128-byte rows at an index. -/
theorem fieldS_apply (a0 : IVec S8192x2560 8) (w : IVec S2560x128 8) (f : Fin 4) (r : Fin 8192) (l : Fin 128) :
    fieldS a0 w (BitVec.ofNat 32 (2 * f.val)) (ix2 r l)
      = ∑ k : Fin 2560, (((a0 (ix2 r k)).toInt : ℝ) : EReal) * tern (w (ix2 k l)) f.val := by
  pointwise [fieldS]
  refine Finset.sum_congr rfl fun k _ => congrArg₂ (· * ·) ?_ ?_
  · show (((BitVec.signExtend 32 (a0 (ix2 r k))).toInt : ℝ) : EReal) = _
    rw [BitVec.toInt_signExtend_of_le (by decide)]
  · exact congrArg (fun z : ℤ => ((z : ℝ) : EReal)) (ref_field (w (ix2 k l)) f)

/-- Four 640-column products side by side, scaled by the row's and the matrix's scale, as the reference writes it. -/
def catQ (u0 u1 u2 u3 : FVec Ideal S8192x640 .f32) (a : FVec Ideal S8192 .f32) (s : FVec Ideal S1 .f32) : FVec Ideal S8192x2560 .f32 :=
  mulf (mulf ((concatenate S8192x2560 1 [⟨S8192x640, u0⟩, ⟨S8192x640, u1⟩, ⟨S8192x640, u2⟩, ⟨S8192x640, u3⟩] concatenates_S8192x640_S8192x640_S8192x640_S8192x640_S8192x2560_d1)) (broadcastInDim S8192x2560 ![0, 1] bcast_S8192x1_S8192x2560_0_1 (broadcastInDim S8192x1 ![0] bcast_S8192_S8192x1_0 a))) (broadcastInDim S8192x2560 ![] bcast_S_S8192x2560 (shapeCast _ s shapeCasts_S1_S_))

/-- That, at an index. -/
theorem catQ_apply (u0 u1 u2 u3 : FVec Ideal S8192x640 .f32) (a : FVec Ideal S8192 .f32) (s : FVec Ideal S1 .f32)
    (r : Fin 8192) (c : Fin 2560) (v : EReal)
    (h : ∀ f : Fin 4, f.val = c.val / 640 → (![u0, u1, u2, u3] f) (ix2 r ⟨c.val % 640, Nat.mod_lt _ (by decide)⟩) = v) :
    catQ u0 u1 u2 u3 a s (ix2 r c) = v * a (ix1 r) * s (ix1 0) := by
  pointwise [catQ]
  have hc := c.isLt
  refine congrArg (fun w => w * a (ix1 r) * s (ix1 0)) ?_
  by_cases h0 : c.val < 640
  · rw [dif_pos h0]
    refine Eq.trans (congrArg u0 (congrArg (ix2 r) (Fin.ext ?_))) (h 0 (by show 0 = c.val / 640; omega))
    show c.val = c.val % 640; omega
  rw [dif_neg h0]
  by_cases h1 : c.val - 640 < 640
  · rw [dif_pos h1]
    refine Eq.trans (congrArg u1 (congrArg (ix2 r) (Fin.ext ?_))) (h 1 (by show 1 = c.val / 640; omega))
    show c.val - 640 = c.val % 640; omega
  rw [dif_neg h1]
  by_cases h2 : c.val - 640 - 640 < 640
  · rw [dif_pos h2]
    refine Eq.trans (congrArg u2 (congrArg (ix2 r) (Fin.ext ?_))) (h 2 (by show 2 = c.val / 640; omega))
    show c.val - 640 - 640 = c.val % 640; omega
  rw [dif_neg h2]
  refine Eq.trans (congrArg u3 (congrArg (ix2 r) (Fin.ext ?_))) (h 3 (by show 3 = c.val / 640; omega))
  show c.val - 640 - 640 - 640 = c.val % 640; omega

/-- Four 128-column products side by side, scaled likewise. -/
def catS (u0 u1 u2 u3 : FVec Ideal S8192x128 .f32) (a : FVec Ideal S8192 .f32) (s : FVec Ideal S1 .f32) : FVec Ideal S8192x512 .f32 :=
  mulf (mulf ((concatenate S8192x512 1 [⟨S8192x128, u0⟩, ⟨S8192x128, u1⟩, ⟨S8192x128, u2⟩, ⟨S8192x128, u3⟩] concatenates_S8192x128_S8192x128_S8192x128_S8192x128_S8192x512_d1)) (broadcastInDim S8192x512 ![0, 1] bcast_S8192x1_S8192x512_0_1 (broadcastInDim S8192x1 ![0] bcast_S8192_S8192x1_0 a))) (broadcastInDim S8192x512 ![] bcast_S_S8192x512 (shapeCast _ s shapeCasts_S1_S_))

/-- That, at an index. -/
theorem catS_apply (u0 u1 u2 u3 : FVec Ideal S8192x128 .f32) (a : FVec Ideal S8192 .f32) (s : FVec Ideal S1 .f32)
    (r : Fin 8192) (c : Fin 512) (v : EReal)
    (h : ∀ f : Fin 4, f.val = c.val / 128 → (![u0, u1, u2, u3] f) (ix2 r ⟨c.val % 128, Nat.mod_lt _ (by decide)⟩) = v) :
    catS u0 u1 u2 u3 a s (ix2 r c) = v * a (ix1 r) * s (ix1 0) := by
  pointwise [catS]
  have hc := c.isLt
  refine congrArg (fun w => w * a (ix1 r) * s (ix1 0)) ?_
  by_cases h0 : c.val < 128
  · rw [dif_pos h0]
    refine Eq.trans (congrArg u0 (congrArg (ix2 r) (Fin.ext ?_))) (h 0 (by show 0 = c.val / 128; omega))
    show c.val = c.val % 128; omega
  rw [dif_neg h0]
  by_cases h1 : c.val - 128 < 128
  · rw [dif_pos h1]
    refine Eq.trans (congrArg u1 (congrArg (ix2 r) (Fin.ext ?_))) (h 1 (by show 1 = c.val / 128; omega))
    show c.val - 128 = c.val % 128; omega
  rw [dif_neg h1]
  by_cases h2 : c.val - 128 - 128 < 128
  · rw [dif_pos h2]
    refine Eq.trans (congrArg u2 (congrArg (ix2 r) (Fin.ext ?_))) (h 2 (by show 2 = c.val / 128; omega))
    show c.val - 128 - 128 = c.val % 128; omega
  rw [dif_neg h2]
  refine Eq.trans (congrArg u3 (congrArg (ix2 r) (Fin.ext ?_))) (h 3 (by show 3 = c.val / 128; omega))
  show c.val - 128 - 128 - 128 = c.val % 128; omega

/-- The reference's query layer, -/
def linQ (a0 : IVec S8192x2560 8) (a : FVec Ideal S8192 .f32) (w : IVec S2560x640 8) (s : FVec Ideal S1 .f32) : FVec Ideal S8192x2560 .f32 :=
  catQ (fieldTerm a0 w 0#32) (fieldTerm a0 w 2#32) (fieldTerm a0 w 4#32) (fieldTerm a0 w 6#32) a s

/-- and its key and value layers. -/
def linS (a0 : IVec S8192x2560 8) (a : FVec Ideal S8192 .f32) (w : IVec S2560x128 8) (s : FVec Ideal S1 .f32) : FVec Ideal S8192x512 .f32 :=
  catS (fieldS a0 w 0#32) (fieldS a0 w 2#32) (fieldS a0 w 4#32) (fieldS a0 w 6#32) a s

/-- The query layer at an index. -/
theorem linQ_apply (a0 : IVec S8192x2560 8) (a : FVec Ideal S8192 .f32) (w : IVec S2560x640 8) (s : FVec Ideal S1 .f32) (r : Fin 8192) (c : Fin 2560) :
    linQ a0 a w s (ix2 r c) = lin (n := 640) (by decide) (fun k => a0 (ix2 r k)) (fun k p => w (ix2 k p)) (a (ix1 r)) (s (ix1 0)) c.val := by
  refine catQ_apply _ _ _ _ _ _ _ _ _ fun f hf => ?_
  have e : (![fieldTerm a0 w 0#32, fieldTerm a0 w 2#32, fieldTerm a0 w 4#32, fieldTerm a0 w 6#32] f) = fieldTerm a0 w (BitVec.ofNat 32 (2 * f.val)) := by
    fin_cases f <;> rfl
  rw [e]
  refine (field_apply a0 w f _ _).trans ?_
  rw [hf]; rfl

/-- A key or value layer at an index. -/
theorem linS_apply (a0 : IVec S8192x2560 8) (a : FVec Ideal S8192 .f32) (w : IVec S2560x128 8) (s : FVec Ideal S1 .f32) (r : Fin 8192) (c : Fin 512) :
    linS a0 a w s (ix2 r c) = lin (n := 128) (by decide) (fun k => a0 (ix2 r k)) (fun k p => w (ix2 k p)) (a (ix1 r)) (s (ix1 0)) c.val := by
  refine catS_apply _ _ _ _ _ _ _ _ _ fun f hf => ?_
  have e : (![fieldS a0 w 0#32, fieldS a0 w 2#32, fieldS a0 w 4#32, fieldS a0 w 6#32] f) = fieldS a0 w (BitVec.ofNat 32 (2 * f.val)) := by
    fin_cases f <;> rfl
  rw [e]
  refine (fieldS_apply a0 w f _ _).trans ?_
  rw [hf]; rfl

/-! ## The rotation -/

/-- The angles of every position, from the batch entries' first positions. -/
def angT (p : IVec S8 32) : FVec Ideal S8x1024x64 .f32 :=
  mulf (broadcastInDim S8x1024x64 ![0, 1, 2] bcast_S8x1024x1_S8x1024x64_0_1_2 (broadcastInDim S8x1024x1 ![0, 1] bcast_S8x1024_S8x1024x1_0_1 (sitofp .f32 (addi (broadcastInDim S8x1024 ![0, 1] bcast_S8x1_S8x1024_0_1 (broadcastInDim S8x1 ![0] bcast_S8_S8x1_0 p)) (broadcastInDim S8x1024 ![0, 1] bcast_S1x1024_S8x1024_0_1 (broadcastInDim S1x1024 ![1] bcast_S1024_S1x1024_1 (iotaInDim S1024 32 0))))))) (broadcastInDim S8x1024x64 ![0, 1, 2] bcast_S1x1x64_S8x1024x64_0_1_2 (broadcastInDim S1x1x64 ![2] bcast_S64_S1x1x64_2 (Host.divf (broadcastInDim S64 ![] bcast_S_S64 (constant S_ .f32 0x3F800000#32)) (Host.powf (broadcastInDim S64 ![] bcast_S_S64 (constant S_ .f32 0x48F42400#32)) (Host.divf (addf (broadcastInDim S64 ![] bcast_S_S64 (constant S_ .f32 0x00000000#32)) (mulf (broadcastInDim S64 ![] bcast_S_S64 (constant S_ .f32 0x40000000#32)) (sitofp .f32 (iotaInDim S64 32 0)))) (broadcastInDim S64 ![] bcast_S_S64 (constant S_ .f32 0x43000000#32)))))))

/-- Row `r`'s angles. -/
def angR (A : FVec Ideal S8x1024x64 .f32) (r : Fin 8192) (j : Fin 64) : EReal :=
  A (ix3 ⟨r.val / 1024, by omega⟩ ⟨r.val % 1024, Nat.mod_lt _ (by decide)⟩ j)

/-- The angles twice side by side. -/
def twice (A : FVec Ideal S8x1024x64 .f32) : FVec Ideal S8x1024x128 .f32 :=
  concatenate S8x1024x128 2 [⟨S8x1024x64, A⟩, ⟨S8x1024x64, A⟩] concatenates_S8x1024x64_S8x1024x64_S8x1024x128_d2

/-- Those, at an index. -/
theorem twice_apply (A : FVec Ideal S8x1024x64 .f32) (b : Fin 8) (s : Fin 1024) (l : Fin 128) :
    twice A (ix3 b s l) = A (ix3 b s (lane l.val)) := by
  pointwise [twice]
  have hl := l.isLt
  by_cases h : l.val < 64
  · rw [dif_pos h]
    exact congrArg A (congrArg (ix3 b s) (Fin.ext (by show l.val = l.val % 64; omega)))
  · rw [dif_neg h]
    exact congrArg A (congrArg (ix3 b s) (Fin.ext (by show l.val - 64 = l.val % 64; omega)))

/-- The rotated queries as the reference writes them. -/
def ropeQ (X : FVec Ideal S8192x2560 .f32) (A : FVec Ideal S8x1024x64 .f32) : FVec Ideal S8x1024x20x128 .bf16 :=
  have T : FVec Ideal S8x1024x20x128 .f32 := shapeCast _ X shapeCasts_S8192x2560_S8x1024x20x128
  truncf .bf16 (addf (mulf T (broadcastInDim S8x1024x20x128 ![0, 1, 2, 3] bcast_S8x1024x1x128_S8x1024x20x128_0_1_2_3 (broadcastInDim S8x1024x1x128 ![0, 1, 3] bcast_S8x1024x128_S8x1024x1x128_0_1_3 (Host.cos (twice A))))) (mulf (concatenate S8x1024x20x128 3 [⟨S8x1024x20x64, (Host.negf (extractStridedSlice S8x1024x20x64 ![0, 0, 0, 64] T slices_S8x1024x20x128_S8x1024x20x64_0_0_0_64))⟩, ⟨S8x1024x20x64, (extractStridedSlice S8x1024x20x64 ![0, 0, 0, 0] T slices_S8x1024x20x128_S8x1024x20x64_0_0_0_0)⟩] concatenates_S8x1024x20x64_S8x1024x20x64_S8x1024x20x128_d3) (broadcastInDim S8x1024x20x128 ![0, 1, 2, 3] bcast_S8x1024x1x128_S8x1024x20x128_0_1_2_3 (broadcastInDim S8x1024x1x128 ![0, 1, 3] bcast_S8x1024x128_S8x1024x1x128_0_1_3 (Host.sin (twice A)))))) bitsLt_bf16_f32

/-- The rotated queries at an index. -/
theorem ropeQ_apply (X : FVec Ideal S8192x2560 .f32) (A : FVec Ideal S8x1024x64 .f32) (r : Fin 8192) (t : ℕ → EReal)
    (hX : ∀ C : Fin 2560, X (ix2 r C) = t C.val) (C : Fin 2560) :
    shapeCast S8192x2560 (ropeQ X A) shapeCasts_S8x1024x20x128_S8192x2560 (ix2 r C) = rope t (angR A r) C.val := by
  unfold ropeQ
  pointwise
  have hC := C.isLt
  have hl : lane (C.val % 128) = lane C.val := Fin.ext (by show C.val % 128 % 64 = C.val % 64; omega)
  have hA := (twice_apply A ⟨r.val / 1024, by omega⟩ ⟨r.val % 1024, Nat.mod_lt _ (by decide)⟩ ⟨C.val % 128, Nat.mod_lt _ (by decide)⟩).trans (congrArg (angR A r) hl)
  unfold rope
  refine congrArg₂ (· + ·) (congrArg₂ (· * ·) (hX C) (congrArg Ideal.cos hA)) (congrArg₂ (· * ·) ?_ (congrArg Ideal.sin hA))
  by_cases h : C.val % 128 < 64
  · rw [dif_pos h, if_pos h, hX]
    refine congrArg (fun n => -t n) ?_
    show C.val / 128 * 128 + (64 + C.val % 128) = C.val + 64; omega
  · rw [dif_neg h, if_neg h, hX]
    refine congrArg t ?_
    show C.val / 128 * 128 + (C.val % 128 - 64) = C.val - 64; omega

/-- The rotated keys as the reference writes them. -/
def ropeK (X : FVec Ideal S8192x512 .f32) (A : FVec Ideal S8x1024x64 .f32) : FVec Ideal S8x1024x4x128 .bf16 :=
  have T : FVec Ideal S8x1024x4x128 .f32 := shapeCast _ X shapeCasts_S8192x512_S8x1024x4x128
  truncf .bf16 (addf (mulf T (broadcastInDim S8x1024x4x128 ![0, 1, 2, 3] bcast_S8x1024x1x128_S8x1024x4x128_0_1_2_3 (broadcastInDim S8x1024x1x128 ![0, 1, 3] bcast_S8x1024x128_S8x1024x1x128_0_1_3 (Host.cos (twice A))))) (mulf (concatenate S8x1024x4x128 3 [⟨S8x1024x4x64, (Host.negf (extractStridedSlice S8x1024x4x64 ![0, 0, 0, 64] T slices_S8x1024x4x128_S8x1024x4x64_0_0_0_64))⟩, ⟨S8x1024x4x64, (extractStridedSlice S8x1024x4x64 ![0, 0, 0, 0] T slices_S8x1024x4x128_S8x1024x4x64_0_0_0_0)⟩] concatenates_S8x1024x4x64_S8x1024x4x64_S8x1024x4x128_d3) (broadcastInDim S8x1024x4x128 ![0, 1, 2, 3] bcast_S8x1024x1x128_S8x1024x4x128_0_1_2_3 (broadcastInDim S8x1024x1x128 ![0, 1, 3] bcast_S8x1024x128_S8x1024x1x128_0_1_3 (Host.sin (twice A)))))) bitsLt_bf16_f32

/-- The rotated keys at an index. -/
theorem ropeK_apply (X : FVec Ideal S8192x512 .f32) (A : FVec Ideal S8x1024x64 .f32) (r : Fin 8192) (t : ℕ → EReal)
    (hX : ∀ C : Fin 512, X (ix2 r C) = t C.val) (C : Fin 512) :
    shapeCast S8192x512 (ropeK X A) shapeCasts_S8x1024x4x128_S8192x512 (ix2 r C) = rope t (angR A r) C.val := by
  unfold ropeK
  pointwise
  have hC := C.isLt
  have hl : lane (C.val % 128) = lane C.val := Fin.ext (by show C.val % 128 % 64 = C.val % 64; omega)
  have hA := (twice_apply A ⟨r.val / 1024, by omega⟩ ⟨r.val % 1024, Nat.mod_lt _ (by decide)⟩ ⟨C.val % 128, Nat.mod_lt _ (by decide)⟩).trans (congrArg (angR A r) hl)
  unfold rope
  refine congrArg₂ (· + ·) (congrArg₂ (· * ·) (hX C) (congrArg Ideal.cos hA)) (congrArg₂ (· * ·) ?_ (congrArg Ideal.sin hA))
  by_cases h : C.val % 128 < 64
  · rw [dif_pos h, if_pos h, hX]
    refine congrArg (fun n => -t n) ?_
    show C.val / 128 * 128 + (64 + C.val % 128) = C.val + 64; omega
  · rw [dif_neg h, if_neg h, hX]
    refine congrArg t ?_
    show C.val / 128 * 128 + (C.val % 128 - 64) = C.val - 64; omega

/-! ## The results -/

variable (m : (ℓ : Loc nD τ sig) → Buf (Elt Ideal) ℓ) (c : Dev nD)

/-- The normalised rows, as a term of the arguments, -/
abbrev mN : FVec Ideal S8192x2560 .f32 :=
  refN (extf .f32 (m ((c.tc : Thread nD τ).loc main_arg0) : FVec Ideal S8192x2560 .bf16) bitsLt_bf16_f32) (m ((c.tc : Thread nD τ).loc main_arg2))

/-- their scales, -/
abbrev mS : FVec Ideal S8192 .f32 := refS (refA (mN m c))

/-- their codes, -/
abbrev mC : IVec S8192x2560 8 := refC (mN m c) (mS m c)

/-- and one of the matrices' three scales. -/
abbrev mW (k : Fin 3) (h : S3.Slices ![k.val] S1) : FVec Ideal S1 .f32 :=
  extractStridedSlice S1 ![k.val] (m ((c.tc : Thread nD τ).loc main_arg3) : FVec Ideal S3 .f32) h

theorem mW_apply (k : Fin 3) (h : S3.Slices ![k.val] S1) :
    mW m c k h (ix1 0) = (m ((c.tc : Thread nD τ).loc main_arg3) : FVec Ideal S3 .f32) (ix1 k) :=
  congrArg (m ((c.tc : Thread nD τ).loc main_arg3) : FVec Ideal S3 .f32) (funext (Fin.forall_fin_one.mpr (Fin.ext (by rfl))))

/-- The run's scales are these, -/
theorem v21_eq : res_main_v21 (launchContents m c) = mS m c := by
  unfold res_main_v21 res_main_v16 res_main_v14 res_main_v0; rfl

/-- and its codes these. -/
theorem v28_eq : res_main_v28 (launchContents m c) = mC m c := by
  unfold res_main_v28; rw [v21_eq]; unfold res_main_v14 res_main_v0; rfl

/-- The run's query layer, -/
theorem v77_eq : res_main_v77 (launchContents m c)
    = shapeCast S8x1024x20x128 (linQ (mC m c) (mS m c) (m ((c.tc : Thread nD τ).loc main_arg4)) (mW m c 0 slices_S3_S1_0)) shapeCasts_S8192x2560_S8x1024x20x128 := by
  unfold res_main_v77 res_main_v33 res_main_v34; rw [v21_eq, v28_eq]; rfl

/-- its key layer, -/
theorem v126_eq : res_main_v126 (launchContents m c)
    = shapeCast S8x1024x4x128 (linS (mC m c) (mS m c) (m ((c.tc : Thread nD τ).loc main_arg5)) (mW m c 1 slices_S3_S1_1)) shapeCasts_S8192x512_S8x1024x4x128 := by
  unfold res_main_v126 res_main_v82 res_main_v83; rw [v21_eq, v28_eq]; rfl

/-- its cosines, -/
theorem v200_eq : res_main_v200 (launchContents m c)
    = broadcastInDim S8x1024x1x128 ![0, 1, 3] bcast_S8x1024x128_S8x1024x1x128_0_1_3 (Host.cos (twice (angT (m ((c.tc : Thread nD τ).loc main_arg1))))) := by
  unfold res_main_v200 res_main_v198 res_main_v197; rfl

/-- and its sines. -/
theorem v202_eq : res_main_v202 (launchContents m c)
    = broadcastInDim S8x1024x1x128 ![0, 1, 3] bcast_S8x1024x128_S8x1024x1x128_0_1_3 (Host.sin (twice (angT (m ((c.tc : Thread nD τ).loc main_arg1))))) := by
  unfold res_main_v202 res_main_v198 res_main_v197; rfl

/-- The reference's run: its five results as terms of the arguments, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v223) = shapeCast S8192x2560 (ropeQ (linQ (mC m c) (mS m c) (m ((c.tc : Thread nD τ).loc main_arg4)) (mW m c 0 slices_S3_S1_0)) (angT (m ((c.tc : Thread nD τ).loc main_arg1)))) shapeCasts_S8x1024x20x128_S8192x2560
      ∧ r.2.mem ((c.tc : Thread nD τ).loc main_v224) = shapeCast S8192x512 (ropeK (linS (mC m c) (mS m c) (m ((c.tc : Thread nD τ).loc main_arg5)) (mW m c 1 slices_S3_S1_1)) (angT (m ((c.tc : Thread nD τ).loc main_arg1)))) shapeCasts_S8x1024x4x128_S8192x512
      ∧ r.2.mem ((c.tc : Thread nD τ).loc main_v225) = linS (mC m c) (mS m c) (m ((c.tc : Thread nD τ).loc main_arg6)) (mW m c 2 slices_S3_S1_2)
      ∧ r.2.mem ((c.tc : Thread nD τ).loc main_v28) = mC m c
      ∧ r.2.mem ((c.tc : Thread nD τ).loc main_v226) = shapeCast S16x4x128 (mS m c) shapeCasts_S8192_S16x4x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Value.run (F := Ideal) m ρ)
  refine ⟨(h c).1.trans ?_, (h c).2.1.trans ?_, (h c).2.2.1.trans ?_, (h c).2.2.2.1.trans (v28_eq m c), (h c).2.2.2.2.1.trans ?_, (h c).2.2.2.2.2⟩
  · rw [v77_eq, v200_eq, v202_eq]; rfl
  · rw [v126_eq, v200_eq, v202_eq]; rfl
  · unfold res_main_v131 res_main_v132; rw [v21_eq, v28_eq]; rfl
  · rw [v21_eq]

end Cert.QkvRefIdeal.Eq
-- ==== Proof.QkvCols.lean ====
module

public import proofs.«01_k».proof.Defs
public import proofs.«01_k».proof.Proof.QkvIdealVal
public import proofs.«01_k».proof.Proof.Tern
public import proofs.«01_k».proof.Proof.RowQuant
public import proofs.«01_k».proof.Proof.RowSpec
public import proofs.«01_k».proof.Proof.QkvSpec
public import proofs.«01_k».proof.Proof.QkvRefEq
public import Idealize.ShloMosaic.Lib.MatmulPlain
public import Idealize.ShloMosaic.Lib.Pointwise
public import Idealize.ShloMosaic.Lib.KernelVsHost
public import Idealize.ShloMosaic.Lib.Pipeline.ValueKit

@[expose] public section
set_option maxRecDepth 16384
noncomputable section
/-! The first call's payloads as formulas of one grid point's blocks: the unpacked weights, the codes and scales, the
    three projections and the rotation; and the cosines and sines the host prepares. -/
namespace Cert.QkvIdeal.Val
open Cert.QkvIdeal Cert.QkvIdeal.Gen
open Idealize.ShloMosaic Idealize.ShloMosaic.TcCoe Idealize.ShloMosaic.Tactic
open Idealize.SL Idealize.SL.Sem
open Idealize.ShloMosaic.Pipeline (Dat Cfg Window)
open Cert.Tern Cert.RowSpec Cert.QkvSpec
open Cert.QkvRefIdeal.Eq (angT angR)

/-! ## The unpacked weights -/

/-- A query tile's unpacking by the words' shift `s = 2 f`: field `f` of each byte, less one, -/
theorem tailQ (X : Vec Ideal S128x640 .i8) (s : BitVec 32) (f : ℕ) (hf : f < 4) (hs : s = BitVec.ofNat 32 (2 * f)) (a : Fin 128) (l : Fin 640) :
    shapeCast S128x640 (subf (sitofp (F := Ideal) .bf16 (bitcast S128x640 8 (andi (shrui (bitcast S32x640 32 X bitcasts_S128x640_w8_S32x640_w32)
        (broadcast S32x640 s)) (broadcast S32x640 50529027#32)) bitcasts_S32x640_w32_S128x640_w8)) (broadcast S128x640 (Scalar.ofBits .bf16 0x3F80#16)))
        shapeCasts_S128x640_S128x640 (ix2 a l)
      = tern (X (ix2 a l)) f := by
  rw [shapeCast_self, ← ker_field]
  refine congrArg (fun b : BitVec 8 => ((b.toInt : ℝ) : EReal) - Ideal.ofBits .bf16 0x3F80#16) ?_
  exact unpack_apply X _ _ s f hf hs a l

/-- and a key or value tile's. -/
theorem tailS (X : Vec Ideal S128x128 .i8) (s : BitVec 32) (f : ℕ) (hf : f < 4) (hs : s = BitVec.ofNat 32 (2 * f)) (a : Fin 128) (l : Fin 128) :
    shapeCast S128x128 (subf (sitofp (F := Ideal) .bf16 (bitcast S128x128 8 (andi (shrui (bitcast S32x128 32 X bitcasts_S128x128_w8_S32x128_w32)
        (broadcast S32x128 s)) (broadcast S32x128 50529027#32)) bitcasts_S32x128_w32_S128x128_w8)) (broadcast S128x128 (Scalar.ofBits .bf16 0x3F80#16)))
        shapeCasts_S128x128_S128x128 (ix2 a l)
      = tern (X (ix2 a l)) f := by
  rw [shapeCast_self, ← ker_field]
  refine congrArg (fun b : BitVec 8 => ((b.toInt : ℝ) : EReal) - Ideal.ofBits .bf16 0x3F80#16) ?_
  exact unpack_apply X _ _ s f hf hs a l

/-- Field `f` of a packed tile of the query weights, at an index, -/
theorem fieldQ_apply (f : ℕ) (hf : f < 4) (X : Vec Ideal S128x640 .i8) (a : Fin 128) (l : Fin 640) :
    fieldQ (F := Ideal) f X (ix2 a l) = tern (X (ix2 a l)) f := by
  unfold fieldQ
  by_cases h0 : f = 0
  · rw [if_pos h0]; unfold k0_pay2; exact tailQ X _ f hf (by rw [h0]) a l
  by_cases h1 : f = 1
  · rw [if_neg h0, if_pos h1]; unfold k0_pay3; exact tailQ X _ f hf (by rw [h1]) a l
  by_cases h2 : f = 2
  · rw [if_neg h0, if_neg h1, if_pos h2]; unfold k0_pay4; exact tailQ X _ f hf (by rw [h2]) a l
  · rw [if_neg h0, if_neg h1, if_neg h2]; unfold k0_pay5; exact tailQ X _ f hf (by rw [show f = 3 by omega]) a l

/-- of the key weights, -/
theorem fieldK_apply (f : ℕ) (hf : f < 4) (X : Vec Ideal S128x128 .i8) (a : Fin 128) (l : Fin 128) :
    fieldK (F := Ideal) f X (ix2 a l) = tern (X (ix2 a l)) f := by
  unfold fieldK
  by_cases h0 : f = 0
  · rw [if_pos h0]; unfold k0_pay6; exact tailS X _ f hf (by rw [h0]) a l
  by_cases h1 : f = 1
  · rw [if_neg h0, if_pos h1]; unfold k0_pay7; exact tailS X _ f hf (by rw [h1]) a l
  by_cases h2 : f = 2
  · rw [if_neg h0, if_neg h1, if_pos h2]; unfold k0_pay9 k0_pay8; exact tailS X _ f hf (by rw [h2]) a l
  · rw [if_neg h0, if_neg h1, if_neg h2]; unfold k0_pay10; exact tailS X _ f hf (by rw [show f = 3 by omega]) a l

/-- and of the value weights. -/
theorem fieldV_apply (f : ℕ) (hf : f < 4) (X : Vec Ideal S128x128 .i8) (a : Fin 128) (l : Fin 128) :
    fieldV (F := Ideal) f X (ix2 a l) = tern (X (ix2 a l)) f := by
  unfold fieldV
  by_cases h0 : f = 0
  · rw [if_pos h0]; unfold k0_pay11; exact tailS X _ f hf (by rw [h0]) a l
  by_cases h1 : f = 1
  · rw [if_neg h0, if_pos h1]; unfold k0_pay18 k0_pay12; exact tailS X _ f hf (by rw [h1]) a l
  by_cases h2 : f = 2
  · rw [if_neg h0, if_neg h1, if_pos h2]; unfold k0_pay19; exact tailS X _ f hf (by rw [h2]) a l
  · rw [if_neg h0, if_neg h1, if_neg h2]; unfold k0_pay20; exact tailS X _ f hf (by rw [show f = 3 by omega]) a l

section
variable (xq : Vec Ideal S2560x640 .i8) (xk xv : Vec Ideal S2560x128 .i8) (a : Fin 2560) (C : Fin 3584)

/-- The unpacked weights' query columns, -/
theorem wF_q (h : C.val < 2560) :
    wF (F := Ideal) xq xk xv (ix2 a C) = tern (xq (ix2 a ⟨C.val % 640, Nat.mod_lt _ (by decide)⟩)) (C.val / 640) := by
  unfold wF
  refine (if_pos h).trans ?_
  refine (fieldQ_apply (C.val / 640) (by omega) _ ⟨a.val % 128, Nat.mod_lt _ (by decide)⟩ ⟨C.val % 640, Nat.mod_lt _ (by decide)⟩).trans ?_
  refine congrArg (fun b => tern b (C.val / 640)) ?_
  exact window2 xq _ _ (k0_off1_eq _) _ _ a ⟨C.val % 640, Nat.mod_lt _ (by decide)⟩ (by show a.val = 128 * (a.val / 128) + a.val % 128; omega) (Nat.zero_add _).symm

/-- key columns, -/
theorem wF_k (n : ℕ) (hn : n < 512) (hC : C.val = 2560 + n) :
    wF (F := Ideal) xq xk xv (ix2 a C) = tern (xk (ix2 a ⟨n % 128, Nat.mod_lt _ (by decide)⟩)) (n / 128) := by
  have e1 : (⟨C.val % 128, Nat.mod_lt _ (by decide)⟩ : Fin 128) = ⟨n % 128, Nat.mod_lt _ (by decide)⟩ := Fin.ext (by show C.val % 128 = n % 128; omega)
  have e2 : (C.val - 2560) / 128 = n / 128 := by omega
  unfold wF
  refine (if_neg (by show ¬ C.val < 2560; omega)).trans ((if_pos (by show C.val < 3072; omega)).trans ?_)
  refine (fieldK_apply ((C.val - 2560) / 128) (by omega) _ ⟨a.val % 128, Nat.mod_lt _ (by decide)⟩ ⟨C.val % 128, Nat.mod_lt _ (by decide)⟩).trans ?_
  rw [e1, e2]
  refine congrArg (fun b => tern b (n / 128)) ?_
  exact window2 xk _ _ (k0_off6_eq _) _ _ a ⟨n % 128, Nat.mod_lt _ (by decide)⟩ (by show a.val = 128 * (a.val / 128) + a.val % 128; omega) (Nat.zero_add _).symm

/-- and value columns, at an index. -/
theorem wF_v (n : ℕ) (hn : n < 512) (hC : C.val = 3072 + n) :
    wF (F := Ideal) xq xk xv (ix2 a C) = tern (xv (ix2 a ⟨n % 128, Nat.mod_lt _ (by decide)⟩)) (n / 128) := by
  have e1 : (⟨C.val % 128, Nat.mod_lt _ (by decide)⟩ : Fin 128) = ⟨n % 128, Nat.mod_lt _ (by decide)⟩ := Fin.ext (by show C.val % 128 = n % 128; omega)
  have e2 : (C.val - 3072) / 128 = n / 128 := by omega
  unfold wF
  refine (if_neg (by show ¬ C.val < 2560; omega)).trans ((if_neg (by show ¬ C.val < 3072; omega)).trans ?_)
  refine (fieldV_apply ((C.val - 3072) / 128) (by omega) _ ⟨a.val % 128, Nat.mod_lt _ (by decide)⟩ ⟨C.val % 128, Nat.mod_lt _ (by decide)⟩).trans ?_
  rw [e1, e2]
  refine congrArg (fun b => tern b (n / 128)) ?_
  exact window2 xv _ _ (k0_off6_eq _) _ _ a ⟨n % 128, Nat.mod_lt _ (by decide)⟩ (by show a.val = 128 * (a.val / 128) + a.val % 128; omega) (Nat.zero_add _).symm
end

/-! ## Normalisation and quantisation -/

theorem pay13_apply (x : Vec Ideal S32x2560 .bf16) (g : Vec Ideal S1x2560 .f32) (r : Fin 32) (C : Fin 2560) :
    k0_pay13 (F := Ideal) x g (ix2 r C) = normed (fun k => x (ix2 r k)) (fun k => g (ix2 0 k)) C := by
  pointwise [k0_pay13]
  rfl

theorem pay14_apply (x : Vec Ideal S32x2560 .bf16) (g : Vec Ideal S1x2560 .f32) (r : Fin 32) :
    k0_pay14 (F := Ideal) x g (ix2 r 0) = scl (fun k => x (ix2 r k)) (fun k => g (ix2 0 k)) := by
  unfold k0_pay14
  pointwise
  simp only [pay13_apply]
  rfl

theorem pay15_apply (x : Vec Ideal S32x2560 .bf16) (g : Vec Ideal S1x2560 .f32) (r : Fin 32) (C : Fin 2560) :
    k0_pay15 (F := Ideal) x g (ix2 r C)
      = RowQuant.clip (Ideal.div (normed (fun k => x (ix2 r k)) (fun k => g (ix2 0 k)) C) (scl (fun k => x (ix2 r k)) (fun k => g (ix2 0 k)))) := by
  unfold k0_pay15
  pointwise
  rw [pay13_apply, pay14_apply]
  rfl

theorem pay16_apply (x : Vec Ideal S32x2560 .bf16) (g : Vec Ideal S1x2560 .f32) (r : Fin 32) (C : Fin 2560) :
    k0_pay16 (F := Ideal) x g (ix2 r C) = cod (fun k => x (ix2 r k)) (fun k => g (ix2 0 k)) C :=
  congrArg (Ideal.fptosi 8) (pay15_apply x g r C)

theorem pay17_apply (x : Vec Ideal S32x2560 .bf16) (g : Vec Ideal S1x2560 .f32) (r : Fin 32) (C : Fin 2560) :
    k0_pay17 (F := Ideal) x g (ix2 r C) = (((cod (fun k => x (ix2 r k)) (fun k => g (ix2 0 k)) C).toInt : ℝ) : EReal) := by
  unfold cod
  rw [code_value]
  unfold k0_pay17
  rw [shapeCast_self]
  exact pay15_apply x g r C

theorem pay21_apply (a : FVec Ideal S32x1 .f32) (r : Fin 32) (l : Fin 128) : k0_pay21 (F := Ideal) a (ix2 r l) = a (ix2 r 0) := by
  unfold k0_pay21
  pointwise

/-- The strip of 32 rows that holds row `r`, read at that row. -/
theorem rows_eq (x : Vec Ideal S512x2560 .bf16) (r : Fin 512) :
    (fun C => rowsT (F := Ideal) x (rowTrip r) (ix2 (rowIn r) C)) = fun C => x (ix2 r C) :=
  funext fun C => window2 x _ _ (k0_off15_eq _) (rowIn r) C r C (by show r.val = 32 * (r.val / 32) + r.val % 32; omega) (Nat.zero_add _).symm

theorem codesF_apply (x : Vec Ideal S512x2560 .bf16) (g : Vec Ideal S1x2560 .f32) (r : Fin 512) (C : Fin 2560) :
    codesF (F := Ideal) x g (ix2 r C) = cod (fun k => x (ix2 r k)) (fun k => g (ix2 0 k)) C :=
  (pay16_apply _ _ (rowIn r) C).trans (congrArg (fun v => cod v (fun k => g (ix2 0 k)) C) (rows_eq x r))

theorem clipF_apply (x : Vec Ideal S512x2560 .bf16) (g : Vec Ideal S1x2560 .f32) (r : Fin 512) (C : Fin 2560) :
    clipF (F := Ideal) x g (ix2 r C) = (((cod (fun k => x (ix2 r k)) (fun k => g (ix2 0 k)) C).toInt : ℝ) : EReal) :=
  (pay17_apply _ _ (rowIn r) C).trans (congrArg (fun v => (((cod v (fun k => g (ix2 0 k)) C).toInt : ℝ) : EReal)) (rows_eq x r))

theorem scaleL_apply (x : Vec Ideal S512x2560 .bf16) (g : Vec Ideal S1x2560 .f32) (r : Fin 512) (l : Fin 128) :
    scaleL (F := Ideal) x g (ix2 r l) = scl (fun k => x (ix2 r k)) (fun k => g (ix2 0 k)) :=
  (pay21_apply _ (rowIn r) l).trans ((pay14_apply _ _ (rowIn r)).trans (congrArg (fun v => scl v (fun k => g (ix2 0 k))) (rows_eq x r)))

/-- The lane buffer's diagonal, laid out in 4 by 128: row `128 a + b`, lane `b`. -/
theorem pay22_apply (M : Vec Ideal S512x128 .f32) (a : Fin 4) (b : Fin 128) :
    k0_pay22 (F := Ideal) M (ix3 0 a b) = M (ix2 ⟨a.val * 128 + b.val, by omega⟩ b) := by
  unfold k0_pay22
  pointwise
  exact RowQuant.diag_sum (fun x => M (ix2 ⟨a.val * 128 + x.val, by omega⟩ b)) b

/-! ## The projections -/

/-- A block of 256 scaled columns, at an index. -/
theorem pay24_apply (s : Elt Ideal .f32) (A : Vec Ideal S512x2560 .bf16) (B : Vec Ideal S2560x256 .bf16) (a : Vec Ideal S512x128 .f32) (r : Fin 512) (l : Fin 256) (v : EReal)
    (ha : ∀ j : Fin 128, a (ix2 r j) = v) :
    k0_pay24 (F := Ideal) s A B a (ix2 r l) = (∑ x, A (ix2 r x) * B (ix2 x l)) * v * s := by
  pointwise [k0_pay24]
  refine congrArg (fun z => (∑ x, A (ix2 r x) * B (ix2 x l)) * z * s) ?_
  by_cases h : l.val < 128
  · rw [dif_pos h, ha]
  · rw [dif_neg h, ha]

/-- One head of 128 columns, rotated. -/
def ropeHalf (t co si : FVec Ideal S512x128 .f32) : FVec Ideal S512x128 .f32 :=
  addf (mulf t (shapeCast S512x128 co shapeCasts_S512x128_S512x128)) (mulf (dynamicRotate 1 64#32 none t rotates_S512x128_d1) (shapeCast S512x128 si shapeCasts_S512x128_S512x128))

/-- One head, at an index. -/
theorem ropeHalf_apply (t co si : FVec Ideal S512x128 .f32) (r : Fin 512) (l : Fin 128) :
    ropeHalf t co si (ix2 r l) = t (ix2 r l) * co (ix2 r l) + t (ix2 r ⟨(l.val + 64) % 128, Nat.mod_lt _ (by decide)⟩) * si (ix2 r l) := by
  unfold ropeHalf
  rw [shapeCast_self, shapeCast_self]
  refine congrArg (fun z => t (ix2 r l) * co (ix2 r l) + z * si (ix2 r l)) ?_
  refine dynamicRotate_apply _ _ t _ _ _ (Fin.forall_fin_two.mpr ⟨by rfl, ?_⟩)
  show (l.val + 64) % 128 = (l.val + 128 - 64 % 128) % 128
  omega

/-- Two heads side by side, rotated. -/
def ropePair (U : FVec Ideal S512x256 .f32) (co si : FVec Ideal S512x128 .f32) : FVec Ideal S512x256 .bf16 :=
  truncf .bf16 (concatenate S512x256 1 [⟨S512x128, ropeHalf (extractStridedSlice S512x128 ![0, 0] U slices_S512x256_o0_0_S512x128) co si⟩,
    ⟨S512x128, ropeHalf (extractStridedSlice S512x128 ![0, 128] U slices_S512x256_o0_128_S512x128) co si⟩] concatenates_S512x128_S512x128_S512x256_d1) bitsLt_bf16_f32

/-- Two heads, at an index. -/
theorem ropePair_apply (U : FVec Ideal S512x256 .f32) (co si : FVec Ideal S512x128 .f32) (r : Fin 512) (l : Fin 256) (j : Fin 128) (p : Fin 256)
    (hj : j.val = l.val % 128) (hp : p.val = l.val / 128 * 128 + (l.val % 128 + 64) % 128) :
    ropePair U co si (ix2 r l) = U (ix2 r l) * co (ix2 r j) + U (ix2 r p) * si (ix2 r j) := by
  unfold ropePair
  pointwise
  have hl := l.isLt
  by_cases h : l.val < 128
  · rw [dif_pos h]
    refine (ropeHalf_apply _ _ _ r ⟨l.val, h⟩).trans ?_
    pointwise
    have e1 : (⟨l.val, h⟩ : Fin 128) = j := Fin.ext (by show l.val = j.val; omega)
    have e2 : (⟨(l.val + 64) % 128, by omega⟩ : Fin 256) = p := Fin.ext (by show (l.val + 64) % 128 = p.val; omega)
    exact congrArg₂ (· + ·) (congrArg (fun z => U (ix2 r l) * co (ix2 r z)) e1) (congrArg₂ (fun y z => U (ix2 r y) * si (ix2 r z)) e2 e1)
  · rw [dif_neg h]
    refine (ropeHalf_apply _ _ _ r ⟨l.val - 128, by omega⟩).trans ?_
    pointwise
    have e0 : (⟨128 + (l.val - 128), by omega⟩ : Fin 256) = l := Fin.ext (by show 128 + (l.val - 128) = l.val; omega)
    have e1 : (⟨l.val - 128, by omega⟩ : Fin 128) = j := Fin.ext (by show l.val - 128 = j.val; omega)
    have e2 : (⟨128 + (l.val - 128 + 64) % 128, by omega⟩ : Fin 256) = p := Fin.ext (by show 128 + (l.val - 128 + 64) % 128 = p.val; omega)
    exact congrArg₂ (· + ·) (congrArg₂ (fun y z => U (ix2 r y) * co (ix2 r z)) e0 e1) (congrArg₂ (fun y z => U (ix2 r y) * si (ix2 r z)) e2 e1)

theorem pay23_eq (s : Elt Ideal .f32) (A : Vec Ideal S512x2560 .bf16) (B : Vec Ideal S2560x256 .bf16) (a co si : Vec Ideal S512x128 .f32) :
    k0_pay23 (F := Ideal) s A B a co si co si = ropePair (k0_pay24 s A B a) co si := rfl

theorem pay26_eq (s : Elt Ideal .f32) (A : Vec Ideal S512x2560 .bf16) (B : Vec Ideal S2560x256 .bf16) (a co si : Vec Ideal S512x128 .f32) :
    k0_pay26 (F := Ideal) (k0_pay24 s A B a) (k0_pay25 s A B a) co si co si = ropePair (k0_pay24 s A B a) co si := rfl

theorem pay31_eq (s : Elt Ideal .f32) (A : Vec Ideal S512x2560 .bf16) (B : Vec Ideal S2560x256 .bf16) (a co si : Vec Ideal S512x128 .f32) :
    k0_pay31 (F := Ideal) (k0_pay27 s A B a) (k0_pay29 s A B a co) (k0_pay30 s A B a) si co si = ropePair (k0_pay24 s A B a) co si := rfl

theorem pay32_eq (s : Elt Ideal .f32) (A : Vec Ideal S512x2560 .bf16) (B : Vec Ideal S2560x256 .bf16) (a : Vec Ideal S512x128 .f32) :
    k0_pay32 (F := Ideal) s A B a = truncf .bf16 (k0_pay24 s A B a) bitsLt_bf16_f32 := rfl

theorem pay33_eq (s : Elt Ideal .f32) (A : Vec Ideal S512x2560 .bf16) (B : Vec Ideal S2560x256 .bf16) (a : Vec Ideal S512x128 .f32) :
    k0_pay1 (F := Ideal) s (k0_pay33 A B a) = truncf .bf16 (k0_pay24 s A B a) bitsLt_bf16_f32 := rfl

/-- A column of two rotated heads is the rotation formula's, `t` the columns before it. -/
theorem rope_cols (U : FVec Ideal S512x256 .f32) (co si : FVec Ideal S512x128 .f32) (r : Fin 512) (l : Fin 256) (t : ℕ → EReal) (A : Fin 64 → EReal) (C : ℕ)
    (hC : C % 256 = l.val) (hU : ∀ p : Fin 256, U (ix2 r p) = t (C / 256 * 256 + p.val))
    (hco : ∀ j : Fin 128, co (ix2 r j) = Ideal.cos (A (lane j.val)))
    (hsi : ∀ j : Fin 128, si (ix2 r j) = if j.val < 64 then -Ideal.sin (A (lane j.val)) else Ideal.sin (A (lane j.val))) :
    ropePair U co si (ix2 r l) = rope t A C := by
  have hl := l.isLt
  refine (ropePair_apply U co si r l ⟨l.val % 128, Nat.mod_lt _ (by decide)⟩ ⟨l.val / 128 * 128 + (l.val % 128 + 64) % 128, by omega⟩ rfl rfl).trans ?_
  rw [hU, hU, hco, hsi]
  have e1 : C / 256 * 256 + l.val = C := by omega
  have e2 : lane (l.val % 128) = lane C := Fin.ext (by show l.val % 128 % 64 = C % 64; omega)
  have e3 : l.val % 128 = C % 128 := by omega
  unfold rope
  dsimp only
  rw [e1, e2]
  by_cases h : C % 128 < 64
  · have e4 : C / 256 * 256 + (l.val / 128 * 128 + (l.val % 128 + 64) % 128) = C + 64 := by omega
    rw [if_pos h, if_pos (by omega : l.val % 128 < 64), e4, mul_neg, neg_mul]
  · have e4 : C / 256 * 256 + (l.val / 128 * 128 + (l.val % 128 + 64) % 128) = C - 64 := by omega
    rw [if_neg h, if_neg (by omega : ¬ l.val % 128 < 64), e4]

section
variable (x : Vec Ideal S512x2560 .bf16) (g : Vec Ideal S1x2560 .f32) (co si : Vec Ideal S512x128 .f32) (x4 : Vec Ideal S3 .f32)
  (xq : Vec Ideal S2560x640 .i8) (xk xv : Vec Ideal S2560x128 .i8) (r : Fin 512)

/-- Row `r`'s columns through packed weights `n` bytes wide and the matrix scale `k`. -/
def rowLin {n : ℕ} (hn : 0 < n) (w : (⟨2, ![2560, n]⟩ : Shape).Idx → BitVec 8) (k : Fin 3) (C : ℕ) : EReal :=
  lin hn (cod (fun k => x (ix2 r k)) (fun k => g (ix2 0 k))) (fun k p => w (ix2 k p)) (scl (fun k => x (ix2 r k)) (fun k => g (ix2 0 k))) (x4 (ix1 k)) C

/-- A block of 256 columns of the projections, from any block of weights that holds field `C / n` of byte column `C % n`. -/
theorem block_apply {n : ℕ} (hn : 0 < n) (w : (⟨2, ![2560, n]⟩ : Shape).Idx → BitVec 8) (k : Fin 3) (B : Vec Ideal S2560x256 .bf16) (l : Fin 256) (C : ℕ)
    (hB : ∀ a : Fin 2560, B (ix2 a l) = tern (w (ix2 a ⟨C % n, Nat.mod_lt _ hn⟩)) (C / n)) :
    k0_pay24 (F := Ideal) (x4 (ix1 k)) (clipF x g) B (scaleL x g) (ix2 r l) = rowLin x g x4 r hn w k C := by
  refine (pay24_apply _ _ _ _ r l _ (fun j => scaleL_apply x g r j)).trans ?_
  unfold rowLin lin dotP
  refine congrArg (fun z : EReal => z * scl (fun k => x (ix2 r k)) (fun k => g (ix2 0 k)) * x4 (ix1 k)) ?_
  exact Finset.sum_congr rfl fun a _ => congrArg₂ (· * ·) (clipF_apply x g r a) (hB a)

/-- The queries, at an index. -/
theorem qF_apply (A : Fin 64 → EReal) (hco : ∀ j : Fin 128, co (ix2 r j) = Ideal.cos (A (lane j.val)))
    (hsi : ∀ j : Fin 128, si (ix2 r j) = if j.val < 64 then -Ideal.sin (A (lane j.val)) else Ideal.sin (A (lane j.val))) (C : Fin 2560) :
    qF (F := Ideal) (clipF x g) (scaleL x g) co si x4 (wF xq xk xv) (ix2 r C) = rope (rowLin x g x4 r (n := 640) (by decide) xq 0) A C.val := by
  have hC := C.isLt
  unfold qF qT
  refine (congrFun (pay23_eq _ _ _ _ _ _) _).trans ?_
  refine rope_cols _ _ _ r ⟨C.val % 256, Nat.mod_lt _ (by decide)⟩ _ A C.val rfl (fun p => ?_) hco hsi
  refine block_apply x g x4 r (n := 640) (by decide) xq 0 _ p _ fun a => ?_
  have hp := p.isLt
  refine (window2 (wF (F := Ideal) xq xk xv) _ _ (k0_off17_eq _) a p a ⟨C.val / 256 * 256 + p.val, by omega⟩ (Nat.zero_add _).symm
    (by show C.val / 256 * 256 + p.val = 256 * (C.val / 256) + p.val; omega)).trans ?_
  exact wF_q xq xk xv a ⟨C.val / 256 * 256 + p.val, by omega⟩ (by show C.val / 256 * 256 + p.val < 2560; omega)

/-- A block of the weights' columns from `o`, at an index. -/
theorem wCols_apply (o : ℕ) (inb) (a : Fin 2560) (l : Fin 256) (j : Fin 3584) (hj : j.val = o + l.val) :
    wCols (F := Ideal) (wF xq xk xv) o inb (ix2 a l) = wF (F := Ideal) xq xk xv (ix2 a j) :=
  window2 (wF (F := Ideal) xq xk xv) _ _ rfl a l a j (Nat.zero_add _).symm hj

/-- The keys, at an index. -/
theorem kF_apply (A : Fin 64 → EReal) (hco : ∀ j : Fin 128, co (ix2 r j) = Ideal.cos (A (lane j.val)))
    (hsi : ∀ j : Fin 128, si (ix2 r j) = if j.val < 64 then -Ideal.sin (A (lane j.val)) else Ideal.sin (A (lane j.val))) (C : Fin 512) :
    halves (F := Ideal) (kT0 (clipF x g) (scaleL x g) co si x4 (wF xq xk xv)) (kT1 (clipF x g) (scaleL x g) co si x4 (wF xq xk xv)) (ix2 r C)
      = rope (rowLin x g x4 r (n := 128) (by decide) xk 1) A C.val := by
  have hC := C.isLt
  unfold halves
  by_cases h : C.val < 256
  · refine (dif_pos h).trans ?_
    unfold kT0
    refine (congrFun (pay26_eq _ _ _ _ _ _) _).trans ?_
    refine rope_cols _ _ _ r ⟨C.val, h⟩ _ A C.val (Nat.mod_eq_of_lt h) (fun p => ?_) hco hsi
    refine block_apply x g x4 r (n := 128) (by decide) xk 1 _ p _ fun a => ?_
    have hp := p.isLt
    refine (wCols_apply xq xk xv _ _ a p ⟨2560 + p.val, by omega⟩ rfl).trans ?_
    exact wF_k xq xk xv a _ _ (by omega) (by show 2560 + p.val = 2560 + (C.val / 256 * 256 + p.val); omega)
  · refine (dif_neg h).trans ?_
    unfold kT1
    refine (congrFun (pay31_eq _ _ _ _ _ _) _).trans ?_
    refine rope_cols _ _ _ r ⟨C.val - 256, by omega⟩ _ A C.val (by show C.val % 256 = C.val - 256; omega) (fun p => ?_) hco hsi
    refine block_apply x g x4 r (n := 128) (by decide) xk 1 _ p _ fun a => ?_
    have hp := p.isLt
    refine (wCols_apply xq xk xv _ _ a p ⟨2816 + p.val, by omega⟩ rfl).trans ?_
    exact wF_k xq xk xv a _ _ (by omega) (by show 2816 + p.val = 2560 + (C.val / 256 * 256 + p.val); omega)

/-- The values, at an index. -/
theorem vF_apply (C : Fin 512) :
    halves (F := Ideal) (vT0 (clipF x g) (scaleL x g) x4 (wF xq xk xv)) (vT1 (clipF x g) (scaleL x g) x4 (wF xq xk xv)) (ix2 r C)
      = rowLin x g x4 r (n := 128) (by decide) xv 2 C.val := by
  have hC := C.isLt
  unfold halves
  by_cases h : C.val < 256
  · refine (dif_pos h).trans ?_
    unfold vT0
    refine (congrFun (pay32_eq _ _ _ _) _).trans ?_
    refine block_apply x g x4 r (n := 128) (by decide) xv 2 _ ⟨C.val, h⟩ _ fun a => ?_
    refine (wCols_apply xq xk xv _ _ a ⟨C.val, h⟩ ⟨3072 + C.val, by omega⟩ rfl).trans ?_
    exact wF_v xq xk xv a _ _ hC rfl
  · refine (dif_neg h).trans ?_
    unfold vT1
    refine (congrFun (pay33_eq _ _ _ _) _).trans ?_
    refine block_apply x g x4 r (n := 128) (by decide) xv 2 _ ⟨C.val - 256, by omega⟩ _ fun a => ?_
    refine (wCols_apply xq xk xv _ _ a ⟨C.val - 256, by omega⟩ ⟨3072 + C.val, by omega⟩ (by show 3072 + C.val = 3328 + (C.val - 256); omega)).trans ?_
    exact wF_v xq xk xv a _ _ hC rfl
end

/-! ## The cosines and sines -/

variable (m : (ℓ : Loc nD τ sig) → Buf (Elt Ideal) ℓ) (ρ : Dev nD → PrngReg)

/-- The angles, a row for each position of each batch entry. -/
def angF (A : FVec Ideal S8x1024x64 .f32) : FVec Ideal S8192x64 .f32 := shapeCast S8192x64 A shapeCasts_S8x1024x64_S8192x64

theorem angF_apply (A : FVec Ideal S8x1024x64 .f32) (r : Fin 8192) (j : Fin 64) : angF A (ix2 r j) = angR A r j := by
  pointwise [angF]
  rfl

/-- The kernel finds the cosines twice side by side, -/
theorem V_cos (c : Dev nD) : V (F := Ideal) m c main_v26
    = concatenate S8192x128 1 [⟨S8192x64, Host.cos (angF (angT (m ((c : Thread nD τ).loc main_arg1))))⟩, ⟨S8192x64, Host.cos (angF (angT (m ((c : Thread nD τ).loc main_arg1))))⟩] concatenates_S8192x64_S8192x64_S8192x128_d1 := by
  show StableHlo.after hostOps0 (fun b => m (c, b)) (Proc.devRef .tc main_v26) = _
  simp only [hostOps0, StableHlo.TRef.unary, StableHlo.TRef.binary, StableHlo.TRef.toBuf, StableHlo.TRef.ofBuf, cast_eq]
  after_results_simp <;> rfl

/-- and the sines negated beside the sines. -/
theorem V_sin (c : Dev nD) : V (F := Ideal) m c main_v28
    = concatenate S8192x128 1 [⟨S8192x64, Host.negf (Host.sin (angF (angT (m ((c : Thread nD τ).loc main_arg1)))))⟩, ⟨S8192x64, Host.sin (angF (angT (m ((c : Thread nD τ).loc main_arg1))))⟩] concatenates_S8192x64_S8192x64_S8192x128_d1 := by
  show StableHlo.after hostOps0 (fun b => m (c, b)) (Proc.devRef .tc main_v28) = _
  simp only [hostOps0, StableHlo.TRef.unary, StableHlo.TRef.binary, StableHlo.TRef.toBuf, StableHlo.TRef.ofBuf, cast_eq]
  after_results_simp <;> rfl

/-- The cosines at an index, -/
theorem cos_apply (A : FVec Ideal S8x1024x64 .f32) (r : Fin 8192) (j : Fin 128) :
    (concatenate S8192x128 1 [⟨S8192x64, Host.cos (angF A)⟩, ⟨S8192x64, Host.cos (angF A)⟩] concatenates_S8192x64_S8192x64_S8192x128_d1 : FVec Ideal S8192x128 .f32) (ix2 r j)
      = Ideal.cos (angR A r (lane j.val)) := by
  pointwise
  have hj := j.isLt
  by_cases h : j.val < 64
  · rw [dif_pos h, angF_apply]
    exact congrArg (fun i => Ideal.cos (angR A r i)) (Fin.ext (by show j.val = j.val % 64; omega))
  · rw [dif_neg h, angF_apply]
    exact congrArg (fun i => Ideal.cos (angR A r i)) (Fin.ext (by show j.val - 64 = j.val % 64; omega))

/-- and the sines. -/
theorem sin_apply (A : FVec Ideal S8x1024x64 .f32) (r : Fin 8192) (j : Fin 128) :
    (concatenate S8192x128 1 [⟨S8192x64, Host.negf (Host.sin (angF A))⟩, ⟨S8192x64, Host.sin (angF A)⟩] concatenates_S8192x64_S8192x64_S8192x128_d1 : FVec Ideal S8192x128 .f32) (ix2 r j)
      = if j.val < 64 then -Ideal.sin (angR A r (lane j.val)) else Ideal.sin (angR A r (lane j.val)) := by
  pointwise
  have hj := j.isLt
  by_cases h : j.val < 64
  · rw [dif_pos h, if_pos h, angF_apply]
    exact congrArg (fun i => -Ideal.sin (angR A r i)) (Fin.ext (by show j.val = j.val % 64; omega))
  · rw [dif_neg h, if_neg h, angF_apply]
    exact congrArg (fun i => Ideal.sin (angR A r i)) (Fin.ext (by show j.val - 64 = j.val % 64; omega))

end Cert.QkvIdeal.Val
-- ==== Proof.QkvArr.lean ====
module

public import proofs.«01_k».proof.Defs
public import proofs.«01_k».proof.Proof.QkvIdealVal
public import proofs.«01_k».proof.Proof.QkvCols
public import proofs.«01_k».proof.Proof.Tern
public import proofs.«01_k».proof.Proof.RowQuant
public import proofs.«01_k».proof.Proof.RowSpec
public import proofs.«01_k».proof.Proof.QkvSpec
public import proofs.«01_k».proof.Proof.QkvRefEq
public import Idealize.ShloMosaic.Lib.MatmulPlain
public import Idealize.ShloMosaic.Lib.Pointwise
public import Idealize.ShloMosaic.Lib.KernelVsHost
public import Idealize.ShloMosaic.Lib.Pipeline.ValueKit

@[expose] public section
set_option maxRecDepth 16384
noncomputable section
/-! The first call's five result arrays as formulas of its argument arrays. -/
namespace Cert.QkvIdeal.Val
open Cert.QkvIdeal Cert.QkvIdeal.Gen
open Idealize.ShloMosaic Idealize.ShloMosaic.TcCoe Idealize.ShloMosaic.Tactic
open Idealize.SL Idealize.SL.Sem
open Idealize.ShloMosaic.Pipeline (Dat Cfg Window)
open Cert.Tern Cert.RowSpec Cert.QkvSpec
open Cert.QkvRefIdeal.Eq (angT angR)

variable (m : (ℓ : Loc nD τ sig) → Buf (Elt Ideal) ℓ) (ρ : Dev nD → PrngReg)

/-! ## The result arrays -/

/-- Row `r` of the input, -/
def row (c : Dev nD) (r : Fin 8192) : Fin 2560 → EReal := fun C => m ((c.tc : Thread nD τ).loc main_arg0) (ix2 r C)

/-- the normalisation's weights, -/
def gw (c : Dev nD) : Fin 2560 → EReal := fun C => m ((c.tc : Thread nD τ).loc main_arg2) (ix2 0 C)

/-- row `r`'s angles, -/
def ang (c : Dev nD) (r : Fin 8192) : Fin 64 → EReal := angR (angT (m ((c.tc : Thread nD τ).loc main_arg1))) r

/-- row `r` through the query weights, -/
def rowQ (c : Dev nD) (r : Fin 8192) : ℕ → EReal :=
  lin (n := 640) (by decide) (cod (row m c r) (gw m c)) (fun k p => m ((c.tc : Thread nD τ).loc main_arg4) (ix2 k p)) (scl (row m c r) (gw m c)) (m ((c.tc : Thread nD τ).loc main_arg3) (ix1 0))

/-- the key weights, -/
def rowK (c : Dev nD) (r : Fin 8192) : ℕ → EReal :=
  lin (n := 128) (by decide) (cod (row m c r) (gw m c)) (fun k p => m ((c.tc : Thread nD τ).loc main_arg5) (ix2 k p)) (scl (row m c r) (gw m c)) (m ((c.tc : Thread nD τ).loc main_arg3) (ix1 1))

/-- and the value weights. -/
def rowV (c : Dev nD) (r : Fin 8192) : ℕ → EReal :=
  lin (n := 128) (by decide) (cod (row m c r) (gw m c)) (fun k p => m ((c.tc : Thread nD τ).loc main_arg6) (ix2 k p)) (scl (row m c r) (gw m c)) (m ((c.tc : Thread nD τ).loc main_arg3) (ix1 2))

/-- The queries, as the formula of the argument arrays, -/
def G0 (c : Dev nD) : Buf (Elt Ideal) ((c.tc : Thread nD τ).loc main_v29_0) := fun (i : S8192x2560.Idx) => rope (rowQ m c (i 0)) (ang m c (i 0)) (i 1).val

/-- the keys, -/
def G1 (c : Dev nD) : Buf (Elt Ideal) ((c.tc : Thread nD τ).loc main_v29_1) := fun (i : S8192x512.Idx) => rope (rowK m c (i 0)) (ang m c (i 0)) (i 1).val

/-- the values, -/
def G2 (c : Dev nD) : Buf (Elt Ideal) ((c.tc : Thread nD τ).loc main_v29_2) := fun (i : S8192x512.Idx) => rowV m c (i 0) (i 1).val

/-- the codes, -/
def G3 (c : Dev nD) : Buf (Elt Ideal) ((c.tc : Thread nD τ).loc main_v29_3) := fun (i : S8192x2560.Idx) => cod (row m c (i 0)) (gw m c) (i 1)

/-- (the row of the 8192 at a place of 16 by 4 by 128) -/
def lay (i : S16x4x128.Idx) : Fin 8192 := ⟨512 * (i 0).val + 128 * (i 1).val + (i 2).val, by
  have h0 : (i 0).val < 16 := (i 0).isLt
  have h1 : (i 1).val < 4 := (i 1).isLt
  have h2 : (i 2).val < 128 := (i 2).isLt
  omega⟩

/-- and the scales. -/
def G4 (c : Dev nD) : Buf (Elt Ideal) ((c.tc : Thread nD τ).loc main_v29_4) := fun (i : S16x4x128.Idx) => scl (row m c (lay i)) (gw m c)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0, 0] := (by decide +kernel : ∀ t : Fin grid0.N, _)

theorem tlt (t : Fin cfg0.N) : t.val < 16 := by
  have h : cfg0.N = 16 := (by decide +kernel : grid0.N = 16)
  exact h ▸ t.isLt

/-- Row `r` of point `t`, of the 8192. -/
abbrev rowAt (t : Fin cfg0.N) (r : Fin 512) : Fin 8192 := ⟨512 * t.val + r.val, by have := tlt t; omega⟩

/-- The input's block at point `t`, read at an index, -/
theorem iblk0_apply (c : Dev nD) (t : Fin cfg0.N) (r : Fin 512) (k : Fin 2560) :
    (iblk m c 0 t : Vec Ideal S512x2560 .bf16) (ix2 r k) = m ((c.tc : Thread nD τ).loc main_arg0) (ix2 (rowAt t r) k) := by
  show ((cfg0.win 0).blk t).view.read (Elt Ideal) (V m c main_arg0) (ix2 r k) = _
  rw [V_main_arg0]
  blk_point [idx0 t]

/-- the normalisation's weights, -/
theorem iblk1_apply (c : Dev nD) (t : Fin cfg0.N) (C : Fin 2560) :
    (iblk m c 1 t : Vec Ideal S1x2560 .f32) (ix2 0 C) = m ((c.tc : Thread nD τ).loc main_arg2) (ix2 0 C) := by
  show ((cfg0.win 1).blk t).view.read (Elt Ideal) (V m c main_arg2) (ix2 0 C) = _
  rw [V_main_arg2]
  blk_point [idx1 t]

/-- the cosines, -/
theorem iblk2_apply (c : Dev nD) (t : Fin cfg0.N) (r : Fin 512) (j : Fin 128) :
    (iblk m c 2 t : Vec Ideal S512x128 .f32) (ix2 r j) = Ideal.cos (ang m c (rowAt t r) (lane j.val)) := by
  show ((cfg0.win 2).blk t).view.read (Elt Ideal) (V m c main_v26) (ix2 r j) = _
  rw [V_cos]
  refine Eq.trans ?_ (cos_apply (angT (m ((c.tc : Thread nD τ).loc main_arg1))) (rowAt t r) j)
  generalize (concatenate S8192x128 1 _ _ : FVec Ideal S8192x128 .f32) = Y
  blk_point [idx2 t]

/-- the sines, -/
theorem iblk3_apply (c : Dev nD) (t : Fin cfg0.N) (r : Fin 512) (j : Fin 128) :
    (iblk m c 3 t : Vec Ideal S512x128 .f32) (ix2 r j)
      = if j.val < 64 then -Ideal.sin (ang m c (rowAt t r) (lane j.val)) else Ideal.sin (ang m c (rowAt t r) (lane j.val)) := by
  show ((cfg0.win 3).blk t).view.read (Elt Ideal) (V m c main_v28) (ix2 r j) = _
  rw [V_sin]
  refine Eq.trans ?_ (sin_apply (angT (m ((c.tc : Thread nD τ).loc main_arg1))) (rowAt t r) j)
  generalize (concatenate S8192x128 1 _ _ : FVec Ideal S8192x128 .f32) = Y
  blk_point [idx3 t]

/-- the matrices' scales, -/
theorem iblk4_apply (c : Dev nD) (t : Fin cfg0.N) (s : Fin 3) :
    (iblk m c 4 t : Vec Ideal S3 .f32) (ix1 s) = m ((c.tc : Thread nD τ).loc main_arg3) (ix1 s) := by
  show ((cfg0.win 4).blk t).view.read (Elt Ideal) (V m c main_arg3) (ix1 s) = _
  rw [V_main_arg3]
  blk_point [idx4 t]

/-- the query weights, -/
theorem iblk5_apply (c : Dev nD) (t : Fin cfg0.N) (k : Fin 2560) (p : Fin 640) :
    (iblk m c 5 t : Vec Ideal S2560x640 .i8) (ix2 k p) = m ((c.tc : Thread nD τ).loc main_arg4) (ix2 k p) := by
  show ((cfg0.win 5).blk t).view.read (Elt Ideal) (V m c main_arg4) (ix2 k p) = _
  rw [V_main_arg4]
  blk_point [idx5 t]

/-- the key weights, -/
theorem iblk6_apply (c : Dev nD) (t : Fin cfg0.N) (k : Fin 2560) (p : Fin 128) :
    (iblk m c 6 t : Vec Ideal S2560x128 .i8) (ix2 k p) = m ((c.tc : Thread nD τ).loc main_arg5) (ix2 k p) := by
  show ((cfg0.win 6).blk t).view.read (Elt Ideal) (V m c main_arg5) (ix2 k p) = _
  rw [V_main_arg5]
  blk_point [idx6 t]

/-- and the value weights. -/
theorem iblk7_apply (c : Dev nD) (t : Fin cfg0.N) (k : Fin 2560) (p : Fin 128) :
    (iblk m c 7 t : Vec Ideal S2560x128 .i8) (ix2 k p) = m ((c.tc : Thread nD τ).loc main_arg6) (ix2 k p) := by
  show ((cfg0.win 7).blk t).view.read (Elt Ideal) (V m c main_arg6) (ix2 k p) = _
  rw [V_main_arg6]
  blk_point [idx7 t]

theorem row_eq (c : Dev nD) (t : Fin cfg0.N) (r : Fin 512) : (fun k => (iblk m c 0 t : Vec Ideal S512x2560 .bf16) (ix2 r k)) = row m c (rowAt t r) := by
  funext k; exact iblk0_apply m c t r k

theorem gw_eq (c : Dev nD) (t : Fin cfg0.N) : (fun C => (iblk m c 1 t : Vec Ideal S1x2560 .f32) (ix2 0 C)) = gw m c := by
  funext C; exact iblk1_apply m c t C

/-- A row of point `t` through weights that are found whole. -/
theorem rowLin_eq {n : ℕ} (hn : 0 < n) (c : Dev nD) (t : Fin cfg0.N) (r : Fin 512) (w : (⟨2, ![2560, n]⟩ : Shape).Idx → BitVec 8) (W : Fin 2560 → Fin n → BitVec 8)
    (hw : ∀ k p, w (ix2 k p) = W k p) (k : Fin 3) :
    rowLin (iblk m c 0 t) (iblk m c 1 t) (iblk m c 4 t) r hn w k
      = lin hn (cod (row m c (rowAt t r)) (gw m c)) W (scl (row m c (rowAt t r)) (gw m c)) (m ((c.tc : Thread nD τ).loc main_arg3) (ix1 k)) := by
  funext C
  unfold rowLin
  rw [row_eq, gw_eq, iblk4_apply]
  exact congrArg (fun W => lin hn (cod (row m c (rowAt t r)) (gw m c)) W (scl (row m c (rowAt t r)) (gw m c)) (m ((c.tc : Thread nD τ).loc main_arg3) (ix1 k)) C)
    (funext fun k => funext fun p => hw k p)

/-- The queries of point `t`'s row `r`, -/
theorem blk8_apply (c : Dev nD) (t : Fin cfg0.N) (r : Fin 512) (C : Fin 2560) :
    qF (F := Ideal) (clipF (iblk m c 0 t) (iblk m c 1 t)) (scaleL (iblk m c 0 t) (iblk m c 1 t)) (iblk m c 2 t) (iblk m c 3 t) (iblk m c 4 t) (wB m c) (ix2 r C)
      = rope (rowQ m c (rowAt t r)) (ang m c (rowAt t r)) C.val := by
  unfold wB
  refine (qF_apply _ _ _ _ _ _ _ _ r (ang m c (rowAt t r)) (iblk2_apply m c t r) (iblk3_apply m c t r) C).trans ?_
  exact congrArg (fun z => rope z (ang m c (rowAt t r)) C.val) (rowLin_eq m _ c t r _ _ (iblk5_apply m c t0_0) 0)

/-- the keys, -/
theorem blk9_apply (c : Dev nD) (t : Fin cfg0.N) (r : Fin 512) (C : Fin 512) :
    halves (F := Ideal) (kT0 (clipF (iblk m c 0 t) (iblk m c 1 t)) (scaleL (iblk m c 0 t) (iblk m c 1 t)) (iblk m c 2 t) (iblk m c 3 t) (iblk m c 4 t) (wB m c))
        (kT1 (clipF (iblk m c 0 t) (iblk m c 1 t)) (scaleL (iblk m c 0 t) (iblk m c 1 t)) (iblk m c 2 t) (iblk m c 3 t) (iblk m c 4 t) (wB m c)) (ix2 r C)
      = rope (rowK m c (rowAt t r)) (ang m c (rowAt t r)) C.val := by
  unfold wB
  refine (kF_apply _ _ _ _ _ _ _ _ r (ang m c (rowAt t r)) (iblk2_apply m c t r) (iblk3_apply m c t r) C).trans ?_
  exact congrArg (fun z => rope z (ang m c (rowAt t r)) C.val) (rowLin_eq m _ c t r _ _ (iblk6_apply m c t0_0) 1)

/-- the values, -/
theorem blk10_apply (c : Dev nD) (t : Fin cfg0.N) (r : Fin 512) (C : Fin 512) :
    halves (F := Ideal) (vT0 (clipF (iblk m c 0 t) (iblk m c 1 t)) (scaleL (iblk m c 0 t) (iblk m c 1 t)) (iblk m c 4 t) (wB m c))
        (vT1 (clipF (iblk m c 0 t) (iblk m c 1 t)) (scaleL (iblk m c 0 t) (iblk m c 1 t)) (iblk m c 4 t) (wB m c)) (ix2 r C)
      = rowV m c (rowAt t r) C.val := by
  unfold wB
  exact (vF_apply _ _ _ _ _ _ r C).trans (congrFun (rowLin_eq m _ c t r _ _ (iblk7_apply m c t0_0) 2) C.val)

/-- the codes, -/
theorem blk11_apply (c : Dev nD) (t : Fin cfg0.N) (r : Fin 512) (C : Fin 2560) :
    codesF (F := Ideal) (iblk m c 0 t) (iblk m c 1 t) (ix2 r C) = cod (row m c (rowAt t r)) (gw m c) C :=
  (codesF_apply _ _ r C).trans (congrArg₂ (fun v g => cod v g C) (row_eq m c t r) (gw_eq m c t))

/-- and the scales, laid out. -/
theorem blk12_apply (c : Dev nD) (t : Fin cfg0.N) (z : Fin 1) (a : Fin 4) (b : Fin 128) :
    k0_pay22 (F := Ideal) (scaleL (iblk m c 0 t) (iblk m c 1 t)) (ix3 z a b)
      = scl (row m c (rowAt t ⟨a.val * 128 + b.val, by omega⟩)) (gw m c) := by
  obtain rfl : z = 0 := Subsingleton.elim _ _
  exact (pay22_apply _ a b).trans ((scaleL_apply _ _ _ b).trans (congrArg₂ scl (row_eq m c t ⟨a.val * 128 + b.val, by omega⟩) (gw_eq m c t)))

/-- The queries' array after the run is the formula. -/
theorem arr0_eq (c : Dev nD) : (dats (F := Ideal) m 0 c).arrAt 8 cfg0.N = G0 m c := by
  refine (dats m 0 c).arrAt_eq_of_covers 8 _ (by decide +kernel) fun t hf y => ?_
  blk_simp
  rw [after0_8]
  refine (congrArg _ (eq_ix2 (n0 := 512) (n1 := 2560) y)).trans ((blk8_apply m c t _ _).trans ?_)
  unfold G0
  refine congrArg₂ (fun (r : Fin 8192) (C : Fin 2560) => rope (rowQ m c r) (ang m c r) C.val) (Fin.ext ?_) (Fin.ext ?_)
  · blk_simp
    rw [idx8 t]
    show 512 * t.val + (y 0).val = t.val * 512 + (y 0).val
    omega
  · blk_simp
    rw [idx8 t]
    show (y 1).val = 0 * 2560 + (y 1).val
    omega

/-- The keys' array after the run is the formula. -/
theorem arr1_eq (c : Dev nD) : (dats (F := Ideal) m 0 c).arrAt 9 cfg0.N = G1 m c := by
  refine (dats m 0 c).arrAt_eq_of_covers 9 _ (by decide +kernel) fun t hf y => ?_
  blk_simp
  rw [after0_9]
  refine (congrArg _ (eq_ix2 (n0 := 512) (n1 := 512) y)).trans ((blk9_apply m c t _ _).trans ?_)
  unfold G1
  refine congrArg₂ (fun (r : Fin 8192) (C : Fin 512) => rope (rowK m c r) (ang m c r) C.val) (Fin.ext ?_) (Fin.ext ?_)
  · blk_simp
    rw [idx9 t]
    show 512 * t.val + (y 0).val = t.val * 512 + (y 0).val
    omega
  · blk_simp
    rw [idx9 t]
    show (y 1).val = 0 * 512 + (y 1).val
    omega

/-- The values' array after the run is the formula. -/
theorem arr2_eq (c : Dev nD) : (dats (F := Ideal) m 0 c).arrAt 10 cfg0.N = G2 m c := by
  refine (dats m 0 c).arrAt_eq_of_covers 10 _ (by decide +kernel) fun t hf y => ?_
  blk_simp
  rw [after0_10]
  refine (congrArg _ (eq_ix2 (n0 := 512) (n1 := 512) y)).trans ((blk10_apply m c t _ _).trans ?_)
  unfold G2
  refine congrArg₂ (fun (r : Fin 8192) (C : Fin 512) => rowV m c r C.val) (Fin.ext ?_) (Fin.ext ?_)
  · blk_simp
    rw [idx10 t]
    show 512 * t.val + (y 0).val = t.val * 512 + (y 0).val
    omega
  · blk_simp
    rw [idx10 t]
    show (y 1).val = 0 * 512 + (y 1).val
    omega

/-- The codes' array after the run is the formula. -/
theorem arr3_eq (c : Dev nD) : (dats (F := Ideal) m 0 c).arrAt 11 cfg0.N = G3 m c := by
  refine (dats m 0 c).arrAt_eq_of_covers 11 _ (by decide +kernel) fun t hf y => ?_
  blk_simp
  rw [after0_11]
  refine (congrArg _ (eq_ix2 (n0 := 512) (n1 := 2560) y)).trans ((blk11_apply m c t _ _).trans ?_)
  unfold G3
  refine congrArg₂ (fun (r : Fin 8192) (C : Fin 2560) => cod (row m c r) (gw m c) C) (Fin.ext ?_) (Fin.ext ?_)
  · blk_simp
    rw [idx11 t]
    show 512 * t.val + (y 0).val = t.val * 512 + (y 0).val
    omega
  · blk_simp
    rw [idx11 t]
    show (y 1).val = 0 * 2560 + (y 1).val
    omega

/-- The scales' array after the run is the formula. -/
theorem arr4_eq (c : Dev nD) : (dats (F := Ideal) m 0 c).arrAt 12 cfg0.N = G4 m c := by
  refine (dats m 0 c).arrAt_eq_of_covers 12 _ (by decide +kernel) fun t hf y => ?_
  blk_simp
  rw [after0_12]
  refine (congrArg _ (eq_ix3 (n0 := 1) (n1 := 4) (n2 := 128) y)).trans ((blk12_apply m c t _ _ _).trans ?_)
  unfold G4
  refine congrArg (fun r => scl (row m c r) (gw m c)) (Fin.ext ?_)
  unfold lay rowAt
  blk_point [idx12 t]
  exact Fin.ext (by dsimp only; omega)

end Cert.QkvIdeal.Val
-- ==== Proof.QkvEq.lean ====
module

public import proofs.«01_k».proof.Defs
public import proofs.«01_k».proof.Proof.QkvIdealVal
public import proofs.«01_k».proof.Proof.QkvArr
public import proofs.«01_k».proof.Proof.QkvRefEq

@[expose] public section
set_option maxRecDepth 16384
noncomputable section
/-! The first call's run against its reference's. -/
namespace Cert.QkvClaims
open Idealize.ShloMosaic Idealize.ShloMosaic.TcCoe Idealize.SL.Sem
open Cert.RowSpec Cert.QkvSpec

/-- The kernel's run: the five result arrays are the formulas of the arguments. -/
theorem run (m : (ℓ : Loc Cert.QkvIdeal.nD Cert.QkvIdeal.τ Cert.QkvIdeal.sig) → Buf (Elt Ideal) ℓ) (ρ : Dev Cert.QkvIdeal.nD → PrngReg) :
    θ_run Cert.QkvIdeal.defs (onTc (τ := Cert.QkvIdeal.τ) (Cert.QkvIdeal.main (F := Ideal))) ⟨m, fun _ => 0, ρ⟩ fun r =>
      ∀ c : Dev Cert.QkvIdeal.nD, r.2.mem ((c.tc : Thread Cert.QkvIdeal.nD Cert.QkvIdeal.τ).loc Cert.QkvIdeal.main_v29_0) = Cert.QkvIdeal.Val.G0 m c
        ∧ r.2.mem ((c.tc : Thread Cert.QkvIdeal.nD Cert.QkvIdeal.τ).loc Cert.QkvIdeal.main_v29_1) = Cert.QkvIdeal.Val.G1 m c
        ∧ r.2.mem ((c.tc : Thread Cert.QkvIdeal.nD Cert.QkvIdeal.τ).loc Cert.QkvIdeal.main_v29_2) = Cert.QkvIdeal.Val.G2 m c
        ∧ r.2.mem ((c.tc : Thread Cert.QkvIdeal.nD Cert.QkvIdeal.τ).loc Cert.QkvIdeal.main_v29_3) = Cert.QkvIdeal.Val.G3 m c
        ∧ r.2.mem ((c.tc : Thread Cert.QkvIdeal.nD Cert.QkvIdeal.τ).loc Cert.QkvIdeal.main_v29_4) = Cert.QkvIdeal.Val.G4 m c :=
  (θ_run _ _ _).mono (fun _ h c => ⟨((h.1 c).1 8).trans (Cert.QkvIdeal.Val.arr0_eq m c), ((h.1 c).1 9).trans (Cert.QkvIdeal.Val.arr1_eq m c),
    ((h.1 c).1 10).trans (Cert.QkvIdeal.Val.arr2_eq m c), ((h.1 c).1 11).trans (Cert.QkvIdeal.Val.arr3_eq m c),
    ((h.1 c).1 12).trans (Cert.QkvIdeal.Val.arr4_eq m c)⟩) (Cert.QkvIdeal.Val.run_main (F := Ideal) m ρ)

section
variable (m : (ℓ : Loc Cert.QkvIdeal.nD Cert.QkvIdeal.τ Cert.QkvIdeal.sig) → Buf (Elt Ideal) ℓ)
  (m' : (ℓ : Loc Cert.QkvRefIdeal.nD Cert.QkvRefIdeal.τ Cert.QkvRefIdeal.sig) → Buf (Elt Ideal) ℓ) (c : Dev Cert.QkvIdeal.nD)
  (h0 : m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0))
  (h2 : m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2))
include h0 h2

/-- Equal argument arrays give the reference's normalised rows and the kernel's alike, -/
theorem norm_eq (r : Fin 8192) (C : Fin 2560) : Cert.QkvRefIdeal.Eq.mN m' c (ix2 r C) = normed (Cert.QkvIdeal.Val.row m c r) (Cert.QkvIdeal.Val.gw m c) C := by
  unfold Cert.QkvRefIdeal.Eq.mN
  rw [h0, h2]
  exact Cert.OprojRefIdeal.Eq.refN_apply _ _ r C

/-- the scales alike, -/
theorem scale_eq (r : Fin 8192) : Cert.QkvRefIdeal.Eq.mS m' c (ix1 r) = scl (Cert.QkvIdeal.Val.row m c r) (Cert.QkvIdeal.Val.gw m c) := by
  refine (Cert.OprojRefIdeal.Eq.refS_apply _ r).trans ((congrArg RowQuant.scale (Cert.OprojRefIdeal.Eq.refA_apply _ r)).trans ?_)
  unfold scl
  exact congrArg (fun v => RowQuant.scale (RowQuant.amax v)) (funext fun C => norm_eq m m' c h0 h2 r C)

/-- and the codes alike. -/
theorem code_eq (r : Fin 8192) (C : Fin 2560) : Cert.QkvRefIdeal.Eq.mC m' c (ix2 r C) = cod (Cert.QkvIdeal.Val.row m c r) (Cert.QkvIdeal.Val.gw m c) C :=
  (Cert.OprojRefIdeal.Eq.refC_apply _ _ r C).trans
    (congrArg₂ (fun a b => RowQuant.code (Ideal.div a b)) (norm_eq m m' c h0 h2 r C) (scale_eq m m' c h0 h2 r))

/-- A row through packed weights, from the reference's codes and scales. -/
theorem lin_eq {n : ℕ} (hn : 0 < n) (r : Fin 8192) (w w' : Fin 2560 → Fin n → BitVec 8) (hw : w' = w) (s s' : EReal) (hs : s' = s) (C : ℕ) :
    lin hn (fun k => Cert.QkvRefIdeal.Eq.mC m' c (ix2 r k)) w' (Cert.QkvRefIdeal.Eq.mS m' c (ix1 r)) s' C
      = lin hn (cod (Cert.QkvIdeal.Val.row m c r) (Cert.QkvIdeal.Val.gw m c)) w (scl (Cert.QkvIdeal.Val.row m c r) (Cert.QkvIdeal.Val.gw m c)) s C := by
  rw [hw, hs, scale_eq m m' c h0 h2 r]
  exact congrArg (fun q => lin hn q w (scl (Cert.QkvIdeal.Val.row m c r) (Cert.QkvIdeal.Val.gw m c)) s C) (funext fun k => code_eq m m' c h0 h2 r k)
end

/-- The kernel and the reference leave equal results on equal arguments. -/
theorem algebraic : Cert.algebraic_QkvIdeal_QkvRefIdeal := by
  intro m ρ m' ρ' _ hagree
  have h0 := fun c => (hagree c).1
  have h1 := fun c => (hagree c).2.1
  have h2 := fun c => (hagree c).2.2.1
  have h3 := fun c => (hagree c).2.2.2.1
  have h4 := fun c => (hagree c).2.2.2.2.1
  have h5 := fun c => (hagree c).2.2.2.2.2.1
  have h6 := fun c => (hagree c).2.2.2.2.2.2
  have hA : ∀ (c : Dev Cert.QkvIdeal.nD) (r : Fin 8192),
      Cert.QkvRefIdeal.Eq.angR (Cert.QkvRefIdeal.Eq.angT (m' ((c.tc : Thread Cert.QkvRefIdeal.nD Cert.QkvRefIdeal.τ).loc Cert.QkvRefIdeal.main_arg1))) r = Cert.QkvIdeal.Val.ang m c r :=
    fun c r => by rw [h1 c]; rfl
  have hs : ∀ (c : Dev Cert.QkvIdeal.nD) (k : Fin 3) (h), Cert.QkvRefIdeal.Eq.mW m' c k h (ix1 0) = m ((c.tc : Thread Cert.QkvIdeal.nD Cert.QkvIdeal.τ).loc Cert.QkvIdeal.main_arg3) (ix1 k) :=
    fun c k h => (Cert.QkvRefIdeal.Eq.mW_apply m' c k h).trans (congrFun (h3 c) (ix1 k))
  refine ⟨fun c => Cert.QkvIdeal.Val.G0 m c, fun c => Cert.QkvIdeal.Val.G1 m c, fun c => Cert.QkvIdeal.Val.G2 m c, fun c => Cert.QkvIdeal.Val.G3 m c, fun c => Cert.QkvIdeal.Val.G4 m c, ?_, ?_⟩
  · exact (θ_run Cert.QkvIdeal.defs _ _).mono (fun _ h c => ⟨(h.1 c).1, (h.1 c).2.1, (h.1 c).2.2.1, (h.1 c).2.2.2.1, (h.1 c).2.2.2.2, h.2.1 c⟩)
      (θ_run_and (run m ρ) (Cert.QkvIdeal.Val.frame (F := Ideal) m ρ))
  · refine (θ_run Cert.QkvRefIdeal.defs _ _).mono (fun _ h c => ⟨(h c).1.trans ?_, (h c).2.1.trans ?_, (h c).2.2.1.trans ?_, (h c).2.2.2.1.trans ?_, (h c).2.2.2.2.1.trans ?_, (h c).2.2.2.2.2⟩)
      (Cert.QkvRefIdeal.Eq.run m' ρ')
    · funext i
      refine (congrArg _ (eq_ix2 (n0 := 8192) (n1 := 2560) i)).trans ((Cert.QkvRefIdeal.Eq.ropeQ_apply _ _ (i 0) (Cert.QkvIdeal.Val.rowQ m c (i 0)) (fun C => ?_) (i 1)).trans ?_)
      · exact (Cert.QkvRefIdeal.Eq.linQ_apply _ _ _ _ (i 0) C).trans (lin_eq m m' c (h0 c) (h2 c) _ (i 0) _ _ (by rw [h4 c]) _ _ (hs c 0 _) C.val)
      · exact congrArg (fun A => rope (Cert.QkvIdeal.Val.rowQ m c (i 0)) A (i 1).val) (hA c (i 0))
    · funext i
      refine (congrArg _ (eq_ix2 (n0 := 8192) (n1 := 512) i)).trans ((Cert.QkvRefIdeal.Eq.ropeK_apply _ _ (i 0) (Cert.QkvIdeal.Val.rowK m c (i 0)) (fun C => ?_) (i 1)).trans ?_)
      · exact (Cert.QkvRefIdeal.Eq.linS_apply _ _ _ _ (i 0) C).trans (lin_eq m m' c (h0 c) (h2 c) _ (i 0) _ _ (by rw [h5 c]) _ _ (hs c 1 _) C.val)
      · exact congrArg (fun A => rope (Cert.QkvIdeal.Val.rowK m c (i 0)) A (i 1).val) (hA c (i 0))
    · funext i
      refine (congrArg _ (eq_ix2 (n0 := 8192) (n1 := 512) i)).trans ?_
      exact (Cert.QkvRefIdeal.Eq.linS_apply _ _ _ _ (i 0) (i 1)).trans (lin_eq m m' c (h0 c) (h2 c) _ (i 0) _ _ (by rw [h6 c]) _ _ (hs c 2 _) (i 1).val)
    · funext i
      exact (congrArg _ (eq_ix2 (n0 := 8192) (n1 := 2560) i)).trans (code_eq m m' c (h0 c) (h2 c) (i 0) (i 1))
    · funext i
      exact (congrArg _ (eq_ix3 (n0 := 16) (n1 := 4) (n2 := 128) i)).trans ((Cert.OprojRefIdeal.Eq.lay_apply _ (i 0) (i 1) (i 2)).trans (scale_eq m m' c (h0 c) (h2 c) _))

/-- The reference's run leaves its arguments unchanged and every counter at zero. -/
theorem refFrame : Cert.quiescent_QkvRefIdeal := fun m ρ _ =>
  (θ_run Cert.QkvRefIdeal.defs _ _).mono (fun _ h => ⟨fun c => (h c).2.2.2.2.2, sem_eq_zero_of_no_sems rfl _⟩) (Cert.QkvRefIdeal.Eq.run m ρ)

end Cert.QkvClaims
-- ==== Proof.OprojIdealVal.lean ====
module

public import proofs.«01_k».proof.Proof.Gen.OprojIdeal.Frame
public import proofs.«01_k».proof.Proof.Gen.OprojIdeal.Loops
public import Idealize.ShloMosaic.Lib.Claim
public import Idealize.ShloMosaic.Lib.VecWindow
public import Idealize.ShloMosaic.Lib.WritesUnit
public import Idealize.ShloMosaic.Lib.ValueIdxCore

@[expose] public section
set_option maxRecDepth 16384
noncomputable section
namespace Cert.OprojIdeal.Val
open Cert.OprojIdeal Cert.OprojIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The unpacking loop runs 20 trips. -/
theorem trips1 : k0_t1_loop.trips = 20 := by decide +kernel

/-- The projection's loop runs 10 trips. -/
theorem trips2 : k0_t2_loop.trips = 10 := by decide +kernel

/-- The quantisation's loop runs 16 trips. -/
theorem trips3 : k0_t3_loop.trips = 16 := by decide +kernel

/-- The packed rows of trip `k` lie inside the weight block. -/
theorem inb1 (k : Fin k0_t1_loop.trips) : ∀ a, k0_off1 k a + S128x640.size a ≤ S2560x640.size a := by
  revert k; decide +kernel

/-- The body unpacks at the first grid point and at no other. -/
theorem cond_iff (t : Fin cfg0.N) : k0_cond1 (grid0.coords t) = 1#1 ↔ t.val = 0 := by
  revert t; decide +kernel

/-- The 128 packed rows that trip `k` of the first loop reads. -/
abbrev packT (x : Vec F S2560x640 .i8) (k : Fin k0_t1_loop.trips) : Vec F S128x640 .i8 :=
  VecWindow.window x (k0_off1 k) S128x640.size (inb1 k)

/-- Field `f` of a packed tile, unpacked. -/
def fieldP (f : ℕ) (w : Vec F S128x640 .i8) : Vec F S128x640 .bf16 :=
  if f = 0 then k0_pay5 w else if f = 1 then k0_pay6 w else if f = 2 then k0_pay7 w else k0_pay1 w

/-- The unpacked weights: 640 columns from each field, row block by row block. -/
def wF (x : Vec F S2560x640 .i8) : Vec F S2560x2560 .bf16 := fun i =>
  fieldP ((i 1).val / 640) (packT x ⟨(i 0).val / 128, by have : (i 0).val < 2560 := (i 0).isLt; rw [trips1]; omega⟩)
    (ix2 ⟨(i 0).val % 128, Nat.mod_lt _ (by decide)⟩ ⟨(i 1).val % 640, Nat.mod_lt _ (by decide)⟩)

/-- What trip `k` of the second loop stores: 256 columns of `h`. -/
def hT (x0 : Vec F S512x2560 .i8) (x1 : Vec F S512x1 .f32) (x2 : Vec F S512x2560 .bf16) (x4 : Vec F S1 .f32)
    (w : Vec F S2560x2560 .bf16) (k : Fin k0_t2_loop.trips) : Vec F S512x256 .f32 :=
  k0_pay3 (k0_pay2 x0) (VecWindow.window w (k0_off6 k) S2560x256.size (k0_off6_inb k))
    (VecWindow.window x2 (k0_off7 k) S512x256.size (k0_off7_inb k)) x1 (x4 (ix1 0))

/-- `h` after the second loop. -/
def hF (x0 : Vec F S512x2560 .i8) (x1 : Vec F S512x1 .f32) (x2 : Vec F S512x2560 .bf16) (x4 : Vec F S1 .f32)
    (w : Vec F S2560x2560 .bf16) : Vec F S512x2560 .f32 := fun i =>
  hT x0 x1 x2 x4 w ⟨(i 1).val / 256, by have : (i 1).val < 2560 := (i 1).isLt; rw [trips2]; omega⟩
    (ix2 (i 0) ⟨(i 1).val % 256, Nat.mod_lt _ (by decide)⟩)

/-- The 32 rows of `h` that trip `k` of the third loop reads. -/
abbrev rowsT (h : Vec F S512x2560 .f32) (k : Fin k0_t3_loop.trips) : Vec F S32x2560 .f32 :=
  VecWindow.window h (k0_off8 k) S32x2560.size (k0_off8_inb k)

/-- The trip of the third loop that works on row `r`. -/
def rowTrip (r : Fin 512) : Fin k0_t3_loop.trips := ⟨r.val / 32, by have := r.isLt; rw [trips3]; omega⟩

/-- The row of that trip's strip. -/
def rowIn (r : Fin 512) : Fin 32 := ⟨r.val % 32, Nat.mod_lt _ (by decide)⟩

/-- The codes of `h`'s normalized rows. -/
def codesF (h : Vec F S512x2560 .f32) (x3 : Vec F S1x2560 .f32) : Vec F S512x2560 .i8 := fun i =>
  k0_pay10 (rowsT h (rowTrip (i 0))) x3 (ix2 (rowIn (i 0)) (i 1))

/-- Each row's scale, in every lane. -/
def scaleL (h : Vec F S512x2560 .f32) (x3 : Vec F S1x2560 .f32) : Vec F S512x128 .f32 := fun i =>
  k0_pay11 (rowsT h (rowTrip (i 0))) x3 (ix2 (rowIn (i 0)) (i 1))

section
variable (𝒱 : Variants) (c : Dev nD) (bd : Option 𝒱.V) (i : grid0.Coords) (u1 : Memref sig .tc .vmem S512x2560 .i8) (w1 : u1.IsWhole) (u2 : Memref sig .tc .vmem S512x1 .f32) (w2 : u2.IsWhole) (u3 : Memref sig .tc .vmem S512x2560 .bf16) (w3 : u3.IsWhole) (u4 : Memref sig .tc .vmem S1x2560 .f32) (w4 : u4.IsWhole) (u5 : Memref sig .tc .smem S1 .f32) (w5 : u5.IsWhole) (u6 : Memref sig .tc .vmem S2560x640 .i8) (w6 : u6.IsWhole) (u7 : Memref sig .tc .vmem S512x2560 .f32) (w7 : u7.IsWhole) (u8 : Memref sig .tc .vmem S512x2560 .i8) (w8 : u8.IsWhole) (u9 : Memref sig .tc .vmem S1x4x128 .f32) (w9 : u9.IsWhole) (u10 : Memref sig .tc .vmem S2560x2560 .bf16) (w10 : u10.IsWhole) (u11 : Memref sig .tc .vmem S512x2560 .bf16) (w11 : u11.IsWhole) (u12 : Memref sig .tc .vmem S512x128 .f32) (w12 : u12.IsWhole)

/-- The four pieces trip `k` of the unpacking stores, last first. -/
theorem trip_w (h1 : k0_cond1 i = 1#1) (X6 : BufTy.Contents (Elt F) u6.view.ty) (x : Vec F S2560x640 .i8)
    (h6 : u6.view.read (Elt F) X6 = x) (k : Fin k0_t1_loop.trips) :
    tripL_k0_t1 (F := F) 𝒱 c bd i u1 w1 u2 w2 u3 w3 u4 w4 u5 w5 u6 w6 u7 w7 u8 w8 u9 w9 u10 w10 u11 w11 u12 w12 h1 X6 k
      = [⟨Rect.unit (s := S2560x2560) (k0_off5 k) S128x640.size (k0_off5_inb i k h1), k0_pay1 (packT x k)⟩,
         ⟨Rect.unit (s := S2560x2560) (k0_off4 k) S128x640.size (k0_off4_inb i k h1), k0_pay7 (packT x k)⟩,
         ⟨Rect.unit (s := S2560x2560) (k0_off3 k) S128x640.size (k0_off3_inb i k h1), k0_pay6 (packT x k)⟩,
         ⟨Rect.unit (s := S2560x2560) (k0_off2 k) S128x640.size (k0_off2_inb i k h1), k0_pay5 (packT x k)⟩] := by
  subst h6
  unfold tripL_k0_t1 trip_k0_t1
  dsimp only
  sl_unfold_words
  rfl

/-- After the trips before `k` the rows of the weight buffer below `128 * k` hold the unpacked weights. -/
theorem loop_w (h1 : k0_cond1 i = 1#1) (X6 : BufTy.Contents (Elt F) u6.view.ty) (x : Vec F S2560x640 .i8)
    (h6 : u6.view.read (Elt F) X6 = x) (G : BufTy.Contents (Elt F) u10.view.ty) (k : ℕ) (hk : k ≤ 20) (y : S2560x2560.Idx)
    (hy : (y 0).val < 128 * k) :
    u10.view.read (Elt F) (u10.view.writes (Elt F) G (pb_k0_t1 (F := F) 𝒱 c bd i u1 w1 u2 w2 u3 w3 u4 w4 u5 w5 u6 w6 u7 w7 u8 w8 u9 w9 u10 w10 u11 w11 u12 w12 h1 X6 k)) y = wF x y := by
  induction k with
  | zero => omega
  | succ k ih =>
    have hk' : k < k0_t1_loop.trips := by rw [trips1]; omega
    rw [pb_k0_t1_succ (F := F) 𝒱 c bd i u1 w1 u2 w2 u3 w3 u4 w4 u5 w5 u6 w6 u7 w7 u8 w8 u9 w9 u10 w10 u11 w11 u12 w12 h1 X6 ⟨k, hk'⟩]
    rw [trip_w 𝒱 c bd i u1 w1 u2 w2 u3 w3 u4 w4 u5 w5 u6 w6 u7 w7 u8 w8 u9 w9 u10 w10 u11 w11 u12 w12 h1 X6 x h6 ⟨k, hk'⟩]
    simp only [List.cons_append, List.nil_append]
    have hc : (y 1).val < 2560 := (y 1).isLt
    by_cases hlt : (y 0).val < 128 * k
    · rw [View.read_writes_cons_unit_of_not_mem _ _ _ _ _ y (k0_off5_eq ⟨k, hk'⟩) (0 : Fin 2) (Or.inl hlt),
        View.read_writes_cons_unit_of_not_mem _ _ _ _ _ y (k0_off4_eq ⟨k, hk'⟩) (0 : Fin 2) (Or.inl hlt),
        View.read_writes_cons_unit_of_not_mem _ _ _ _ _ y (k0_off3_eq ⟨k, hk'⟩) (0 : Fin 2) (Or.inl hlt),
        View.read_writes_cons_unit_of_not_mem _ _ _ _ _ y (k0_off2_eq ⟨k, hk'⟩) (0 : Fin 2) (Or.inl hlt)]
      exact ih (by omega) hlt
    · have hd : (y 0).val / 128 = k := by omega
      have hr : (y 0).val = 128 * k + (y 0).val % 128 := by omega
      by_cases c3 : (y 1).val < 1920
      · rw [View.read_writes_cons_unit_of_not_mem _ _ _ _ _ y (k0_off5_eq ⟨k, hk'⟩) (1 : Fin 2) (Or.inl c3)]
        by_cases c2 : (y 1).val < 1280
        · rw [View.read_writes_cons_unit_of_not_mem _ _ _ _ _ y (k0_off4_eq ⟨k, hk'⟩) (1 : Fin 2) (Or.inl c2)]
          by_cases c1 : (y 1).val < 640
          · rw [View.read_writes_cons_unit_of_not_mem _ _ _ _ _ y (k0_off3_eq ⟨k, hk'⟩) (1 : Fin 2) (Or.inl c1)]
            refine (View.read_writes_cons_unit_of_mem _ _ _ _ _ y (ix2 ⟨(y 0).val % 128, Nat.mod_lt _ (by decide)⟩ ⟨(y 1).val % 640, Nat.mod_lt _ (by decide)⟩) (k0_off2_eq ⟨k, hk'⟩)
              (Fin.forall_fin_two.mpr ⟨hr, by show (y 1).val = 0 + (y 1).val % 640; omega⟩)).trans ?_
            unfold wF fieldP
            rw [if_pos (by omega)]
            subst hd; rfl
          · refine (View.read_writes_cons_unit_of_mem _ _ _ _ _ y (ix2 ⟨(y 0).val % 128, Nat.mod_lt _ (by decide)⟩ ⟨(y 1).val % 640, Nat.mod_lt _ (by decide)⟩) (k0_off3_eq ⟨k, hk'⟩)
              (Fin.forall_fin_two.mpr ⟨hr, by show (y 1).val = 640 + (y 1).val % 640; omega⟩)).trans ?_
            unfold wF fieldP
            rw [if_neg (by omega), if_pos (by omega)]
            subst hd; rfl
        · refine (View.read_writes_cons_unit_of_mem _ _ _ _ _ y (ix2 ⟨(y 0).val % 128, Nat.mod_lt _ (by decide)⟩ ⟨(y 1).val % 640, Nat.mod_lt _ (by decide)⟩) (k0_off4_eq ⟨k, hk'⟩)
            (Fin.forall_fin_two.mpr ⟨hr, by show (y 1).val = 1280 + (y 1).val % 640; omega⟩)).trans ?_
          unfold wF fieldP
          rw [if_neg (by omega), if_neg (by omega), if_pos (by omega)]
          subst hd; rfl
      · refine (View.read_writes_cons_unit_of_mem _ _ _ _ _ y (ix2 ⟨(y 0).val % 128, Nat.mod_lt _ (by decide)⟩ ⟨(y 1).val % 640, Nat.mod_lt _ (by decide)⟩) (k0_off5_eq ⟨k, hk'⟩)
          (Fin.forall_fin_two.mpr ⟨hr, by show (y 1).val = 1920 + (y 1).val % 640; omega⟩)).trans ?_
        unfold wF fieldP
        rw [if_neg (by omega), if_neg (by omega), if_neg (by omega)]
        subst hd; rfl

section
variable (X2 : BufTy.Contents (Elt F) u2.view.ty) (X3 : BufTy.Contents (Elt F) u3.view.ty) (X5 : BufTy.Contents (Elt F) u5.view.ty) (X10 : BufTy.Contents (Elt F) u10.view.ty) (X11 : BufTy.Contents (Elt F) u11.view.ty)

/-- The one piece trip `k` of the projection stores. -/
theorem trip_h (x0 : Vec F S512x2560 .i8) (x1 : Vec F S512x1 .f32) (x2 : Vec F S512x2560 .bf16) (x4 : Vec F S1 .f32) (w : Vec F S2560x2560 .bf16)
    (h2 : u2.view.read (Elt F) X2 = x1) (h3 : u3.view.read (Elt F) X3 = x2) (h5 : u5.view.read (Elt F) X5 = x4)
    (h10 : u10.view.read (Elt F) X10 = w) (h11 : u11.view.read (Elt F) X11 = k0_pay2 x0) (k : Fin k0_t2_loop.trips) :
    tripL_k0_t2 (F := F) 𝒱 c bd i u1 w1 u2 w2 u3 w3 u4 w4 u5 w5 u6 w6 u7 w7 u8 w8 u9 w9 u10 w10 u11 w11 u12 w12 X2 X3 X5 X10 X11 k
      = [⟨Rect.unit (s := S512x2560) (k0_off7 k) S512x256.size (k0_off7_inb k), hT x0 x1 x2 x4 w k⟩] := by
  subst h2 h3 h5 h10
  unfold hT
  rw [← h11, ← View.readAt_full u11.view X11 inb_S512x2560_S512x2560_0_0, ← View.readAt_full u2.view X2 inb_S512x1_S512x1_0_0]
  unfold tripL_k0_t2 trip_k0_t2
  dsimp only
  sl_unfold_words
  refine congrArg (fun w => [(⟨Rect.unit (s := S512x2560) (k0_off7 k) S512x256.size (k0_off7_inb k), w⟩ : View.Piece (Elt F) S512x2560 .f32)]) ?_
  refine congr (congr (congr (congr (congrArg k0_pay3 rfl) rfl) rfl) rfl) ?_
  exact congrArg (u5.view.read (Elt F) X5) (funext (Fin.forall_fin_one.mpr rfl))

/-- After the trips before `k` the columns of `h` below `256 * k` hold their values. -/
theorem loop_h (x0 : Vec F S512x2560 .i8) (x1 : Vec F S512x1 .f32) (x2 : Vec F S512x2560 .bf16) (x4 : Vec F S1 .f32) (w : Vec F S2560x2560 .bf16)
    (h2 : u2.view.read (Elt F) X2 = x1) (h3 : u3.view.read (Elt F) X3 = x2) (h5 : u5.view.read (Elt F) X5 = x4)
    (h10 : u10.view.read (Elt F) X10 = w) (h11 : u11.view.read (Elt F) X11 = k0_pay2 x0)
    (G : BufTy.Contents (Elt F) u7.view.ty) (k : ℕ) (hk : k ≤ 10) (y : S512x2560.Idx) (hy : (y 1).val < 256 * k) :
    u7.view.read (Elt F) (u7.view.writes (Elt F) G (pb_k0_t2 (F := F) 𝒱 c bd i u1 w1 u2 w2 u3 w3 u4 w4 u5 w5 u6 w6 u7 w7 u8 w8 u9 w9 u10 w10 u11 w11 u12 w12 X2 X3 X5 X10 X11 k)) y
      = hF x0 x1 x2 x4 w y := by
  induction k with
  | zero => omega
  | succ k ih =>
    have hk' : k < k0_t2_loop.trips := by rw [trips2]; omega
    rw [pb_k0_t2_succ (F := F) 𝒱 c bd i u1 w1 u2 w2 u3 w3 u4 w4 u5 w5 u6 w6 u7 w7 u8 w8 u9 w9 u10 w10 u11 w11 u12 w12 X2 X3 X5 X10 X11 ⟨k, hk'⟩]
    rw [trip_h 𝒱 c bd i u1 w1 u2 w2 u3 w3 u4 w4 u5 w5 u6 w6 u7 w7 u8 w8 u9 w9 u10 w10 u11 w11 u12 w12 X2 X3 X5 X10 X11 x0 x1 x2 x4 w h2 h3 h5 h10 h11 ⟨k, hk'⟩, List.singleton_append]
    by_cases hlt : (y 1).val < 256 * k
    · rw [View.read_writes_cons_unit_of_not_mem _ _ _ _ _ y (k0_off7_eq ⟨k, hk'⟩) (1 : Fin 2) (Or.inl hlt)]
      exact ih (by omega) hlt
    · have hd : (y 1).val / 256 = k := by omega
      refine (View.read_writes_cons_unit_of_mem _ _ _ _ _ y (ix2 (y 0) ⟨(y 1).val % 256, Nat.mod_lt _ (by decide)⟩) (k0_off7_eq ⟨k, hk'⟩)
        (Fin.forall_fin_two.mpr ⟨(Nat.zero_add _).symm, by show (y 1).val = 256 * k + (y 1).val % 256; omega⟩)).trans ?_
      unfold hF
      subst hd
      rfl
end

variable (X4 : BufTy.Contents (Elt F) u4.view.ty) (X7 : BufTy.Contents (Elt F) u7.view.ty)

/-- The two pieces trip `k` of the third loop stores. -/
theorem trip_rows (h : Vec F S512x2560 .f32) (x3 : Vec F S1x2560 .f32)
    (h4 : u4.view.read (Elt F) X4 = x3) (h7 : u7.view.read (Elt F) X7 = h) (k : Fin k0_t3_loop.trips) :
    tripL_k0_t3 (F := F) 𝒱 c bd i u1 w1 u2 w2 u3 w3 u4 w4 u5 w5 u6 w6 u7 w7 u8 w8 u9 w9 u10 w10 u11 w11 u12 w12 X4 X7 k
      = ([⟨Rect.unit (s := S512x2560) (k0_off8 k) S32x2560.size (k0_off8_inb k), k0_pay10 (rowsT h k) x3⟩],
         [⟨Rect.unit (s := S512x128) (k0_off9 k) S32x128.size (k0_off9_inb k), k0_pay11 (rowsT h k) x3⟩]) := by
  subst h4 h7
  rw [← View.readAt_full u4.view X4 inb_S1x2560_S1x2560_0_0]
  unfold tripL_k0_t3 trip_k0_t3
  dsimp only
  sl_unfold_words
  rfl

/-- A buffer written strip by strip: after the trips before `k` its rows below `32 * k` hold the strips. -/
theorem strips {n : ℕ} {e : EltTy} (v : View sig .tc .vmem ⟨2, ![512, n]⟩ e) (G : BufTy.Contents (Elt F) v.ty)
    (w : Fin k0_t3_loop.trips → Vec F ⟨2, ![32, n]⟩ e) (off : Fin k0_t3_loop.trips → Fin 2 → ℕ)
    (inb : ∀ k a, off k a + (⟨2, ![32, n]⟩ : Shape).size a ≤ (⟨2, ![512, n]⟩ : Shape).size a)
    (hoff : ∀ k, off k = ![32 * k.val, 0]) (L : ℕ → List (View.Piece (Elt F) ⟨2, ![512, n]⟩ e))
    (hL : ∀ k : Fin k0_t3_loop.trips, L (k.val + 1) = ⟨Rect.unit (s := ⟨2, ![512, n]⟩) (off k) (⟨2, ![32, n]⟩ : Shape).size (inb k), w k⟩ :: L k.val)
    (k : ℕ) (hk : k ≤ 16) (y : (⟨2, ![512, n]⟩ : Shape).Idx) (hy : (y 0).val < 32 * k) :
    v.read (Elt F) (v.writes (Elt F) G (L k)) y = w (rowTrip (y 0)) (ix2 (rowIn (y 0)) (y 1)) := by
  induction k with
  | zero => omega
  | succ k ih =>
    have hk' : k < k0_t3_loop.trips := by rw [trips3]; omega
    rw [hL ⟨k, hk'⟩]
    by_cases hlt : (y 0).val < 32 * k
    · rw [View.read_writes_cons_unit_of_not_mem _ _ _ _ _ y (hoff ⟨k, hk'⟩) (0 : Fin 2) (Or.inl hlt)]
      exact ih (by omega) hlt
    · have hd : rowTrip (y 0) = ⟨k, hk'⟩ := Fin.ext (by show (y 0).val / 32 = k; omega)
      refine (View.read_writes_cons_unit_of_mem _ _ _ _ _ y (ix2 (rowIn (y 0)) (y 1)) (hoff ⟨k, hk'⟩)
        (Fin.forall_fin_two.mpr ⟨by show (y 0).val = 32 * k + (y 0).val % 32; omega, (Nat.zero_add _).symm⟩)).trans ?_
      rw [hd]; rfl

/-- What the third loop leaves in its two buffers. -/
theorem loop_rows (h : Vec F S512x2560 .f32) (x3 : Vec F S1x2560 .f32)
    (h4 : u4.view.read (Elt F) X4 = x3) (h7 : u7.view.read (Elt F) X7 = h)
    (G8 : BufTy.Contents (Elt F) u8.view.ty) (G12 : BufTy.Contents (Elt F) u12.view.ty) :
    u8.view.read (Elt F) (u8.view.writes (Elt F) G8 (pb_k0_t3 (F := F) 𝒱 c bd i u1 w1 u2 w2 u3 w3 u4 w4 u5 w5 u6 w6 u7 w7 u8 w8 u9 w9 u10 w10 u11 w11 u12 w12 X4 X7 16).1) = codesF h x3
    ∧ u12.view.read (Elt F) (u12.view.writes (Elt F) G12 (pb_k0_t3 (F := F) 𝒱 c bd i u1 w1 u2 w2 u3 w3 u4 w4 u5 w5 u6 w6 u7 w7 u8 w8 u9 w9 u10 w10 u11 w11 u12 w12 X4 X7 16).2) = scaleL h x3 := by
  have hL := fun k : Fin k0_t3_loop.trips => (pb_k0_t3_succ (F := F) 𝒱 c bd i u1 w1 u2 w2 u3 w3 u4 w4 u5 w5 u6 w6 u7 w7 u8 w8 u9 w9 u10 w10 u11 w11 u12 w12 X4 X7 k).trans
    (by rw [trip_rows 𝒱 c bd i u1 w1 u2 w2 u3 w3 u4 w4 u5 w5 u6 w6 u7 w7 u8 w8 u9 w9 u10 w10 u11 w11 u12 w12 X4 X7 h x3 h4 h7 k])
  refine ⟨funext fun y => ?_, funext fun y => ?_⟩
  · exact strips u8.view G8 (fun k => k0_pay10 (rowsT h k) x3) k0_off8 k0_off8_inb k0_off8_eq
      (fun k => (pb_k0_t3 (F := F) 𝒱 c bd i u1 w1 u2 w2 u3 w3 u4 w4 u5 w5 u6 w6 u7 w7 u8 w8 u9 w9 u10 w10 u11 w11 u12 w12 X4 X7 k).1) (fun k => congrArg (fun p => p.1) (hL k)) 16 le_rfl y (y 0).isLt
  · exact strips u12.view G12 (fun k => k0_pay11 (rowsT h k) x3) k0_off9 k0_off9_inb k0_off9_eq
      (fun k => (pb_k0_t3 (F := F) 𝒱 c bd i u1 w1 u2 w2 u3 w3 u4 w4 u5 w5 u6 w6 u7 w7 u8 w8 u9 w9 u10 w10 u11 w11 u12 w12 X4 X7 k).2) (fun k => congrArg (fun p => p.2) (hL k)) 16 le_rfl y (y 0).isLt
end

/-! ## The body at one grid point -/

set_option maxHeartbeats 3200000 in
/-- The body, run on whole buffers: the inputs are handed back as they were, the outputs hold `h`, the codes and the
    scales of its rows, the first scratch buffer the unpacked weights. At a point that does not unpack, that buffer
    must hold them already. -/
theorem kernelRun (c : Dev nD) (i : grid0.Coords) (u1 : Memref sig .tc .vmem S512x2560 .i8) (w1 : u1.IsWhole) (u2 : Memref sig .tc .vmem S512x1 .f32) (w2 : u2.IsWhole) (u3 : Memref sig .tc .vmem S512x2560 .bf16) (w3 : u3.IsWhole) (u4 : Memref sig .tc .vmem S1x2560 .f32) (w4 : u4.IsWhole) (u5 : Memref sig .tc .smem S1 .f32) (w5 : u5.IsWhole) (u6 : Memref sig .tc .vmem S2560x640 .i8) (w6 : u6.IsWhole) (u7 : Memref sig .tc .vmem S512x2560 .f32) (w7 : u7.IsWhole) (u8 : Memref sig .tc .vmem S512x2560 .i8) (w8 : u8.IsWhole) (u9 : Memref sig .tc .vmem S1x4x128 .f32) (w9 : u9.IsWhole) (u10 : Memref sig .tc .vmem S2560x2560 .bf16) (w10 : u10.IsWhole) (u11 : Memref sig .tc .vmem S512x2560 .bf16) (w11 : u11.IsWhole) (u12 : Memref sig .tc .vmem S512x128 .f32) (w12 : u12.IsWhole)
    (x0 : Vec F S512x2560 .i8) (x1 : Vec F S512x1 .f32) (x2 : Vec F S512x2560 .bf16) (x3 : Vec F S1x2560 .f32) (x4 : Vec F S1 .f32) (x5 : Vec F S2560x640 .i8)
    (d : Vec F S2560x2560 .bf16) (hd : ¬ k0_cond1 i = 1#1 → d = wF x5) :
      ∀ (E : Set ℕ) (K : PUnit → sProp 𝕄),
        iprop(owns (c : Thread nD τ) u1 fullShare x0 ∗ owns (c : Thread nD τ) u2 fullShare x1 ∗ owns (c : Thread nD τ) u3 fullShare x2 ∗ owns (c : Thread nD τ) u4 fullShare x3 ∗ owns (c : Thread nD τ) u5 fullShare x4 ∗ owns (c : Thread nD τ) u6 fullShare x5 ∗ (∃ d, owns (c : Thread nD τ) u7 fullShare d) ∗ (∃ d, owns (c : Thread nD τ) u8 fullShare d) ∗ (∃ d, owns (c : Thread nD τ) u9 fullShare d) ∗ owns (c : Thread nD τ) u10 fullShare d ∗ (∃ d, owns (c : Thread nD τ) u11 fullShare d) ∗ (∃ d, owns (c : Thread nD τ) u12 fullShare d)
            ∗ (iprop(owns (c : Thread nD τ) u1 fullShare x0 ∗ owns (c : Thread nD τ) u2 fullShare x1 ∗ owns (c : Thread nD τ) u3 fullShare x2 ∗ owns (c : Thread nD τ) u4 fullShare x3 ∗ owns (c : Thread nD τ) u5 fullShare x4 ∗ owns (c : Thread nD τ) u6 fullShare x5 ∗ owns (c : Thread nD τ) u7 fullShare (hF x0 x1 x2 x4 (wF x5)) ∗ owns (c : Thread nD τ) u8 fullShare (codesF (hF x0 x1 x2 x4 (wF x5)) x3) ∗ owns (c : Thread nD τ) u9 fullShare (k0_pay4 (scaleL (hF x0 x1 x2 x4 (wF x5)) x3)) ∗ owns (c : Thread nD τ) u10 fullShare (wF x5) ∗ (∃ d, owns (c : Thread nD τ) u11 fullShare d) ∗ (∃ d, owns (c : Thread nD τ) u12 fullShare d)) -∗ K ⟨⟩))
          ⊢ wp frame (wpE (defs₀ (F := F)) Variants.none c none) E (cc0_oproj i u1 w1 u2 w2 u3 w3 u4 w4 u5 w5 u6 w6 u7 w7 u8 w8 u9 w9 u10 w10 u11 w11 u12 w12) K := by
    intro E K
    simp only [cc0_oproj_eq_skeleton]; unfold cc0_oproj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%ds1, %fs1, -, HS1⟩, ⟨%ds2, %fs2, -, HS2⟩, Hk⟩
    obtain rfl := w1.eq_unread hf0; obtain rfl := w2.eq_unread hf1; obtain rfl := w3.eq_unread hf2; obtain rfl := w4.eq_unread hf3; obtain rfl := w5.eq_unread hf4; obtain rfl := w6.eq_unread hf5
    by_cases hc : k0_cond1 i = 1#1 <;> first | simp only [dif_pos hc] | simp only [dif_neg hc]
    all_goals
      sl_exec
      sl_step
      iapply Hk
      isplitl [H0]
      · iexists _; isplitr; · ipureintro; exact w1.read_unread _
        iexact H0
      isplitl [H1]
      · iexists _; isplitr; · ipureintro; exact w2.read_unread _
        iexact H1
      isplitl [H2]
      · iexists _; isplitr; · ipureintro; exact w3.read_unread _
        iexact H2
      isplitl [H3]
      · iexists _; isplitr; · ipureintro; exact w4.read_unread _
        iexact H3
      isplitl [H4]
      · iexists _; isplitr; · ipureintro; exact w5.read_unread _
        iexact H4
      isplitl [H5]
      · iexists _; isplitr; · ipureintro; exact w6.read_unread _
        iexact H5
      isplitl [H6]
      · iexists _; isplitr; swap; · iexact H6
        ipureintro
        sl_unfold_words
        simp only [show Scf.trips k0_t1_loop.lb k0_t1_loop.ub k0_t1_loop.st = 20 from trips1, show Scf.trips k0_t2_loop.lb k0_t2_loop.ub k0_t2_loop.st = 10 from trips2]
        funext y
        refine loop_h Variants.none c none i u1 w1 u2 w2 u3 w3 u4 w4 u5 w5 u6 w6 u7 w7 u8 w8 u9 w9 u10 w10 u11 w11 u12 w12 _ _ _ _ _ x0 x1 x2 x4 (wF x5) hf1 hf2 hf4 ?_ ?_ f6 10 le_rfl y (y 1).isLt
        · (first | exact hfs0.trans (hd hc) | exact funext fun y => loop_w Variants.none c none i u1 w1 u2 w2 u3 w3 u4 w4 u5 w5 u6 w6 u7 w7 u8 w8 u9 w9 u10 w10 u11 w11 u12 w12 hc _ x5 hf5 fs0 20 le_rfl y (y 0).isLt)
        · refine (View.read_writes_full _ _ _ _ _).trans ?_
          rw [View.readAt_full, hf0]
      isplitl [H7]
      · iexists _; isplitr; swap; · iexact H7
        ipureintro
        sl_unfold_words
        simp only [show Scf.trips k0_t1_loop.lb k0_t1_loop.ub k0_t1_loop.st = 20 from trips1, show Scf.trips k0_t2_loop.lb k0_t2_loop.ub k0_t2_loop.st = 10 from trips2, show Scf.trips k0_t3_loop.lb k0_t3_loop.ub k0_t3_loop.st = 16 from trips3]
        refine (loop_rows Variants.none c none i u1 w1 u2 w2 u3 w3 u4 w4 u5 w5 u6 w6 u7 w7 u8 w8 u9 w9 u10 w10 u11 w11 u12 w12 _ _ (hF x0 x1 x2 x4 (wF x5)) x3 hf3 ?_ f7 fs2).1
        funext y
        refine loop_h Variants.none c none i u1 w1 u2 w2 u3 w3 u4 w4 u5 w5 u6 w6 u7 w7 u8 w8 u9 w9 u10 w10 u11 w11 u12 w12 _ _ _ _ _ x0 x1 x2 x4 (wF x5) hf1 hf2 hf4 ?_ ?_ f6 10 le_rfl y (y 1).isLt
        · (first | exact hfs0.trans (hd hc) | exact funext fun y => loop_w Variants.none c none i u1 w1 u2 w2 u3 w3 u4 w4 u5 w5 u6 w6 u7 w7 u8 w8 u9 w9 u10 w10 u11 w11 u12 w12 hc _ x5 hf5 fs0 20 le_rfl y (y 0).isLt)
        · refine (View.read_writes_full _ _ _ _ _).trans ?_
          rw [View.readAt_full, hf0]
      isplitl [H8]
      · iexists _; isplitr; swap; · iexact H8
        ipureintro
        refine (View.read_writes_full _ _ _ _ _).trans ?_
        sl_unfold_words
        simp only [show Scf.trips k0_t1_loop.lb k0_t1_loop.ub k0_t1_loop.st = 20 from trips1, show Scf.trips k0_t2_loop.lb k0_t2_loop.ub k0_t2_loop.st = 10 from trips2, show Scf.trips k0_t3_loop.lb k0_t3_loop.ub k0_t3_loop.st = 16 from trips3]
        refine congrArg k0_pay4 ((View.readAt_full _ _ _).trans (loop_rows Variants.none c none i u1 w1 u2 w2 u3 w3 u4 w4 u5 w5 u6 w6 u7 w7 u8 w8 u9 w9 u10 w10 u11 w11 u12 w12 _ _ (hF x0 x1 x2 x4 (wF x5)) x3 hf3 ?_ f7 fs2).2)
        funext y
        refine loop_h Variants.none c none i u1 w1 u2 w2 u3 w3 u4 w4 u5 w5 u6 w6 u7 w7 u8 w8 u9 w9 u10 w10 u11 w11 u12 w12 _ _ _ _ _ x0 x1 x2 x4 (wF x5) hf1 hf2 hf4 ?_ ?_ f6 10 le_rfl y (y 1).isLt
        · (first | exact hfs0.trans (hd hc) | exact funext fun y => loop_w Variants.none c none i u1 w1 u2 w2 u3 w3 u4 w4 u5 w5 u6 w6 u7 w7 u8 w8 u9 w9 u10 w10 u11 w11 u12 w12 hc _ x5 hf5 fs0 20 le_rfl y (y 0).isLt)
        · refine (View.read_writes_full _ _ _ _ _).trans ?_
          rw [View.readAt_full, hf0]
      isplitl [HS0]
      · iexists _; isplitr; swap; · iexact HS0
        ipureintro
        sl_unfold_words
        try simp only [show Scf.trips k0_t1_loop.lb k0_t1_loop.ub k0_t1_loop.st = 20 from trips1]
        (first | exact hfs0.trans (hd hc) | exact funext fun y => loop_w Variants.none c none i u1 w1 u2 w2 u3 w3 u4 w4 u5 w5 u6 w6 u7 w7 u8 w8 u9 w9 u10 w10 u11 w11 u12 w12 hc _ x5 hf5 fs0 20 le_rfl y (y 0).isLt)
      isplitl [HS1]
      · iexists _, _; isplitr; swap; · iexact HS1
        ipureintro; rfl
      iexists _, _; isplitr; swap; · iexact HS2
      ipureintro; rfl

variable (m : (ℓ : Loc nD τ sig) → Buf (Elt F) ℓ) (ρ : Dev nD → PrngReg)

/-! ## The pipeline's proof data -/

/-- The unpacked weights, from the packed block the first point fetches. -/
def wB (c : Dev nD) : Vec F S2560x2560 .bf16 := wF (iblk m c 5 t0_0)

/-- Every point's packed block is the first point's: the whole array. -/
theorem iblk5_const (c : Dev nD) (t : Fin cfg0.N) : (iblk m c 5 t : Vec F S2560x640 .i8) = iblk m c 5 t0_0 := rfl

/-- `h`'s 512 rows at point `t`. -/
def hB (c : Dev nD) (t : Fin cfg0.N) : Vec F S512x2560 .f32 :=
  hF (iblk m c 0 t) (iblk m c 1 t) (iblk m c 2 t) (iblk m c 4 t) (wB m c)

/-- The kernel's scratch buffers, whole. -/
abbrev scM0_0 : Memref sig .tc .vmem S2560x2560 .bf16 := Memref.whole cc0_scratch0
abbrev scM0_1 : Memref sig .tc .vmem S512x2560 .bf16 := Memref.whole cc0_scratch1
abbrev scM0_2 : Memref sig .tc .vmem S512x128 .f32 := Memref.whole cc0_scratch2

/-- The invariant after the first point: the first scratch buffer holds the unpacked weights. -/
def carried (c : Dev nD) : sProp 𝕄 :=
  iprop(iprop(owns (c : Thread nD τ) scM0_0 fullShare (wB m c) ∗ (∃ d, owns (c : Thread nD τ) scM0_1 fullShare d) ∗ (∃ d, owns (c : Thread nD τ) scM0_2 fullShare d)) ∗ (∃ r, prngReg c r))

/-- The proof data: the arrays as found, each input's block left in place, the outputs at their values, the unpacked
    weights carried from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hB m c t
    | ⟨7, _⟩ => codesF (hB m c t) (iblk m c 3 t)
    | ⟨8, _⟩ => k0_pay4 (scaleL (hB m c t) (iblk m c 3 t))
  Φ t := if t.val = 0 then Pipeline.ΦA spec0 c else carried m c
  q _ := fullShare
  owed _ := 0

/-- The proof data's arrays are those found at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = hB m c t := by dsimp only [dats]
theorem after0_7 (c : Dev nD) (t : Fin cfg0.N) : (dats m 0 c).after 7 t = codesF (hB m c t) (iblk m c 3 t) := by dsimp only [dats]
theorem after0_8 (c : Dev nD) (t : Fin cfg0.N) : (dats m 0 c).after 8 t = k0_pay4 (scaleL (hB m c t) (iblk m c 3 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at any point -/

/-- The launch's invariant: the scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The carried invariant implies the launch's. -/
theorem carried_forget (c : Dev nD) : carried m c ⊢ (Pipeline.ΦA spec0 c : sProp 𝕄) := by
  rw [PhiA0_eq]; unfold carried
  iintro ⟨⟨HS0, HS1, HS2⟩, Hg⟩
  isplitl [HS0 HS1 HS2]
  · isplitl [HS0]; · iexists _; iexact HS0
    isplitl [HS1]; · iexact HS1
    iexact HS2
  iexact Hg

/-- At the start the invariant is the launch's, -/
theorem Phi_zero (c : Dev nD) (t : Fin (cfg0.N + 1)) (h : t.val = 0) : (dats m 0 c).Φ t = Pipeline.ΦA spec0 c := by
  dsimp only [dats]; exact if_pos h

/-- afterwards the carried one. -/
theorem Phi_pos (c : Dev nD) (t : Fin (cfg0.N + 1)) (h : t.val ≠ 0) : (dats m 0 c).Φ t = carried m c := by
  dsimp only [dats]; exact if_neg h

/-- Before any point the first scratch buffer holds something, and from the second point on the unpacked weights. -/
theorem Phi_open (c : Dev nD) (t : Fin cfg0.N) : (dats m 0 c).Φ t.castSucc ⊢
    (iprop(∃ d, iprop(⌜t.val ≠ 0 → d = wB m c⌝ ∗ iprop(owns (c : Thread nD τ) scM0_0 fullShare d ∗ (∃ d, owns (c : Thread nD τ) scM0_1 fullShare d) ∗ (∃ d, owns (c : Thread nD τ) scM0_2 fullShare d)) ∗ (∃ r, prngReg c r))) : sProp 𝕄) := by
  by_cases h : t.val = 0
  · rw [Phi_zero m c t.castSucc h, PhiA0_eq]
    iintro ⟨⟨⟨%d, HS0⟩, HS1, HS2⟩, Hg⟩
    iexists d
    isplitr
    · ipureintro; exact fun h' => absurd h h'
    isplitl [HS0 HS1 HS2]
    · isplitl [HS0]; · iexact HS0
      isplitl [HS1]; · iexact HS1
      iexact HS2
    iexact Hg
  · rw [Phi_pos m c t.castSucc h]
    unfold carried
    iintro ⟨⟨HS0, HS1, HS2⟩, Hg⟩
    iexists _
    isplitr
    · ipureintro; exact fun _ => rfl
    isplitl [HS0 HS1 HS2]
    · isplitl [HS0]; · iexact HS0
      isplitl [HS1]; · iexact HS1
      iexact HS2
    iexact Hg

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 3200000 in
/-- The body at any point takes the blocks to what the proof data states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [Phi_pos m c t.succ (Nat.succ_ne_zero _),
    show (dats m 0 c).owesAt () t.succ = (dats m 0 c).owesAt () t.castSucc from rfl,
    after0_0, after0_1, after0_2, after0_3, after0_4, after0_5, after0_6, after0_7, after0_8]
  refine (sep_mono (Phi_open m c t) .rfl).trans ?_
  unfold carried hB wB
  iintro ⟨⟨%dw, %hdw, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) dw (fun hc => hdw fun h0 => hc ((cond_iff t).mpr h0))) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every execution ends, with the arrays at what the proof data states and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => (Phi_zero m c 0 rfl) ▸ .rfl)
    (hout := fun c => (Phi_pos m c (Fin.last cfg0.N) (by decide)) ▸ carried_forget m c) (Q' := _)

/-- Every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.OprojIdeal.Val
-- ==== Proof.OprojFrame.lean ====
module

public import proofs.«01_k».proof.Defs
public import proofs.«01_k».proof.Proof.OprojIdealVal
public import proofs.«01_k».proof.Proof.Gen.Oproj

@[expose] public section
noncomputable section
/-! The frame of the output projection: its program and the idealized one print the same operations, so the idealized program's frame,
    proved at any number format, is the program's. -/
namespace Cert.OprojClaims
open Idealize.ShloMosaic Idealize.SL.Sem

/-- The two kernels are one. -/
theorem kernel_eq : @Cert.Oproj.cc0_oproj Bits _ _ = @Cert.OprojIdeal.cc0_oproj Bits _ _ := by
  funext i
  unfold Cert.Oproj.cc0_oproj Cert.OprojIdeal.cc0_oproj
  rfl

/-- The two body tables are one, -/
theorem bodies_eq : (Cert.Oproj.defs₀ (F := Bits)) = Cert.OprojIdeal.defs₀ (F := Bits) := by
  unfold Cert.Oproj.defs₀ Cert.OprojIdeal.defs₀
  refine congrArg Defs.onTc (funext fun l => funext fun x => ?_)
  match l, x with
  | 0, (t, s) =>
    dsimp only
    rw [kernel_eq]
    rfl

/-- with the pipelines too. -/
theorem defs_eq : (Cert.Oproj.defs (F := Bits)) = Cert.OprojIdeal.defs (F := Bits) := by
  unfold Cert.Oproj.defs Cert.OprojIdeal.defs
  rw [bodies_eq]
  rfl

/-- Every execution ends with the argument arrays unchanged and every counter at zero. -/
theorem frame : Cert.quiescent_Oproj := by
  intro m ρ _
  rw [defs_eq]
  exact Cert.OprojIdeal.Val.frame (F := Bits) m ρ

end Cert.OprojClaims
-- ==== Proof.OprojEq.lean ====
module

public import proofs.«01_k».proof.Defs
public import proofs.«01_k».proof.Proof.OprojIdealVal
public import proofs.«01_k».proof.Proof.Tern
public import proofs.«01_k».proof.Proof.RowQuant
public import proofs.«01_k».proof.Proof.RowSpec
public import proofs.«01_k».proof.Proof.OprojRefEq
public import Idealize.ShloMosaic.Lib.MatmulPlain
public import Idealize.ShloMosaic.Lib.Pointwise
public import Idealize.ShloMosaic.Lib.Pipeline.ValueKit

@[expose] public section
set_option maxRecDepth 16384
noncomputable section
/-! The output projection kernel's three results as formulas of its arguments, row by row, and their equality with the
    reference's. -/
namespace Cert.OprojIdeal.Val
open Cert.OprojIdeal Cert.OprojIdeal.Gen
open Idealize.ShloMosaic Idealize.ShloMosaic.TcCoe Idealize.ShloMosaic.Tactic
open Idealize.SL Idealize.SL.Sem
open Idealize.ShloMosaic.Pipeline (Dat Cfg Window)
open Cert.Tern Cert.RowSpec

/-! ## The unpacked weights -/

/-- A tile's unpacking by the words' shift `s = 2 f`: field `f` of each byte, less one. -/
theorem tail_apply (X : Vec Ideal S128x640 .i8) (s : BitVec 32) (f : ℕ) (hf : f < 4) (hs : s = BitVec.ofNat 32 (2 * f)) (a : Fin 128) (l : Fin 640) :
    shapeCast S128x640 (subf (sitofp (F := Ideal) .bf16 (bitcast S128x640 8 (andi (shrui (bitcast S32x640 32 X bitcasts_S128x640_w8_S32x640_w32)
        (broadcast S32x640 s)) (broadcast S32x640 50529027#32)) bitcasts_S32x640_w32_S128x640_w8)) (broadcast S128x640 (Scalar.ofBits .bf16 0x3F80#16)))
        shapeCasts_S128x640_S128x640 (ix2 a l)
      = tern (X (ix2 a l)) f := by
  rw [shapeCast_self, ← ker_field]
  refine congrArg (fun b : BitVec 8 => ((b.toInt : ℝ) : EReal) - Ideal.ofBits .bf16 0x3F80#16) ?_
  exact unpack_apply X _ _ s f hf hs a l

/-- Field `f` of a packed tile, at an index. -/
theorem fieldP_apply (f : ℕ) (hf : f < 4) (X : Vec Ideal S128x640 .i8) (a : Fin 128) (l : Fin 640) :
    fieldP (F := Ideal) f X (ix2 a l) = tern (X (ix2 a l)) f := by
  unfold fieldP
  by_cases h0 : f = 0
  · rw [if_pos h0]; unfold k0_pay5; exact tail_apply X _ f hf (by rw [h0]) a l
  by_cases h1 : f = 1
  · rw [if_neg h0, if_pos h1]; unfold k0_pay6; exact tail_apply X _ f hf (by rw [h1]) a l
  by_cases h2 : f = 2
  · rw [if_neg h0, if_neg h1, if_pos h2]; unfold k0_pay7; exact tail_apply X _ f hf (by rw [h2]) a l
  · rw [if_neg h0, if_neg h1, if_neg h2]; unfold k0_pay1; exact tail_apply X _ f hf (by rw [show f = 3 by omega]) a l

/-- The unpacked weights, at an index: column `C` is field `C / 640` of byte column `C % 640`. -/
theorem wF_apply (x : Vec Ideal S2560x640 .i8) (a : Fin 2560) (C : Fin 2560) :
    wF (F := Ideal) x (ix2 a C) = tern (x (ix2 a ⟨C.val % 640, Nat.mod_lt _ (by decide)⟩)) (C.val / 640) := by
  have hC := C.isLt
  refine (fieldP_apply (C.val / 640) (by omega) _ ⟨a.val % 128, Nat.mod_lt _ (by decide)⟩ ⟨C.val % 640, Nat.mod_lt _ (by decide)⟩).trans ?_
  refine congrArg (fun b => tern b (C.val / 640)) ?_
  exact window2 x _ _ (k0_off1_eq _) _ _ a ⟨C.val % 640, Nat.mod_lt _ (by decide)⟩ (by show a.val = 128 * (a.val / 128) + a.val % 128; omega) (Nat.zero_add _).symm

/-! ## The projection -/

theorem pay2_apply (x0 : Vec Ideal S512x2560 .i8) (r : Fin 512) (k : Fin 2560) :
    k0_pay2 (F := Ideal) x0 (ix2 r k) = (((x0 (ix2 r k)).toInt : ℝ) : EReal) := by
  pointwise [k0_pay2]
  rfl

theorem pay3_apply (A : Vec Ideal S512x2560 .bf16) (B : Vec Ideal S2560x256 .bf16) (X : Vec Ideal S512x256 .bf16) (S : Vec Ideal S512x1 .f32) (s : Elt Ideal .f32) (r : Fin 512) (l : Fin 256) :
    k0_pay3 (F := Ideal) A B X S s (ix2 r l) = X (ix2 r l) + (∑ x, A (ix2 r x) * B (ix2 x l)) * S (ix2 r 0) * s := by
  pointwise [k0_pay3]

/-- `h` of the input blocks. -/
theorem hF_apply (x0 : Vec Ideal S512x2560 .i8) (x1 : Vec Ideal S512x1 .f32) (x2 : Vec Ideal S512x2560 .bf16) (x4 : Vec Ideal S1 .f32) (w : IVec S2560x640 8) (r : Fin 512) (C : Fin 2560) :
    hF (F := Ideal) x0 x1 x2 x4 (wF w) (ix2 r C)
      = x2 (ix2 r C) + dotP (n := 640) (by decide) (fun k => x0 (ix2 r k)) (fun k p => w (ix2 k p)) C.val * x1 (ix2 r 0) * x4 (ix1 0) := by
  have hC := C.isLt
  have e : C.val = 256 * (C.val / 256) + C.val % 256 := by omega
  refine (pay3_apply _ _ _ _ _ r ⟨C.val % 256, Nat.mod_lt _ (by decide)⟩).trans ?_
  refine congrArg₂ (fun u z : EReal => u + z * x1 (ix2 r 0) * x4 (ix1 0)) ?_ ?_
  · exact window2 x2 _ _ (k0_off7_eq _) _ _ r C (Nat.zero_add _).symm e
  · refine Finset.sum_congr rfl fun k _ => congrArg₂ (· * ·) (pay2_apply x0 r k) ?_
    exact (window2 (wF (F := Ideal) w) _ _ (k0_off6_eq _) _ _ k C (Nat.zero_add _).symm e).trans (wF_apply w k C)

/-! ## Normalisation and quantisation -/

theorem pay8_apply (M : Vec Ideal S32x2560 .f32) (g : Vec Ideal S1x2560 .f32) (r : Fin 32) (C : Fin 2560) :
    k0_pay8 (F := Ideal) M g (ix2 r C) = normed (fun x => M (ix2 r x)) (fun x => g (ix2 0 x)) C := by
  pointwise [k0_pay8]
  rfl

theorem pay9_apply (M : Vec Ideal S32x2560 .f32) (g : Vec Ideal S1x2560 .f32) (r : Fin 32) :
    k0_pay9 (F := Ideal) M g (ix2 r 0) = scl (fun x => M (ix2 r x)) (fun x => g (ix2 0 x)) := by
  unfold k0_pay9
  pointwise
  simp only [pay8_apply]
  rfl

theorem pay10_apply (M : Vec Ideal S32x2560 .f32) (g : Vec Ideal S1x2560 .f32) (r : Fin 32) (C : Fin 2560) :
    k0_pay10 (F := Ideal) M g (ix2 r C) = cod (fun x => M (ix2 r x)) (fun x => g (ix2 0 x)) C := by
  unfold k0_pay10
  pointwise
  rw [pay8_apply, pay9_apply]
  rfl

theorem pay11_apply (M : Vec Ideal S32x2560 .f32) (g : Vec Ideal S1x2560 .f32) (r : Fin 32) (l : Fin 128) :
    k0_pay11 (F := Ideal) M g (ix2 r l) = scl (fun x => M (ix2 r x)) (fun x => g (ix2 0 x)) := by
  unfold k0_pay11
  pointwise
  exact pay9_apply M g r

/-- The strip of 32 rows that holds row `r`, read at that row. -/
theorem rowsT_apply (mm : Vec Ideal S512x2560 .f32) (r : Fin 512) (C : Fin 2560) :
    rowsT (F := Ideal) mm (rowTrip r) (ix2 (rowIn r) C) = mm (ix2 r C) :=
  window2 mm _ _ (k0_off8_eq _) (rowIn r) C r C (by show r.val = 32 * (r.val / 32) + r.val % 32; omega) (Nat.zero_add _).symm

theorem rows_eq (mm : Vec Ideal S512x2560 .f32) (r : Fin 512) :
    (fun C => rowsT (F := Ideal) mm (rowTrip r) (ix2 (rowIn r) C)) = fun C => mm (ix2 r C) :=
  funext fun C => rowsT_apply mm r C

theorem codesF_apply (mm : Vec Ideal S512x2560 .f32) (g : Vec Ideal S1x2560 .f32) (r : Fin 512) (C : Fin 2560) :
    codesF (F := Ideal) mm g (ix2 r C) = cod (fun x => mm (ix2 r x)) (fun x => g (ix2 0 x)) C := by
  exact (pay10_apply _ _ (rowIn r) C).trans (congrArg (fun v => cod v (fun x => g (ix2 0 x)) C) (rows_eq mm r))

theorem scaleL_apply (mm : Vec Ideal S512x2560 .f32) (g : Vec Ideal S1x2560 .f32) (r : Fin 512) (l : Fin 128) :
    scaleL (F := Ideal) mm g (ix2 r l) = scl (fun x => mm (ix2 r x)) (fun x => g (ix2 0 x)) := by
  exact (pay11_apply _ _ (rowIn r) l).trans (congrArg (fun v => scl v (fun x => g (ix2 0 x))) (rows_eq mm r))

/-- The lane buffer's diagonal, laid out in 4 by 128: row `128 a + b`, lane `b`. -/
theorem pay4_apply (M : Vec Ideal S512x128 .f32) (a : Fin 4) (b : Fin 128) :
    k0_pay4 (F := Ideal) M (ix3 0 a b) = M (ix2 ⟨a.val * 128 + b.val, by omega⟩ b) := by
  unfold k0_pay4
  pointwise
  exact RowQuant.diag_sum (fun x => M (ix2 ⟨a.val * 128 + x.val, by omega⟩ b)) b

/-! ## The result arrays -/

variable (m : (ℓ : Loc nD τ sig) → Buf (Elt Ideal) ℓ) (ρ : Dev nD → PrngReg)

/-- A row of the residual stream plus the projected row. -/
def resid (x : Fin 2560 → EReal) (q : Fin 2560 → BitVec 8) (a : EReal) (w : Fin 2560 → Fin 640 → BitVec 8) (s : EReal) (C : Fin 2560) : EReal :=
  x C + dotP (n := 640) (by decide) q w C.val * a * s

/-- Row `r` of `h`, from the argument arrays. -/
def row (c : Dev nD) (r : Fin 8192) : Fin 2560 → EReal :=
  resid (fun C => m ((c.tc : Thread nD τ).loc main_arg2) (ix2 r C)) (fun k => m ((c.tc : Thread nD τ).loc main_arg0) (ix2 r k))
    (m ((c.tc : Thread nD τ).loc main_arg1) (ix2 r 0)) (fun k p => m ((c.tc : Thread nD τ).loc main_arg5) (ix2 k p)) (m ((c.tc : Thread nD τ).loc main_arg4) (ix1 0))

/-- The normalisation's weights. -/
def gw (c : Dev nD) : Fin 2560 → EReal := fun C => m ((c.tc : Thread nD τ).loc main_arg3) (ix2 0 C)

/-- `h`, as the formula of the argument arrays. -/
def G0 (c : Dev nD) : Buf (Elt Ideal) ((c.tc : Thread nD τ).loc main_v0_0) := fun (i : S8192x2560.Idx) => row m c (i 0) (i 1)

/-- The codes, as the formula of the argument arrays. -/
def G1 (c : Dev nD) : Buf (Elt Ideal) ((c.tc : Thread nD τ).loc main_v0_1) := fun (i : S8192x2560.Idx) => cod (row m c (i 0)) (gw m c) (i 1)

/-- The row of the 8192 at a place of 16 by 4 by 128. -/
def lay (i : S16x4x128.Idx) : Fin 8192 := ⟨512 * (i 0).val + 128 * (i 1).val + (i 2).val, by
  have h0 : (i 0).val < 16 := (i 0).isLt
  have h1 : (i 1).val < 4 := (i 1).isLt
  have h2 : (i 2).val < 128 := (i 2).isLt
  omega⟩

/-- The scales, as the formula of the argument arrays. -/
def G2 (c : Dev nD) : Buf (Elt Ideal) ((c.tc : Thread nD τ).loc main_v0_2) := fun (i : S16x4x128.Idx) => scl (row m c (lay i)) (gw m c)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0, 0] := (by decide +kernel : ∀ t : Fin grid0.N, _)

theorem tlt (t : Fin cfg0.N) : t.val < 16 := by
  have h : cfg0.N = 16 := (by decide +kernel : grid0.N = 16)
  exact h ▸ t.isLt

/-- The codes' block at point `t`, read at an index. -/
theorem iblk0_apply (c : Dev nD) (t : Fin cfg0.N) (r : Fin 512) (k : Fin 2560) :
    (iblk m c 0 t : Vec Ideal S512x2560 .i8) (ix2 r k) = m ((c.tc : Thread nD τ).loc main_arg0) (ix2 ⟨512 * t.val + r.val, by have := tlt t; omega⟩ k) := by
  show ((cfg0.win 0).blk t).view.read (Elt Ideal) (V m c main_arg0) (ix2 r k) = _
  rw [V_main_arg0]
  blk_point [idx0 t]

/-- The row scales' block at point `t`, read at an index. -/
theorem iblk1_apply (c : Dev nD) (t : Fin cfg0.N) (r : Fin 512) :
    (iblk m c 1 t : Vec Ideal S512x1 .f32) (ix2 r 0) = m ((c.tc : Thread nD τ).loc main_arg1) (ix2 ⟨512 * t.val + r.val, by have := tlt t; omega⟩ 0) := by
  show ((cfg0.win 1).blk t).view.read (Elt Ideal) (V m c main_arg1) (ix2 r 0) = _
  rw [V_main_arg1]
  blk_point [idx1 t]

/-- The residual stream's block at point `t`, read at an index. -/
theorem iblk2_apply (c : Dev nD) (t : Fin cfg0.N) (r : Fin 512) (C : Fin 2560) :
    (iblk m c 2 t : Vec Ideal S512x2560 .bf16) (ix2 r C) = m ((c.tc : Thread nD τ).loc main_arg2) (ix2 ⟨512 * t.val + r.val, by have := tlt t; omega⟩ C) := by
  show ((cfg0.win 2).blk t).view.read (Elt Ideal) (V m c main_arg2) (ix2 r C) = _
  rw [V_main_arg2]
  blk_point [idx2 t]

/-- The normalisation's weights, whole at every point. -/
theorem iblk3_apply (c : Dev nD) (t : Fin cfg0.N) (C : Fin 2560) :
    (iblk m c 3 t : Vec Ideal S1x2560 .f32) (ix2 0 C) = m ((c.tc : Thread nD τ).loc main_arg3) (ix2 0 C) := by
  show ((cfg0.win 3).blk t).view.read (Elt Ideal) (V m c main_arg3) (ix2 0 C) = _
  rw [V_main_arg3]
  blk_point [idx3 t]

/-- The matrix's scale, whole at every point. -/
theorem iblk4_apply (c : Dev nD) (t : Fin cfg0.N) (s : Fin 1) :
    (iblk m c 4 t : Vec Ideal S1 .f32) (ix1 s) = m ((c.tc : Thread nD τ).loc main_arg4) (ix1 s) := by
  show ((cfg0.win 4).blk t).view.read (Elt Ideal) (V m c main_arg4) (ix1 s) = _
  rw [V_main_arg4]
  blk_point [idx4 t]

/-- The packed weights, whole at every point. -/
theorem iblk5_apply (c : Dev nD) (t : Fin cfg0.N) (k : Fin 2560) (p : Fin 640) :
    (iblk m c 5 t : Vec Ideal S2560x640 .i8) (ix2 k p) = m ((c.tc : Thread nD τ).loc main_arg5) (ix2 k p) := by
  show ((cfg0.win 5).blk t).view.read (Elt Ideal) (V m c main_arg5) (ix2 k p) = _
  rw [V_main_arg5]
  blk_point [idx5 t]

/-- Row `r` of point `t`'s `h` is row `512 t + r`. -/
theorem hB_row (c : Dev nD) (t : Fin cfg0.N) (r : Fin 512) :
    (fun C => hB (F := Ideal) m c t (ix2 r C)) = row m c ⟨512 * t.val + r.val, by have := tlt t; omega⟩ := by
  funext C
  unfold hB wB
  refine (hF_apply _ _ _ _ _ r C).trans ?_
  unfold row resid
  rw [iblk1_apply, iblk2_apply, iblk4_apply]
  simp only [iblk0_apply, iblk5_apply]

theorem gw_eq (c : Dev nD) (t : Fin cfg0.N) : (fun C => (iblk m c 3 t : Vec Ideal S1x2560 .f32) (ix2 0 C)) = gw m c := by
  funext C; exact iblk3_apply m c t C

/-- `h` of point `t`'s row `r`. -/
theorem blk6_apply (c : Dev nD) (t : Fin cfg0.N) (r : Fin 512) (C : Fin 2560) :
    hB (F := Ideal) m c t (ix2 r C) = row m c ⟨512 * t.val + r.val, by have := tlt t; omega⟩ C :=
  congrFun (hB_row m c t r) C

/-- The codes of point `t`'s row `r`. -/
theorem blk7_apply (c : Dev nD) (t : Fin cfg0.N) (r : Fin 512) (C : Fin 2560) :
    codesF (F := Ideal) (hB m c t) (iblk m c 3 t) (ix2 r C) = cod (row m c ⟨512 * t.val + r.val, by have := tlt t; omega⟩) (gw m c) C :=
  (codesF_apply _ _ r C).trans (congrArg₂ (fun v g => cod v g C) (hB_row m c t r) (gw_eq m c t))

/-- The scales of point `t`, laid out. -/
theorem blk8_apply (c : Dev nD) (t : Fin cfg0.N) (z : Fin 1) (a : Fin 4) (b : Fin 128) :
    k0_pay4 (F := Ideal) (scaleL (hB m c t) (iblk m c 3 t)) (ix3 z a b)
      = scl (row m c ⟨512 * t.val + (a.val * 128 + b.val), by have := tlt t; omega⟩) (gw m c) := by
  obtain rfl : z = 0 := Subsingleton.elim _ _
  exact (pay4_apply _ a b).trans ((scaleL_apply _ _ _ b).trans (congrArg₂ scl (hB_row m c t ⟨a.val * 128 + b.val, by omega⟩) (gw_eq m c t)))

/-- `h`'s array after the run is the formula. -/
theorem arr0_eq (c : Dev nD) : (dats (F := Ideal) m 0 c).arrAt 6 cfg0.N = G0 m c := by
  refine (dats m 0 c).arrAt_eq_of_covers 6 _ (by decide +kernel) fun t hf y => ?_
  blk_simp
  rw [after0_6]
  refine (congrArg _ (eq_ix2 (n0 := 512) (n1 := 2560) y)).trans ((blk6_apply m c t _ _).trans ?_)
  unfold G0
  refine congrArg₂ (fun r C => row m c r C) (Fin.ext ?_) (Fin.ext ?_)
  · blk_simp
    rw [idx6 t]
    show 512 * t.val + (y 0).val = t.val * 512 + (y 0).val
    omega
  · blk_simp
    rw [idx6 t]
    show (y 1).val = 0 * 2560 + (y 1).val
    omega

/-- The codes' array after the run is the formula. -/
theorem arr1_eq (c : Dev nD) : (dats (F := Ideal) m 0 c).arrAt 7 cfg0.N = G1 m c := by
  refine (dats m 0 c).arrAt_eq_of_covers 7 _ (by decide +kernel) fun t hf y => ?_
  blk_simp
  rw [after0_7]
  refine (congrArg _ (eq_ix2 (n0 := 512) (n1 := 2560) y)).trans ((blk7_apply m c t _ _).trans ?_)
  unfold G1
  refine congrArg₂ (fun r C => cod (row m c r) (gw m c) C) (Fin.ext ?_) (Fin.ext ?_)
  · blk_simp
    rw [idx7 t]
    show 512 * t.val + (y 0).val = t.val * 512 + (y 0).val
    omega
  · blk_simp
    rw [idx7 t]
    show (y 1).val = 0 * 2560 + (y 1).val
    omega

/-- The scales' array after the run is the formula. -/
theorem arr2_eq (c : Dev nD) : (dats (F := Ideal) m 0 c).arrAt 8 cfg0.N = G2 m c := by
  refine (dats m 0 c).arrAt_eq_of_covers 8 _ (by decide +kernel) fun t hf y => ?_
  blk_simp
  rw [after0_8]
  refine (congrArg _ (eq_ix3 (n0 := 1) (n1 := 4) (n2 := 128) y)).trans ((blk8_apply m c t _ _ _).trans ?_)
  unfold G2
  refine congrArg (fun r => scl (row m c r) (gw m c)) (Fin.ext ?_)
  unfold lay
  blk_point [idx8 t]
  exact Fin.ext (by dsimp only; omega)

end Cert.OprojIdeal.Val

namespace Cert.OprojClaims
open Idealize.ShloMosaic Idealize.ShloMosaic.TcCoe Idealize.SL.Sem
open Cert.RowSpec

/-- The kernel's run: the three result arrays are the formulas of the arguments. -/
theorem run (m : (ℓ : Loc Cert.OprojIdeal.nD Cert.OprojIdeal.τ Cert.OprojIdeal.sig) → Buf (Elt Ideal) ℓ) (ρ : Dev Cert.OprojIdeal.nD → PrngReg) :
    θ_run Cert.OprojIdeal.defs (onTc (τ := Cert.OprojIdeal.τ) (Cert.OprojIdeal.main (F := Ideal))) ⟨m, fun _ => 0, ρ⟩ fun r =>
      ∀ c : Dev Cert.OprojIdeal.nD, r.2.mem ((c.tc : Thread Cert.OprojIdeal.nD Cert.OprojIdeal.τ).loc Cert.OprojIdeal.main_v0_0) = Cert.OprojIdeal.Val.G0 m c
        ∧ r.2.mem ((c.tc : Thread Cert.OprojIdeal.nD Cert.OprojIdeal.τ).loc Cert.OprojIdeal.main_v0_1) = Cert.OprojIdeal.Val.G1 m c
        ∧ r.2.mem ((c.tc : Thread Cert.OprojIdeal.nD Cert.OprojIdeal.τ).loc Cert.OprojIdeal.main_v0_2) = Cert.OprojIdeal.Val.G2 m c :=
  (θ_run _ _ _).mono (fun _ h c => ⟨((h.1 c).1 6).trans (Cert.OprojIdeal.Val.arr0_eq m c), ((h.1 c).1 7).trans (Cert.OprojIdeal.Val.arr1_eq m c),
    ((h.1 c).1 8).trans (Cert.OprojIdeal.Val.arr2_eq m c)⟩) (Cert.OprojIdeal.Val.run_main (F := Ideal) m ρ)

/-- Equal argument arrays give the reference's rows and the kernel's rows alike. -/
theorem rows (m : (ℓ : Loc Cert.OprojIdeal.nD Cert.OprojIdeal.τ Cert.OprojIdeal.sig) → Buf (Elt Ideal) ℓ)
    (m' : (ℓ : Loc Cert.OprojRefIdeal.nD Cert.OprojRefIdeal.τ Cert.OprojRefIdeal.sig) → Buf (Elt Ideal) ℓ) (c : Dev Cert.OprojIdeal.nD)
    (h0 : m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0))
    (h1 : m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1))
    (h2 : m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2))
    (h4 : m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4))
    (h5 : m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5))
    (r : Fin 8192) : (fun C => Cert.OprojRefIdeal.Eq.mM m' c (ix2 r C)) = Cert.OprojIdeal.Val.row m c r := by
  funext C
  unfold Cert.OprojRefIdeal.Eq.mM
  rw [h0, h1, h2, h4, h5]
  exact Cert.OprojRefIdeal.Eq.refM_apply _ _ _ _ _ r C

/-- The kernel and the reference leave equal results on equal arguments. -/
theorem algebraic : Cert.algebraic_OprojIdeal_OprojRefIdeal := by
  intro m ρ m' ρ' _ hagree
  have hr := fun c => rows m m' c (hagree c).1 (hagree c).2.1 (hagree c).2.2.1 (hagree c).2.2.2.2.1 (hagree c).2.2.2.2.2
  have hN : ∀ (c : Dev Cert.OprojIdeal.nD) (r : Fin 8192) (C : Fin 2560),
      Cert.OprojRefIdeal.Eq.refN (Cert.OprojRefIdeal.Eq.mM m' c) (m' ((c.tc : Thread Cert.OprojRefIdeal.nD Cert.OprojRefIdeal.τ).loc Cert.OprojRefIdeal.main_arg3)) (ix2 r C)
        = normed (Cert.OprojIdeal.Val.row m c r) (Cert.OprojIdeal.Val.gw m c) C := fun c r C => by
    rw [Cert.OprojRefIdeal.Eq.refN_apply, hr, (hagree c).2.2.2.1]
    rfl
  have hS : ∀ (c : Dev Cert.OprojIdeal.nD) (r : Fin 8192),
      Cert.OprojRefIdeal.Eq.refS (Cert.OprojRefIdeal.Eq.refA (Cert.OprojRefIdeal.Eq.refN (Cert.OprojRefIdeal.Eq.mM m' c) (m' ((c.tc : Thread Cert.OprojRefIdeal.nD Cert.OprojRefIdeal.τ).loc Cert.OprojRefIdeal.main_arg3)))) (ix1 r)
        = scl (Cert.OprojIdeal.Val.row m c r) (Cert.OprojIdeal.Val.gw m c) := fun c r => by
    rw [Cert.OprojRefIdeal.Eq.refS_apply, Cert.OprojRefIdeal.Eq.refA_apply]
    unfold scl
    exact congrArg (fun v => RowQuant.scale (RowQuant.amax v)) (funext fun C => hN c r C)
  refine ⟨fun c => Cert.OprojIdeal.Val.G0 m c, fun c => Cert.OprojIdeal.Val.G1 m c, fun c => Cert.OprojIdeal.Val.G2 m c, ?_, ?_⟩
  · exact (θ_run Cert.OprojIdeal.defs _ _).mono (fun _ h c => ⟨(h.1 c).1, (h.1 c).2.1, (h.1 c).2.2, h.2.1 c⟩)
      (θ_run_and (run m ρ) (Cert.OprojIdeal.Val.frame (F := Ideal) m ρ))
  · refine (θ_run Cert.OprojRefIdeal.defs _ _).mono (fun _ h c => ⟨(h c).1.trans ?_, (h c).2.1.trans ?_, (h c).2.2.1.trans ?_, (h c).2.2.2⟩)
      (Cert.OprojRefIdeal.Value.run (F := Ideal) m' ρ')
    · funext i
      exact (congrArg (Cert.OprojRefIdeal.Eq.mM m' c) (eq_ix2 (n0 := 8192) (n1 := 2560) i)).trans (congrFun (hr c (i 0)) (i 1))
    · refine (Cert.OprojRefIdeal.Eq.res1_eq m' c).trans ?_
      funext i
      refine (congrArg _ (eq_ix2 (n0 := 8192) (n1 := 2560) i)).trans ((Cert.OprojRefIdeal.Eq.refC_apply _ _ (i 0) (i 1)).trans ?_)
      exact congrArg₂ (fun a b => RowQuant.code (Ideal.div a b)) (hN c _ _) (hS c _)
    · refine (Cert.OprojRefIdeal.Eq.res2_eq m' c).trans ?_
      funext i
      exact (congrArg _ (eq_ix3 (n0 := 16) (n1 := 4) (n2 := 128) i)).trans ((Cert.OprojRefIdeal.Eq.lay_apply _ (i 0) (i 1) (i 2)).trans (hS c _))

/-- The reference's run leaves its arguments unchanged and every counter at zero. -/
theorem refFrame : Cert.quiescent_OprojRefIdeal := fun m ρ _ =>
  (θ_run Cert.OprojRefIdeal.defs _ _).mono (fun _ h => ⟨fun c => (h c).2.2.2, sem_eq_zero_of_no_sems rfl _⟩) (Cert.OprojRefIdeal.Value.run (F := Ideal) m ρ)

end Cert.OprojClaims
-- ==== Proof.AttnIdealVal.lean ====
module

public import proofs.«01_k».proof.Proof.Gen.AttnIdeal.Frame
public import proofs.«01_k».proof.Proof.Gen.AttnIdeal.Loops
public import Idealize.ShloMosaic.Lib.Claim
public import Idealize.ShloMosaic.Lib.VecWindow
public import Idealize.ShloMosaic.Lib.WritesUnit
public import Idealize.ShloMosaic.Lib.ValueIdxCore

@[expose] public section
set_option maxRecDepth 16384
noncomputable section
namespace Cert.AttnIdeal.Val
open Cert.AttnIdeal Cert.AttnIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Each head loop runs 20 trips. -/
theorem trips1 : k0_t1_loop.trips = 20 := by decide +kernel

/-- The quantisation's loop runs 8 trips. -/
theorem trips5 : k0_t5_loop.trips = 8 := by decide +kernel

/-- At each grid point one of the four cases holds, the one the point's number modulo 4 names. -/
theorem cond_iff (t : Fin cfg0.N) :
    (k0_cond1 (grid0.coords t) = 1#1 ↔ t.val % 4 = 0) ∧ (k0_cond2 (grid0.coords t) = 1#1 ↔ t.val % 4 = 1)
    ∧ (k0_cond3 (grid0.coords t) = 1#1 ↔ t.val % 4 = 2) ∧ (k0_cond4 (grid0.coords t) = 1#1 ↔ t.val % 4 = 3) := by
  revert t; decide +kernel

/-- A head's columns of a block of queries, -/
theorem inbQ (k : Fin k0_t1_loop.trips) : ∀ a, k0_off1 k a + S256x128.size a ≤ S256x2560.size a := by
  revert k; decide +kernel

/-- of the first 256 keys, -/
theorem inbK1 (k : Fin k0_t1_loop.trips) : ∀ a, k0_off2 k a + S256x128.size a ≤ S1024x512.size a := by
  revert k; decide +kernel

/-- of the first 512, -/
theorem inbK2 (k : Fin k0_t2_loop.trips) : ∀ a, k0_off4 k a + S512x128.size a ≤ S1024x512.size a := by
  revert k; decide +kernel

/-- of the first 768, -/
theorem inbK3 (k : Fin k0_t3_loop.trips) : ∀ a, k0_off6 k a + S768x128.size a ≤ S1024x512.size a := by
  revert k; decide +kernel

/-- of all of them, lie inside the block. -/
theorem inbK4 (k : Fin k0_t4_loop.trips) : ∀ a, k0_off8 k a + S1024x128.size a ≤ S1024x512.size a := by
  revert k; decide +kernel

/-- The queries of head `k`. -/
abbrev qT (x : Vec F S256x2560 .bf16) (k : Fin k0_t1_loop.trips) : Vec F S256x128 .bf16 :=
  VecWindow.window x (k0_off1 k) S256x128.size (inbQ k)

/-- What trip `k` of case 1 stores: a head's outputs from the first 256 keys. -/
def oT1 (q : Vec F S256x2560 .bf16) (x v : Vec F S1024x512 .bf16) (k : Fin k0_t1_loop.trips) : Vec F S256x128 .f32 :=
  k0_pay15 (k0_pay2 (qT q k) (VecWindow.window x (k0_off2 k) S256x128.size (inbK1 k)))
    (k0_pay3 (qT q k) (VecWindow.window x (k0_off2 k) S256x128.size (inbK1 k)))
    (VecWindow.window v (k0_off2 k) S256x128.size (inbK1 k))

/-- What trip `k` of case 2 stores: a head's outputs from the first 512 keys. -/
def oT2 (q : Vec F S256x2560 .bf16) (x v : Vec F S1024x512 .bf16) (k : Fin k0_t1_loop.trips) : Vec F S256x128 .f32 :=
  k0_pay16 (k0_pay4 (qT q k) (VecWindow.window x (k0_off4 k) S512x128.size (inbK2 k)))
    (k0_pay5 (qT q k) (VecWindow.window x (k0_off4 k) S512x128.size (inbK2 k)))
    (VecWindow.window v (k0_off4 k) S512x128.size (inbK2 k))

/-- What trip `k` of case 3 stores: a head's outputs from the first 768 keys. -/
def oT3 (q : Vec F S256x2560 .bf16) (x v : Vec F S1024x512 .bf16) (k : Fin k0_t1_loop.trips) : Vec F S256x128 .f32 :=
  k0_pay17 (k0_pay6 (qT q k) (VecWindow.window x (k0_off6 k) S768x128.size (inbK3 k)))
    (k0_pay7 (qT q k) (VecWindow.window x (k0_off6 k) S768x128.size (inbK3 k)))
    (VecWindow.window v (k0_off6 k) S768x128.size (inbK3 k))

/-- What trip `k` of case 4 stores: a head's outputs from the first 1024 keys. -/
def oT4 (q : Vec F S256x2560 .bf16) (x v : Vec F S1024x512 .bf16) (k : Fin k0_t1_loop.trips) : Vec F S256x128 .f32 :=
  k0_pay18 (k0_pay8 (qT q k) (VecWindow.window x (k0_off8 k) S1024x128.size (inbK4 k)))
    (k0_pay9 (qT q k) (VecWindow.window x (k0_off8 k) S1024x128.size (inbK4 k)))
    (VecWindow.window v (k0_off8 k) S1024x128.size (inbK4 k))

/-- Heads side by side: the array whose columns come from one block of 128 per head. -/
def heads (w : Fin k0_t1_loop.trips → Vec F S256x128 .f32) : Vec F S256x2560 .f32 := fun i =>
  w ⟨(i 1).val / 128, by have : (i 1).val < 2560 := (i 1).isLt; rw [trips1]; omega⟩
    (ix2 (i 0) ⟨(i 1).val % 128, Nat.mod_lt _ (by decide)⟩)

/-- The attention's outputs at a grid point, by its case. -/
def oF (n : ℕ) (q : Vec F S256x2560 .bf16) (x v : Vec F S1024x512 .bf16) : Vec F S256x2560 .f32 :=
  heads (if n = 0 then oT1 q x v else if n = 1 then oT2 q x v else if n = 2 then oT3 q x v else oT4 q x v)

/-- The 32 rows that trip `k` of the last loop reads. -/
abbrev rowsT (h : Vec F S256x2560 .f32) (k : Fin k0_t5_loop.trips) : Vec F S32x2560 .f32 :=
  VecWindow.window h (k0_off9 k) S32x2560.size (k0_off9_inb k)

/-- The trip of the last loop that works on row `r`. -/
def rowTrip (r : Fin 256) : Fin k0_t5_loop.trips := ⟨r.val / 32, by have := r.isLt; rw [trips5]; omega⟩

/-- The row of that trip's strip. -/
def rowIn (r : Fin 256) : Fin 32 := ⟨r.val % 32, Nat.mod_lt _ (by decide)⟩

/-- The codes of the normalized rows. -/
def codesF (h : Vec F S256x2560 .f32) (g : Vec F S1x2560 .f32) : Vec F S256x2560 .i8 := fun i =>
  k0_pay13 (rowsT h (rowTrip (i 0))) g (ix2 (rowIn (i 0)) (i 1))

/-- Each row's scale, in every lane. -/
def scaleL (h : Vec F S256x2560 .f32) (g : Vec F S1x2560 .f32) : Vec F S256x128 .f32 := fun i =>
  k0_pay14 (rowsT h (rowTrip (i 0))) g (ix2 (rowIn (i 0)) (i 1))

/-- Each row's reciprocal root mean square, in every lane. -/
def rstdL (h : Vec F S256x2560 .f32) : Vec F S256x128 .f32 := fun i =>
  k0_pay19 (k0_pay10 (rowsT h (rowTrip (i 0)))) (ix2 (rowIn (i 0)) (i 1))

/-- The diagonals of the last output's squares of lanes. -/
def denseR (x : Vec F S256x128 .f32) : FVec F S1x2x128 .f32 :=
  k0_pay1 (k0_pay21 x) (iota .tc S128x128 32 [0] iota_S128x128_d0_w32) (iota .tc S128x128 32 [1] iota_S128x128_d1_w32)

/-- A buffer written head by head: after the trips before `k` its columns below `128 * k` hold the heads. -/
theorem headsOf (v : View sig .tc .vmem S256x2560 .f32) (G : BufTy.Contents (Elt F) v.ty)
    (w : Fin k0_t1_loop.trips → Vec F S256x128 .f32) (off : Fin k0_t1_loop.trips → Fin 2 → ℕ)
    (inb : ∀ k a, off k a + S256x128.size a ≤ S256x2560.size a)
    (hoff : ∀ k, off k = ![0, 128 * k.val]) (L : ℕ → List (View.Piece (Elt F) S256x2560 .f32))
    (hL : ∀ k : Fin k0_t1_loop.trips, L (k.val + 1) = ⟨Rect.unit (s := S256x2560) (off k) S256x128.size (inb k), w k⟩ :: L k.val)
    (k : ℕ) (hk : k ≤ 20) (y : S256x2560.Idx) (hy : (y 1).val < 128 * k) :
    v.read (Elt F) (v.writes (Elt F) G (L k)) y = heads w y := by
  induction k with
  | zero => omega
  | succ k ih =>
    have hk' : k < k0_t1_loop.trips := by rw [trips1]; omega
    rw [hL ⟨k, hk'⟩]
    by_cases hlt : (y 1).val < 128 * k
    · rw [View.read_writes_cons_unit_of_not_mem _ _ _ _ _ y (hoff ⟨k, hk'⟩) (1 : Fin 2) (Or.inl hlt)]
      exact ih (by omega) hlt
    · have hd : (y 1).val / 128 = k := by omega
      refine (View.read_writes_cons_unit_of_mem _ _ _ _ _ y (ix2 (y 0) ⟨(y 1).val % 128, Nat.mod_lt _ (by decide)⟩) (hoff ⟨k, hk'⟩)
        (Fin.forall_fin_two.mpr ⟨(Nat.zero_add _).symm, by show (y 1).val = 128 * k + (y 1).val % 128; omega⟩)).trans ?_
      unfold heads
      subst hd
      rfl

section
variable (𝒱 : Variants) (c : Dev nD) (bd : Option 𝒱.V) (i : grid0.Coords) (u2 : Memref sig .tc .vmem S256x2560 .bf16) (w2 : u2.IsWhole) (u3 : Memref sig .tc .vmem S1024x512 .bf16) (w3 : u3.IsWhole) (u4 : Memref sig .tc .vmem S1024x512 .bf16) (w4 : u4.IsWhole) (u5 : Memref sig .tc .vmem S1x2560 .f32) (w5 : u5.IsWhole) (u6 : Memref sig .tc .vmem S256x2560 .i8) (w6 : u6.IsWhole) (u7 : Memref sig .tc .vmem S1x2x128 .f32) (w7 : u7.IsWhole) (u8 : Memref sig .tc .vmem S1x2x128 .f32) (w8 : u8.IsWhole) (u9 : Memref sig .tc .vmem S256x2560 .f32) (w9 : u9.IsWhole) (u10 : Memref sig .tc .vmem S256x128 .f32) (w10 : u10.IsWhole) (u11 : Memref sig .tc .vmem S256x128 .f32) (w11 : u11.IsWhole)

section
variable (X2 : BufTy.Contents (Elt F) u2.view.ty) (X3 : BufTy.Contents (Elt F) u3.view.ty) (X4 : BufTy.Contents (Elt F) u4.view.ty)
  (q : Vec F S256x2560 .bf16) (x v : Vec F S1024x512 .bf16)
  (h2 : u2.view.read (Elt F) X2 = q) (h3 : u3.view.read (Elt F) X3 = x) (h4 : u4.view.read (Elt F) X4 = v)

include h2 h3 h4

/-- The one piece trip `k` of case 1 stores, -/
theorem trip_o1 (h : k0_cond1 i = 1#1) (k : Fin k0_t1_loop.trips) :
    tripL_k0_t1 (F := F) 𝒱 c bd i u2 w2 u3 w3 u4 w4 u5 w5 u6 w6 u7 w7 u8 w8 u9 w9 u10 w10 u11 w11 h X2 X3 X4 k
      = [⟨Rect.unit (s := S256x2560) (k0_off1 k) S256x128.size (k0_off1_inb i k h), oT1 q x v k⟩] := by
  subst h2 h3 h4
  unfold tripL_k0_t1 trip_k0_t1 oT1
  dsimp only
  sl_unfold_words
  rfl

/-- and what case 1's loop leaves. -/
theorem loop_o1 (h : k0_cond1 i = 1#1) (G : BufTy.Contents (Elt F) u9.view.ty) :
    u9.view.read (Elt F) (u9.view.writes (Elt F) G (pb_k0_t1 (F := F) 𝒱 c bd i u2 w2 u3 w3 u4 w4 u5 w5 u6 w6 u7 w7 u8 w8 u9 w9 u10 w10 u11 w11 h X2 X3 X4 20)) = oF 0 q x v :=
  funext fun y => headsOf u9.view G (oT1 q x v) k0_off1 (fun k => k0_off1_inb i k h) k0_off1_eq
    (pb_k0_t1 (F := F) 𝒱 c bd i u2 w2 u3 w3 u4 w4 u5 w5 u6 w6 u7 w7 u8 w8 u9 w9 u10 w10 u11 w11 h X2 X3 X4)
    (fun k => (pb_k0_t1_succ (F := F) 𝒱 c bd i u2 w2 u3 w3 u4 w4 u5 w5 u6 w6 u7 w7 u8 w8 u9 w9 u10 w10 u11 w11 h X2 X3 X4 k).trans
      (by rw [trip_o1 𝒱 c bd i u2 w2 u3 w3 u4 w4 u5 w5 u6 w6 u7 w7 u8 w8 u9 w9 u10 w10 u11 w11 X2 X3 X4 q x v h2 h3 h4 h k, List.singleton_append])) 20 le_rfl y (y 1).isLt

/-- The one piece trip `k` of case 2 stores, -/
theorem trip_o2 (h : k0_cond2 i = 1#1) (k : Fin k0_t2_loop.trips) :
    tripL_k0_t2 (F := F) 𝒱 c bd i u2 w2 u3 w3 u4 w4 u5 w5 u6 w6 u7 w7 u8 w8 u9 w9 u10 w10 u11 w11 h X2 X3 X4 k
      = [⟨Rect.unit (s := S256x2560) (k0_off3 k) S256x128.size (k0_off3_inb i k h), oT2 q x v k⟩] := by
  subst h2 h3 h4
  unfold tripL_k0_t2 trip_k0_t2 oT2
  dsimp only
  sl_unfold_words
  rfl

/-- and what case 2's loop leaves. -/
theorem loop_o2 (h : k0_cond2 i = 1#1) (G : BufTy.Contents (Elt F) u9.view.ty) :
    u9.view.read (Elt F) (u9.view.writes (Elt F) G (pb_k0_t2 (F := F) 𝒱 c bd i u2 w2 u3 w3 u4 w4 u5 w5 u6 w6 u7 w7 u8 w8 u9 w9 u10 w10 u11 w11 h X2 X3 X4 20)) = oF 1 q x v :=
  funext fun y => headsOf u9.view G (oT2 q x v) k0_off3 (fun k => k0_off3_inb i k h) k0_off3_eq
    (pb_k0_t2 (F := F) 𝒱 c bd i u2 w2 u3 w3 u4 w4 u5 w5 u6 w6 u7 w7 u8 w8 u9 w9 u10 w10 u11 w11 h X2 X3 X4)
    (fun k => (pb_k0_t2_succ (F := F) 𝒱 c bd i u2 w2 u3 w3 u4 w4 u5 w5 u6 w6 u7 w7 u8 w8 u9 w9 u10 w10 u11 w11 h X2 X3 X4 k).trans
      (by rw [trip_o2 𝒱 c bd i u2 w2 u3 w3 u4 w4 u5 w5 u6 w6 u7 w7 u8 w8 u9 w9 u10 w10 u11 w11 X2 X3 X4 q x v h2 h3 h4 h k, List.singleton_append])) 20 le_rfl y (y 1).isLt

/-- The one piece trip `k` of case 3 stores, -/
theorem trip_o3 (h : k0_cond3 i = 1#1) (k : Fin k0_t3_loop.trips) :
    tripL_k0_t3 (F := F) 𝒱 c bd i u2 w2 u3 w3 u4 w4 u5 w5 u6 w6 u7 w7 u8 w8 u9 w9 u10 w10 u11 w11 h X2 X3 X4 k
      = [⟨Rect.unit (s := S256x2560) (k0_off5 k) S256x128.size (k0_off5_inb i k h), oT3 q x v k⟩] := by
  subst h2 h3 h4
  unfold tripL_k0_t3 trip_k0_t3 oT3
  dsimp only
  sl_unfold_words
  rfl

/-- and what case 3's loop leaves. -/
theorem loop_o3 (h : k0_cond3 i = 1#1) (G : BufTy.Contents (Elt F) u9.view.ty) :
    u9.view.read (Elt F) (u9.view.writes (Elt F) G (pb_k0_t3 (F := F) 𝒱 c bd i u2 w2 u3 w3 u4 w4 u5 w5 u6 w6 u7 w7 u8 w8 u9 w9 u10 w10 u11 w11 h X2 X3 X4 20)) = oF 2 q x v :=
  funext fun y => headsOf u9.view G (oT3 q x v) k0_off5 (fun k => k0_off5_inb i k h) k0_off5_eq
    (pb_k0_t3 (F := F) 𝒱 c bd i u2 w2 u3 w3 u4 w4 u5 w5 u6 w6 u7 w7 u8 w8 u9 w9 u10 w10 u11 w11 h X2 X3 X4)
    (fun k => (pb_k0_t3_succ (F := F) 𝒱 c bd i u2 w2 u3 w3 u4 w4 u5 w5 u6 w6 u7 w7 u8 w8 u9 w9 u10 w10 u11 w11 h X2 X3 X4 k).trans
      (by rw [trip_o3 𝒱 c bd i u2 w2 u3 w3 u4 w4 u5 w5 u6 w6 u7 w7 u8 w8 u9 w9 u10 w10 u11 w11 X2 X3 X4 q x v h2 h3 h4 h k, List.singleton_append])) 20 le_rfl y (y 1).isLt

/-- The one piece trip `k` of case 4 stores, -/
theorem trip_o4 (h : k0_cond4 i = 1#1) (k : Fin k0_t4_loop.trips) :
    tripL_k0_t4 (F := F) 𝒱 c bd i u2 w2 u3 w3 u4 w4 u5 w5 u6 w6 u7 w7 u8 w8 u9 w9 u10 w10 u11 w11 h X2 X3 X4 k
      = [⟨Rect.unit (s := S256x2560) (k0_off7 k) S256x128.size (k0_off7_inb i k h), oT4 q x v k⟩] := by
  subst h2 h3 h4
  unfold tripL_k0_t4 trip_k0_t4 oT4
  dsimp only
  sl_unfold_words
  rfl

/-- and what case 4's loop leaves. -/
theorem loop_o4 (h : k0_cond4 i = 1#1) (G : BufTy.Contents (Elt F) u9.view.ty) :
    u9.view.read (Elt F) (u9.view.writes (Elt F) G (pb_k0_t4 (F := F) 𝒱 c bd i u2 w2 u3 w3 u4 w4 u5 w5 u6 w6 u7 w7 u8 w8 u9 w9 u10 w10 u11 w11 h X2 X3 X4 20)) = oF 3 q x v :=
  funext fun y => headsOf u9.view G (oT4 q x v) k0_off7 (fun k => k0_off7_inb i k h) k0_off7_eq
    (pb_k0_t4 (F := F) 𝒱 c bd i u2 w2 u3 w3 u4 w4 u5 w5 u6 w6 u7 w7 u8 w8 u9 w9 u10 w10 u11 w11 h X2 X3 X4)
    (fun k => (pb_k0_t4_succ (F := F) 𝒱 c bd i u2 w2 u3 w3 u4 w4 u5 w5 u6 w6 u7 w7 u8 w8 u9 w9 u10 w10 u11 w11 h X2 X3 X4 k).trans
      (by rw [trip_o4 𝒱 c bd i u2 w2 u3 w3 u4 w4 u5 w5 u6 w6 u7 w7 u8 w8 u9 w9 u10 w10 u11 w11 X2 X3 X4 q x v h2 h3 h4 h k, List.singleton_append])) 20 le_rfl y (y 1).isLt
end

variable (X5 : BufTy.Contents (Elt F) u5.view.ty) (X9 : BufTy.Contents (Elt F) u9.view.ty)

/-- The three pieces trip `k` of the last loop stores. -/
theorem trip_rows (h : Vec F S256x2560 .f32) (g : Vec F S1x2560 .f32)
    (h5 : u5.view.read (Elt F) X5 = g) (h9 : u9.view.read (Elt F) X9 = h) (k : Fin k0_t5_loop.trips) :
    tripL_k0_t5 (F := F) 𝒱 c bd i u2 w2 u3 w3 u4 w4 u5 w5 u6 w6 u7 w7 u8 w8 u9 w9 u10 w10 u11 w11 X5 X9 k
      = ([⟨Rect.unit (s := S256x2560) (k0_off9 k) S32x2560.size (k0_off9_inb k), k0_pay13 (rowsT h k) g⟩],
         [⟨Rect.unit (s := S256x128) (k0_off10 k) S32x128.size (k0_off10_inb k), k0_pay14 (rowsT h k) g⟩],
         [⟨Rect.unit (s := S256x128) (k0_off10 k) S32x128.size (k0_off10_inb k), k0_pay19 (k0_pay10 (rowsT h k))⟩]) := by
  subst h5 h9
  rw [← View.readAt_full u5.view X5 inb_S1x2560_S1x2560_0_0]
  unfold tripL_k0_t5 trip_k0_t5
  dsimp only
  sl_unfold_words
  rfl

/-- A buffer written strip by strip: after the trips before `k` its rows below `32 * k` hold the strips. -/
theorem strips {n : ℕ} {e : EltTy} (v : View sig .tc .vmem ⟨2, ![256, n]⟩ e) (G : BufTy.Contents (Elt F) v.ty)
    (w : Fin k0_t5_loop.trips → Vec F ⟨2, ![32, n]⟩ e) (off : Fin k0_t5_loop.trips → Fin 2 → ℕ)
    (inb : ∀ k a, off k a + (⟨2, ![32, n]⟩ : Shape).size a ≤ (⟨2, ![256, n]⟩ : Shape).size a)
    (hoff : ∀ k, off k = ![32 * k.val, 0]) (L : ℕ → List (View.Piece (Elt F) ⟨2, ![256, n]⟩ e))
    (hL : ∀ k : Fin k0_t5_loop.trips, L (k.val + 1) = ⟨Rect.unit (s := ⟨2, ![256, n]⟩) (off k) (⟨2, ![32, n]⟩ : Shape).size (inb k), w k⟩ :: L k.val)
    (k : ℕ) (hk : k ≤ 8) (y : (⟨2, ![256, n]⟩ : Shape).Idx) (hy : (y 0).val < 32 * k) :
    v.read (Elt F) (v.writes (Elt F) G (L k)) y = w (rowTrip (y 0)) (ix2 (rowIn (y 0)) (y 1)) := by
  induction k with
  | zero => omega
  | succ k ih =>
    have hk' : k < k0_t5_loop.trips := by rw [trips5]; omega
    rw [hL ⟨k, hk'⟩]
    by_cases hlt : (y 0).val < 32 * k
    · rw [View.read_writes_cons_unit_of_not_mem _ _ _ _ _ y (hoff ⟨k, hk'⟩) (0 : Fin 2) (Or.inl hlt)]
      exact ih (by omega) hlt
    · have hd : rowTrip (y 0) = ⟨k, hk'⟩ := Fin.ext (by show (y 0).val / 32 = k; omega)
      refine (View.read_writes_cons_unit_of_mem _ _ _ _ _ y (ix2 (rowIn (y 0)) (y 1)) (hoff ⟨k, hk'⟩)
        (Fin.forall_fin_two.mpr ⟨by show (y 0).val = 32 * k + (y 0).val % 32; omega, (Nat.zero_add _).symm⟩)).trans ?_
      rw [hd]; rfl

/-- What the last loop leaves in its three buffers. -/
theorem loop_rows (h : Vec F S256x2560 .f32) (g : Vec F S1x2560 .f32)
    (h5 : u5.view.read (Elt F) X5 = g) (h9 : u9.view.read (Elt F) X9 = h)
    (G6 : BufTy.Contents (Elt F) u6.view.ty) (G10 : BufTy.Contents (Elt F) u10.view.ty) (G11 : BufTy.Contents (Elt F) u11.view.ty) :
    u6.view.read (Elt F) (u6.view.writes (Elt F) G6 (pb_k0_t5 (F := F) 𝒱 c bd i u2 w2 u3 w3 u4 w4 u5 w5 u6 w6 u7 w7 u8 w8 u9 w9 u10 w10 u11 w11 X5 X9 8).1) = codesF h g
    ∧ u10.view.read (Elt F) (u10.view.writes (Elt F) G10 (pb_k0_t5 (F := F) 𝒱 c bd i u2 w2 u3 w3 u4 w4 u5 w5 u6 w6 u7 w7 u8 w8 u9 w9 u10 w10 u11 w11 X5 X9 8).2.1) = scaleL h g
    ∧ u11.view.read (Elt F) (u11.view.writes (Elt F) G11 (pb_k0_t5 (F := F) 𝒱 c bd i u2 w2 u3 w3 u4 w4 u5 w5 u6 w6 u7 w7 u8 w8 u9 w9 u10 w10 u11 w11 X5 X9 8).2.2) = rstdL h := by
  have hL := fun k : Fin k0_t5_loop.trips => (pb_k0_t5_succ (F := F) 𝒱 c bd i u2 w2 u3 w3 u4 w4 u5 w5 u6 w6 u7 w7 u8 w8 u9 w9 u10 w10 u11 w11 X5 X9 k).trans
    (by rw [trip_rows 𝒱 c bd i u2 w2 u3 w3 u4 w4 u5 w5 u6 w6 u7 w7 u8 w8 u9 w9 u10 w10 u11 w11 X5 X9 h g h5 h9 k])
  refine ⟨funext fun y => ?_, funext fun y => ?_, funext fun y => ?_⟩
  · exact strips u6.view G6 (fun k => k0_pay13 (rowsT h k) g) k0_off9 k0_off9_inb k0_off9_eq
      (fun k => (pb_k0_t5 (F := F) 𝒱 c bd i u2 w2 u3 w3 u4 w4 u5 w5 u6 w6 u7 w7 u8 w8 u9 w9 u10 w10 u11 w11 X5 X9 k).1) (fun k => congrArg (fun p => p.1) (hL k)) 8 le_rfl y (y 0).isLt
  · exact strips u10.view G10 (fun k => k0_pay14 (rowsT h k) g) k0_off10 k0_off10_inb k0_off10_eq
      (fun k => (pb_k0_t5 (F := F) 𝒱 c bd i u2 w2 u3 w3 u4 w4 u5 w5 u6 w6 u7 w7 u8 w8 u9 w9 u10 w10 u11 w11 X5 X9 k).2.1) (fun k => congrArg (fun p => p.2.1) (hL k)) 8 le_rfl y (y 0).isLt
  · exact strips u11.view G11 (fun k => k0_pay19 (k0_pay10 (rowsT h k))) k0_off10 k0_off10_inb k0_off10_eq
      (fun k => (pb_k0_t5 (F := F) 𝒱 c bd i u2 w2 u3 w3 u4 w4 u5 w5 u6 w6 u7 w7 u8 w8 u9 w9 u10 w10 u11 w11 X5 X9 k).2.2) (fun k => congrArg (fun p => p.2.2) (hL k)) 8 le_rfl y (y 0).isLt
end

/-! ## The body at one grid point -/

set_option maxHeartbeats 6400000 in
/-- The body, run on whole buffers at a point of case `n`: the inputs are handed back as they were, the outputs hold the
    codes, the scales and the reciprocal root mean squares of the attention's rows. -/
theorem kernelRun (c : Dev nD) (i : grid0.Coords) (u2 : Memref sig .tc .vmem S256x2560 .bf16) (w2 : u2.IsWhole) (u3 : Memref sig .tc .vmem S1024x512 .bf16) (w3 : u3.IsWhole) (u4 : Memref sig .tc .vmem S1024x512 .bf16) (w4 : u4.IsWhole) (u5 : Memref sig .tc .vmem S1x2560 .f32) (w5 : u5.IsWhole) (u6 : Memref sig .tc .vmem S256x2560 .i8) (w6 : u6.IsWhole) (u7 : Memref sig .tc .vmem S1x2x128 .f32) (w7 : u7.IsWhole) (u8 : Memref sig .tc .vmem S1x2x128 .f32) (w8 : u8.IsWhole) (u9 : Memref sig .tc .vmem S256x2560 .f32) (w9 : u9.IsWhole) (u10 : Memref sig .tc .vmem S256x128 .f32) (w10 : u10.IsWhole) (u11 : Memref sig .tc .vmem S256x128 .f32) (w11 : u11.IsWhole)
    (q : Vec F S256x2560 .bf16) (x v : Vec F S1024x512 .bf16) (g : Vec F S1x2560 .f32) (n : ℕ) (hn : n < 4)
    (h1 : k0_cond1 i = 1#1 ↔ n = 0) (h2 : k0_cond2 i = 1#1 ↔ n = 1) (h3 : k0_cond3 i = 1#1 ↔ n = 2) (h4 : k0_cond4 i = 1#1 ↔ n = 3) :
      ∀ (E : Set ℕ) (K : PUnit → sProp 𝕄),
        iprop(owns (c : Thread nD τ) u2 fullShare q ∗ owns (c : Thread nD τ) u3 fullShare x ∗ owns (c : Thread nD τ) u4 fullShare v ∗ owns (c : Thread nD τ) u5 fullShare g ∗ (∃ d, owns (c : Thread nD τ) u6 fullShare d) ∗ (∃ d, owns (c : Thread nD τ) u7 fullShare d) ∗ (∃ d, owns (c : Thread nD τ) u8 fullShare d) ∗ (∃ d, owns (c : Thread nD τ) u9 fullShare d) ∗ (∃ d, owns (c : Thread nD τ) u10 fullShare d) ∗ (∃ d, owns (c : Thread nD τ) u11 fullShare d)
            ∗ (iprop(owns (c : Thread nD τ) u2 fullShare q ∗ owns (c : Thread nD τ) u3 fullShare x ∗ owns (c : Thread nD τ) u4 fullShare v ∗ owns (c : Thread nD τ) u5 fullShare g ∗ owns (c : Thread nD τ) u6 fullShare (codesF (oF n q x v) g) ∗ owns (c : Thread nD τ) u7 fullShare (k0_pay20 (scaleL (oF n q x v) g)) ∗ owns (c : Thread nD τ) u8 fullShare (denseR (rstdL (oF n q x v))) ∗ (∃ d, owns (c : Thread nD τ) u9 fullShare d) ∗ (∃ d, owns (c : Thread nD τ) u10 fullShare d) ∗ (∃ d, owns (c : Thread nD τ) u11 fullShare d)) -∗ K ⟨⟩))
          ⊢ wp frame (wpE (defs₀ (F := F)) Variants.none c none) E (cc0_attn i u2 w2 u3 w3 u4 w4 u5 w5 u6 w6 u7 w7 u8 w8 u9 w9 u10 w10 u11 w11) K := by
    intro E K
    simp only [cc0_attn_eq_skeleton]; unfold cc0_attn_skel
    simp only [k0_part6_eq_skeleton]; unfold k0_part6_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := w2.eq_unread hf0; obtain rfl := w3.eq_unread hf1; obtain rfl := w4.eq_unread hf2; obtain rfl := w5.eq_unread hf3
    have hcs : n = 0 ∨ n = 1 ∨ n = 2 ∨ n = 3 := by omega
    rcases hcs with rfl | rfl | rfl | rfl
    all_goals
      first
      | (have hc1 := h1.mpr rfl; simp only [dif_pos hc1, dif_neg (fun h => absurd (h2.mp h) (by decide) : ¬ k0_cond2 i = 1#1), dif_neg (fun h => absurd (h3.mp h) (by decide) : ¬ k0_cond3 i = 1#1), dif_neg (fun h => absurd (h4.mp h) (by decide) : ¬ k0_cond4 i = 1#1)])
      | (have hc2 := h2.mpr rfl; simp only [dif_pos hc2, dif_neg (fun h => absurd (h1.mp h) (by decide) : ¬ k0_cond1 i = 1#1), dif_neg (fun h => absurd (h3.mp h) (by decide) : ¬ k0_cond3 i = 1#1), dif_neg (fun h => absurd (h4.mp h) (by decide) : ¬ k0_cond4 i = 1#1)])
      | (have hc3 := h3.mpr rfl; simp only [dif_pos hc3, dif_neg (fun h => absurd (h1.mp h) (by decide) : ¬ k0_cond1 i = 1#1), dif_neg (fun h => absurd (h2.mp h) (by decide) : ¬ k0_cond2 i = 1#1), dif_neg (fun h => absurd (h4.mp h) (by decide) : ¬ k0_cond4 i = 1#1)])
      | (have hc4 := h4.mpr rfl; simp only [dif_pos hc4, dif_neg (fun h => absurd (h1.mp h) (by decide) : ¬ k0_cond1 i = 1#1), dif_neg (fun h => absurd (h2.mp h) (by decide) : ¬ k0_cond2 i = 1#1), dif_neg (fun h => absurd (h3.mp h) (by decide) : ¬ k0_cond3 i = 1#1)])
    all_goals
      rw [bind_assoc]
      sl_exec
      rw [bind_assoc]
      sl_exec
      sl_step
      iapply Hk
      isplitl [H0]
      · iexists _; isplitr; · ipureintro; exact w2.read_unread _
        iexact H0
      isplitl [H1]
      · iexists _; isplitr; · ipureintro; exact w3.read_unread _
        iexact H1
      isplitl [H2]
      · iexists _; isplitr; · ipureintro; exact w4.read_unread _
        iexact H2
      isplitl [H3]
      · iexists _; isplitr; · ipureintro; exact w5.read_unread _
        iexact H3
      isplitl [H4]
      · iexists _; isplitr; swap; · iexact H4
        ipureintro
        sl_unfold_words
        simp only [show Scf.trips k0_t1_loop.lb k0_t1_loop.ub k0_t1_loop.st = 20 from trips1, show Scf.trips k0_t2_loop.lb k0_t2_loop.ub k0_t2_loop.st = 20 from trips1, show Scf.trips k0_t3_loop.lb k0_t3_loop.ub k0_t3_loop.st = 20 from trips1, show Scf.trips k0_t4_loop.lb k0_t4_loop.ub k0_t4_loop.st = 20 from trips1, show Scf.trips k0_t5_loop.lb k0_t5_loop.ub k0_t5_loop.st = 8 from trips5]
        exact (loop_rows Variants.none c none i u2 w2 u3 w3 u4 w4 u5 w5 u6 w6 u7 w7 u8 w8 u9 w9 u10 w10 u11 w11 _ _ (oF _ q x v) g hf3 (by first | exact loop_o1 Variants.none c none i u2 w2 u3 w3 u4 w4 u5 w5 u6 w6 u7 w7 u8 w8 u9 w9 u10 w10 u11 w11 _ _ _ q x v hf0 hf1 hf2 hc1 fs0 | exact loop_o2 Variants.none c none i u2 w2 u3 w3 u4 w4 u5 w5 u6 w6 u7 w7 u8 w8 u9 w9 u10 w10 u11 w11 _ _ _ q x v hf0 hf1 hf2 hc2 fs0 | exact loop_o3 Variants.none c none i u2 w2 u3 w3 u4 w4 u5 w5 u6 w6 u7 w7 u8 w8 u9 w9 u10 w10 u11 w11 _ _ _ q x v hf0 hf1 hf2 hc3 fs0 | exact loop_o4 Variants.none c none i u2 w2 u3 w3 u4 w4 u5 w5 u6 w6 u7 w7 u8 w8 u9 w9 u10 w10 u11 w11 _ _ _ q x v hf0 hf1 hf2 hc4 fs0) f4 fs1 fs2).1
      isplitl [H5]
      · iexists _; isplitr; swap; · iexact H5
        ipureintro
        refine (View.read_writes_full _ _ _ _ _).trans ?_
        sl_unfold_words
        simp only [show Scf.trips k0_t1_loop.lb k0_t1_loop.ub k0_t1_loop.st = 20 from trips1, show Scf.trips k0_t2_loop.lb k0_t2_loop.ub k0_t2_loop.st = 20 from trips1, show Scf.trips k0_t3_loop.lb k0_t3_loop.ub k0_t3_loop.st = 20 from trips1, show Scf.trips k0_t4_loop.lb k0_t4_loop.ub k0_t4_loop.st = 20 from trips1, show Scf.trips k0_t5_loop.lb k0_t5_loop.ub k0_t5_loop.st = 8 from trips5]
        exact congrArg k0_pay20 ((View.readAt_full _ _ _).trans (loop_rows Variants.none c none i u2 w2 u3 w3 u4 w4 u5 w5 u6 w6 u7 w7 u8 w8 u9 w9 u10 w10 u11 w11 _ _ (oF _ q x v) g hf3 (by first | exact loop_o1 Variants.none c none i u2 w2 u3 w3 u4 w4 u5 w5 u6 w6 u7 w7 u8 w8 u9 w9 u10 w10 u11 w11 _ _ _ q x v hf0 hf1 hf2 hc1 fs0 | exact loop_o2 Variants.none c none i u2 w2 u3 w3 u4 w4 u5 w5 u6 w6 u7 w7 u8 w8 u9 w9 u10 w10 u11 w11 _ _ _ q x v hf0 hf1 hf2 hc2 fs0 | exact loop_o3 Variants.none c none i u2 w2 u3 w3 u4 w4 u5 w5 u6 w6 u7 w7 u8 w8 u9 w9 u10 w10 u11 w11 _ _ _ q x v hf0 hf1 hf2 hc3 fs0 | exact loop_o4 Variants.none c none i u2 w2 u3 w3 u4 w4 u5 w5 u6 w6 u7 w7 u8 w8 u9 w9 u10 w10 u11 w11 _ _ _ q x v hf0 hf1 hf2 hc4 fs0) f4 fs1 fs2).2.1)
      isplitl [H6]
      · iexists _; isplitr; swap; · iexact H6
        ipureintro
        refine (View.read_writes_full _ _ _ _ _).trans ?_
        sl_unfold_words
        simp only [show Scf.trips k0_t1_loop.lb k0_t1_loop.ub k0_t1_loop.st = 20 from trips1, show Scf.trips k0_t2_loop.lb k0_t2_loop.ub k0_t2_loop.st = 20 from trips1, show Scf.trips k0_t3_loop.lb k0_t3_loop.ub k0_t3_loop.st = 20 from trips1, show Scf.trips k0_t4_loop.lb k0_t4_loop.ub k0_t4_loop.st = 20 from trips1, show Scf.trips k0_t5_loop.lb k0_t5_loop.ub k0_t5_loop.st = 8 from trips5]
        exact congrArg denseR ((View.readAt_full _ _ _).trans (loop_rows Variants.none c none i u2 w2 u3 w3 u4 w4 u5 w5 u6 w6 u7 w7 u8 w8 u9 w9 u10 w10 u11 w11 _ _ (oF _ q x v) g hf3 (by first | exact loop_o1 Variants.none c none i u2 w2 u3 w3 u4 w4 u5 w5 u6 w6 u7 w7 u8 w8 u9 w9 u10 w10 u11 w11 _ _ _ q x v hf0 hf1 hf2 hc1 fs0 | exact loop_o2 Variants.none c none i u2 w2 u3 w3 u4 w4 u5 w5 u6 w6 u7 w7 u8 w8 u9 w9 u10 w10 u11 w11 _ _ _ q x v hf0 hf1 hf2 hc2 fs0 | exact loop_o3 Variants.none c none i u2 w2 u3 w3 u4 w4 u5 w5 u6 w6 u7 w7 u8 w8 u9 w9 u10 w10 u11 w11 _ _ _ q x v hf0 hf1 hf2 hc3 fs0 | exact loop_o4 Variants.none c none i u2 w2 u3 w3 u4 w4 u5 w5 u6 w6 u7 w7 u8 w8 u9 w9 u10 w10 u11 w11 _ _ _ q x v hf0 hf1 hf2 hc4 fs0) f4 fs1 fs2).2.2)
      isplitl [HS0]
      · iexists _, _; isplitr; swap; · iexact HS0
        ipureintro; rfl
      isplitl [HS1]
      · iexists _, _; isplitr; swap; · iexact HS1
        ipureintro; rfl
      iexists _, _; isplitr; swap; · iexact HS2
      ipureintro; rfl

variable (m : (ℓ : Loc nD τ sig) → Buf (Elt F) ℓ) (ρ : Dev nD → PrngReg)

/-! ## The pipeline's proof data -/

/-- The attention's 256 rows at point `t`. -/
def oB (c : Dev nD) (t : Fin cfg0.N) : Vec F S256x2560 .f32 := oF (t.val % 4) (iblk m c 0 t) (iblk m c 1 t) (iblk m c 2 t)

/-- The kernel's scratch buffers, whole. -/
abbrev scM0_0 : Memref sig .tc .vmem S256x2560 .f32 := Memref.whole cc0_scratch0
abbrev scM0_1 : Memref sig .tc .vmem S256x128 .f32 := Memref.whole cc0_scratch1
abbrev scM0_2 : Memref sig .tc .vmem S256x128 .f32 := Memref.whole cc0_scratch2

/-- The proof data: the arrays as found, each input's block left in place, the outputs at their values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesF (oB m c t) (iblk m c 3 t)
    | ⟨5, _⟩ => k0_pay20 (scaleL (oB m c t) (iblk m c 3 t))
    | ⟨6, _⟩ => denseR (rstdL (oB m c t))
  Φ _ := Pipeline.ΦA spec0 c
  q _ := fullShare
  owed _ := 0

/-- The proof data's arrays are those found at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesF (oB m c t) (iblk m c 3 t) := by dsimp only [dats]
theorem after0_5 (c : Dev nD) (t : Fin cfg0.N) : (dats m 0 c).after 5 t = k0_pay20 (scaleL (oB m c t) (iblk m c 3 t)) := by dsimp only [dats]
theorem after0_6 (c : Dev nD) (t : Fin cfg0.N) : (dats m 0 c).after 6 t = denseR (rstdL (oB m c t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at any point -/

/-- The launch's invariant: the scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 3200000 in
/-- The body at any point takes the blocks to what the proof data states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.castSucc = Pipeline.ΦA spec0 c from rfl, show (dats m 0 c).Φ t.succ = Pipeline.ΦA spec0 c from rfl, PhiA0_eq,
    show (dats m 0 c).owesAt () t.succ = (dats m 0 c).owesAt () t.castSucc from rfl,
    after0_0, after0_1, after0_2, after0_3, after0_4, after0_5, after0_6]
  unfold oB
  obtain ⟨c1, c2, c3, c4⟩ := cond_iff t
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ _ _ _ _ _ _ (iblk m c 0 t) (iblk m c 1 t) (iblk m c 2 t) (iblk m c 3 t) (t.val % 4) (Nat.mod_lt _ (by decide)) c1 c2 c3 c4) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every execution ends, with the arrays at what the proof data states and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl)
    (hout := fun _ => .rfl) (Q' := _)

/-- Every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.AttnIdeal.Val
-- ==== Proof.AttnFrame.lean ====
module

public import proofs.«01_k».proof.Defs
public import proofs.«01_k».proof.Proof.AttnIdealVal
public import proofs.«01_k».proof.Proof.Gen.Attn

@[expose] public section
noncomputable section
/-! The frame of the attention: its program and the idealized one print the same operations, so the idealized program's frame,
    proved at any number format, is the program's. -/
namespace Cert.AttnClaims
open Idealize.ShloMosaic Idealize.SL.Sem

/-- The two kernels are one. -/
theorem kernel_eq : @Cert.Attn.cc0_attn Bits _ _ = @Cert.AttnIdeal.cc0_attn Bits _ _ := by
  funext i
  unfold Cert.Attn.cc0_attn Cert.AttnIdeal.cc0_attn
  rfl

/-- The two body tables are one, -/
theorem bodies_eq : (Cert.Attn.defs₀ (F := Bits)) = Cert.AttnIdeal.defs₀ (F := Bits) := by
  unfold Cert.Attn.defs₀ Cert.AttnIdeal.defs₀
  refine congrArg Defs.onTc (funext fun l => funext fun x => ?_)
  match l, x with
  | 0, (t, s) =>
    dsimp only
    rw [kernel_eq]
    rfl

/-- with the pipelines too. -/
theorem defs_eq : (Cert.Attn.defs (F := Bits)) = Cert.AttnIdeal.defs (F := Bits) := by
  unfold Cert.Attn.defs Cert.AttnIdeal.defs
  rw [bodies_eq]
  rfl

/-- Every execution ends with the argument arrays unchanged and every counter at zero. -/
theorem frame : Cert.quiescent_Attn := by
  intro m ρ _
  rw [defs_eq]
  exact Cert.AttnIdeal.Val.frame (F := Bits) m ρ

end Cert.AttnClaims
-- ==== Proof.AttnSpec.lean ====
module

public import proofs.«01_k».proof.Proof.RowQuant
public import Idealize.ShloMosaic.Lib.Pointwise
public import Idealize.ShloMosaic.Lib.IdealHost

@[expose] public section
noncomputable section
/-! Causal attention of one query with one head, as a function of the scores and the values, and the two facts about it
    that the proof rests on: the scores it takes are real, and keys that are masked out add nothing. -/
namespace Cert.AttnSpec
open Idealize.ShloMosaic

/-- The word of minus infinity. -/
abbrev NI : EReal := Ideal.ofBits FTy.f32 0xFF800000#32

theorem NI_eq : NI = ⊥ := by
  show Ideal.ofBits FTy.f32 0xFF800000#32 = ⊥
  simp [Ideal.ofBits, Ideal.ieee]

/-- One over the root of the head size, as the programs write it. -/
abbrev RS : EReal := Ideal.ofBits FTy.f32 0x3DB504F3#32

/-- It is a real number. -/
theorem RS_real : ∃ r : ℝ, RS = (r : EReal) := ⟨_, by
  show Ideal.ofBits FTy.f32 0x3DB504F3#32 = _
  simp [Ideal.ofBits, Ideal.ieee, -EReal.coe_mul, -EReal.coe_neg]
  rfl⟩

/-- The score of a query with a key at position `j`, seen from position `p`: minus infinity where the key comes later. -/
def score (q : Fin 128 → EReal) (k : Fin 128 → EReal) (p j : ℕ) : EReal :=
  if j ≤ p then (∑ d, q d * k d) * RS else NI

/-- The greatest of the scores. -/
def top {n : ℕ} (z : Fin n → EReal) : EReal := Finset.fold max NI z Finset.univ

/-- A score's weight before the division. -/
def ex {n : ℕ} (z : Fin n → EReal) (j : Fin n) : EReal := Ideal.exp (z j - top z)

/-- The softmax of the scores times the values. -/
def att {n : ℕ} (z v : Fin n → EReal) : EReal := ∑ j, Ideal.div (ex z j) (∑ i, ex z i) * v j

theorem top_eq {n : ℕ} (z : Fin n → EReal) : top z = Finset.univ.sup z := by
  unfold top; rw [NI_eq]; rfl

/-- A score is never plus infinity when the query and the key are real. -/
theorem score_real (q k : Fin 128 → EReal) (hq : ∀ d, ∃ r : ℝ, q d = (r : EReal)) (hk : ∀ d, ∃ r : ℝ, k d = (r : EReal)) (p j : ℕ) :
    (j ≤ p → ∃ r : ℝ, score q k p j = (r : EReal)) ∧ (¬ j ≤ p → score q k p j = ⊥) := by
  constructor
  · intro h
    choose fq hfq using hq
    choose fk hfk using hk
    obtain ⟨s, hs⟩ := RS_real
    refine ⟨(∑ d, fq d * fk d) * s, ?_⟩
    unfold score
    rw [if_pos h, hs, EReal.coe_mul]
    refine congrArg (· * (s : EReal)) ?_
    have hc : ∀ t : Finset (Fin 128), (∑ d ∈ t, q d * k d) = ((∑ d ∈ t, fq d * fk d : ℝ) : EReal) := by
      intro t
      induction t using Finset.induction_on with
      | empty => simp
      | insert a t ha ih => rw [Finset.sum_insert ha, Finset.sum_insert ha, ih, hfq, hfk, EReal.coe_add, EReal.coe_mul]
    exact hc _
  · intro h
    unfold score
    rw [if_neg h]; exact NI_eq

/-- The greatest score is real when one is and each is real or minus infinity. -/
theorem top_real {n : ℕ} (z : Fin n → EReal) (j₀ : Fin n) (h0 : ∃ r : ℝ, z j₀ = (r : EReal)) (h : ∀ j, z j ≠ ⊤) : ∃ r : ℝ, top z = (r : EReal) := by
  have hb : top z ≠ ⊥ := by
    intro e
    obtain ⟨r, hr⟩ := h0
    have hle : z j₀ ≤ top z := by rw [top_eq]; exact Finset.le_sup (Finset.mem_univ j₀)
    rw [e, hr] at hle
    exact absurd (le_bot_iff.1 hle) (EReal.coe_ne_bot r)
  have ht : top z ≠ ⊤ := by
    rw [top_eq]
    refine ne_of_lt ((Finset.sup_lt_iff (by exact bot_lt_top)).2 fun j _ => lt_top_iff_ne_top.2 (h j))
  exact ⟨(top z).toReal, (EReal.coe_toReal ht hb).symm⟩

/-- Every weight is at least zero. -/
theorem exp_nonneg (x : EReal) : 0 ≤ Ideal.exp x := by
  induction x with
  | bot => exact le_rfl
  | top => exact le_top
  | coe r => exact EReal.coe_nonneg.2 (Real.exp_pos r).le

/-- The weights' sum is not zero when one score is real and none is plus infinity. -/
theorem sum_ne {n : ℕ} (z : Fin n → EReal) (j₀ : Fin n) (h0 : ∃ r : ℝ, z j₀ = (r : EReal)) (h : ∀ j, z j ≠ ⊤) : (∑ i, ex z i) ≠ 0 := by
  obtain ⟨t, ht⟩ := top_real z j₀ h0 h
  obtain ⟨r, hr⟩ := h0
  have hpos : 0 < ex z j₀ := by
    unfold ex
    rw [ht, hr, ← EReal.coe_sub]
    exact EReal.coe_pos.2 (Real.exp_pos _)
  exact ne_of_gt (lt_of_lt_of_le hpos (Finset.single_le_sum (f := ex z) (fun i _ => exp_nonneg _) (Finset.mem_univ j₀)))

/-- Keys beyond the first `n` whose scores are minus infinity add nothing. -/
theorem att_cut {n N : ℕ} (hn : n ≤ N) (z v : Fin N → EReal) (hz : ∀ j : Fin N, n ≤ j.val → z j = ⊥)
    (j₀ : Fin N) (h0 : ∃ r : ℝ, z j₀ = (r : EReal)) (h : ∀ j, z j ≠ ⊤) :
    att (fun j : Fin n => z (Fin.castLE hn j)) (fun j => v (Fin.castLE hn j)) = att z v := by
  have hout : ∀ j : Fin N, j ∉ Set.range (Fin.castLE hn) → z j = ⊥ := fun j hj =>
    hz j (by by_contra hlt; exact hj ⟨⟨j.val, by omega⟩, Fin.ext rfl⟩)
  have htop : top (fun j : Fin n => z (Fin.castLE hn j)) = top z := by
    rw [top_eq, top_eq]
    refine le_antisymm (Finset.sup_le fun j _ => Finset.le_sup (f := z) (Finset.mem_univ _)) (Finset.sup_le fun j _ => ?_)
    by_cases hj : j ∈ Set.range (Fin.castLE hn)
    · obtain ⟨i, rfl⟩ := hj
      exact Finset.le_sup (f := fun j : Fin n => z (Fin.castLE hn j)) (Finset.mem_univ i)
    · rw [hout j hj]; exact bot_le
  have hex : ∀ i : Fin n, ex (fun j : Fin n => z (Fin.castLE hn j)) i = ex z (Fin.castLE hn i) := fun i => by
    unfold ex; rw [htop]
  have hex0 : ∀ j : Fin N, j ∉ Set.range (Fin.castLE hn) → ex z j = 0 := fun j hj => by
    unfold ex; rw [hout j hj]
    show Ideal.exp (⊥ + -top z) = 0
    rw [EReal.bot_add]; rfl
  have hsum : (∑ i, ex (fun j : Fin n => z (Fin.castLE hn j)) i) = ∑ i, ex z i :=
    Fintype.sum_of_injective _ (Fin.castLE_injective hn) _ _ hex0 hex
  unfold att
  refine Fintype.sum_of_injective _ (Fin.castLE_injective hn) _ _ (fun j hj => ?_) fun i => ?_
  · rw [hex0 j hj, Ideal.zero_div (sum_ne z j₀ h0 h), zero_mul]
  · rw [hsum, hex i]

/-- The programs' mask: a key's position, signed, is at most the query's. -/
theorem sel_sle {p j : ℕ} (hp : p < 1024) (hj : j < 1024) (x y : EReal) :
    Scalar.select (IntOp.cmpi CmpIPredicate.sle (BitVec.ofNat 32 j) (BitVec.ofNat 32 p)) x y = if j ≤ p then x else y := by
  have e : ∀ n : ℕ, n < 1024 → (BitVec.ofNat 32 n).toInt = (n : ℤ) := fun n hn => by
    have hn' : (BitVec.ofNat 32 n).toNat = n := by rw [BitVec.toNat_ofNat]; exact Nat.mod_eq_of_lt (by omega)
    rw [BitVec.toInt_eq_toNat_of_lt (by rw [hn']; omega), hn']
  by_cases h : j ≤ p
  · have : IntOp.cmpi CmpIPredicate.sle (BitVec.ofNat 32 j) (BitVec.ofNat 32 p) = 1#1 := by
      unfold IntOp.cmpi
      simp [BitVec.sle, e p hp, e j hj, h]
    rw [this, if_pos h]; rfl
  · have : IntOp.cmpi CmpIPredicate.sle (BitVec.ofNat 32 j) (BitVec.ofNat 32 p) = 0#1 := by
      unfold IntOp.cmpi
      simp [BitVec.sle, e p hp, e j hj, h]
    rw [this, if_neg h]; rfl

end Cert.AttnSpec
-- ==== Proof.AttnRefEq.lean ====
module

public import proofs.«01_k».proof.Defs
public import proofs.«01_k».proof.Proof.RowQuant
public import proofs.«01_k».proof.Proof.RowSpec
public import proofs.«01_k».proof.Proof.AttnSpec
public import proofs.«01_k».proof.Proof.OprojRefEq
public import proofs.«01_k».proof.Proof.Gen.AttnRefIdeal.Run
public import Idealize.ShloMosaic.Lib.MatmulPlain
public import Idealize.ShloMosaic.Lib.Pointwise

@[expose] public section
set_option maxRecDepth 16384
noncomputable section
/-! The attention reference's three results as formulas of the arguments, row by row. The normalisation and the
    quantisation are written as in the output projection's reference, whose lemmas serve here. -/
namespace Cert.AttnRefIdeal.Eq
open Cert.AttnRefIdeal Cert.AttnRefIdeal.Gen Cert.AttnRefIdeal.Value
open Idealize.ShloMosaic Idealize.ShloMosaic.TcCoe
open Idealize.SL Idealize.SL.Sem
open Cert.RowSpec Cert.AttnSpec
open Cert.OprojRefIdeal.Eq (refR refR_apply refN refN_apply refA refA_apply refS refS_apply refC refC_apply)

/-- The scores of every query with every key, as the reference writes them. -/
def refQK (q : FVec Ideal S8192x2560 .bf16) (k : FVec Ideal S8192x512 .bf16) : FVec Ideal S8x4x5x1024x1024 .f32 :=
  transpose S8x4x5x1024x1024 [0, 1, 4, 3, 2] (Host.dotGeneral dot_S8x1024x4x128_S8x1024x4x5x128_S8x4x1024x1024x5_3_4_1_13_02_02 none (shapeCast _ k shapeCasts_S8192x512_S8x1024x4x128) (shapeCast _ q shapeCasts_S8192x2560_S8x1024x4x5x128)) transposes_S8x4x1024x1024x5_S8x4x5x1024x1024_0_1_4_3_2

/-- The masked and scaled scores, as the reference writes them. -/
def refZ (s : FVec Ideal S8x4x5x1024x1024 .f32) : FVec Ideal S8x4x5x1024x1024 .f32 :=
  select (broadcastInDim S8x4x5x1024x1024 ![3, 4] bcast_S1024x1024_S8x4x5x1024x1024_3_4 (cmpi .sle (broadcastInDim S1024x1024 ![0, 1] bcast_S1x1024_S1024x1024_0_1 (broadcastInDim S1x1024 ![1] bcast_S1024_S1x1024_1 (iotaInDim S1024 32 0))) (broadcastInDim S1024x1024 ![0, 1] bcast_S1024x1_S1024x1024_0_1 (broadcastInDim S1024x1 ![0] bcast_S1024_S1024x1_0 (iotaInDim S1024 32 0))))) (mulf s (broadcastInDim S8x4x5x1024x1024 ![] bcast_S_S8x4x5x1024x1024 (constant S_ .f32 0x3DB504F3#32))) (broadcastInDim S8x4x5x1024x1024 ![] bcast_S_S8x4x5x1024x1024 (id (constant S_ .f32 0xFF800000#32)))

/-- A row's number at every key. -/
def bk (R : FVec Ideal S8x4x5x1024 .f32) : FVec Ideal S8x4x5x1024x1024 .f32 :=
  broadcastInDim S8x4x5x1024x1024 ![0, 1, 2, 3, 4] bcast_S8x4x5x1024x1_S8x4x5x1024x1024_0_1_2_3_4 (broadcastInDim S8x4x5x1024x1 ![0, 1, 2, 3] bcast_S8x4x5x1024_S8x4x5x1024x1_0_1_2_3 R)

theorem bk_apply (R : FVec Ideal S8x4x5x1024 .f32) (b : Fin 8) (h : Fin 4) (g : Fin 5) (p j : Fin 1024) : bk R (ix5 b h g p j) = R (ix4 b h g p) := by
  pointwise [bk]

/-- The weights as the reference writes them. -/
def refE (z : FVec Ideal S8x4x5x1024x1024 .f32) : FVec Ideal S8x4x5x1024x1024 .f32 :=
  Host.exp (subf z (bk (Host.reduce FloatOps.maximumf z (constant S_ .f32 0xFF800000#32) reducesTo_S8x4x5x1024x1024_S8x4x5x1024_d4 h_S_)))

/-- Those, at an index. -/
theorem refE_apply (z : FVec Ideal S8x4x5x1024x1024 .f32) (b : Fin 8) (h : Fin 4) (g : Fin 5) (p j : Fin 1024) :
    refE z (ix5 b h g p j) = ex (fun j => z (ix5 b h g p j)) j := by
  pointwise [refE]
  rw [bk_apply]
  pointwise
  rfl

/-- The softmax as the reference writes it. -/
def refP (e : FVec Ideal S8x4x5x1024x1024 .f32) : FVec Ideal S8x4x5x1024x1024 .bf16 :=
  truncf .bf16 (Host.divf e (bk (Host.reduceAdd e (constant S_ .f32 0x00000000#32) reducesTo_S8x4x5x1024x1024_S8x4x5x1024_d4 h_S_))) bitsLt_bf16_f32

/-- That, at an index. -/
theorem refP_apply (e : FVec Ideal S8x4x5x1024x1024 .f32) (b : Fin 8) (h : Fin 4) (g : Fin 5) (p j : Fin 1024) :
    refP e (ix5 b h g p j) = Ideal.div (e (ix5 b h g p j)) (∑ i, e (ix5 b h g p i)) := by
  pointwise [refP]
  rw [bk_apply]
  pointwise

/-- The score's place among 8192 by 2560 and 8192 by 512. -/
theorem refQK_apply (q : FVec Ideal S8192x2560 .bf16) (k : FVec Ideal S8192x512 .bf16) (b : Fin 8) (h : Fin 4) (g : Fin 5) (p j : Fin 1024) :
    refQK q k (ix5 b h g p j) = ∑ d : Fin 128, q (ix2 ⟨1024 * b.val + p.val, by omega⟩ ⟨128 * (5 * h.val + g.val) + d.val, by omega⟩)
      * k (ix2 ⟨1024 * b.val + j.val, by omega⟩ ⟨128 * h.val + d.val, by omega⟩) := by
  pointwise [refQK]
  refine Finset.sum_congr rfl fun d _ => (mul_comm _ _).trans (congrArg₂ (· * ·) ?_ ?_)
  · exact congrArg q (congrArg₂ ix2 (Fin.ext (by show b.val * 1024 + p.val = 1024 * b.val + p.val; omega))
      (Fin.ext (by show h.val * 640 + g.val * 128 + d.val = 128 * (5 * h.val + g.val) + d.val; omega)))
  · exact congrArg k (congrArg₂ ix2 (Fin.ext (by show b.val * 1024 + j.val = 1024 * b.val + j.val; omega))
      (Fin.ext (by show h.val * 128 + d.val = 128 * h.val + d.val; omega)))

theorem refZ_apply (s : FVec Ideal S8x4x5x1024x1024 .f32) (b : Fin 8) (h : Fin 4) (g : Fin 5) (p j : Fin 1024) :
    refZ s (ix5 b h g p j) = if j.val ≤ p.val then s (ix5 b h g p j) * RS else NI := by
  pointwise [refZ]
  exact sel_sle p.isLt j.isLt _ _

/-- The attention's outputs by batch entry, query, group and head, as the reference writes them. -/
def refT (v : FVec Ideal S8192x512 .bf16) (P : FVec Ideal S8x4x5x1024x1024 .bf16) : FVec Ideal S8x1024x4x5x128 .f32 :=
  transpose S8x1024x4x5x128 [0, 4, 1, 3, 2] (Host.dotGeneral dot_S8x1024x4x128_S8x4x5x1024x1024_S8x4x128x5x1024_1_4_3_23_02_01 none (shapeCast _ v shapeCasts_S8192x512_S8x1024x4x128) P) transposes_S8x4x128x5x1024_S8x1024x4x5x128_0_4_1_3_2

/-- Those, at an index. -/
theorem refT_apply (v : FVec Ideal S8192x512 .bf16) (P : FVec Ideal S8x4x5x1024x1024 .bf16) (b : Fin 8) (p : Fin 1024) (h : Fin 4) (g : Fin 5) (d : Fin 128) :
    refT v P (ix5 b p h g d) = ∑ j : Fin 1024, P (ix5 b h g p j) * v (ix2 ⟨1024 * b.val + j.val, by omega⟩ ⟨128 * h.val + d.val, by omega⟩) := by
  pointwise [refT]
  refine Finset.sum_congr rfl fun j _ => (mul_comm _ _).trans (congrArg₂ (· * ·) rfl ?_)
  exact congrArg v (congrArg₂ ix2 (Fin.ext (by show b.val * 1024 + j.val = 1024 * b.val + j.val; omega))
    (Fin.ext (by show h.val * 128 + d.val = 128 * h.val + d.val; omega)))

/-- The attention's rows as the reference writes them. -/
def refO (v : FVec Ideal S8192x512 .bf16) (P : FVec Ideal S8x4x5x1024x1024 .bf16) : FVec Ideal S8192x2560 .f32 :=
  shapeCast _ (refT v P) shapeCasts_S8x1024x4x5x128_S8192x2560

/-- Those, at an index. -/
theorem refO_apply (v : FVec Ideal S8192x512 .bf16) (P : FVec Ideal S8x4x5x1024x1024 .bf16) (r : Fin 8192) (C : Fin 2560) :
    refO v P (ix2 r C) = ∑ j : Fin 1024, P (ix5 ⟨r.val / 1024, by omega⟩ ⟨C.val / 640, by omega⟩ ⟨C.val / 128 % 5, by omega⟩ ⟨r.val % 1024, by omega⟩ j)
      * v (ix2 ⟨1024 * (r.val / 1024) + j.val, by omega⟩ ⟨128 * (C.val / 640) + C.val % 128, by omega⟩) := by
  refine (shapeCast_apply _ _ _ (ix5 (⟨r.val / 1024, by omega⟩ : Fin 8) (⟨r.val % 1024, by omega⟩ : Fin 1024) (⟨C.val / 640, by omega⟩ : Fin 4)
    (⟨C.val / 128 % 5, by omega⟩ : Fin 5) (⟨C.val % 128, by omega⟩ : Fin 128)) ?_).trans (refT_apply v P _ _ _ _ _)
  rw [rowMajor_val5 _ 2621440 2560 640 128 rfl rfl rfl rfl, rowMajor_val2 _ 2560 rfl]
  show r.val / 1024 * 2621440 + r.val % 1024 * 2560 + C.val / 640 * 640 + C.val / 128 % 5 * 128 + C.val % 128 = r.val * 2560 + C.val
  omega

/-- Row `r`, column `C` of the attention of `q`, `k` and `v`: head `C / 128` of query `r`, with the head's group of keys and
    values of the same batch entry. -/
def attRow (q : FVec Ideal S8192x2560 .bf16) (k v : FVec Ideal S8192x512 .bf16) (r : Fin 8192) (C : Fin 2560) : EReal :=
  att (fun j : Fin 1024 => score (fun d => q (ix2 r ⟨128 * (C.val / 128) + d.val, by omega⟩))
      (fun d => k (ix2 ⟨1024 * (r.val / 1024) + j.val, by omega⟩ ⟨128 * (C.val / 640) + d.val, by omega⟩)) (r.val % 1024) j.val)
    (fun j => v (ix2 ⟨1024 * (r.val / 1024) + j.val, by omega⟩ ⟨128 * (C.val / 640) + C.val % 128, by omega⟩))

/-- The reference's rows are those. -/
theorem refRow (q : FVec Ideal S8192x2560 .bf16) (k v : FVec Ideal S8192x512 .bf16) (r : Fin 8192) (C : Fin 2560) :
    refO v (refP (refE (refZ (refQK q k)))) (ix2 r C) = attRow q k v r C := by
  refine (refO_apply v _ r C).trans ?_
  unfold attRow att
  have hz : ∀ j : Fin 1024, refZ (refQK q k) (ix5 ⟨r.val / 1024, by omega⟩ ⟨C.val / 640, by omega⟩ ⟨C.val / 128 % 5, by omega⟩ ⟨r.val % 1024, by omega⟩ j)
      = score (fun d => q (ix2 r ⟨128 * (C.val / 128) + d.val, by omega⟩))
        (fun d => k (ix2 ⟨1024 * (r.val / 1024) + j.val, by omega⟩ ⟨128 * (C.val / 640) + d.val, by omega⟩)) (r.val % 1024) j.val := fun j => by
    rw [refZ_apply, refQK_apply]
    unfold score
    refine congrArg (fun s : EReal => if j.val ≤ r.val % 1024 then s * RS else NI) ?_
    refine Finset.sum_congr rfl fun d _ => congrArg (· * _) (congrArg q (congrArg₂ ix2 (Fin.ext ?_) (Fin.ext ?_)))
    · show 1024 * (r.val / 1024) + r.val % 1024 = r.val; omega
    · show 128 * (5 * (C.val / 640) + C.val / 128 % 5) + d.val = 128 * (C.val / 128) + d.val; omega
  refine Finset.sum_congr rfl fun j _ => congrArg (· * _) ?_
  rw [refP_apply]
  simp only [refE_apply, hz]

variable (m : (ℓ : Loc nD τ sig) → Buf (Elt Ideal) ℓ) (c : Dev nD)

/-- The attention's rows, as a term of the arguments. -/
abbrev mO : FVec Ideal S8192x2560 .f32 :=
  refO (m ((c.tc : Thread nD τ).loc main_arg2)) (refP (refE (refZ (refQK (m ((c.tc : Thread nD τ).loc main_arg0)) (m ((c.tc : Thread nD τ).loc main_arg1))))))

/-- The run's third result is the reciprocal root mean squares. -/
theorem res2_eq : res_out2 m c = shapeCast _ (refR (mO m c)) shapeCasts_S8192_S32x2x128 := by
  unfold res_out2 res_main_v56; rfl

/-- The run's second result is the scales. -/
theorem res1_eq : res_out1 m c = shapeCast _ (refS (refA (refN (mO m c) (m ((c.tc : Thread nD τ).loc main_arg3))))) shapeCasts_S8192_S32x2x128 := by
  unfold res_out1 res_main_v55; rfl

/-- The run's first result is the codes. -/
theorem res0_eq : res_out0 m c = refC (refN (mO m c) (m ((c.tc : Thread nD τ).loc main_arg3))) (refS (refA (refN (mO m c) (m ((c.tc : Thread nD τ).loc main_arg3))))) := by
  unfold res_out0 res_main_v54; rfl

/-- A row's number laid out in 32 by 2 by 128. -/
theorem lay_apply (R : FVec Ideal S8192 .f32) (t : Fin 32) (a : Fin 2) (b : Fin 128) :
    shapeCast S32x2x128 R shapeCasts_S8192_S32x2x128 (ix3 t a b) = R (ix1 ⟨256 * t.val + 128 * a.val + b.val, by omega⟩) := by
  pointwise
  refine congrArg R (congrArg ix1 (Fin.ext ?_))
  show t.val * 256 + a.val * 128 + b.val = 256 * t.val + 128 * a.val + b.val
  omega

end Cert.AttnRefIdeal.Eq
-- ==== Proof.AttnEq.lean ====
module

public import proofs.«01_k».proof.Defs
public import proofs.«01_k».proof.Proof.AttnIdealVal
public import proofs.«01_k».proof.Proof.Tern
public import proofs.«01_k».proof.Proof.RowQuant
public import proofs.«01_k».proof.Proof.RowSpec
public import proofs.«01_k».proof.Proof.AttnSpec
public import proofs.«01_k».proof.Proof.AttnRefEq
public import proofs.«01_k».proof.Proof.Gen.Pre_attn_finite
public import Idealize.ShloMosaic.Lib.ReduceAll
public import Idealize.ShloMosaic.Lib.MatmulPlain
public import Idealize.ShloMosaic.Lib.Pointwise
public import Idealize.ShloMosaic.Lib.Pipeline.ValueKit

@[expose] public section
set_option maxRecDepth 16384
noncomputable section
/-! The attention kernel's three results as formulas of its arguments, row by row, and their equality with the
    reference's. -/
namespace Cert.AttnIdeal.Val
open Cert.AttnIdeal Cert.AttnIdeal.Gen
open Idealize.ShloMosaic Idealize.ShloMosaic.TcCoe Idealize.ShloMosaic.Tactic
open Idealize.SL Idealize.SL.Sem
open Idealize.ShloMosaic.Pipeline (Dat Cfg Window)
open Cert.Tern Cert.RowSpec Cert.AttnSpec
open Cert.AttnRefIdeal.Eq (attRow)

/-! ## The heads -/

theorem off2_eq (k : Fin k0_t1_loop.trips) : k0_off2 k = ![0, 128 * (k.val / 5)] := by revert k; decide +kernel
theorem off4_eq (k : Fin k0_t2_loop.trips) : k0_off4 k = ![0, 128 * (k.val / 5)] := by revert k; decide +kernel
theorem off6_eq (k : Fin k0_t3_loop.trips) : k0_off6 k = ![0, 128 * (k.val / 5)] := by revert k; decide +kernel
theorem off8_eq (k : Fin k0_t4_loop.trips) : k0_off8 k = ![0, 128 * (k.val / 5)] := by revert k; decide +kernel

/-- The kernel's mask: the query's position is its row plus the block's first position. -/
theorem sel_add (c : ℕ) {r j : ℕ} (hp : c + r < 1024) (hj : j < 1024) (x y : EReal) :
    Scalar.select (IntOp.cmpi CmpIPredicate.sle (BitVec.ofNat 32 j) (IntOp.addi (BitVec.ofNat 32 c) (BitVec.ofNat 32 r))) x y = if j ≤ c + r then x else y := by
  have e : IntOp.addi (BitVec.ofNat 32 c) (BitVec.ofNat 32 r) = BitVec.ofNat 32 (c + r) := (BitVec.ofNat_add c r).symm
  rw [e]
  exact sel_sle hp hj x y

/-- The weights of case 1 before the division, at an index. -/
theorem pay2_apply (q : Vec Ideal S256x128 .bf16) (k : Vec Ideal S256x128 .bf16) (r : Fin 256) (j : Fin 256) :
    k0_pay2 (F := Ideal) q k (ix2 r j) = ex (fun j : Fin 256 => score (fun d => q (ix2 r d)) (fun d => k (ix2 j d)) (0 + r.val) j.val) j := by
  have hs : ∀ (j : Fin 256) (x y : EReal), Scalar.select (IntOp.cmpi CmpIPredicate.sle (BitVec.ofNat 32 j.val) (IntOp.addi (0#32) (BitVec.ofNat 32 r.val))) x y
      = if j.val ≤ 0 + r.val then x else y := fun j x y => sel_add 0 (by omega) (by omega) x y
  unfold ex top score
  pointwise [k0_pay2]
  simp only [hs, Nat.zero_add]

/-- Their sums by row. -/
theorem pay3_apply (q : Vec Ideal S256x128 .bf16) (k : Vec Ideal S256x128 .bf16) (r : Fin 256) :
    k0_pay3 (F := Ideal) q k (ix2 r 0) = ∑ j, k0_pay2 (F := Ideal) q k (ix2 r j) := by
  unfold k0_pay3
  pointwise

/-- The weights, divided, times the values. -/
theorem pay15_apply (E : FVec Ideal S256x256 .f32) (S : FVec Ideal S256x1 .f32) (V : Vec Ideal S256x128 .bf16) (r : Fin 256) (d : Fin 128) :
    k0_pay15 (F := Ideal) E S V (ix2 r d) = ∑ j, Ideal.div (E (ix2 r j)) (S (ix2 r 0)) * V (ix2 j d) := by
  pointwise [k0_pay15]

/-- The weights of case 2 before the division, at an index. -/
theorem pay4_apply (q : Vec Ideal S256x128 .bf16) (k : Vec Ideal S512x128 .bf16) (r : Fin 256) (j : Fin 512) :
    k0_pay4 (F := Ideal) q k (ix2 r j) = ex (fun j : Fin 512 => score (fun d => q (ix2 r d)) (fun d => k (ix2 j d)) (256 + r.val) j.val) j := by
  have hs : ∀ (j : Fin 512) (x y : EReal), Scalar.select (IntOp.cmpi CmpIPredicate.sle (BitVec.ofNat 32 j.val) (IntOp.addi (256#32) (BitVec.ofNat 32 r.val))) x y
      = if j.val ≤ 256 + r.val then x else y := fun j x y => sel_add 256 (by omega) (by omega) x y
  unfold ex top score
  pointwise [k0_pay4]
  simp only [hs, Nat.zero_add]

/-- Their sums by row. -/
theorem pay5_apply (q : Vec Ideal S256x128 .bf16) (k : Vec Ideal S512x128 .bf16) (r : Fin 256) :
    k0_pay5 (F := Ideal) q k (ix2 r 0) = ∑ j, k0_pay4 (F := Ideal) q k (ix2 r j) := by
  unfold k0_pay5
  pointwise

/-- The weights, divided, times the values. -/
theorem pay16_apply (E : FVec Ideal S256x512 .f32) (S : FVec Ideal S256x1 .f32) (V : Vec Ideal S512x128 .bf16) (r : Fin 256) (d : Fin 128) :
    k0_pay16 (F := Ideal) E S V (ix2 r d) = ∑ j, Ideal.div (E (ix2 r j)) (S (ix2 r 0)) * V (ix2 j d) := by
  pointwise [k0_pay16]

/-- The weights of case 3 before the division, at an index. -/
theorem pay6_apply (q : Vec Ideal S256x128 .bf16) (k : Vec Ideal S768x128 .bf16) (r : Fin 256) (j : Fin 768) :
    k0_pay6 (F := Ideal) q k (ix2 r j) = ex (fun j : Fin 768 => score (fun d => q (ix2 r d)) (fun d => k (ix2 j d)) (512 + r.val) j.val) j := by
  have hs : ∀ (j : Fin 768) (x y : EReal), Scalar.select (IntOp.cmpi CmpIPredicate.sle (BitVec.ofNat 32 j.val) (IntOp.addi (512#32) (BitVec.ofNat 32 r.val))) x y
      = if j.val ≤ 512 + r.val then x else y := fun j x y => sel_add 512 (by omega) (by omega) x y
  unfold ex top score
  pointwise [k0_pay6]
  simp only [hs, Nat.zero_add]

/-- Their sums by row. -/
theorem pay7_apply (q : Vec Ideal S256x128 .bf16) (k : Vec Ideal S768x128 .bf16) (r : Fin 256) :
    k0_pay7 (F := Ideal) q k (ix2 r 0) = ∑ j, k0_pay6 (F := Ideal) q k (ix2 r j) := by
  unfold k0_pay7
  pointwise

/-- The weights, divided, times the values. -/
theorem pay17_apply (E : FVec Ideal S256x768 .f32) (S : FVec Ideal S256x1 .f32) (V : Vec Ideal S768x128 .bf16) (r : Fin 256) (d : Fin 128) :
    k0_pay17 (F := Ideal) E S V (ix2 r d) = ∑ j, Ideal.div (E (ix2 r j)) (S (ix2 r 0)) * V (ix2 j d) := by
  pointwise [k0_pay17]

/-- The weights of case 4 before the division, at an index. -/
theorem pay8_apply (q : Vec Ideal S256x128 .bf16) (k : Vec Ideal S1024x128 .bf16) (r : Fin 256) (j : Fin 1024) :
    k0_pay8 (F := Ideal) q k (ix2 r j) = ex (fun j : Fin 1024 => score (fun d => q (ix2 r d)) (fun d => k (ix2 j d)) (768 + r.val) j.val) j := by
  have hs : ∀ (j : Fin 1024) (x y : EReal), Scalar.select (IntOp.cmpi CmpIPredicate.sle (BitVec.ofNat 32 j.val) (IntOp.addi (768#32) (BitVec.ofNat 32 r.val))) x y
      = if j.val ≤ 768 + r.val then x else y := fun j x y => sel_add 768 (by omega) (by omega) x y
  unfold ex top score
  pointwise [k0_pay8]
  simp only [hs, Nat.zero_add]

/-- Their sums by row. -/
theorem pay9_apply (q : Vec Ideal S256x128 .bf16) (k : Vec Ideal S1024x128 .bf16) (r : Fin 256) :
    k0_pay9 (F := Ideal) q k (ix2 r 0) = ∑ j, k0_pay8 (F := Ideal) q k (ix2 r j) := by
  unfold k0_pay9
  pointwise

/-- The weights, divided, times the values. -/
theorem pay18_apply (E : FVec Ideal S256x1024 .f32) (S : FVec Ideal S256x1 .f32) (V : Vec Ideal S1024x128 .bf16) (r : Fin 256) (d : Fin 128) :
    k0_pay18 (F := Ideal) E S V (ix2 r d) = ∑ j, Ideal.div (E (ix2 r j)) (S (ix2 r 0)) * V (ix2 j d) := by
  pointwise [k0_pay18]

/-- Heads taken from the first `n` keys equal heads taken from all of them, where no later key is seen. -/
theorem cut {n : ℕ} (hn : n ≤ 1024) (q : Fin 128 → EReal) (x : Fin 1024 → Fin 128 → EReal) (v : Fin 1024 → EReal) (p : ℕ) (hp : p < n)
    (hq : ∀ d, ∃ r : ℝ, q d = (r : EReal)) (hx : ∀ j d, ∃ r : ℝ, x j d = (r : EReal)) :
    att (fun j : Fin n => score q (x (Fin.castLE hn j)) p j.val) (fun j => v (Fin.castLE hn j)) = att (fun j : Fin 1024 => score q (x j) p j.val) v := by
  refine att_cut hn (fun j : Fin 1024 => score q (x j) p j.val) v (fun j hj => (score_real q (x j) hq (hx j) p j.val).2 (by omega)) ⟨0, by omega⟩
    ((score_real q (x ⟨0, by omega⟩) hq (hx _) p 0).1 (Nat.zero_le _)) fun j => ?_
  by_cases h : j.val ≤ p
  · obtain ⟨r, hr⟩ := (score_real q (x j) hq (hx j) p j.val).1 h
    rw [hr]; exact EReal.coe_ne_top r
  · rw [(score_real q (x j) hq (hx j) p j.val).2 h]; exact bot_ne_top

/-- Row `r` of the queries, the columns of the head that column `C` lies in. -/
def qh (q : Vec Ideal S256x2560 .bf16) (r : Fin 256) (C : Fin 2560) (e : Fin 128) : EReal := q (ix2 r ⟨128 * (C.val / 128) + e.val, by omega⟩)

/-- The keys of that head's group. -/
def kh (x : Vec Ideal S1024x512 .bf16) (C : Fin 2560) (j : Fin 1024) (e : Fin 128) : EReal := x (ix2 j ⟨128 * (C.val / 640) + e.val, by omega⟩)

/-- The values of that group, at the column's place in its head. -/
def vh (v : Vec Ideal S1024x512 .bf16) (C : Fin 2560) (j : Fin 1024) : EReal := v (ix2 j ⟨128 * (C.val / 640) + C.val % 128, by omega⟩)

/-- A head's queries, cut out of the block. -/
theorem qT_apply (q : Vec Ideal S256x2560 .bf16) (r : Fin 256) (C : Fin 2560) (k : Fin k0_t1_loop.trips) (hk : k.val = C.val / 128) (e : Fin 128) :
    qT q k (ix2 r e) = qh q r C e :=
  window2 q _ _ (k0_off1_eq k) r e r ⟨128 * (C.val / 128) + e.val, by omega⟩ (Nat.zero_add _).symm (by show 128 * (C.val / 128) + e.val = 128 * k.val + e.val; rw [hk])

/-- A head's outputs in case 1. -/
theorem oT1_apply (q : Vec Ideal S256x2560 .bf16) (x v : Vec Ideal S1024x512 .bf16) (r : Fin 256) (C : Fin 2560) (k : Fin k0_t1_loop.trips) (hk : k.val = C.val / 128) :
    oT1 (F := Ideal) q x v k (ix2 r ⟨C.val % 128, Nat.mod_lt _ (by decide)⟩)
      = att (fun j : Fin 256 => score (qh q r C) (kh x C (Fin.castLE (by decide) j)) (0 + r.val) j.val) (fun j => vh v C (Fin.castLE (by decide) j)) := by
  have hw : ∀ (y : Vec Ideal S1024x512 .bf16) (j : Fin 256) (e : Fin 128), VecWindow.window y (k0_off2 k) S256x128.size (inbK1 k) (ix2 j e) = kh y C (Fin.castLE (by decide) j) e :=
    fun y j e => window2 y _ _ (off2_eq k) j e _ _ (Nat.zero_add _).symm (by show 128 * (C.val / 640) + e.val = 128 * (k.val / 5) + e.val; omega)
  unfold oT1 att
  refine (pay15_apply _ _ _ r _).trans ?_
  rw [pay3_apply]
  simp only [pay2_apply, qT_apply q r C k hk, hw]
  rfl

/-- A head's outputs in case 2. -/
theorem oT2_apply (q : Vec Ideal S256x2560 .bf16) (x v : Vec Ideal S1024x512 .bf16) (r : Fin 256) (C : Fin 2560) (k : Fin k0_t1_loop.trips) (hk : k.val = C.val / 128) :
    oT2 (F := Ideal) q x v k (ix2 r ⟨C.val % 128, Nat.mod_lt _ (by decide)⟩)
      = att (fun j : Fin 512 => score (qh q r C) (kh x C (Fin.castLE (by decide) j)) (256 + r.val) j.val) (fun j => vh v C (Fin.castLE (by decide) j)) := by
  have hw : ∀ (y : Vec Ideal S1024x512 .bf16) (j : Fin 512) (e : Fin 128), VecWindow.window y (k0_off4 k) S512x128.size (inbK2 k) (ix2 j e) = kh y C (Fin.castLE (by decide) j) e :=
    fun y j e => window2 y _ _ (off4_eq k) j e _ _ (Nat.zero_add _).symm (by show 128 * (C.val / 640) + e.val = 128 * (k.val / 5) + e.val; omega)
  unfold oT2 att
  refine (pay16_apply _ _ _ r _).trans ?_
  rw [pay5_apply]
  simp only [pay4_apply, qT_apply q r C k hk, hw]
  rfl

/-- A head's outputs in case 3. -/
theorem oT3_apply (q : Vec Ideal S256x2560 .bf16) (x v : Vec Ideal S1024x512 .bf16) (r : Fin 256) (C : Fin 2560) (k : Fin k0_t1_loop.trips) (hk : k.val = C.val / 128) :
    oT3 (F := Ideal) q x v k (ix2 r ⟨C.val % 128, Nat.mod_lt _ (by decide)⟩)
      = att (fun j : Fin 768 => score (qh q r C) (kh x C (Fin.castLE (by decide) j)) (512 + r.val) j.val) (fun j => vh v C (Fin.castLE (by decide) j)) := by
  have hw : ∀ (y : Vec Ideal S1024x512 .bf16) (j : Fin 768) (e : Fin 128), VecWindow.window y (k0_off6 k) S768x128.size (inbK3 k) (ix2 j e) = kh y C (Fin.castLE (by decide) j) e :=
    fun y j e => window2 y _ _ (off6_eq k) j e _ _ (Nat.zero_add _).symm (by show 128 * (C.val / 640) + e.val = 128 * (k.val / 5) + e.val; omega)
  unfold oT3 att
  refine (pay17_apply _ _ _ r _).trans ?_
  rw [pay7_apply]
  simp only [pay6_apply, qT_apply q r C k hk, hw]
  rfl

/-- A head's outputs in case 4. -/
theorem oT4_apply (q : Vec Ideal S256x2560 .bf16) (x v : Vec Ideal S1024x512 .bf16) (r : Fin 256) (C : Fin 2560) (k : Fin k0_t1_loop.trips) (hk : k.val = C.val / 128) :
    oT4 (F := Ideal) q x v k (ix2 r ⟨C.val % 128, Nat.mod_lt _ (by decide)⟩)
      = att (fun j : Fin 1024 => score (qh q r C) (kh x C (Fin.castLE (by decide) j)) (768 + r.val) j.val) (fun j => vh v C (Fin.castLE (by decide) j)) := by
  have hw : ∀ (y : Vec Ideal S1024x512 .bf16) (j : Fin 1024) (e : Fin 128), VecWindow.window y (k0_off8 k) S1024x128.size (inbK4 k) (ix2 j e) = kh y C (Fin.castLE (by decide) j) e :=
    fun y j e => window2 y _ _ (off8_eq k) j e _ _ (Nat.zero_add _).symm (by show 128 * (C.val / 640) + e.val = 128 * (k.val / 5) + e.val; omega)
  unfold oT4 att
  refine (pay18_apply _ _ _ r _).trans ?_
  rw [pay9_apply]
  simp only [pay8_apply, qT_apply q r C k hk, hw]
  rfl

/-- The attention's outputs at a grid point of case `n`: every key counts, those after the query with weight zero. -/
theorem oF_apply (n : ℕ) (hn : n < 4) (q : Vec Ideal S256x2560 .bf16) (x v : Vec Ideal S1024x512 .bf16) (r : Fin 256) (C : Fin 2560)
    (hq : ∀ i, ∃ s : ℝ, q i = (s : EReal)) (hx : ∀ i, ∃ s : ℝ, x i = (s : EReal)) :
    oF (F := Ideal) n q x v (ix2 r C) = att (fun j : Fin 1024 => score (qh q r C) (kh x C j) (256 * n + r.val) j.val) (vh v C) := by
  have hr := r.isLt
  have hc : ∀ (N : ℕ) (hN : N ≤ 1024) (p : ℕ) (hp : p < N), _ := fun N hN p hp =>
    cut hN (qh q r C) (kh x C) (vh v C) p hp (fun d => hq _) (fun j d => hx _)
  obtain rfl | rfl | rfl | rfl : n = 0 ∨ n = 1 ∨ n = 2 ∨ n = 3 := by omega
  · exact (oT1_apply q x v r C ⟨C.val / 128, by rw [trips1]; omega⟩ rfl).trans (hc 256 (by decide) (0 + r.val) (by omega))
  · exact (oT2_apply q x v r C ⟨C.val / 128, by rw [trips1]; omega⟩ rfl).trans (hc 512 (by decide) (256 + r.val) (by omega))
  · exact (oT3_apply q x v r C ⟨C.val / 128, by rw [trips1]; omega⟩ rfl).trans (hc 768 (by decide) (512 + r.val) (by omega))
  · exact (oT4_apply q x v r C ⟨C.val / 128, by rw [trips1]; omega⟩ rfl).trans (hc 1024 (by decide) (768 + r.val) (by omega))

/-! ## Normalisation and quantisation -/

theorem pay10_apply (M : Vec Ideal S32x2560 .f32) (r : Fin 32) : k0_pay10 (F := Ideal) M (ix2 r 0) = RowQuant.rstd D (fun x => M (ix2 r x)) := by
  pointwise [k0_pay10]
  rfl

theorem pay11_apply (M : Vec Ideal S32x2560 .f32) (g : Vec Ideal S1x2560 .f32) (r : Fin 32) (C : Fin 2560) :
    k0_pay11 (F := Ideal) M g (ix2 r C) = normed (fun x => M (ix2 r x)) (fun x => g (ix2 0 x)) C := by
  pointwise [k0_pay11]
  rw [pay10_apply]
  rfl

theorem pay12_apply (M : Vec Ideal S32x2560 .f32) (g : Vec Ideal S1x2560 .f32) (r : Fin 32) :
    k0_pay12 (F := Ideal) M g (ix2 r 0) = scl (fun x => M (ix2 r x)) (fun x => g (ix2 0 x)) := by
  unfold k0_pay12
  pointwise
  simp only [pay11_apply]
  rfl

theorem pay13_apply (M : Vec Ideal S32x2560 .f32) (g : Vec Ideal S1x2560 .f32) (r : Fin 32) (C : Fin 2560) :
    k0_pay13 (F := Ideal) M g (ix2 r C) = cod (fun x => M (ix2 r x)) (fun x => g (ix2 0 x)) C := by
  unfold k0_pay13
  pointwise
  rw [pay11_apply, pay12_apply]
  rfl

theorem pay14_apply (M : Vec Ideal S32x2560 .f32) (g : Vec Ideal S1x2560 .f32) (r : Fin 32) (l : Fin 128) :
    k0_pay14 (F := Ideal) M g (ix2 r l) = scl (fun x => M (ix2 r x)) (fun x => g (ix2 0 x)) := by
  unfold k0_pay14
  pointwise
  exact pay12_apply M g r

/-- The strip of 32 rows that holds row `r`, read at that row. -/
theorem rowsT_apply (mm : Vec Ideal S256x2560 .f32) (r : Fin 256) (C : Fin 2560) :
    rowsT (F := Ideal) mm (rowTrip r) (ix2 (rowIn r) C) = mm (ix2 r C) :=
  window2 mm _ _ (k0_off9_eq _) (rowIn r) C r C (by show r.val = 32 * (r.val / 32) + r.val % 32; omega) (Nat.zero_add _).symm

theorem rows_eq (mm : Vec Ideal S256x2560 .f32) (r : Fin 256) :
    (fun C => rowsT (F := Ideal) mm (rowTrip r) (ix2 (rowIn r) C)) = fun C => mm (ix2 r C) :=
  funext fun C => rowsT_apply mm r C

theorem codesF_apply (mm : Vec Ideal S256x2560 .f32) (g : Vec Ideal S1x2560 .f32) (r : Fin 256) (C : Fin 2560) :
    codesF (F := Ideal) mm g (ix2 r C) = cod (fun x => mm (ix2 r x)) (fun x => g (ix2 0 x)) C := by
  exact (pay13_apply _ _ (rowIn r) C).trans (congrArg (fun v => cod v (fun x => g (ix2 0 x)) C) (rows_eq mm r))

theorem scaleL_apply (mm : Vec Ideal S256x2560 .f32) (g : Vec Ideal S1x2560 .f32) (r : Fin 256) (l : Fin 128) :
    scaleL (F := Ideal) mm g (ix2 r l) = scl (fun x => mm (ix2 r x)) (fun x => g (ix2 0 x)) := by
  exact (pay14_apply _ _ (rowIn r) l).trans (congrArg (fun v => scl v (fun x => g (ix2 0 x))) (rows_eq mm r))

theorem rstdL_apply (mm : Vec Ideal S256x2560 .f32) (r : Fin 256) (l : Fin 128) : rstdL (F := Ideal) mm (ix2 r l) = RowQuant.rstd D (fun x => mm (ix2 r x)) := by
  have h : ∀ (M : Vec Ideal S32x2560 .f32) (r : Fin 32), k0_pay19 (F := Ideal) (k0_pay10 M) (ix2 r l) = RowQuant.rstd D (fun x => M (ix2 r x)) := fun M r => by
    unfold k0_pay19
    pointwise
    exact pay10_apply M r
  exact (h _ (rowIn r)).trans (congrArg (RowQuant.rstd D) (rows_eq mm r))

/-- The scales' lane buffer's diagonal, laid out in 2 by 128: row `128 a + b`, lane `b`. -/
theorem pay20_apply (M : Vec Ideal S256x128 .f32) (a : Fin 2) (b : Fin 128) :
    k0_pay20 (F := Ideal) M (ix3 0 a b) = M (ix2 ⟨a.val * 128 + b.val, by omega⟩ b) := by
  unfold k0_pay20
  pointwise
  exact RowQuant.diag_sum (fun x => M (ix2 ⟨a.val * 128 + x.val, by omega⟩ b)) b

/-- The same of the other lane buffer. -/
theorem denseR_apply (M : Vec Ideal S256x128 .f32) (a : Fin 2) (b : Fin 128) :
    denseR (F := Ideal) M (ix3 0 a b) = M (ix2 ⟨a.val * 128 + b.val, by omega⟩ b) := by
  unfold denseR k0_pay1 k0_pay21
  pointwise
  exact RowQuant.diag_sum (fun x => M (ix2 ⟨a.val * 128 + x.val, by omega⟩ b)) b

/-! ## The result arrays -/

variable (m : (ℓ : Loc nD τ sig) → Buf (Elt Ideal) ℓ) (ρ : Dev nD → PrngReg)

/-- Every entry of the queries and of the keys is a real number. -/
def Finite (c : Dev nD) : Prop :=
  (∀ i : S8192x2560.Idx, ∃ s : ℝ, (m ((c.tc : Thread nD τ).loc main_arg0) : Vec Ideal S8192x2560 .bf16) i = (s : EReal))
  ∧ ∀ i : S8192x512.Idx, ∃ s : ℝ, (m ((c.tc : Thread nD τ).loc main_arg1) : Vec Ideal S8192x512 .bf16) i = (s : EReal)

/-- Row `r` of the attention, from the argument arrays. -/
def row (c : Dev nD) (r : Fin 8192) : Fin 2560 → EReal :=
  attRow (m ((c.tc : Thread nD τ).loc main_arg0)) (m ((c.tc : Thread nD τ).loc main_arg1)) (m ((c.tc : Thread nD τ).loc main_arg2)) r

/-- The normalisation's weights. -/
def gw (c : Dev nD) : Fin 2560 → EReal := fun C => m ((c.tc : Thread nD τ).loc main_arg3) (ix2 0 C)

/-- The codes, as the formula of the argument arrays. -/
def G0 (c : Dev nD) : Buf (Elt Ideal) ((c.tc : Thread nD τ).loc main_v0_0) := fun (i : S8192x2560.Idx) => cod (row m c (i 0)) (gw m c) (i 1)

/-- The row of the 8192 at a place of 32 by 2 by 128. -/
def lay (i : S32x2x128.Idx) : Fin 8192 := ⟨256 * (i 0).val + 128 * (i 1).val + (i 2).val, by
  have h0 : (i 0).val < 32 := (i 0).isLt
  have h1 : (i 1).val < 2 := (i 1).isLt
  have h2 : (i 2).val < 128 := (i 2).isLt
  omega⟩

/-- The scales, as the formula of the argument arrays. -/
def G1 (c : Dev nD) : Buf (Elt Ideal) ((c.tc : Thread nD τ).loc main_v0_1) := fun (i : S32x2x128.Idx) => scl (row m c (lay i)) (gw m c)

/-- The reciprocal root mean squares, as the formula of the argument arrays. -/
def G2 (c : Dev nD) : Buf (Elt Ideal) ((c.tc : Thread nD τ).loc main_v0_2) := fun (i : S32x2x128.Idx) => RowQuant.rstd D (row m c (lay i))

theorem idx0 : ∀ t : Fin cfg0.N, win0_0.index t = ![t.val, 0] := (by decide +kernel : ∀ t : Fin grid0.N, _)
theorem idx1 : ∀ t : Fin cfg0.N, win0_1.index t = ![t.val / 4, 0] := (by decide +kernel : ∀ t : Fin grid0.N, _)
theorem idx2 : ∀ t : Fin cfg0.N, win0_2.index t = ![t.val / 4, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![t.val, 0, 0] := (by decide +kernel : ∀ t : Fin grid0.N, _)

theorem tlt (t : Fin cfg0.N) : t.val < 32 := by
  have h : cfg0.N = 32 := (by decide +kernel : grid0.N = 32)
  exact h ▸ t.isLt

/-- The queries' block at point `t`, read at an index. -/
theorem iblk0_apply (c : Dev nD) (t : Fin cfg0.N) (r : Fin 256) (C : Fin 2560) :
    (iblk m c 0 t : Vec Ideal S256x2560 .bf16) (ix2 r C) = m ((c.tc : Thread nD τ).loc main_arg0) (ix2 ⟨256 * t.val + r.val, by have := tlt t; omega⟩ C) := by
  show ((cfg0.win 0).blk t).view.read (Elt Ideal) (V m c main_arg0) (ix2 r C) = _
  rw [V_main_arg0]
  blk_point [idx0 t]

/-- The keys' block at point `t`, the batch entry's, read at an index. -/
theorem iblk1_apply (c : Dev nD) (t : Fin cfg0.N) (j : Fin 1024) (C : Fin 512) :
    (iblk m c 1 t : Vec Ideal S1024x512 .bf16) (ix2 j C) = m ((c.tc : Thread nD τ).loc main_arg1) (ix2 ⟨1024 * (t.val / 4) + j.val, by have := tlt t; omega⟩ C) := by
  show ((cfg0.win 1).blk t).view.read (Elt Ideal) (V m c main_arg1) (ix2 j C) = _
  rw [V_main_arg1]
  blk_point [idx1 t]

/-- The values' block at point `t`, the batch entry's, read at an index. -/
theorem iblk2_apply (c : Dev nD) (t : Fin cfg0.N) (j : Fin 1024) (C : Fin 512) :
    (iblk m c 2 t : Vec Ideal S1024x512 .bf16) (ix2 j C) = m ((c.tc : Thread nD τ).loc main_arg2) (ix2 ⟨1024 * (t.val / 4) + j.val, by have := tlt t; omega⟩ C) := by
  show ((cfg0.win 2).blk t).view.read (Elt Ideal) (V m c main_arg2) (ix2 j C) = _
  rw [V_main_arg2]
  blk_point [idx2 t]

/-- The normalisation's weights, whole at every point. -/
theorem iblk3_apply (c : Dev nD) (t : Fin cfg0.N) (C : Fin 2560) :
    (iblk m c 3 t : Vec Ideal S1x2560 .f32) (ix2 0 C) = m ((c.tc : Thread nD τ).loc main_arg3) (ix2 0 C) := by
  show ((cfg0.win 3).blk t).view.read (Elt Ideal) (V m c main_arg3) (ix2 0 C) = _
  rw [V_main_arg3]
  blk_point [idx3 t]

/-- Row `r` of point `t`'s attention is row `256 t + r`. -/
theorem oB_row (c : Dev nD) (hf : Finite m c) (t : Fin cfg0.N) (r : Fin 256) :
    (fun C => oB (F := Ideal) m c t (ix2 r C)) = row m c ⟨256 * t.val + r.val, by have := tlt t; omega⟩ := by
  funext C
  have ht := tlt t
  unfold oB
  refine (oF_apply (t.val % 4) (by omega) _ _ _ r C (fun i => ?_) (fun i => ?_)).trans ?_
  · obtain ⟨s, hs⟩ := hf.1 (ix2 ⟨256 * t.val + (i 0).val, by have : (i 0).val < 256 := (i 0).isLt; omega⟩ (i 1))
    exact ⟨s, (congrArg _ (eq_ix2 (n0 := 256) (n1 := 2560) i)).trans ((iblk0_apply m c t (i 0) (i 1)).trans hs)⟩
  · obtain ⟨s, hs⟩ := hf.2 (ix2 ⟨1024 * (t.val / 4) + (i 0).val, by have : (i 0).val < 1024 := (i 0).isLt; omega⟩ (i 1))
    exact ⟨s, (congrArg _ (eq_ix2 (n0 := 1024) (n1 := 512) i)).trans ((iblk1_apply m c t (i 0) (i 1)).trans hs)⟩
  have e1 : (256 * t.val + r.val) / 1024 = t.val / 4 := by omega
  have e2 : (256 * t.val + r.val) % 1024 = 256 * (t.val % 4) + r.val := by omega
  unfold row attRow
  refine congrArg₂ att (funext fun j => ?_) (funext fun j => ?_)
  · rw [← e2]
    refine congrArg₂ (fun a b => score a b ((256 * t.val + r.val) % 1024) j.val) (funext fun e => iblk0_apply m c t r _) (funext fun e => (iblk1_apply m c t j _).trans ?_)
    exact congrArg (fun R => m ((c.tc : Thread nD τ).loc main_arg1) (ix2 R (⟨128 * (C.val / 640) + e.val, by omega⟩ : Fin 512))) (Fin.ext (by dsimp only; rw [e1]))
  · refine (iblk2_apply m c t j _).trans ?_
    exact congrArg (fun R => m ((c.tc : Thread nD τ).loc main_arg2) (ix2 R (⟨128 * (C.val / 640) + C.val % 128, by omega⟩ : Fin 512))) (Fin.ext (by dsimp only; rw [e1]))

theorem gw_eq (c : Dev nD) (t : Fin cfg0.N) : (fun C => (iblk m c 3 t : Vec Ideal S1x2560 .f32) (ix2 0 C)) = gw m c := by
  funext C; exact iblk3_apply m c t C

/-- The codes of point `t`'s row `r`. -/
theorem blk4_apply (c : Dev nD) (hf : Finite m c) (t : Fin cfg0.N) (r : Fin 256) (C : Fin 2560) :
    codesF (F := Ideal) (oB m c t) (iblk m c 3 t) (ix2 r C) = cod (row m c ⟨256 * t.val + r.val, by have := tlt t; omega⟩) (gw m c) C :=
  (codesF_apply _ _ r C).trans (congrArg₂ (fun v g => cod v g C) (oB_row m c hf t r) (gw_eq m c t))

/-- The scales of point `t`, laid out. -/
theorem blk5_apply (c : Dev nD) (hf : Finite m c) (t : Fin cfg0.N) (z : Fin 1) (a : Fin 2) (b : Fin 128) :
    k0_pay20 (F := Ideal) (scaleL (oB m c t) (iblk m c 3 t)) (ix3 z a b)
      = scl (row m c ⟨256 * t.val + (a.val * 128 + b.val), by have := tlt t; omega⟩) (gw m c) := by
  obtain rfl : z = 0 := Subsingleton.elim _ _
  exact (pay20_apply _ a b).trans ((scaleL_apply _ _ _ b).trans (congrArg₂ scl (oB_row m c hf t ⟨a.val * 128 + b.val, by omega⟩) (gw_eq m c t)))

/-- The reciprocal root mean squares of point `t`, laid out. -/
theorem blk6_apply (c : Dev nD) (hf : Finite m c) (t : Fin cfg0.N) (z : Fin 1) (a : Fin 2) (b : Fin 128) :
    denseR (F := Ideal) (rstdL (oB m c t)) (ix3 z a b)
      = RowQuant.rstd D (row m c ⟨256 * t.val + (a.val * 128 + b.val), by have := tlt t; omega⟩) := by
  obtain rfl : z = 0 := Subsingleton.elim _ _
  exact (denseR_apply _ a b).trans ((rstdL_apply _ _ b).trans (congrArg (RowQuant.rstd D) (oB_row m c hf t ⟨a.val * 128 + b.val, by omega⟩)))

/-- The codes' array after the run is the formula. -/
theorem arr0_eq (c : Dev nD) (hf : Finite m c) : (dats (F := Ideal) m 0 c).arrAt 4 cfg0.N = G0 m c := by
  refine (dats m 0 c).arrAt_eq_of_covers 4 _ (by decide +kernel) fun t _ y => ?_
  blk_simp
  rw [after0_4]
  refine (congrArg _ (eq_ix2 (n0 := 256) (n1 := 2560) y)).trans ((blk4_apply m c hf t _ _).trans ?_)
  unfold G0
  refine congrArg₂ (fun r C => cod (row m c r) (gw m c) C) (Fin.ext ?_) (Fin.ext ?_)
  · blk_simp
    rw [idx4 t]
    show 256 * t.val + (y 0).val = t.val * 256 + (y 0).val
    omega
  · blk_simp
    rw [idx4 t]
    show (y 1).val = 0 * 2560 + (y 1).val
    omega

/-- The scales' array after the run is the formula. -/
theorem arr1_eq (c : Dev nD) (hf : Finite m c) : (dats (F := Ideal) m 0 c).arrAt 5 cfg0.N = G1 m c := by
  refine (dats m 0 c).arrAt_eq_of_covers 5 _ (by decide +kernel) fun t _ y => ?_
  blk_simp
  rw [after0_5]
  refine (congrArg _ (eq_ix3 (n0 := 1) (n1 := 2) (n2 := 128) y)).trans ((blk5_apply m c hf t _ _ _).trans ?_)
  unfold G1
  refine congrArg (fun r => scl (row m c r) (gw m c)) (Fin.ext ?_)
  unfold lay
  blk_point [idx5 t]
  exact Fin.ext (by dsimp only; omega)

/-- The reciprocal root mean squares' array after the run is the formula. -/
theorem arr2_eq (c : Dev nD) (hf : Finite m c) : (dats (F := Ideal) m 0 c).arrAt 6 cfg0.N = G2 m c := by
  refine (dats m 0 c).arrAt_eq_of_covers 6 _ (by decide +kernel) fun t _ y => ?_
  blk_simp
  rw [after0_6]
  refine (congrArg _ (eq_ix3 (n0 := 1) (n1 := 2) (n2 := 128) y)).trans ((blk6_apply m c hf t _ _ _).trans ?_)
  unfold G2
  refine congrArg (fun r => RowQuant.rstd D (row m c r)) (Fin.ext ?_)
  unfold lay
  blk_point [idx6 t]
  exact Fin.ext (by dsimp only; omega)

end Cert.AttnIdeal.Val

namespace Cert.AttnClaims
open Idealize.ShloMosaic Idealize.ShloMosaic.TcCoe Idealize.SL.Sem
open Cert.RowSpec

/-- The kernel's run: the three result arrays are the formulas of the arguments. -/
theorem run (m : (ℓ : Loc Cert.AttnIdeal.nD Cert.AttnIdeal.τ Cert.AttnIdeal.sig) → Buf (Elt Ideal) ℓ) (ρ : Dev Cert.AttnIdeal.nD → PrngReg)
    (hf : ∀ c, Cert.AttnIdeal.Val.Finite m c) :
    θ_run Cert.AttnIdeal.defs (onTc (τ := Cert.AttnIdeal.τ) (Cert.AttnIdeal.main (F := Ideal))) ⟨m, fun _ => 0, ρ⟩ fun r =>
      ∀ c : Dev Cert.AttnIdeal.nD, r.2.mem ((c.tc : Thread Cert.AttnIdeal.nD Cert.AttnIdeal.τ).loc Cert.AttnIdeal.main_v0_0) = Cert.AttnIdeal.Val.G0 m c
        ∧ r.2.mem ((c.tc : Thread Cert.AttnIdeal.nD Cert.AttnIdeal.τ).loc Cert.AttnIdeal.main_v0_1) = Cert.AttnIdeal.Val.G1 m c
        ∧ r.2.mem ((c.tc : Thread Cert.AttnIdeal.nD Cert.AttnIdeal.τ).loc Cert.AttnIdeal.main_v0_2) = Cert.AttnIdeal.Val.G2 m c :=
  (θ_run _ _ _).mono (fun _ h c => ⟨((h.1 c).1 4).trans (Cert.AttnIdeal.Val.arr0_eq m c (hf c)), ((h.1 c).1 5).trans (Cert.AttnIdeal.Val.arr1_eq m c (hf c)),
    ((h.1 c).1 6).trans (Cert.AttnIdeal.Val.arr2_eq m c (hf c))⟩) (Cert.AttnIdeal.Val.run_main (F := Ideal) m ρ)

/-- A number less than infinity in absolute value is real. -/
theorem real_of_abs (x : EReal) (h : FloatOps.cmpf (F := Ideal) (φ := .f32) .olt (FloatOps.absf (F := Ideal) (φ := .f32) x) (Ideal.ofBits .f32 0x7F800000#32) = 1#1) : ∃ s : ℝ, x = (s : EReal) := by
  have ht : Ideal.ofBits .f32 0x7F800000#32 = ⊤ := by simp [Ideal.ofBits, Ideal.ieee]
  rw [ht] at h
  have hm : ∀ y : EReal, Ideal.cmp .olt y ⊤ = 1#1 → y ≠ ⊤ := fun y hy e => by
    rw [e] at hy
    simp [Ideal.cmp] at hy
  have hx := hm (max x (-x)) h
  induction x with
  | bot => exact absurd (by simp) hx
  | top => exact absurd (by simp) hx
  | coe s => exact ⟨s, rfl⟩

/-- The precondition says that every entry of the queries and of the keys is a real number. -/
theorem finite_of_pre (m : (ℓ : Loc Cert.AttnIdeal.nD Cert.AttnIdeal.τ Cert.AttnIdeal.sig) → Buf (Elt Ideal) ℓ) (h : Cert.Pre_AttnIdeal_attn_finite m) (c : Dev Cert.AttnIdeal.nD) :
    Cert.AttnIdeal.Val.Finite m c := by
  have ha : ∀ a b : BitVec 1, IntOp.andi a b = 1#1 → a = 1#1 ∧ b = 1#1 := by decide
  haveI : Subsingleton Cert.Pre_attn_finite.S_.Idx := ⟨fun a b => funext fun d => d.elim0⟩
  have hc := ha _ _ (congrFun (h c) (fun d => d.elim0))
  exact ⟨fun i => real_of_abs _ (Host.reduce_andi_all _ _ _ _ _ hc.1 i), fun i => real_of_abs _ (Host.reduce_andi_all _ _ _ _ _ hc.2 i)⟩

/-- Equal argument arrays give the reference's rows and the kernel's rows alike. -/
theorem rows (m : (ℓ : Loc Cert.AttnIdeal.nD Cert.AttnIdeal.τ Cert.AttnIdeal.sig) → Buf (Elt Ideal) ℓ)
    (m' : (ℓ : Loc Cert.AttnRefIdeal.nD Cert.AttnRefIdeal.τ Cert.AttnRefIdeal.sig) → Buf (Elt Ideal) ℓ) (c : Dev Cert.AttnIdeal.nD)
    (h0 : m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0))
    (h1 : m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1))
    (h2 : m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2))
    (r : Fin 8192) : (fun C => Cert.AttnRefIdeal.Eq.mO m' c (ix2 r C)) = Cert.AttnIdeal.Val.row m c r := by
  funext C
  unfold Cert.AttnRefIdeal.Eq.mO
  rw [h0, h1, h2]
  exact Cert.AttnRefIdeal.Eq.refRow _ _ _ r C

/-- The kernel and the reference leave equal results on equal arguments. -/
theorem algebraic : Cert.algebraic_AttnIdeal_AttnRefIdeal_pre_attn_finite := by
  intro m ρ m' ρ' hpre hagree
  have hr := fun c => rows m m' c (hagree c).1 (hagree c).2.1 (hagree c).2.2.1
  have hN : ∀ (c : Dev Cert.AttnIdeal.nD) (r : Fin 8192) (C : Fin 2560),
      Cert.OprojRefIdeal.Eq.refN (Cert.AttnRefIdeal.Eq.mO m' c) (m' ((c.tc : Thread Cert.AttnRefIdeal.nD Cert.AttnRefIdeal.τ).loc Cert.AttnRefIdeal.main_arg3)) (ix2 r C)
        = normed (Cert.AttnIdeal.Val.row m c r) (Cert.AttnIdeal.Val.gw m c) C := fun c r C => by
    rw [Cert.OprojRefIdeal.Eq.refN_apply, hr, (hagree c).2.2.2]
    rfl
  have hS : ∀ (c : Dev Cert.AttnIdeal.nD) (r : Fin 8192),
      Cert.OprojRefIdeal.Eq.refS (Cert.OprojRefIdeal.Eq.refA (Cert.OprojRefIdeal.Eq.refN (Cert.AttnRefIdeal.Eq.mO m' c) (m' ((c.tc : Thread Cert.AttnRefIdeal.nD Cert.AttnRefIdeal.τ).loc Cert.AttnRefIdeal.main_arg3)))) (ix1 r)
        = scl (Cert.AttnIdeal.Val.row m c r) (Cert.AttnIdeal.Val.gw m c) := fun c r => by
    rw [Cert.OprojRefIdeal.Eq.refS_apply, Cert.OprojRefIdeal.Eq.refA_apply]
    unfold scl
    exact congrArg (fun v => RowQuant.scale (RowQuant.amax v)) (funext fun C => hN c r C)
  refine ⟨fun c => Cert.AttnIdeal.Val.G0 m c, fun c => Cert.AttnIdeal.Val.G1 m c, fun c => Cert.AttnIdeal.Val.G2 m c, ?_, ?_⟩
  · exact (θ_run Cert.AttnIdeal.defs _ _).mono (fun _ h c => ⟨(h.1 c).1, (h.1 c).2.1, (h.1 c).2.2, h.2.1 c⟩)
      (θ_run_and (run m ρ (finite_of_pre m hpre)) (Cert.AttnIdeal.Val.frame (F := Ideal) m ρ))
  · refine (θ_run Cert.AttnRefIdeal.defs _ _).mono (fun _ h c => ⟨(h c).1.trans ?_, (h c).2.1.trans ?_, (h c).2.2.1.trans ?_, (h c).2.2.2⟩)
      (Cert.AttnRefIdeal.Value.run (F := Ideal) m' ρ')
    · refine (Cert.AttnRefIdeal.Eq.res0_eq m' c).trans ?_
      funext i
      refine (congrArg _ (eq_ix2 (n0 := 8192) (n1 := 2560) i)).trans ((Cert.OprojRefIdeal.Eq.refC_apply _ _ (i 0) (i 1)).trans ?_)
      exact congrArg₂ (fun a b => RowQuant.code (Ideal.div a b)) (hN c _ _) (hS c _)
    · refine (Cert.AttnRefIdeal.Eq.res1_eq m' c).trans ?_
      funext i
      exact (congrArg _ (eq_ix3 (n0 := 32) (n1 := 2) (n2 := 128) i)).trans ((Cert.AttnRefIdeal.Eq.lay_apply _ (i 0) (i 1) (i 2)).trans (hS c _))
    · refine (Cert.AttnRefIdeal.Eq.res2_eq m' c).trans ?_
      funext i
      exact (congrArg _ (eq_ix3 (n0 := 32) (n1 := 2) (n2 := 128) i)).trans ((Cert.AttnRefIdeal.Eq.lay_apply _ (i 0) (i 1) (i 2)).trans
        ((Cert.OprojRefIdeal.Eq.refR_apply _ _).trans (congrArg (RowQuant.rstd D) (hr c _))))

/-- The reference's run leaves its arguments unchanged and every counter at zero. -/
theorem refFrame : Cert.quiescent_AttnRefIdeal := fun m ρ _ =>
  (θ_run Cert.AttnRefIdeal.defs _ _).mono (fun _ h => ⟨fun c => (h c).2.2.2, sem_eq_zero_of_no_sems rfl _⟩) (Cert.AttnRefIdeal.Value.run (F := Ideal) m ρ)

end Cert.AttnClaims
-- ==== Proof.lean ====
module

public import proofs.«01_k».proof.Defs
public import proofs.«01_k».proof.Proof.DownFrame
public import proofs.«01_k».proof.Proof.DownEq
public import proofs.«01_k».proof.Proof.GateUpVal
public import proofs.«01_k».proof.Proof.GateUpEq
public import proofs.«01_k».proof.Proof.QkvVal
public import proofs.«01_k».proof.Proof.QkvEq
public import proofs.«01_k».proof.Proof.OprojFrame
public import proofs.«01_k».proof.Proof.OprojEq
public import proofs.«01_k».proof.Proof.AttnFrame
public import proofs.«01_k».proof.Proof.AttnEq
public import proofs.«01_k».proof.Proof.Gen.Pre_attn_finite
public import Idealize.ShloMosaic.Adequacy
public import Idealize.ShloMosaic.Init

@[expose] public section

noncomputable section

namespace Cert.Proof

open Idealize.ShloMosaic Idealize.SL.Sem

/-- Every claim. -/
theorem claim : Cert.Claim :=
  ⟨Cert.Down.Gen.facts, Cert.DownIdeal.Gen.facts, Cert.DownRefIdeal.Gen.facts,
    Cert.GateUp.Gen.facts, Cert.GateUpIdeal.Gen.facts, Cert.GateUpRefIdeal.Gen.facts,
    Cert.Qkv.Gen.facts, Cert.QkvIdeal.Gen.facts, Cert.QkvRefIdeal.Gen.facts,
    Cert.Oproj.Gen.facts, Cert.OprojIdeal.Gen.facts, Cert.OprojRefIdeal.Gen.facts,
    Cert.Attn.Gen.facts, Cert.AttnIdeal.Gen.facts, Cert.AttnRefIdeal.Gen.facts, Cert.Pre_attn_finite.Gen.facts,
    Cert.DownClaims.frame, fun m ρ _ => Cert.DownIdeal.Val.frame m ρ, Cert.DownClaims.refFrame,
    fun m ρ _ => Cert.GateUp.Val.frame m ρ, fun m ρ _ => Cert.GateUpIdeal.Val.frame m ρ, Cert.GateUpClaims.refFrame,
    fun m ρ _ => Cert.Qkv.Val.frame m ρ, fun m ρ _ => Cert.QkvIdeal.Val.frame m ρ, Cert.QkvClaims.refFrame,
    Cert.OprojClaims.frame, fun m ρ _ => Cert.OprojIdeal.Val.frame m ρ, Cert.OprojClaims.refFrame,
    Cert.AttnClaims.frame, fun m ρ _ => Cert.AttnIdeal.Val.frame m ρ, fun m ρ _ => Cert.AttnIdeal.Val.frame m ρ,
    Cert.AttnClaims.refFrame, fun m ρ _ => Cert.AttnClaims.refFrame m ρ trivial,
    trivial, Cert.DownClaims.algebraic,
    trivial, Cert.GateUpClaims.algebraic,
    trivial, Cert.QkvClaims.algebraic,
    trivial, Cert.OprojClaims.algebraic,
    trivial, Cert.AttnClaims.algebraic⟩

end Cert.Proof

end
